-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_OutKernel (m : (ℓ : Loc Cert.OutKernel.nD Cert.OutKernel.τ Cert.OutKernel.sig) → Buf (Elt Bits) ℓ) : Prop :=
  True

def Pre_OutKernelIdeal (m : (ℓ : Loc Cert.OutKernelIdeal.nD Cert.OutKernelIdeal.τ Cert.OutKernelIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_GdnOutKernel (m : (ℓ : Loc Cert.GdnOutKernel.nD Cert.GdnOutKernel.τ Cert.GdnOutKernel.sig) → Buf (Elt Bits) ℓ) : Prop :=
  True

def Pre_GdnOutKernelIdeal (m : (ℓ : Loc Cert.GdnOutKernelIdeal.nD Cert.GdnOutKernelIdeal.τ Cert.GdnOutKernelIdeal.sig) → Buf (Elt Ideal) ℓ) : Prop :=
  True

def Pre_GdnOutReferenceIdeal (m : (ℓ : Loc Cert.GdnOutReferenceIdeal.nD Cert.GdnOutReferenceIdeal.τ Cert.GdnOutReferenceIdeal.sig) → Buf (Elt Ideal) ℓ) : Prop :=
  True

def Pre_DswOutKernel (m : (ℓ : Loc Cert.DswOutKernel.nD Cert.DswOutKernel.τ Cert.DswOutKernel.sig) → Buf (Elt Bits) ℓ) : Prop :=
  True

def Pre_DswOutKernelIdeal (m : (ℓ : Loc Cert.DswOutKernelIdeal.nD Cert.DswOutKernelIdeal.τ Cert.DswOutKernelIdeal.sig) → Buf (Elt Ideal) ℓ) : Prop :=
  True

def Pre_DswOutReferenceIdeal (m : (ℓ : Loc Cert.DswOutReferenceIdeal.nD Cert.DswOutReferenceIdeal.τ Cert.DswOutReferenceIdeal.sig) → Buf (Elt Ideal) ℓ) : Prop :=
  True

def Pre_LruInKernel (m : (ℓ : Loc Cert.LruInKernel.nD Cert.LruInKernel.τ Cert.LruInKernel.sig) → Buf (Elt Bits) ℓ) : Prop :=
  True

def Pre_LruInKernelIdeal (m : (ℓ : Loc Cert.LruInKernelIdeal.nD Cert.LruInKernelIdeal.τ Cert.LruInKernelIdeal.sig) → Buf (Elt Ideal) ℓ) : Prop :=
  True

def Pre_LruInReferenceIdeal (m : (ℓ : Loc Cert.LruInReferenceIdeal.nD Cert.LruInReferenceIdeal.τ Cert.LruInReferenceIdeal.sig) → Buf (Elt Ideal) ℓ) : Prop :=
  True

def Pre_SbInKernel (m : (ℓ : Loc Cert.SbInKernel.nD Cert.SbInKernel.τ Cert.SbInKernel.sig) → Buf (Elt Bits) ℓ) : Prop :=
  True

def Pre_SbInKernelIdeal (m : (ℓ : Loc Cert.SbInKernelIdeal.nD Cert.SbInKernelIdeal.τ Cert.SbInKernelIdeal.sig) → Buf (Elt Ideal) ℓ) : Prop :=
  True

def Pre_SbInReferenceIdeal (m : (ℓ : Loc Cert.SbInReferenceIdeal.nD Cert.SbInReferenceIdeal.τ Cert.SbInReferenceIdeal.sig) → Buf (Elt Ideal) ℓ) : Prop :=
  True

def Pre_GdnInKernel (m : (ℓ : Loc Cert.GdnInKernel.nD Cert.GdnInKernel.τ Cert.GdnInKernel.sig) → Buf (Elt Bits) ℓ) : Prop :=
  True

def Pre_GdnInKernelIdeal (m : (ℓ : Loc Cert.GdnInKernelIdeal.nD Cert.GdnInKernelIdeal.τ Cert.GdnInKernelIdeal.sig) → Buf (Elt Ideal) ℓ) : Prop :=
  True

def Pre_GdnInReferenceIdeal (m : (ℓ : Loc Cert.GdnInReferenceIdeal.nD Cert.GdnInReferenceIdeal.τ Cert.GdnInReferenceIdeal.sig) → Buf (Elt Ideal) ℓ) : Prop :=
  True

def Pre_DswVKernel (m : (ℓ : Loc Cert.DswVKernel.nD Cert.DswVKernel.τ Cert.DswVKernel.sig) → Buf (Elt Bits) ℓ) : Prop :=
  True

def Pre_DswVKernelIdeal (m : (ℓ : Loc Cert.DswVKernelIdeal.nD Cert.DswVKernelIdeal.τ Cert.DswVKernelIdeal.sig) → Buf (Elt Ideal) ℓ) : Prop :=
  True

def Pre_DswVReferenceIdeal (m : (ℓ : Loc Cert.DswVReferenceIdeal.nD Cert.DswVReferenceIdeal.τ Cert.DswVReferenceIdeal.sig) → Buf (Elt Ideal) ℓ) : Prop :=
  True

def Pre_DswQKernel (m : (ℓ : Loc Cert.DswQKernel.nD Cert.DswQKernel.τ Cert.DswQKernel.sig) → Buf (Elt Bits) ℓ) : Prop :=
  True

def Pre_DswQKernelIdeal (m : (ℓ : Loc Cert.DswQKernelIdeal.nD Cert.DswQKernelIdeal.τ Cert.DswQKernelIdeal.sig) → Buf (Elt Ideal) ℓ) : Prop :=
  True

def Pre_DswQReferenceIdeal (m : (ℓ : Loc Cert.DswQReferenceIdeal.nD Cert.DswQReferenceIdeal.τ Cert.DswQReferenceIdeal.sig) → Buf (Elt Ideal) ℓ) : Prop :=
  True

def Pre_DswKKernel (m : (ℓ : Loc Cert.DswKKernel.nD Cert.DswKKernel.τ Cert.DswKKernel.sig) → Buf (Elt Bits) ℓ) : Prop :=
  True

def Pre_DswKKernelIdeal (m : (ℓ : Loc Cert.DswKKernelIdeal.nD Cert.DswKKernelIdeal.τ Cert.DswKKernelIdeal.sig) → Buf (Elt Ideal) ℓ) : Prop :=
  True

def Pre_DswKReferenceIdeal (m : (ℓ : Loc Cert.DswKReferenceIdeal.nD Cert.DswKReferenceIdeal.τ Cert.DswKReferenceIdeal.sig) → Buf (Elt Ideal) ℓ) : Prop :=
  True

def Pre_GdnGatesKernel (m : (ℓ : Loc Cert.GdnGatesKernel.nD Cert.GdnGatesKernel.τ Cert.GdnGatesKernel.sig) → Buf (Elt Bits) ℓ) : Prop :=
  True

def Pre_GdnGatesKernelIdeal (m : (ℓ : Loc Cert.GdnGatesKernelIdeal.nD Cert.GdnGatesKernelIdeal.τ Cert.GdnGatesKernelIdeal.sig) → Buf (Elt Ideal) ℓ) : Prop :=
  True

def Pre_GdnGatesReferenceIdeal (m : (ℓ : Loc Cert.GdnGatesReferenceIdeal.nD Cert.GdnGatesReferenceIdeal.τ Cert.GdnGatesReferenceIdeal.sig) → Buf (Elt Ideal) ℓ) : Prop :=
  True

def Pre_BandKernel (m : (ℓ : Loc Cert.BandKernel.nD Cert.BandKernel.τ Cert.BandKernel.sig) → Buf (Elt Bits) ℓ) : Prop :=
  True

def Pre_BandKernelIdeal (m : (ℓ : Loc Cert.BandKernelIdeal.nD Cert.BandKernelIdeal.τ Cert.BandKernelIdeal.sig) → Buf (Elt Ideal) ℓ) : Prop :=
  True

def Pre_BandReferenceIdeal (m : (ℓ : Loc Cert.BandReferenceIdeal.nD Cert.BandReferenceIdeal.τ Cert.BandReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_OutKernel [hOutKernel : Cert.OutKernel.Facts] : Prop :=
  ∀ (m : (ℓ : Loc Cert.OutKernel.nD Cert.OutKernel.τ Cert.OutKernel.sig) → Buf (Elt Bits) ℓ) (g : Dev Cert.OutKernel.nD → PrngReg), Pre_OutKernel m →
    θ_run (Cert.OutKernel.defs (F := Bits)) (onTc (τ := Cert.OutKernel.τ) (Cert.OutKernel.main (F := Bits))) ⟨m, fun _ => 0, g⟩ (fun r => (∀ c : Dev Cert.OutKernel.nD,
      r.2.mem ((c.tc : Thread Cert.OutKernel.nD Cert.OutKernel.τ).loc Cert.OutKernel.main_arg0) = m ((c.tc : Thread Cert.OutKernel.nD Cert.OutKernel.τ).loc Cert.OutKernel.main_arg0)
      ∧ r.2.mem ((c.tc : Thread Cert.OutKernel.nD Cert.OutKernel.τ).loc Cert.OutKernel.main_arg1) = m ((c.tc : Thread Cert.OutKernel.nD Cert.OutKernel.τ).loc Cert.OutKernel.main_arg1)
      ∧ r.2.mem ((c.tc : Thread Cert.OutKernel.nD Cert.OutKernel.τ).loc Cert.OutKernel.main_arg2) = m ((c.tc : Thread Cert.OutKernel.nD Cert.OutKernel.τ).loc Cert.OutKernel.main_arg2))
      ∧ r.2.sem = fun _ => 0)

def quiescent_OutKernelIdeal [hOutKernelIdeal : Cert.OutKernelIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg), Pre_OutKernelIdeal m →
    θ_run (Cert.OutKernelIdeal.defs (F := Ideal)) (onTc (τ := Cert.OutKernelIdeal.τ) (Cert.OutKernelIdeal.main (F := Ideal))) ⟨m, fun _ => 0, g⟩ (fun r => (∀ c : Dev Cert.OutKernelIdeal.nD,
      r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
      ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
      ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_GdnOutKernel [hGdnOutKernel : Cert.GdnOutKernel.Facts] : Prop :=
  ∀ (m : (ℓ : Loc Cert.GdnOutKernel.nD Cert.GdnOutKernel.τ Cert.GdnOutKernel.sig) → Buf (Elt Bits) ℓ) (g : Dev Cert.GdnOutKernel.nD → PrngReg), Pre_GdnOutKernel m →
    θ_run (Cert.GdnOutKernel.defs (F := Bits)) (onTc (τ := Cert.GdnOutKernel.τ) (Cert.GdnOutKernel.main (F := Bits))) ⟨m, fun _ => 0, g⟩ (fun r => (∀ c : Dev Cert.GdnOutKernel.nD,
      r.2.mem ((c.tc : Thread Cert.GdnOutKernel.nD Cert.GdnOutKernel.τ).loc Cert.GdnOutKernel.main_arg0) = m ((c.tc : Thread Cert.GdnOutKernel.nD Cert.GdnOutKernel.τ).loc Cert.GdnOutKernel.main_arg0)
      ∧ r.2.mem ((c.tc : Thread Cert.GdnOutKernel.nD Cert.GdnOutKernel.τ).loc Cert.GdnOutKernel.main_arg1) = m ((c.tc : Thread Cert.GdnOutKernel.nD Cert.GdnOutKernel.τ).loc Cert.GdnOutKernel.main_arg1)
      ∧ r.2.mem ((c.tc : Thread Cert.GdnOutKernel.nD Cert.GdnOutKernel.τ).loc Cert.GdnOutKernel.main_arg2) = m ((c.tc : Thread Cert.GdnOutKernel.nD Cert.GdnOutKernel.τ).loc Cert.GdnOutKernel.main_arg2))
      ∧ r.2.sem = fun _ => 0)

def quiescent_GdnOutKernelIdeal [hGdnOutKernelIdeal : Cert.GdnOutKernelIdeal.Facts] : Prop :=
  ∀ (m : (ℓ : Loc Cert.GdnOutKernelIdeal.nD Cert.GdnOutKernelIdeal.τ Cert.GdnOutKernelIdeal.sig) → Buf (Elt Ideal) ℓ) (g : Dev Cert.GdnOutKernelIdeal.nD → PrngReg), Pre_GdnOutKernelIdeal m →
    θ_run (Cert.GdnOutKernelIdeal.defs (F := Ideal)) (onTc (τ := Cert.GdnOutKernelIdeal.τ) (Cert.GdnOutKernelIdeal.main (F := Ideal))) ⟨m, fun _ => 0, g⟩ (fun r => (∀ c : Dev Cert.GdnOutKernelIdeal.nD,
      r.2.mem ((c.tc : Thread Cert.GdnOutKernelIdeal.nD Cert.GdnOutKernelIdeal.τ).loc Cert.GdnOutKernelIdeal.main_arg0) = m ((c.tc : Thread Cert.GdnOutKernelIdeal.nD Cert.GdnOutKernelIdeal.τ).loc Cert.GdnOutKernelIdeal.main_arg0)
      ∧ r.2.mem ((c.tc : Thread Cert.GdnOutKernelIdeal.nD Cert.GdnOutKernelIdeal.τ).loc Cert.GdnOutKernelIdeal.main_arg1) = m ((c.tc : Thread Cert.GdnOutKernelIdeal.nD Cert.GdnOutKernelIdeal.τ).loc Cert.GdnOutKernelIdeal.main_arg1)
      ∧ r.2.mem ((c.tc : Thread Cert.GdnOutKernelIdeal.nD Cert.GdnOutKernelIdeal.τ).loc Cert.GdnOutKernelIdeal.main_arg2) = m ((c.tc : Thread Cert.GdnOutKernelIdeal.nD Cert.GdnOutKernelIdeal.τ).loc Cert.GdnOutKernelIdeal.main_arg2))
      ∧ r.2.sem = fun _ => 0)

def quiescent_GdnOutReferenceIdeal [hGdnOutReferenceIdeal : Cert.GdnOutReferenceIdeal.Facts] : Prop :=
  ∀ (m : (ℓ : Loc Cert.GdnOutReferenceIdeal.nD Cert.GdnOutReferenceIdeal.τ Cert.GdnOutReferenceIdeal.sig) → Buf (Elt Ideal) ℓ) (g : Dev Cert.GdnOutReferenceIdeal.nD → PrngReg), Pre_GdnOutReferenceIdeal m →
    θ_run (Cert.GdnOutReferenceIdeal.defs (F := Ideal)) (onTc (τ := Cert.GdnOutReferenceIdeal.τ) (Cert.GdnOutReferenceIdeal.main (F := Ideal))) ⟨m, fun _ => 0, g⟩ (fun r => (∀ c : Dev Cert.GdnOutReferenceIdeal.nD,
      r.2.mem ((c.tc : Thread Cert.GdnOutReferenceIdeal.nD Cert.GdnOutReferenceIdeal.τ).loc Cert.GdnOutReferenceIdeal.main_arg0) = m ((c.tc : Thread Cert.GdnOutReferenceIdeal.nD Cert.GdnOutReferenceIdeal.τ).loc Cert.GdnOutReferenceIdeal.main_arg0)
      ∧ r.2.mem ((c.tc : Thread Cert.GdnOutReferenceIdeal.nD Cert.GdnOutReferenceIdeal.τ).loc Cert.GdnOutReferenceIdeal.main_arg1) = m ((c.tc : Thread Cert.GdnOutReferenceIdeal.nD Cert.GdnOutReferenceIdeal.τ).loc Cert.GdnOutReferenceIdeal.main_arg1)
      ∧ r.2.mem ((c.tc : Thread Cert.GdnOutReferenceIdeal.nD Cert.GdnOutReferenceIdeal.τ).loc Cert.GdnOutReferenceIdeal.main_arg2) = m ((c.tc : Thread Cert.GdnOutReferenceIdeal.nD Cert.GdnOutReferenceIdeal.τ).loc Cert.GdnOutReferenceIdeal.main_arg2))
      ∧ r.2.sem = fun _ => 0)

def quiescent_DswOutKernel [hDswOutKernel : Cert.DswOutKernel.Facts] : Prop :=
  ∀ (m : (ℓ : Loc Cert.DswOutKernel.nD Cert.DswOutKernel.τ Cert.DswOutKernel.sig) → Buf (Elt Bits) ℓ) (g : Dev Cert.DswOutKernel.nD → PrngReg), Pre_DswOutKernel m →
    θ_run (Cert.DswOutKernel.defs (F := Bits)) (onTc (τ := Cert.DswOutKernel.τ) (Cert.DswOutKernel.main (F := Bits))) ⟨m, fun _ => 0, g⟩ (fun r => (∀ c : Dev Cert.DswOutKernel.nD,
      r.2.mem ((c.tc : Thread Cert.DswOutKernel.nD Cert.DswOutKernel.τ).loc Cert.DswOutKernel.main_arg0) = m ((c.tc : Thread Cert.DswOutKernel.nD Cert.DswOutKernel.τ).loc Cert.DswOutKernel.main_arg0)
      ∧ r.2.mem ((c.tc : Thread Cert.DswOutKernel.nD Cert.DswOutKernel.τ).loc Cert.DswOutKernel.main_arg1) = m ((c.tc : Thread Cert.DswOutKernel.nD Cert.DswOutKernel.τ).loc Cert.DswOutKernel.main_arg1)
      ∧ r.2.mem ((c.tc : Thread Cert.DswOutKernel.nD Cert.DswOutKernel.τ).loc Cert.DswOutKernel.main_arg2) = m ((c.tc : Thread Cert.DswOutKernel.nD Cert.DswOutKernel.τ).loc Cert.DswOutKernel.main_arg2))
      ∧ r.2.sem = fun _ => 0)

def quiescent_DswOutKernelIdeal [hDswOutKernelIdeal : Cert.DswOutKernelIdeal.Facts] : Prop :=
  ∀ (m : (ℓ : Loc Cert.DswOutKernelIdeal.nD Cert.DswOutKernelIdeal.τ Cert.DswOutKernelIdeal.sig) → Buf (Elt Ideal) ℓ) (g : Dev Cert.DswOutKernelIdeal.nD → PrngReg), Pre_DswOutKernelIdeal m →
    θ_run (Cert.DswOutKernelIdeal.defs (F := Ideal)) (onTc (τ := Cert.DswOutKernelIdeal.τ) (Cert.DswOutKernelIdeal.main (F := Ideal))) ⟨m, fun _ => 0, g⟩ (fun r => (∀ c : Dev Cert.DswOutKernelIdeal.nD,
      r.2.mem ((c.tc : Thread Cert.DswOutKernelIdeal.nD Cert.DswOutKernelIdeal.τ).loc Cert.DswOutKernelIdeal.main_arg0) = m ((c.tc : Thread Cert.DswOutKernelIdeal.nD Cert.DswOutKernelIdeal.τ).loc Cert.DswOutKernelIdeal.main_arg0)
      ∧ r.2.mem ((c.tc : Thread Cert.DswOutKernelIdeal.nD Cert.DswOutKernelIdeal.τ).loc Cert.DswOutKernelIdeal.main_arg1) = m ((c.tc : Thread Cert.DswOutKernelIdeal.nD Cert.DswOutKernelIdeal.τ).loc Cert.DswOutKernelIdeal.main_arg1)
      ∧ r.2.mem ((c.tc : Thread Cert.DswOutKernelIdeal.nD Cert.DswOutKernelIdeal.τ).loc Cert.DswOutKernelIdeal.main_arg2) = m ((c.tc : Thread Cert.DswOutKernelIdeal.nD Cert.DswOutKernelIdeal.τ).loc Cert.DswOutKernelIdeal.main_arg2))
      ∧ r.2.sem = fun _ => 0)

def quiescent_DswOutReferenceIdeal [hDswOutReferenceIdeal : Cert.DswOutReferenceIdeal.Facts] : Prop :=
  ∀ (m : (ℓ : Loc Cert.DswOutReferenceIdeal.nD Cert.DswOutReferenceIdeal.τ Cert.DswOutReferenceIdeal.sig) → Buf (Elt Ideal) ℓ) (g : Dev Cert.DswOutReferenceIdeal.nD → PrngReg), Pre_DswOutReferenceIdeal m →
    θ_run (Cert.DswOutReferenceIdeal.defs (F := Ideal)) (onTc (τ := Cert.DswOutReferenceIdeal.τ) (Cert.DswOutReferenceIdeal.main (F := Ideal))) ⟨m, fun _ => 0, g⟩ (fun r => (∀ c : Dev Cert.DswOutReferenceIdeal.nD,
      r.2.mem ((c.tc : Thread Cert.DswOutReferenceIdeal.nD Cert.DswOutReferenceIdeal.τ).loc Cert.DswOutReferenceIdeal.main_arg0) = m ((c.tc : Thread Cert.DswOutReferenceIdeal.nD Cert.DswOutReferenceIdeal.τ).loc Cert.DswOutReferenceIdeal.main_arg0)
      ∧ r.2.mem ((c.tc : Thread Cert.DswOutReferenceIdeal.nD Cert.DswOutReferenceIdeal.τ).loc Cert.DswOutReferenceIdeal.main_arg1) = m ((c.tc : Thread Cert.DswOutReferenceIdeal.nD Cert.DswOutReferenceIdeal.τ).loc Cert.DswOutReferenceIdeal.main_arg1)
      ∧ r.2.mem ((c.tc : Thread Cert.DswOutReferenceIdeal.nD Cert.DswOutReferenceIdeal.τ).loc Cert.DswOutReferenceIdeal.main_arg2) = m ((c.tc : Thread Cert.DswOutReferenceIdeal.nD Cert.DswOutReferenceIdeal.τ).loc Cert.DswOutReferenceIdeal.main_arg2))
      ∧ r.2.sem = fun _ => 0)

def quiescent_LruInKernel [hLruInKernel : Cert.LruInKernel.Facts] : Prop :=
  ∀ (m : (ℓ : Loc Cert.LruInKernel.nD Cert.LruInKernel.τ Cert.LruInKernel.sig) → Buf (Elt Bits) ℓ) (g : Dev Cert.LruInKernel.nD → PrngReg), Pre_LruInKernel m →
    θ_run (Cert.LruInKernel.defs (F := Bits)) (onTc (τ := Cert.LruInKernel.τ) (Cert.LruInKernel.main (F := Bits))) ⟨m, fun _ => 0, g⟩ (fun r => (∀ c : Dev Cert.LruInKernel.nD,
      r.2.mem ((c.tc : Thread Cert.LruInKernel.nD Cert.LruInKernel.τ).loc Cert.LruInKernel.main_arg0) = m ((c.tc : Thread Cert.LruInKernel.nD Cert.LruInKernel.τ).loc Cert.LruInKernel.main_arg0)
      ∧ r.2.mem ((c.tc : Thread Cert.LruInKernel.nD Cert.LruInKernel.τ).loc Cert.LruInKernel.main_arg1) = m ((c.tc : Thread Cert.LruInKernel.nD Cert.LruInKernel.τ).loc Cert.LruInKernel.main_arg1)
      ∧ r.2.mem ((c.tc : Thread Cert.LruInKernel.nD Cert.LruInKernel.τ).loc Cert.LruInKernel.main_arg2) = m ((c.tc : Thread Cert.LruInKernel.nD Cert.LruInKernel.τ).loc Cert.LruInKernel.main_arg2))
      ∧ r.2.sem = fun _ => 0)

def quiescent_LruInKernelIdeal [hLruInKernelIdeal : Cert.LruInKernelIdeal.Facts] : Prop :=
  ∀ (m : (ℓ : Loc Cert.LruInKernelIdeal.nD Cert.LruInKernelIdeal.τ Cert.LruInKernelIdeal.sig) → Buf (Elt Ideal) ℓ) (g : Dev Cert.LruInKernelIdeal.nD → PrngReg), Pre_LruInKernelIdeal m →
    θ_run (Cert.LruInKernelIdeal.defs (F := Ideal)) (onTc (τ := Cert.LruInKernelIdeal.τ) (Cert.LruInKernelIdeal.main (F := Ideal))) ⟨m, fun _ => 0, g⟩ (fun r => (∀ c : Dev Cert.LruInKernelIdeal.nD,
      r.2.mem ((c.tc : Thread Cert.LruInKernelIdeal.nD Cert.LruInKernelIdeal.τ).loc Cert.LruInKernelIdeal.main_arg0) = m ((c.tc : Thread Cert.LruInKernelIdeal.nD Cert.LruInKernelIdeal.τ).loc Cert.LruInKernelIdeal.main_arg0)
      ∧ r.2.mem ((c.tc : Thread Cert.LruInKernelIdeal.nD Cert.LruInKernelIdeal.τ).loc Cert.LruInKernelIdeal.main_arg1) = m ((c.tc : Thread Cert.LruInKernelIdeal.nD Cert.LruInKernelIdeal.τ).loc Cert.LruInKernelIdeal.main_arg1)
      ∧ r.2.mem ((c.tc : Thread Cert.LruInKernelIdeal.nD Cert.LruInKernelIdeal.τ).loc Cert.LruInKernelIdeal.main_arg2) = m ((c.tc : Thread Cert.LruInKernelIdeal.nD Cert.LruInKernelIdeal.τ).loc Cert.LruInKernelIdeal.main_arg2))
      ∧ r.2.sem = fun _ => 0)

def quiescent_LruInReferenceIdeal [hLruInReferenceIdeal : Cert.LruInReferenceIdeal.Facts] : Prop :=
  ∀ (m : (ℓ : Loc Cert.LruInReferenceIdeal.nD Cert.LruInReferenceIdeal.τ Cert.LruInReferenceIdeal.sig) → Buf (Elt Ideal) ℓ) (g : Dev Cert.LruInReferenceIdeal.nD → PrngReg), Pre_LruInReferenceIdeal m →
    θ_run (Cert.LruInReferenceIdeal.defs (F := Ideal)) (onTc (τ := Cert.LruInReferenceIdeal.τ) (Cert.LruInReferenceIdeal.main (F := Ideal))) ⟨m, fun _ => 0, g⟩ (fun r => (∀ c : Dev Cert.LruInReferenceIdeal.nD,
      r.2.mem ((c.tc : Thread Cert.LruInReferenceIdeal.nD Cert.LruInReferenceIdeal.τ).loc Cert.LruInReferenceIdeal.main_arg0) = m ((c.tc : Thread Cert.LruInReferenceIdeal.nD Cert.LruInReferenceIdeal.τ).loc Cert.LruInReferenceIdeal.main_arg0)
      ∧ r.2.mem ((c.tc : Thread Cert.LruInReferenceIdeal.nD Cert.LruInReferenceIdeal.τ).loc Cert.LruInReferenceIdeal.main_arg1) = m ((c.tc : Thread Cert.LruInReferenceIdeal.nD Cert.LruInReferenceIdeal.τ).loc Cert.LruInReferenceIdeal.main_arg1)
      ∧ r.2.mem ((c.tc : Thread Cert.LruInReferenceIdeal.nD Cert.LruInReferenceIdeal.τ).loc Cert.LruInReferenceIdeal.main_arg2) = m ((c.tc : Thread Cert.LruInReferenceIdeal.nD Cert.LruInReferenceIdeal.τ).loc Cert.LruInReferenceIdeal.main_arg2))
      ∧ r.2.sem = fun _ => 0)

def quiescent_SbInKernel [hSbInKernel : Cert.SbInKernel.Facts] : Prop :=
  ∀ (m : (ℓ : Loc Cert.SbInKernel.nD Cert.SbInKernel.τ Cert.SbInKernel.sig) → Buf (Elt Bits) ℓ) (g : Dev Cert.SbInKernel.nD → PrngReg), Pre_SbInKernel m →
    θ_run (Cert.SbInKernel.defs (F := Bits)) (onTc (τ := Cert.SbInKernel.τ) (Cert.SbInKernel.main (F := Bits))) ⟨m, fun _ => 0, g⟩ (fun r => (∀ c : Dev Cert.SbInKernel.nD,
      r.2.mem ((c.tc : Thread Cert.SbInKernel.nD Cert.SbInKernel.τ).loc Cert.SbInKernel.main_arg0) = m ((c.tc : Thread Cert.SbInKernel.nD Cert.SbInKernel.τ).loc Cert.SbInKernel.main_arg0)
      ∧ r.2.mem ((c.tc : Thread Cert.SbInKernel.nD Cert.SbInKernel.τ).loc Cert.SbInKernel.main_arg1) = m ((c.tc : Thread Cert.SbInKernel.nD Cert.SbInKernel.τ).loc Cert.SbInKernel.main_arg1)
      ∧ r.2.mem ((c.tc : Thread Cert.SbInKernel.nD Cert.SbInKernel.τ).loc Cert.SbInKernel.main_arg2) = m ((c.tc : Thread Cert.SbInKernel.nD Cert.SbInKernel.τ).loc Cert.SbInKernel.main_arg2)
      ∧ r.2.mem ((c.tc : Thread Cert.SbInKernel.nD Cert.SbInKernel.τ).loc Cert.SbInKernel.main_arg3) = m ((c.tc : Thread Cert.SbInKernel.nD Cert.SbInKernel.τ).loc Cert.SbInKernel.main_arg3)
      ∧ r.2.mem ((c.tc : Thread Cert.SbInKernel.nD Cert.SbInKernel.τ).loc Cert.SbInKernel.main_arg4) = m ((c.tc : Thread Cert.SbInKernel.nD Cert.SbInKernel.τ).loc Cert.SbInKernel.main_arg4))
      ∧ r.2.sem = fun _ => 0)

def quiescent_SbInKernelIdeal [hSbInKernelIdeal : Cert.SbInKernelIdeal.Facts] : Prop :=
  ∀ (m : (ℓ : Loc Cert.SbInKernelIdeal.nD Cert.SbInKernelIdeal.τ Cert.SbInKernelIdeal.sig) → Buf (Elt Ideal) ℓ) (g : Dev Cert.SbInKernelIdeal.nD → PrngReg), Pre_SbInKernelIdeal m →
    θ_run (Cert.SbInKernelIdeal.defs (F := Ideal)) (onTc (τ := Cert.SbInKernelIdeal.τ) (Cert.SbInKernelIdeal.main (F := Ideal))) ⟨m, fun _ => 0, g⟩ (fun r => (∀ c : Dev Cert.SbInKernelIdeal.nD,
      r.2.mem ((c.tc : Thread Cert.SbInKernelIdeal.nD Cert.SbInKernelIdeal.τ).loc Cert.SbInKernelIdeal.main_arg0) = m ((c.tc : Thread Cert.SbInKernelIdeal.nD Cert.SbInKernelIdeal.τ).loc Cert.SbInKernelIdeal.main_arg0)
      ∧ r.2.mem ((c.tc : Thread Cert.SbInKernelIdeal.nD Cert.SbInKernelIdeal.τ).loc Cert.SbInKernelIdeal.main_arg1) = m ((c.tc : Thread Cert.SbInKernelIdeal.nD Cert.SbInKernelIdeal.τ).loc Cert.SbInKernelIdeal.main_arg1)
      ∧ r.2.mem ((c.tc : Thread Cert.SbInKernelIdeal.nD Cert.SbInKernelIdeal.τ).loc Cert.SbInKernelIdeal.main_arg2) = m ((c.tc : Thread Cert.SbInKernelIdeal.nD Cert.SbInKernelIdeal.τ).loc Cert.SbInKernelIdeal.main_arg2)
      ∧ r.2.mem ((c.tc : Thread Cert.SbInKernelIdeal.nD Cert.SbInKernelIdeal.τ).loc Cert.SbInKernelIdeal.main_arg3) = m ((c.tc : Thread Cert.SbInKernelIdeal.nD Cert.SbInKernelIdeal.τ).loc Cert.SbInKernelIdeal.main_arg3)
      ∧ r.2.mem ((c.tc : Thread Cert.SbInKernelIdeal.nD Cert.SbInKernelIdeal.τ).loc Cert.SbInKernelIdeal.main_arg4) = m ((c.tc : Thread Cert.SbInKernelIdeal.nD Cert.SbInKernelIdeal.τ).loc Cert.SbInKernelIdeal.main_arg4))
      ∧ r.2.sem = fun _ => 0)

def quiescent_SbInReferenceIdeal [hSbInReferenceIdeal : Cert.SbInReferenceIdeal.Facts] : Prop :=
  ∀ (m : (ℓ : Loc Cert.SbInReferenceIdeal.nD Cert.SbInReferenceIdeal.τ Cert.SbInReferenceIdeal.sig) → Buf (Elt Ideal) ℓ) (g : Dev Cert.SbInReferenceIdeal.nD → PrngReg), Pre_SbInReferenceIdeal m →
    θ_run (Cert.SbInReferenceIdeal.defs (F := Ideal)) (onTc (τ := Cert.SbInReferenceIdeal.τ) (Cert.SbInReferenceIdeal.main (F := Ideal))) ⟨m, fun _ => 0, g⟩ (fun r => (∀ c : Dev Cert.SbInReferenceIdeal.nD,
      r.2.mem ((c.tc : Thread Cert.SbInReferenceIdeal.nD Cert.SbInReferenceIdeal.τ).loc Cert.SbInReferenceIdeal.main_arg0) = m ((c.tc : Thread Cert.SbInReferenceIdeal.nD Cert.SbInReferenceIdeal.τ).loc Cert.SbInReferenceIdeal.main_arg0)
      ∧ r.2.mem ((c.tc : Thread Cert.SbInReferenceIdeal.nD Cert.SbInReferenceIdeal.τ).loc Cert.SbInReferenceIdeal.main_arg1) = m ((c.tc : Thread Cert.SbInReferenceIdeal.nD Cert.SbInReferenceIdeal.τ).loc Cert.SbInReferenceIdeal.main_arg1)
      ∧ r.2.mem ((c.tc : Thread Cert.SbInReferenceIdeal.nD Cert.SbInReferenceIdeal.τ).loc Cert.SbInReferenceIdeal.main_arg2) = m ((c.tc : Thread Cert.SbInReferenceIdeal.nD Cert.SbInReferenceIdeal.τ).loc Cert.SbInReferenceIdeal.main_arg2)
      ∧ r.2.mem ((c.tc : Thread Cert.SbInReferenceIdeal.nD Cert.SbInReferenceIdeal.τ).loc Cert.SbInReferenceIdeal.main_arg3) = m ((c.tc : Thread Cert.SbInReferenceIdeal.nD Cert.SbInReferenceIdeal.τ).loc Cert.SbInReferenceIdeal.main_arg3)
      ∧ r.2.mem ((c.tc : Thread Cert.SbInReferenceIdeal.nD Cert.SbInReferenceIdeal.τ).loc Cert.SbInReferenceIdeal.main_arg4) = m ((c.tc : Thread Cert.SbInReferenceIdeal.nD Cert.SbInReferenceIdeal.τ).loc Cert.SbInReferenceIdeal.main_arg4))
      ∧ r.2.sem = fun _ => 0)

def quiescent_GdnInKernel [hGdnInKernel : Cert.GdnInKernel.Facts] : Prop :=
  ∀ (m : (ℓ : Loc Cert.GdnInKernel.nD Cert.GdnInKernel.τ Cert.GdnInKernel.sig) → Buf (Elt Bits) ℓ) (g : Dev Cert.GdnInKernel.nD → PrngReg), Pre_GdnInKernel m →
    θ_run (Cert.GdnInKernel.defs (F := Bits)) (onTc (τ := Cert.GdnInKernel.τ) (Cert.GdnInKernel.main (F := Bits))) ⟨m, fun _ => 0, g⟩ (fun r => (∀ c : Dev Cert.GdnInKernel.nD,
      r.2.mem ((c.tc : Thread Cert.GdnInKernel.nD Cert.GdnInKernel.τ).loc Cert.GdnInKernel.main_arg0) = m ((c.tc : Thread Cert.GdnInKernel.nD Cert.GdnInKernel.τ).loc Cert.GdnInKernel.main_arg0)
      ∧ r.2.mem ((c.tc : Thread Cert.GdnInKernel.nD Cert.GdnInKernel.τ).loc Cert.GdnInKernel.main_arg1) = m ((c.tc : Thread Cert.GdnInKernel.nD Cert.GdnInKernel.τ).loc Cert.GdnInKernel.main_arg1)
      ∧ r.2.mem ((c.tc : Thread Cert.GdnInKernel.nD Cert.GdnInKernel.τ).loc Cert.GdnInKernel.main_arg2) = m ((c.tc : Thread Cert.GdnInKernel.nD Cert.GdnInKernel.τ).loc Cert.GdnInKernel.main_arg2))
      ∧ r.2.sem = fun _ => 0)

def quiescent_GdnInKernelIdeal [hGdnInKernelIdeal : Cert.GdnInKernelIdeal.Facts] : Prop :=
  ∀ (m : (ℓ : Loc Cert.GdnInKernelIdeal.nD Cert.GdnInKernelIdeal.τ Cert.GdnInKernelIdeal.sig) → Buf (Elt Ideal) ℓ) (g : Dev Cert.GdnInKernelIdeal.nD → PrngReg), Pre_GdnInKernelIdeal m →
    θ_run (Cert.GdnInKernelIdeal.defs (F := Ideal)) (onTc (τ := Cert.GdnInKernelIdeal.τ) (Cert.GdnInKernelIdeal.main (F := Ideal))) ⟨m, fun _ => 0, g⟩ (fun r => (∀ c : Dev Cert.GdnInKernelIdeal.nD,
      r.2.mem ((c.tc : Thread Cert.GdnInKernelIdeal.nD Cert.GdnInKernelIdeal.τ).loc Cert.GdnInKernelIdeal.main_arg0) = m ((c.tc : Thread Cert.GdnInKernelIdeal.nD Cert.GdnInKernelIdeal.τ).loc Cert.GdnInKernelIdeal.main_arg0)
      ∧ r.2.mem ((c.tc : Thread Cert.GdnInKernelIdeal.nD Cert.GdnInKernelIdeal.τ).loc Cert.GdnInKernelIdeal.main_arg1) = m ((c.tc : Thread Cert.GdnInKernelIdeal.nD Cert.GdnInKernelIdeal.τ).loc Cert.GdnInKernelIdeal.main_arg1)
      ∧ r.2.mem ((c.tc : Thread Cert.GdnInKernelIdeal.nD Cert.GdnInKernelIdeal.τ).loc Cert.GdnInKernelIdeal.main_arg2) = m ((c.tc : Thread Cert.GdnInKernelIdeal.nD Cert.GdnInKernelIdeal.τ).loc Cert.GdnInKernelIdeal.main_arg2))
      ∧ r.2.sem = fun _ => 0)

def quiescent_GdnInReferenceIdeal [hGdnInReferenceIdeal : Cert.GdnInReferenceIdeal.Facts] : Prop :=
  ∀ (m : (ℓ : Loc Cert.GdnInReferenceIdeal.nD Cert.GdnInReferenceIdeal.τ Cert.GdnInReferenceIdeal.sig) → Buf (Elt Ideal) ℓ) (g : Dev Cert.GdnInReferenceIdeal.nD → PrngReg), Pre_GdnInReferenceIdeal m →
    θ_run (Cert.GdnInReferenceIdeal.defs (F := Ideal)) (onTc (τ := Cert.GdnInReferenceIdeal.τ) (Cert.GdnInReferenceIdeal.main (F := Ideal))) ⟨m, fun _ => 0, g⟩ (fun r => (∀ c : Dev Cert.GdnInReferenceIdeal.nD,
      r.2.mem ((c.tc : Thread Cert.GdnInReferenceIdeal.nD Cert.GdnInReferenceIdeal.τ).loc Cert.GdnInReferenceIdeal.main_arg0) = m ((c.tc : Thread Cert.GdnInReferenceIdeal.nD Cert.GdnInReferenceIdeal.τ).loc Cert.GdnInReferenceIdeal.main_arg0)
      ∧ r.2.mem ((c.tc : Thread Cert.GdnInReferenceIdeal.nD Cert.GdnInReferenceIdeal.τ).loc Cert.GdnInReferenceIdeal.main_arg1) = m ((c.tc : Thread Cert.GdnInReferenceIdeal.nD Cert.GdnInReferenceIdeal.τ).loc Cert.GdnInReferenceIdeal.main_arg1)
      ∧ r.2.mem ((c.tc : Thread Cert.GdnInReferenceIdeal.nD Cert.GdnInReferenceIdeal.τ).loc Cert.GdnInReferenceIdeal.main_arg2) = m ((c.tc : Thread Cert.GdnInReferenceIdeal.nD Cert.GdnInReferenceIdeal.τ).loc Cert.GdnInReferenceIdeal.main_arg2))
      ∧ r.2.sem = fun _ => 0)

def quiescent_DswVKernel [hDswVKernel : Cert.DswVKernel.Facts] : Prop :=
  ∀ (m : (ℓ : Loc Cert.DswVKernel.nD Cert.DswVKernel.τ Cert.DswVKernel.sig) → Buf (Elt Bits) ℓ) (g : Dev Cert.DswVKernel.nD → PrngReg), Pre_DswVKernel m →
    θ_run (Cert.DswVKernel.defs (F := Bits)) (onTc (τ := Cert.DswVKernel.τ) (Cert.DswVKernel.main (F := Bits))) ⟨m, fun _ => 0, g⟩ (fun r => (∀ c : Dev Cert.DswVKernel.nD,
      r.2.mem ((c.tc : Thread Cert.DswVKernel.nD Cert.DswVKernel.τ).loc Cert.DswVKernel.main_arg0) = m ((c.tc : Thread Cert.DswVKernel.nD Cert.DswVKernel.τ).loc Cert.DswVKernel.main_arg0)
      ∧ r.2.mem ((c.tc : Thread Cert.DswVKernel.nD Cert.DswVKernel.τ).loc Cert.DswVKernel.main_arg1) = m ((c.tc : Thread Cert.DswVKernel.nD Cert.DswVKernel.τ).loc Cert.DswVKernel.main_arg1)
      ∧ r.2.mem ((c.tc : Thread Cert.DswVKernel.nD Cert.DswVKernel.τ).loc Cert.DswVKernel.main_arg2) = m ((c.tc : Thread Cert.DswVKernel.nD Cert.DswVKernel.τ).loc Cert.DswVKernel.main_arg2))
      ∧ r.2.sem = fun _ => 0)

def quiescent_DswVKernelIdeal [hDswVKernelIdeal : Cert.DswVKernelIdeal.Facts] : Prop :=
  ∀ (m : (ℓ : Loc Cert.DswVKernelIdeal.nD Cert.DswVKernelIdeal.τ Cert.DswVKernelIdeal.sig) → Buf (Elt Ideal) ℓ) (g : Dev Cert.DswVKernelIdeal.nD → PrngReg), Pre_DswVKernelIdeal m →
    θ_run (Cert.DswVKernelIdeal.defs (F := Ideal)) (onTc (τ := Cert.DswVKernelIdeal.τ) (Cert.DswVKernelIdeal.main (F := Ideal))) ⟨m, fun _ => 0, g⟩ (fun r => (∀ c : Dev Cert.DswVKernelIdeal.nD,
      r.2.mem ((c.tc : Thread Cert.DswVKernelIdeal.nD Cert.DswVKernelIdeal.τ).loc Cert.DswVKernelIdeal.main_arg0) = m ((c.tc : Thread Cert.DswVKernelIdeal.nD Cert.DswVKernelIdeal.τ).loc Cert.DswVKernelIdeal.main_arg0)
      ∧ r.2.mem ((c.tc : Thread Cert.DswVKernelIdeal.nD Cert.DswVKernelIdeal.τ).loc Cert.DswVKernelIdeal.main_arg1) = m ((c.tc : Thread Cert.DswVKernelIdeal.nD Cert.DswVKernelIdeal.τ).loc Cert.DswVKernelIdeal.main_arg1)
      ∧ r.2.mem ((c.tc : Thread Cert.DswVKernelIdeal.nD Cert.DswVKernelIdeal.τ).loc Cert.DswVKernelIdeal.main_arg2) = m ((c.tc : Thread Cert.DswVKernelIdeal.nD Cert.DswVKernelIdeal.τ).loc Cert.DswVKernelIdeal.main_arg2))
      ∧ r.2.sem = fun _ => 0)

def quiescent_DswVReferenceIdeal [hDswVReferenceIdeal : Cert.DswVReferenceIdeal.Facts] : Prop :=
  ∀ (m : (ℓ : Loc Cert.DswVReferenceIdeal.nD Cert.DswVReferenceIdeal.τ Cert.DswVReferenceIdeal.sig) → Buf (Elt Ideal) ℓ) (g : Dev Cert.DswVReferenceIdeal.nD → PrngReg), Pre_DswVReferenceIdeal m →
    θ_run (Cert.DswVReferenceIdeal.defs (F := Ideal)) (onTc (τ := Cert.DswVReferenceIdeal.τ) (Cert.DswVReferenceIdeal.main (F := Ideal))) ⟨m, fun _ => 0, g⟩ (fun r => (∀ c : Dev Cert.DswVReferenceIdeal.nD,
      r.2.mem ((c.tc : Thread Cert.DswVReferenceIdeal.nD Cert.DswVReferenceIdeal.τ).loc Cert.DswVReferenceIdeal.main_arg0) = m ((c.tc : Thread Cert.DswVReferenceIdeal.nD Cert.DswVReferenceIdeal.τ).loc Cert.DswVReferenceIdeal.main_arg0)
      ∧ r.2.mem ((c.tc : Thread Cert.DswVReferenceIdeal.nD Cert.DswVReferenceIdeal.τ).loc Cert.DswVReferenceIdeal.main_arg1) = m ((c.tc : Thread Cert.DswVReferenceIdeal.nD Cert.DswVReferenceIdeal.τ).loc Cert.DswVReferenceIdeal.main_arg1)
      ∧ r.2.mem ((c.tc : Thread Cert.DswVReferenceIdeal.nD Cert.DswVReferenceIdeal.τ).loc Cert.DswVReferenceIdeal.main_arg2) = m ((c.tc : Thread Cert.DswVReferenceIdeal.nD Cert.DswVReferenceIdeal.τ).loc Cert.DswVReferenceIdeal.main_arg2))
      ∧ r.2.sem = fun _ => 0)

def quiescent_DswQKernel [hDswQKernel : Cert.DswQKernel.Facts] : Prop :=
  ∀ (m : (ℓ : Loc Cert.DswQKernel.nD Cert.DswQKernel.τ Cert.DswQKernel.sig) → Buf (Elt Bits) ℓ) (g : Dev Cert.DswQKernel.nD → PrngReg), Pre_DswQKernel m →
    θ_run (Cert.DswQKernel.defs (F := Bits)) (onTc (τ := Cert.DswQKernel.τ) (Cert.DswQKernel.main (F := Bits))) ⟨m, fun _ => 0, g⟩ (fun r => (∀ c : Dev Cert.DswQKernel.nD,
      r.2.mem ((c.tc : Thread Cert.DswQKernel.nD Cert.DswQKernel.τ).loc Cert.DswQKernel.main_arg0) = m ((c.tc : Thread Cert.DswQKernel.nD Cert.DswQKernel.τ).loc Cert.DswQKernel.main_arg0)
      ∧ r.2.mem ((c.tc : Thread Cert.DswQKernel.nD Cert.DswQKernel.τ).loc Cert.DswQKernel.main_arg1) = m ((c.tc : Thread Cert.DswQKernel.nD Cert.DswQKernel.τ).loc Cert.DswQKernel.main_arg1)
      ∧ r.2.mem ((c.tc : Thread Cert.DswQKernel.nD Cert.DswQKernel.τ).loc Cert.DswQKernel.main_arg2) = m ((c.tc : Thread Cert.DswQKernel.nD Cert.DswQKernel.τ).loc Cert.DswQKernel.main_arg2)
      ∧ r.2.mem ((c.tc : Thread Cert.DswQKernel.nD Cert.DswQKernel.τ).loc Cert.DswQKernel.main_arg3) = m ((c.tc : Thread Cert.DswQKernel.nD Cert.DswQKernel.τ).loc Cert.DswQKernel.main_arg3)
      ∧ r.2.mem ((c.tc : Thread Cert.DswQKernel.nD Cert.DswQKernel.τ).loc Cert.DswQKernel.main_arg4) = m ((c.tc : Thread Cert.DswQKernel.nD Cert.DswQKernel.τ).loc Cert.DswQKernel.main_arg4)
      ∧ r.2.mem ((c.tc : Thread Cert.DswQKernel.nD Cert.DswQKernel.τ).loc Cert.DswQKernel.main_arg5) = m ((c.tc : Thread Cert.DswQKernel.nD Cert.DswQKernel.τ).loc Cert.DswQKernel.main_arg5))
      ∧ r.2.sem = fun _ => 0)

def quiescent_DswQKernelIdeal [hDswQKernelIdeal : Cert.DswQKernelIdeal.Facts] : Prop :=
  ∀ (m : (ℓ : Loc Cert.DswQKernelIdeal.nD Cert.DswQKernelIdeal.τ Cert.DswQKernelIdeal.sig) → Buf (Elt Ideal) ℓ) (g : Dev Cert.DswQKernelIdeal.nD → PrngReg), Pre_DswQKernelIdeal m →
    θ_run (Cert.DswQKernelIdeal.defs (F := Ideal)) (onTc (τ := Cert.DswQKernelIdeal.τ) (Cert.DswQKernelIdeal.main (F := Ideal))) ⟨m, fun _ => 0, g⟩ (fun r => (∀ c : Dev Cert.DswQKernelIdeal.nD,
      r.2.mem ((c.tc : Thread Cert.DswQKernelIdeal.nD Cert.DswQKernelIdeal.τ).loc Cert.DswQKernelIdeal.main_arg0) = m ((c.tc : Thread Cert.DswQKernelIdeal.nD Cert.DswQKernelIdeal.τ).loc Cert.DswQKernelIdeal.main_arg0)
      ∧ r.2.mem ((c.tc : Thread Cert.DswQKernelIdeal.nD Cert.DswQKernelIdeal.τ).loc Cert.DswQKernelIdeal.main_arg1) = m ((c.tc : Thread Cert.DswQKernelIdeal.nD Cert.DswQKernelIdeal.τ).loc Cert.DswQKernelIdeal.main_arg1)
      ∧ r.2.mem ((c.tc : Thread Cert.DswQKernelIdeal.nD Cert.DswQKernelIdeal.τ).loc Cert.DswQKernelIdeal.main_arg2) = m ((c.tc : Thread Cert.DswQKernelIdeal.nD Cert.DswQKernelIdeal.τ).loc Cert.DswQKernelIdeal.main_arg2)
      ∧ r.2.mem ((c.tc : Thread Cert.DswQKernelIdeal.nD Cert.DswQKernelIdeal.τ).loc Cert.DswQKernelIdeal.main_arg3) = m ((c.tc : Thread Cert.DswQKernelIdeal.nD Cert.DswQKernelIdeal.τ).loc Cert.DswQKernelIdeal.main_arg3)
      ∧ r.2.mem ((c.tc : Thread Cert.DswQKernelIdeal.nD Cert.DswQKernelIdeal.τ).loc Cert.DswQKernelIdeal.main_arg4) = m ((c.tc : Thread Cert.DswQKernelIdeal.nD Cert.DswQKernelIdeal.τ).loc Cert.DswQKernelIdeal.main_arg4)
      ∧ r.2.mem ((c.tc : Thread Cert.DswQKernelIdeal.nD Cert.DswQKernelIdeal.τ).loc Cert.DswQKernelIdeal.main_arg5) = m ((c.tc : Thread Cert.DswQKernelIdeal.nD Cert.DswQKernelIdeal.τ).loc Cert.DswQKernelIdeal.main_arg5))
      ∧ r.2.sem = fun _ => 0)

def quiescent_DswQReferenceIdeal [hDswQReferenceIdeal : Cert.DswQReferenceIdeal.Facts] : Prop :=
  ∀ (m : (ℓ : Loc Cert.DswQReferenceIdeal.nD Cert.DswQReferenceIdeal.τ Cert.DswQReferenceIdeal.sig) → Buf (Elt Ideal) ℓ) (g : Dev Cert.DswQReferenceIdeal.nD → PrngReg), Pre_DswQReferenceIdeal m →
    θ_run (Cert.DswQReferenceIdeal.defs (F := Ideal)) (onTc (τ := Cert.DswQReferenceIdeal.τ) (Cert.DswQReferenceIdeal.main (F := Ideal))) ⟨m, fun _ => 0, g⟩ (fun r => (∀ c : Dev Cert.DswQReferenceIdeal.nD,
      r.2.mem ((c.tc : Thread Cert.DswQReferenceIdeal.nD Cert.DswQReferenceIdeal.τ).loc Cert.DswQReferenceIdeal.main_arg0) = m ((c.tc : Thread Cert.DswQReferenceIdeal.nD Cert.DswQReferenceIdeal.τ).loc Cert.DswQReferenceIdeal.main_arg0)
      ∧ r.2.mem ((c.tc : Thread Cert.DswQReferenceIdeal.nD Cert.DswQReferenceIdeal.τ).loc Cert.DswQReferenceIdeal.main_arg1) = m ((c.tc : Thread Cert.DswQReferenceIdeal.nD Cert.DswQReferenceIdeal.τ).loc Cert.DswQReferenceIdeal.main_arg1)
      ∧ r.2.mem ((c.tc : Thread Cert.DswQReferenceIdeal.nD Cert.DswQReferenceIdeal.τ).loc Cert.DswQReferenceIdeal.main_arg2) = m ((c.tc : Thread Cert.DswQReferenceIdeal.nD Cert.DswQReferenceIdeal.τ).loc Cert.DswQReferenceIdeal.main_arg2)
      ∧ r.2.mem ((c.tc : Thread Cert.DswQReferenceIdeal.nD Cert.DswQReferenceIdeal.τ).loc Cert.DswQReferenceIdeal.main_arg3) = m ((c.tc : Thread Cert.DswQReferenceIdeal.nD Cert.DswQReferenceIdeal.τ).loc Cert.DswQReferenceIdeal.main_arg3)
      ∧ r.2.mem ((c.tc : Thread Cert.DswQReferenceIdeal.nD Cert.DswQReferenceIdeal.τ).loc Cert.DswQReferenceIdeal.main_arg4) = m ((c.tc : Thread Cert.DswQReferenceIdeal.nD Cert.DswQReferenceIdeal.τ).loc Cert.DswQReferenceIdeal.main_arg4)
      ∧ r.2.mem ((c.tc : Thread Cert.DswQReferenceIdeal.nD Cert.DswQReferenceIdeal.τ).loc Cert.DswQReferenceIdeal.main_arg5) = m ((c.tc : Thread Cert.DswQReferenceIdeal.nD Cert.DswQReferenceIdeal.τ).loc Cert.DswQReferenceIdeal.main_arg5))
      ∧ r.2.sem = fun _ => 0)

def quiescent_DswKKernel [hDswKKernel : Cert.DswKKernel.Facts] : Prop :=
  ∀ (m : (ℓ : Loc Cert.DswKKernel.nD Cert.DswKKernel.τ Cert.DswKKernel.sig) → Buf (Elt Bits) ℓ) (g : Dev Cert.DswKKernel.nD → PrngReg), Pre_DswKKernel m →
    θ_run (Cert.DswKKernel.defs (F := Bits)) (onTc (τ := Cert.DswKKernel.τ) (Cert.DswKKernel.main (F := Bits))) ⟨m, fun _ => 0, g⟩ (fun r => (∀ c : Dev Cert.DswKKernel.nD,
      r.2.mem ((c.tc : Thread Cert.DswKKernel.nD Cert.DswKKernel.τ).loc Cert.DswKKernel.main_arg0) = m ((c.tc : Thread Cert.DswKKernel.nD Cert.DswKKernel.τ).loc Cert.DswKKernel.main_arg0)
      ∧ r.2.mem ((c.tc : Thread Cert.DswKKernel.nD Cert.DswKKernel.τ).loc Cert.DswKKernel.main_arg1) = m ((c.tc : Thread Cert.DswKKernel.nD Cert.DswKKernel.τ).loc Cert.DswKKernel.main_arg1)
      ∧ r.2.mem ((c.tc : Thread Cert.DswKKernel.nD Cert.DswKKernel.τ).loc Cert.DswKKernel.main_arg2) = m ((c.tc : Thread Cert.DswKKernel.nD Cert.DswKKernel.τ).loc Cert.DswKKernel.main_arg2)
      ∧ r.2.mem ((c.tc : Thread Cert.DswKKernel.nD Cert.DswKKernel.τ).loc Cert.DswKKernel.main_arg3) = m ((c.tc : Thread Cert.DswKKernel.nD Cert.DswKKernel.τ).loc Cert.DswKKernel.main_arg3)
      ∧ r.2.mem ((c.tc : Thread Cert.DswKKernel.nD Cert.DswKKernel.τ).loc Cert.DswKKernel.main_arg4) = m ((c.tc : Thread Cert.DswKKernel.nD Cert.DswKKernel.τ).loc Cert.DswKKernel.main_arg4)
      ∧ r.2.mem ((c.tc : Thread Cert.DswKKernel.nD Cert.DswKKernel.τ).loc Cert.DswKKernel.main_arg5) = m ((c.tc : Thread Cert.DswKKernel.nD Cert.DswKKernel.τ).loc Cert.DswKKernel.main_arg5))
      ∧ r.2.sem = fun _ => 0)

def quiescent_DswKKernelIdeal [hDswKKernelIdeal : Cert.DswKKernelIdeal.Facts] : Prop :=
  ∀ (m : (ℓ : Loc Cert.DswKKernelIdeal.nD Cert.DswKKernelIdeal.τ Cert.DswKKernelIdeal.sig) → Buf (Elt Ideal) ℓ) (g : Dev Cert.DswKKernelIdeal.nD → PrngReg), Pre_DswKKernelIdeal m →
    θ_run (Cert.DswKKernelIdeal.defs (F := Ideal)) (onTc (τ := Cert.DswKKernelIdeal.τ) (Cert.DswKKernelIdeal.main (F := Ideal))) ⟨m, fun _ => 0, g⟩ (fun r => (∀ c : Dev Cert.DswKKernelIdeal.nD,
      r.2.mem ((c.tc : Thread Cert.DswKKernelIdeal.nD Cert.DswKKernelIdeal.τ).loc Cert.DswKKernelIdeal.main_arg0) = m ((c.tc : Thread Cert.DswKKernelIdeal.nD Cert.DswKKernelIdeal.τ).loc Cert.DswKKernelIdeal.main_arg0)
      ∧ r.2.mem ((c.tc : Thread Cert.DswKKernelIdeal.nD Cert.DswKKernelIdeal.τ).loc Cert.DswKKernelIdeal.main_arg1) = m ((c.tc : Thread Cert.DswKKernelIdeal.nD Cert.DswKKernelIdeal.τ).loc Cert.DswKKernelIdeal.main_arg1)
      ∧ r.2.mem ((c.tc : Thread Cert.DswKKernelIdeal.nD Cert.DswKKernelIdeal.τ).loc Cert.DswKKernelIdeal.main_arg2) = m ((c.tc : Thread Cert.DswKKernelIdeal.nD Cert.DswKKernelIdeal.τ).loc Cert.DswKKernelIdeal.main_arg2)
      ∧ r.2.mem ((c.tc : Thread Cert.DswKKernelIdeal.nD Cert.DswKKernelIdeal.τ).loc Cert.DswKKernelIdeal.main_arg3) = m ((c.tc : Thread Cert.DswKKernelIdeal.nD Cert.DswKKernelIdeal.τ).loc Cert.DswKKernelIdeal.main_arg3)
      ∧ r.2.mem ((c.tc : Thread Cert.DswKKernelIdeal.nD Cert.DswKKernelIdeal.τ).loc Cert.DswKKernelIdeal.main_arg4) = m ((c.tc : Thread Cert.DswKKernelIdeal.nD Cert.DswKKernelIdeal.τ).loc Cert.DswKKernelIdeal.main_arg4)
      ∧ r.2.mem ((c.tc : Thread Cert.DswKKernelIdeal.nD Cert.DswKKernelIdeal.τ).loc Cert.DswKKernelIdeal.main_arg5) = m ((c.tc : Thread Cert.DswKKernelIdeal.nD Cert.DswKKernelIdeal.τ).loc Cert.DswKKernelIdeal.main_arg5))
      ∧ r.2.sem = fun _ => 0)

def quiescent_DswKReferenceIdeal [hDswKReferenceIdeal : Cert.DswKReferenceIdeal.Facts] : Prop :=
  ∀ (m : (ℓ : Loc Cert.DswKReferenceIdeal.nD Cert.DswKReferenceIdeal.τ Cert.DswKReferenceIdeal.sig) → Buf (Elt Ideal) ℓ) (g : Dev Cert.DswKReferenceIdeal.nD → PrngReg), Pre_DswKReferenceIdeal m →
    θ_run (Cert.DswKReferenceIdeal.defs (F := Ideal)) (onTc (τ := Cert.DswKReferenceIdeal.τ) (Cert.DswKReferenceIdeal.main (F := Ideal))) ⟨m, fun _ => 0, g⟩ (fun r => (∀ c : Dev Cert.DswKReferenceIdeal.nD,
      r.2.mem ((c.tc : Thread Cert.DswKReferenceIdeal.nD Cert.DswKReferenceIdeal.τ).loc Cert.DswKReferenceIdeal.main_arg0) = m ((c.tc : Thread Cert.DswKReferenceIdeal.nD Cert.DswKReferenceIdeal.τ).loc Cert.DswKReferenceIdeal.main_arg0)
      ∧ r.2.mem ((c.tc : Thread Cert.DswKReferenceIdeal.nD Cert.DswKReferenceIdeal.τ).loc Cert.DswKReferenceIdeal.main_arg1) = m ((c.tc : Thread Cert.DswKReferenceIdeal.nD Cert.DswKReferenceIdeal.τ).loc Cert.DswKReferenceIdeal.main_arg1)
      ∧ r.2.mem ((c.tc : Thread Cert.DswKReferenceIdeal.nD Cert.DswKReferenceIdeal.τ).loc Cert.DswKReferenceIdeal.main_arg2) = m ((c.tc : Thread Cert.DswKReferenceIdeal.nD Cert.DswKReferenceIdeal.τ).loc Cert.DswKReferenceIdeal.main_arg2)
      ∧ r.2.mem ((c.tc : Thread Cert.DswKReferenceIdeal.nD Cert.DswKReferenceIdeal.τ).loc Cert.DswKReferenceIdeal.main_arg3) = m ((c.tc : Thread Cert.DswKReferenceIdeal.nD Cert.DswKReferenceIdeal.τ).loc Cert.DswKReferenceIdeal.main_arg3)
      ∧ r.2.mem ((c.tc : Thread Cert.DswKReferenceIdeal.nD Cert.DswKReferenceIdeal.τ).loc Cert.DswKReferenceIdeal.main_arg4) = m ((c.tc : Thread Cert.DswKReferenceIdeal.nD Cert.DswKReferenceIdeal.τ).loc Cert.DswKReferenceIdeal.main_arg4)
      ∧ r.2.mem ((c.tc : Thread Cert.DswKReferenceIdeal.nD Cert.DswKReferenceIdeal.τ).loc Cert.DswKReferenceIdeal.main_arg5) = m ((c.tc : Thread Cert.DswKReferenceIdeal.nD Cert.DswKReferenceIdeal.τ).loc Cert.DswKReferenceIdeal.main_arg5))
      ∧ r.2.sem = fun _ => 0)

def quiescent_GdnGatesKernel [hGdnGatesKernel : Cert.GdnGatesKernel.Facts] : Prop :=
  ∀ (m : (ℓ : Loc Cert.GdnGatesKernel.nD Cert.GdnGatesKernel.τ Cert.GdnGatesKernel.sig) → Buf (Elt Bits) ℓ) (g : Dev Cert.GdnGatesKernel.nD → PrngReg), Pre_GdnGatesKernel m →
    θ_run (Cert.GdnGatesKernel.defs (F := Bits)) (onTc (τ := Cert.GdnGatesKernel.τ) (Cert.GdnGatesKernel.main (F := Bits))) ⟨m, fun _ => 0, g⟩ (fun r => (∀ c : Dev Cert.GdnGatesKernel.nD,
      r.2.mem ((c.tc : Thread Cert.GdnGatesKernel.nD Cert.GdnGatesKernel.τ).loc Cert.GdnGatesKernel.main_arg0) = m ((c.tc : Thread Cert.GdnGatesKernel.nD Cert.GdnGatesKernel.τ).loc Cert.GdnGatesKernel.main_arg0)
      ∧ r.2.mem ((c.tc : Thread Cert.GdnGatesKernel.nD Cert.GdnGatesKernel.τ).loc Cert.GdnGatesKernel.main_arg1) = m ((c.tc : Thread Cert.GdnGatesKernel.nD Cert.GdnGatesKernel.τ).loc Cert.GdnGatesKernel.main_arg1)
      ∧ r.2.mem ((c.tc : Thread Cert.GdnGatesKernel.nD Cert.GdnGatesKernel.τ).loc Cert.GdnGatesKernel.main_arg2) = m ((c.tc : Thread Cert.GdnGatesKernel.nD Cert.GdnGatesKernel.τ).loc Cert.GdnGatesKernel.main_arg2)
      ∧ r.2.mem ((c.tc : Thread Cert.GdnGatesKernel.nD Cert.GdnGatesKernel.τ).loc Cert.GdnGatesKernel.main_arg3) = m ((c.tc : Thread Cert.GdnGatesKernel.nD Cert.GdnGatesKernel.τ).loc Cert.GdnGatesKernel.main_arg3)
      ∧ r.2.mem ((c.tc : Thread Cert.GdnGatesKernel.nD Cert.GdnGatesKernel.τ).loc Cert.GdnGatesKernel.main_arg4) = m ((c.tc : Thread Cert.GdnGatesKernel.nD Cert.GdnGatesKernel.τ).loc Cert.GdnGatesKernel.main_arg4))
      ∧ r.2.sem = fun _ => 0)

def quiescent_GdnGatesKernelIdeal [hGdnGatesKernelIdeal : Cert.GdnGatesKernelIdeal.Facts] : Prop :=
  ∀ (m : (ℓ : Loc Cert.GdnGatesKernelIdeal.nD Cert.GdnGatesKernelIdeal.τ Cert.GdnGatesKernelIdeal.sig) → Buf (Elt Ideal) ℓ) (g : Dev Cert.GdnGatesKernelIdeal.nD → PrngReg), Pre_GdnGatesKernelIdeal m →
    θ_run (Cert.GdnGatesKernelIdeal.defs (F := Ideal)) (onTc (τ := Cert.GdnGatesKernelIdeal.τ) (Cert.GdnGatesKernelIdeal.main (F := Ideal))) ⟨m, fun _ => 0, g⟩ (fun r => (∀ c : Dev Cert.GdnGatesKernelIdeal.nD,
      r.2.mem ((c.tc : Thread Cert.GdnGatesKernelIdeal.nD Cert.GdnGatesKernelIdeal.τ).loc Cert.GdnGatesKernelIdeal.main_arg0) = m ((c.tc : Thread Cert.GdnGatesKernelIdeal.nD Cert.GdnGatesKernelIdeal.τ).loc Cert.GdnGatesKernelIdeal.main_arg0)
      ∧ r.2.mem ((c.tc : Thread Cert.GdnGatesKernelIdeal.nD Cert.GdnGatesKernelIdeal.τ).loc Cert.GdnGatesKernelIdeal.main_arg1) = m ((c.tc : Thread Cert.GdnGatesKernelIdeal.nD Cert.GdnGatesKernelIdeal.τ).loc Cert.GdnGatesKernelIdeal.main_arg1)
      ∧ r.2.mem ((c.tc : Thread Cert.GdnGatesKernelIdeal.nD Cert.GdnGatesKernelIdeal.τ).loc Cert.GdnGatesKernelIdeal.main_arg2) = m ((c.tc : Thread Cert.GdnGatesKernelIdeal.nD Cert.GdnGatesKernelIdeal.τ).loc Cert.GdnGatesKernelIdeal.main_arg2)
      ∧ r.2.mem ((c.tc : Thread Cert.GdnGatesKernelIdeal.nD Cert.GdnGatesKernelIdeal.τ).loc Cert.GdnGatesKernelIdeal.main_arg3) = m ((c.tc : Thread Cert.GdnGatesKernelIdeal.nD Cert.GdnGatesKernelIdeal.τ).loc Cert.GdnGatesKernelIdeal.main_arg3)
      ∧ r.2.mem ((c.tc : Thread Cert.GdnGatesKernelIdeal.nD Cert.GdnGatesKernelIdeal.τ).loc Cert.GdnGatesKernelIdeal.main_arg4) = m ((c.tc : Thread Cert.GdnGatesKernelIdeal.nD Cert.GdnGatesKernelIdeal.τ).loc Cert.GdnGatesKernelIdeal.main_arg4))
      ∧ r.2.sem = fun _ => 0)

def quiescent_GdnGatesReferenceIdeal [hGdnGatesReferenceIdeal : Cert.GdnGatesReferenceIdeal.Facts] : Prop :=
  ∀ (m : (ℓ : Loc Cert.GdnGatesReferenceIdeal.nD Cert.GdnGatesReferenceIdeal.τ Cert.GdnGatesReferenceIdeal.sig) → Buf (Elt Ideal) ℓ) (g : Dev Cert.GdnGatesReferenceIdeal.nD → PrngReg), Pre_GdnGatesReferenceIdeal m →
    θ_run (Cert.GdnGatesReferenceIdeal.defs (F := Ideal)) (onTc (τ := Cert.GdnGatesReferenceIdeal.τ) (Cert.GdnGatesReferenceIdeal.main (F := Ideal))) ⟨m, fun _ => 0, g⟩ (fun r => (∀ c : Dev Cert.GdnGatesReferenceIdeal.nD,
      r.2.mem ((c.tc : Thread Cert.GdnGatesReferenceIdeal.nD Cert.GdnGatesReferenceIdeal.τ).loc Cert.GdnGatesReferenceIdeal.main_arg0) = m ((c.tc : Thread Cert.GdnGatesReferenceIdeal.nD Cert.GdnGatesReferenceIdeal.τ).loc Cert.GdnGatesReferenceIdeal.main_arg0)
      ∧ r.2.mem ((c.tc : Thread Cert.GdnGatesReferenceIdeal.nD Cert.GdnGatesReferenceIdeal.τ).loc Cert.GdnGatesReferenceIdeal.main_arg1) = m ((c.tc : Thread Cert.GdnGatesReferenceIdeal.nD Cert.GdnGatesReferenceIdeal.τ).loc Cert.GdnGatesReferenceIdeal.main_arg1)
      ∧ r.2.mem ((c.tc : Thread Cert.GdnGatesReferenceIdeal.nD Cert.GdnGatesReferenceIdeal.τ).loc Cert.GdnGatesReferenceIdeal.main_arg2) = m ((c.tc : Thread Cert.GdnGatesReferenceIdeal.nD Cert.GdnGatesReferenceIdeal.τ).loc Cert.GdnGatesReferenceIdeal.main_arg2)
      ∧ r.2.mem ((c.tc : Thread Cert.GdnGatesReferenceIdeal.nD Cert.GdnGatesReferenceIdeal.τ).loc Cert.GdnGatesReferenceIdeal.main_arg3) = m ((c.tc : Thread Cert.GdnGatesReferenceIdeal.nD Cert.GdnGatesReferenceIdeal.τ).loc Cert.GdnGatesReferenceIdeal.main_arg3)
      ∧ r.2.mem ((c.tc : Thread Cert.GdnGatesReferenceIdeal.nD Cert.GdnGatesReferenceIdeal.τ).loc Cert.GdnGatesReferenceIdeal.main_arg4) = m ((c.tc : Thread Cert.GdnGatesReferenceIdeal.nD Cert.GdnGatesReferenceIdeal.τ).loc Cert.GdnGatesReferenceIdeal.main_arg4))
      ∧ r.2.sem = fun _ => 0)

def quiescent_BandKernel [hBandKernel : Cert.BandKernel.Facts] : Prop :=
  ∀ (m : (ℓ : Loc Cert.BandKernel.nD Cert.BandKernel.τ Cert.BandKernel.sig) → Buf (Elt Bits) ℓ) (g : Dev Cert.BandKernel.nD → PrngReg), Pre_BandKernel m →
    θ_run (Cert.BandKernel.defs (F := Bits)) (onTc (τ := Cert.BandKernel.τ) (Cert.BandKernel.main (F := Bits))) ⟨m, fun _ => 0, g⟩ (fun r => (∀ c : Dev Cert.BandKernel.nD,
      r.2.mem ((c.tc : Thread Cert.BandKernel.nD Cert.BandKernel.τ).loc Cert.BandKernel.main_arg0) = m ((c.tc : Thread Cert.BandKernel.nD Cert.BandKernel.τ).loc Cert.BandKernel.main_arg0)
      ∧ r.2.mem ((c.tc : Thread Cert.BandKernel.nD Cert.BandKernel.τ).loc Cert.BandKernel.main_arg1) = m ((c.tc : Thread Cert.BandKernel.nD Cert.BandKernel.τ).loc Cert.BandKernel.main_arg1)
      ∧ r.2.mem ((c.tc : Thread Cert.BandKernel.nD Cert.BandKernel.τ).loc Cert.BandKernel.main_arg2) = m ((c.tc : Thread Cert.BandKernel.nD Cert.BandKernel.τ).loc Cert.BandKernel.main_arg2))
      ∧ r.2.sem = fun _ => 0)

def quiescent_BandKernelIdeal [hBandKernelIdeal : Cert.BandKernelIdeal.Facts] : Prop :=
  ∀ (m : (ℓ : Loc Cert.BandKernelIdeal.nD Cert.BandKernelIdeal.τ Cert.BandKernelIdeal.sig) → Buf (Elt Ideal) ℓ) (g : Dev Cert.BandKernelIdeal.nD → PrngReg), Pre_BandKernelIdeal m →
    θ_run (Cert.BandKernelIdeal.defs (F := Ideal)) (onTc (τ := Cert.BandKernelIdeal.τ) (Cert.BandKernelIdeal.main (F := Ideal))) ⟨m, fun _ => 0, g⟩ (fun r => (∀ c : Dev Cert.BandKernelIdeal.nD,
      r.2.mem ((c.tc : Thread Cert.BandKernelIdeal.nD Cert.BandKernelIdeal.τ).loc Cert.BandKernelIdeal.main_arg0) = m ((c.tc : Thread Cert.BandKernelIdeal.nD Cert.BandKernelIdeal.τ).loc Cert.BandKernelIdeal.main_arg0)
      ∧ r.2.mem ((c.tc : Thread Cert.BandKernelIdeal.nD Cert.BandKernelIdeal.τ).loc Cert.BandKernelIdeal.main_arg1) = m ((c.tc : Thread Cert.BandKernelIdeal.nD Cert.BandKernelIdeal.τ).loc Cert.BandKernelIdeal.main_arg1)
      ∧ r.2.mem ((c.tc : Thread Cert.BandKernelIdeal.nD Cert.BandKernelIdeal.τ).loc Cert.BandKernelIdeal.main_arg2) = m ((c.tc : Thread Cert.BandKernelIdeal.nD Cert.BandKernelIdeal.τ).loc Cert.BandKernelIdeal.main_arg2))
      ∧ r.2.sem = fun _ => 0)

def quiescent_BandReferenceIdeal [hBandReferenceIdeal : Cert.BandReferenceIdeal.Facts] : Prop :=
  ∀ (m : (ℓ : Loc Cert.BandReferenceIdeal.nD Cert.BandReferenceIdeal.τ Cert.BandReferenceIdeal.sig) → Buf (Elt Ideal) ℓ) (g : Dev Cert.BandReferenceIdeal.nD → PrngReg), Pre_BandReferenceIdeal m →
    θ_run (Cert.BandReferenceIdeal.defs (F := Ideal)) (onTc (τ := Cert.BandReferenceIdeal.τ) (Cert.BandReferenceIdeal.main (F := Ideal))) ⟨m, fun _ => 0, g⟩ (fun r => (∀ c : Dev Cert.BandReferenceIdeal.nD,
      r.2.mem ((c.tc : Thread Cert.BandReferenceIdeal.nD Cert.BandReferenceIdeal.τ).loc Cert.BandReferenceIdeal.main_arg0) = m ((c.tc : Thread Cert.BandReferenceIdeal.nD Cert.BandReferenceIdeal.τ).loc Cert.BandReferenceIdeal.main_arg0)
      ∧ r.2.mem ((c.tc : Thread Cert.BandReferenceIdeal.nD Cert.BandReferenceIdeal.τ).loc Cert.BandReferenceIdeal.main_arg1) = m ((c.tc : Thread Cert.BandReferenceIdeal.nD Cert.BandReferenceIdeal.τ).loc Cert.BandReferenceIdeal.main_arg1)
      ∧ r.2.mem ((c.tc : Thread Cert.BandReferenceIdeal.nD Cert.BandReferenceIdeal.τ).loc Cert.BandReferenceIdeal.main_arg2) = m ((c.tc : Thread Cert.BandReferenceIdeal.nD Cert.BandReferenceIdeal.τ).loc Cert.BandReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)) →
    ∃ (v0 : (c : Dev Cert.FfnKernelIdeal.nD) → Buf (Elt Ideal) ((c.tc : Thread Cert.FfnKernelIdeal.nD Cert.FfnKernelIdeal.τ).loc Cert.FfnKernelIdeal.main_v4)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v4) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v20) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_OutKernel_OutKernelIdeal : Prop :=
  True

def algebraic_OutKernelIdeal_OutReferenceIdeal [hOutKernelIdeal : Cert.OutKernelIdeal.Facts] [hOutReferenceIdeal : Cert.OutReferenceIdeal.Facts] : Prop :=
  ∀ (m : (ℓ : Loc Cert.OutKernelIdeal.nD Cert.OutKernelIdeal.τ Cert.OutKernelIdeal.sig) → Buf (Elt Ideal) ℓ) (g : Dev Cert.OutKernelIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutKernelIdeal m →
    (∀ c : Dev Cert.OutKernelIdeal.nD,
      m' ((c.tc : Thread Cert.OutReferenceIdeal.nD Cert.OutReferenceIdeal.τ).loc Cert.OutReferenceIdeal.main_arg0) = m ((c.tc : Thread Cert.OutKernelIdeal.nD Cert.OutKernelIdeal.τ).loc Cert.OutKernelIdeal.main_arg0)
      ∧ m' ((c.tc : Thread Cert.OutReferenceIdeal.nD Cert.OutReferenceIdeal.τ).loc Cert.OutReferenceIdeal.main_arg1) = m ((c.tc : Thread Cert.OutKernelIdeal.nD Cert.OutKernelIdeal.τ).loc Cert.OutKernelIdeal.main_arg1)
      ∧ m' ((c.tc : Thread Cert.OutReferenceIdeal.nD Cert.OutReferenceIdeal.τ).loc Cert.OutReferenceIdeal.main_arg2) = m ((c.tc : Thread Cert.OutKernelIdeal.nD Cert.OutKernelIdeal.τ).loc Cert.OutKernelIdeal.main_arg2)) →
    ∃ (v0 : (c : Dev Cert.OutKernelIdeal.nD) → Buf (Elt Ideal) ((c.tc : Thread Cert.OutKernelIdeal.nD Cert.OutKernelIdeal.τ).loc Cert.OutKernelIdeal.main_v3)),
      θ_run (Cert.OutKernelIdeal.defs (F := Ideal)) (onTc (τ := Cert.OutKernelIdeal.τ) (Cert.OutKernelIdeal.main (F := Ideal))) ⟨m, fun _ => 0, g⟩ (fun r => ∀ c : Dev Cert.OutKernelIdeal.nD,
          r.2.mem ((c.tc : Thread Cert.OutKernelIdeal.nD Cert.OutKernelIdeal.τ).loc Cert.OutKernelIdeal.main_v3) = v0 c
          ∧ r.2.mem ((c.tc : Thread Cert.OutKernelIdeal.nD Cert.OutKernelIdeal.τ).loc Cert.OutKernelIdeal.main_arg0) = m ((c.tc : Thread Cert.OutKernelIdeal.nD Cert.OutKernelIdeal.τ).loc Cert.OutKernelIdeal.main_arg0)
          ∧ r.2.mem ((c.tc : Thread Cert.OutKernelIdeal.nD Cert.OutKernelIdeal.τ).loc Cert.OutKernelIdeal.main_arg1) = m ((c.tc : Thread Cert.OutKernelIdeal.nD Cert.OutKernelIdeal.τ).loc Cert.OutKernelIdeal.main_arg1)
          ∧ r.2.mem ((c.tc : Thread Cert.OutKernelIdeal.nD Cert.OutKernelIdeal.τ).loc Cert.OutKernelIdeal.main_arg2) = m ((c.tc : Thread Cert.OutKernelIdeal.nD Cert.OutKernelIdeal.τ).loc Cert.OutKernelIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v2) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_GdnOutKernel_GdnOutKernelIdeal : Prop :=
  True

def algebraic_GdnOutKernelIdeal_GdnOutReferenceIdeal [hGdnOutKernelIdeal : Cert.GdnOutKernelIdeal.Facts] [hGdnOutReferenceIdeal : Cert.GdnOutReferenceIdeal.Facts] : Prop :=
  ∀ (m : (ℓ : Loc Cert.GdnOutKernelIdeal.nD Cert.GdnOutKernelIdeal.τ Cert.GdnOutKernelIdeal.sig) → Buf (Elt Ideal) ℓ) (g : Dev Cert.GdnOutKernelIdeal.nD → PrngReg)
    (m' : (ℓ : Loc Cert.GdnOutReferenceIdeal.nD Cert.GdnOutReferenceIdeal.τ Cert.GdnOutReferenceIdeal.sig) → Buf (Elt Ideal) ℓ) (g' : Dev Cert.GdnOutReferenceIdeal.nD → PrngReg), Pre_GdnOutKernelIdeal m →
    (∀ c : Dev Cert.GdnOutKernelIdeal.nD,
      m' ((c.tc : Thread Cert.GdnOutReferenceIdeal.nD Cert.GdnOutReferenceIdeal.τ).loc Cert.GdnOutReferenceIdeal.main_arg0) = m ((c.tc : Thread Cert.GdnOutKernelIdeal.nD Cert.GdnOutKernelIdeal.τ).loc Cert.GdnOutKernelIdeal.main_arg0)
      ∧ m' ((c.tc : Thread Cert.GdnOutReferenceIdeal.nD Cert.GdnOutReferenceIdeal.τ).loc Cert.GdnOutReferenceIdeal.main_arg1) = m ((c.tc : Thread Cert.GdnOutKernelIdeal.nD Cert.GdnOutKernelIdeal.τ).loc Cert.GdnOutKernelIdeal.main_arg1)
      ∧ m' ((c.tc : Thread Cert.GdnOutReferenceIdeal.nD Cert.GdnOutReferenceIdeal.τ).loc Cert.GdnOutReferenceIdeal.main_arg2) = m ((c.tc : Thread Cert.GdnOutKernelIdeal.nD Cert.GdnOutKernelIdeal.τ).loc Cert.GdnOutKernelIdeal.main_arg2)) →
    ∃ (v0 : (c : Dev Cert.GdnOutKernelIdeal.nD) → Buf (Elt Ideal) ((c.tc : Thread Cert.GdnOutKernelIdeal.nD Cert.GdnOutKernelIdeal.τ).loc Cert.GdnOutKernelIdeal.main_v3)),
      θ_run (Cert.GdnOutKernelIdeal.defs (F := Ideal)) (onTc (τ := Cert.GdnOutKernelIdeal.τ) (Cert.GdnOutKernelIdeal.main (F := Ideal))) ⟨m, fun _ => 0, g⟩ (fun r => ∀ c : Dev Cert.GdnOutKernelIdeal.nD,
          r.2.mem ((c.tc : Thread Cert.GdnOutKernelIdeal.nD Cert.GdnOutKernelIdeal.τ).loc Cert.GdnOutKernelIdeal.main_v3) = v0 c
          ∧ r.2.mem ((c.tc : Thread Cert.GdnOutKernelIdeal.nD Cert.GdnOutKernelIdeal.τ).loc Cert.GdnOutKernelIdeal.main_arg0) = m ((c.tc : Thread Cert.GdnOutKernelIdeal.nD Cert.GdnOutKernelIdeal.τ).loc Cert.GdnOutKernelIdeal.main_arg0)
          ∧ r.2.mem ((c.tc : Thread Cert.GdnOutKernelIdeal.nD Cert.GdnOutKernelIdeal.τ).loc Cert.GdnOutKernelIdeal.main_arg1) = m ((c.tc : Thread Cert.GdnOutKernelIdeal.nD Cert.GdnOutKernelIdeal.τ).loc Cert.GdnOutKernelIdeal.main_arg1)
          ∧ r.2.mem ((c.tc : Thread Cert.GdnOutKernelIdeal.nD Cert.GdnOutKernelIdeal.τ).loc Cert.GdnOutKernelIdeal.main_arg2) = m ((c.tc : Thread Cert.GdnOutKernelIdeal.nD Cert.GdnOutKernelIdeal.τ).loc Cert.GdnOutKernelIdeal.main_arg2))
      ∧ θ_run (Cert.GdnOutReferenceIdeal.defs (F := Ideal)) (onTc (τ := Cert.GdnOutReferenceIdeal.τ) (Cert.GdnOutReferenceIdeal.main (F := Ideal))) ⟨m', fun _ => 0, g'⟩ (fun r => ∀ c : Dev Cert.GdnOutReferenceIdeal.nD,
          r.2.mem ((c.tc : Thread Cert.GdnOutReferenceIdeal.nD Cert.GdnOutReferenceIdeal.τ).loc Cert.GdnOutReferenceIdeal.main_v2) = v0 c
          ∧ r.2.mem ((c.tc : Thread Cert.GdnOutReferenceIdeal.nD Cert.GdnOutReferenceIdeal.τ).loc Cert.GdnOutReferenceIdeal.main_arg0) = m' ((c.tc : Thread Cert.GdnOutReferenceIdeal.nD Cert.GdnOutReferenceIdeal.τ).loc Cert.GdnOutReferenceIdeal.main_arg0)
          ∧ r.2.mem ((c.tc : Thread Cert.GdnOutReferenceIdeal.nD Cert.GdnOutReferenceIdeal.τ).loc Cert.GdnOutReferenceIdeal.main_arg1) = m' ((c.tc : Thread Cert.GdnOutReferenceIdeal.nD Cert.GdnOutReferenceIdeal.τ).loc Cert.GdnOutReferenceIdeal.main_arg1)
          ∧ r.2.mem ((c.tc : Thread Cert.GdnOutReferenceIdeal.nD Cert.GdnOutReferenceIdeal.τ).loc Cert.GdnOutReferenceIdeal.main_arg2) = m' ((c.tc : Thread Cert.GdnOutReferenceIdeal.nD Cert.GdnOutReferenceIdeal.τ).loc Cert.GdnOutReferenceIdeal.main_arg2))

def preserves_DswOutKernel_DswOutKernelIdeal : Prop :=
  True

def algebraic_DswOutKernelIdeal_DswOutReferenceIdeal [hDswOutKernelIdeal : Cert.DswOutKernelIdeal.Facts] [hDswOutReferenceIdeal : Cert.DswOutReferenceIdeal.Facts] : Prop :=
  ∀ (m : (ℓ : Loc Cert.DswOutKernelIdeal.nD Cert.DswOutKernelIdeal.τ Cert.DswOutKernelIdeal.sig) → Buf (Elt Ideal) ℓ) (g : Dev Cert.DswOutKernelIdeal.nD → PrngReg)
    (m' : (ℓ : Loc Cert.DswOutReferenceIdeal.nD Cert.DswOutReferenceIdeal.τ Cert.DswOutReferenceIdeal.sig) → Buf (Elt Ideal) ℓ) (g' : Dev Cert.DswOutReferenceIdeal.nD → PrngReg), Pre_DswOutKernelIdeal m →
    (∀ c : Dev Cert.DswOutKernelIdeal.nD,
      m' ((c.tc : Thread Cert.DswOutReferenceIdeal.nD Cert.DswOutReferenceIdeal.τ).loc Cert.DswOutReferenceIdeal.main_arg0) = m ((c.tc : Thread Cert.DswOutKernelIdeal.nD Cert.DswOutKernelIdeal.τ).loc Cert.DswOutKernelIdeal.main_arg0)
      ∧ m' ((c.tc : Thread Cert.DswOutReferenceIdeal.nD Cert.DswOutReferenceIdeal.τ).loc Cert.DswOutReferenceIdeal.main_arg1) = m ((c.tc : Thread Cert.DswOutKernelIdeal.nD Cert.DswOutKernelIdeal.τ).loc Cert.DswOutKernelIdeal.main_arg1)
      ∧ m' ((c.tc : Thread Cert.DswOutReferenceIdeal.nD Cert.DswOutReferenceIdeal.τ).loc Cert.DswOutReferenceIdeal.main_arg2) = m ((c.tc : Thread Cert.DswOutKernelIdeal.nD Cert.DswOutKernelIdeal.τ).loc Cert.DswOutKernelIdeal.main_arg2)) →
    ∃ (v0 : (c : Dev Cert.DswOutKernelIdeal.nD) → Buf (Elt Ideal) ((c.tc : Thread Cert.DswOutKernelIdeal.nD Cert.DswOutKernelIdeal.τ).loc Cert.DswOutKernelIdeal.main_v3)),
      θ_run (Cert.DswOutKernelIdeal.defs (F := Ideal)) (onTc (τ := Cert.DswOutKernelIdeal.τ) (Cert.DswOutKernelIdeal.main (F := Ideal))) ⟨m, fun _ => 0, g⟩ (fun r => ∀ c : Dev Cert.DswOutKernelIdeal.nD,
          r.2.mem ((c.tc : Thread Cert.DswOutKernelIdeal.nD Cert.DswOutKernelIdeal.τ).loc Cert.DswOutKernelIdeal.main_v3) = v0 c
          ∧ r.2.mem ((c.tc : Thread Cert.DswOutKernelIdeal.nD Cert.DswOutKernelIdeal.τ).loc Cert.DswOutKernelIdeal.main_arg0) = m ((c.tc : Thread Cert.DswOutKernelIdeal.nD Cert.DswOutKernelIdeal.τ).loc Cert.DswOutKernelIdeal.main_arg0)
          ∧ r.2.mem ((c.tc : Thread Cert.DswOutKernelIdeal.nD Cert.DswOutKernelIdeal.τ).loc Cert.DswOutKernelIdeal.main_arg1) = m ((c.tc : Thread Cert.DswOutKernelIdeal.nD Cert.DswOutKernelIdeal.τ).loc Cert.DswOutKernelIdeal.main_arg1)
          ∧ r.2.mem ((c.tc : Thread Cert.DswOutKernelIdeal.nD Cert.DswOutKernelIdeal.τ).loc Cert.DswOutKernelIdeal.main_arg2) = m ((c.tc : Thread Cert.DswOutKernelIdeal.nD Cert.DswOutKernelIdeal.τ).loc Cert.DswOutKernelIdeal.main_arg2))
      ∧ θ_run (Cert.DswOutReferenceIdeal.defs (F := Ideal)) (onTc (τ := Cert.DswOutReferenceIdeal.τ) (Cert.DswOutReferenceIdeal.main (F := Ideal))) ⟨m', fun _ => 0, g'⟩ (fun r => ∀ c : Dev Cert.DswOutReferenceIdeal.nD,
          r.2.mem ((c.tc : Thread Cert.DswOutReferenceIdeal.nD Cert.DswOutReferenceIdeal.τ).loc Cert.DswOutReferenceIdeal.main_v2) = v0 c
          ∧ r.2.mem ((c.tc : Thread Cert.DswOutReferenceIdeal.nD Cert.DswOutReferenceIdeal.τ).loc Cert.DswOutReferenceIdeal.main_arg0) = m' ((c.tc : Thread Cert.DswOutReferenceIdeal.nD Cert.DswOutReferenceIdeal.τ).loc Cert.DswOutReferenceIdeal.main_arg0)
          ∧ r.2.mem ((c.tc : Thread Cert.DswOutReferenceIdeal.nD Cert.DswOutReferenceIdeal.τ).loc Cert.DswOutReferenceIdeal.main_arg1) = m' ((c.tc : Thread Cert.DswOutReferenceIdeal.nD Cert.DswOutReferenceIdeal.τ).loc Cert.DswOutReferenceIdeal.main_arg1)
          ∧ r.2.mem ((c.tc : Thread Cert.DswOutReferenceIdeal.nD Cert.DswOutReferenceIdeal.τ).loc Cert.DswOutReferenceIdeal.main_arg2) = m' ((c.tc : Thread Cert.DswOutReferenceIdeal.nD Cert.DswOutReferenceIdeal.τ).loc Cert.DswOutReferenceIdeal.main_arg2))

def preserves_LruInKernel_LruInKernelIdeal : Prop :=
  True

def algebraic_LruInKernelIdeal_LruInReferenceIdeal [hLruInKernelIdeal : Cert.LruInKernelIdeal.Facts] [hLruInReferenceIdeal : Cert.LruInReferenceIdeal.Facts] : Prop :=
  ∀ (m : (ℓ : Loc Cert.LruInKernelIdeal.nD Cert.LruInKernelIdeal.τ Cert.LruInKernelIdeal.sig) → Buf (Elt Ideal) ℓ) (g : Dev Cert.LruInKernelIdeal.nD → PrngReg)
    (m' : (ℓ : Loc Cert.LruInReferenceIdeal.nD Cert.LruInReferenceIdeal.τ Cert.LruInReferenceIdeal.sig) → Buf (Elt Ideal) ℓ) (g' : Dev Cert.LruInReferenceIdeal.nD → PrngReg), Pre_LruInKernelIdeal m →
    (∀ c : Dev Cert.LruInKernelIdeal.nD,
      m' ((c.tc : Thread Cert.LruInReferenceIdeal.nD Cert.LruInReferenceIdeal.τ).loc Cert.LruInReferenceIdeal.main_arg0) = m ((c.tc : Thread Cert.LruInKernelIdeal.nD Cert.LruInKernelIdeal.τ).loc Cert.LruInKernelIdeal.main_arg0)
      ∧ m' ((c.tc : Thread Cert.LruInReferenceIdeal.nD Cert.LruInReferenceIdeal.τ).loc Cert.LruInReferenceIdeal.main_arg1) = m ((c.tc : Thread Cert.LruInKernelIdeal.nD Cert.LruInKernelIdeal.τ).loc Cert.LruInKernelIdeal.main_arg1)
      ∧ m' ((c.tc : Thread Cert.LruInReferenceIdeal.nD Cert.LruInReferenceIdeal.τ).loc Cert.LruInReferenceIdeal.main_arg2) = m ((c.tc : Thread Cert.LruInKernelIdeal.nD Cert.LruInKernelIdeal.τ).loc Cert.LruInKernelIdeal.main_arg2)) →
    ∃ (v0 : (c : Dev Cert.LruInKernelIdeal.nD) → Buf (Elt Ideal) ((c.tc : Thread Cert.LruInKernelIdeal.nD Cert.LruInKernelIdeal.τ).loc Cert.LruInKernelIdeal.main_v3)),
      θ_run (Cert.LruInKernelIdeal.defs (F := Ideal)) (onTc (τ := Cert.LruInKernelIdeal.τ) (Cert.LruInKernelIdeal.main (F := Ideal))) ⟨m, fun _ => 0, g⟩ (fun r => ∀ c : Dev Cert.LruInKernelIdeal.nD,
          r.2.mem ((c.tc : Thread Cert.LruInKernelIdeal.nD Cert.LruInKernelIdeal.τ).loc Cert.LruInKernelIdeal.main_v3) = v0 c
          ∧ r.2.mem ((c.tc : Thread Cert.LruInKernelIdeal.nD Cert.LruInKernelIdeal.τ).loc Cert.LruInKernelIdeal.main_arg0) = m ((c.tc : Thread Cert.LruInKernelIdeal.nD Cert.LruInKernelIdeal.τ).loc Cert.LruInKernelIdeal.main_arg0)
          ∧ r.2.mem ((c.tc : Thread Cert.LruInKernelIdeal.nD Cert.LruInKernelIdeal.τ).loc Cert.LruInKernelIdeal.main_arg1) = m ((c.tc : Thread Cert.LruInKernelIdeal.nD Cert.LruInKernelIdeal.τ).loc Cert.LruInKernelIdeal.main_arg1)
          ∧ r.2.mem ((c.tc : Thread Cert.LruInKernelIdeal.nD Cert.LruInKernelIdeal.τ).loc Cert.LruInKernelIdeal.main_arg2) = m ((c.tc : Thread Cert.LruInKernelIdeal.nD Cert.LruInKernelIdeal.τ).loc Cert.LruInKernelIdeal.main_arg2))
      ∧ θ_run (Cert.LruInReferenceIdeal.defs (F := Ideal)) (onTc (τ := Cert.LruInReferenceIdeal.τ) (Cert.LruInReferenceIdeal.main (F := Ideal))) ⟨m', fun _ => 0, g'⟩ (fun r => ∀ c : Dev Cert.LruInReferenceIdeal.nD,
          r.2.mem ((c.tc : Thread Cert.LruInReferenceIdeal.nD Cert.LruInReferenceIdeal.τ).loc Cert.LruInReferenceIdeal.main_v30) = v0 c
          ∧ r.2.mem ((c.tc : Thread Cert.LruInReferenceIdeal.nD Cert.LruInReferenceIdeal.τ).loc Cert.LruInReferenceIdeal.main_arg0) = m' ((c.tc : Thread Cert.LruInReferenceIdeal.nD Cert.LruInReferenceIdeal.τ).loc Cert.LruInReferenceIdeal.main_arg0)
          ∧ r.2.mem ((c.tc : Thread Cert.LruInReferenceIdeal.nD Cert.LruInReferenceIdeal.τ).loc Cert.LruInReferenceIdeal.main_arg1) = m' ((c.tc : Thread Cert.LruInReferenceIdeal.nD Cert.LruInReferenceIdeal.τ).loc Cert.LruInReferenceIdeal.main_arg1)
          ∧ r.2.mem ((c.tc : Thread Cert.LruInReferenceIdeal.nD Cert.LruInReferenceIdeal.τ).loc Cert.LruInReferenceIdeal.main_arg2) = m' ((c.tc : Thread Cert.LruInReferenceIdeal.nD Cert.LruInReferenceIdeal.τ).loc Cert.LruInReferenceIdeal.main_arg2))

def preserves_SbInKernel_SbInKernelIdeal : Prop :=
  True

def algebraic_SbInKernelIdeal_SbInReferenceIdeal [hSbInKernelIdeal : Cert.SbInKernelIdeal.Facts] [hSbInReferenceIdeal : Cert.SbInReferenceIdeal.Facts] : Prop :=
  ∀ (m : (ℓ : Loc Cert.SbInKernelIdeal.nD Cert.SbInKernelIdeal.τ Cert.SbInKernelIdeal.sig) → Buf (Elt Ideal) ℓ) (g : Dev Cert.SbInKernelIdeal.nD → PrngReg)
    (m' : (ℓ : Loc Cert.SbInReferenceIdeal.nD Cert.SbInReferenceIdeal.τ Cert.SbInReferenceIdeal.sig) → Buf (Elt Ideal) ℓ) (g' : Dev Cert.SbInReferenceIdeal.nD → PrngReg), Pre_SbInKernelIdeal m →
    (∀ c : Dev Cert.SbInKernelIdeal.nD,
      m' ((c.tc : Thread Cert.SbInReferenceIdeal.nD Cert.SbInReferenceIdeal.τ).loc Cert.SbInReferenceIdeal.main_arg0) = m ((c.tc : Thread Cert.SbInKernelIdeal.nD Cert.SbInKernelIdeal.τ).loc Cert.SbInKernelIdeal.main_arg0)
      ∧ m' ((c.tc : Thread Cert.SbInReferenceIdeal.nD Cert.SbInReferenceIdeal.τ).loc Cert.SbInReferenceIdeal.main_arg1) = m ((c.tc : Thread Cert.SbInKernelIdeal.nD Cert.SbInKernelIdeal.τ).loc Cert.SbInKernelIdeal.main_arg1)
      ∧ m' ((c.tc : Thread Cert.SbInReferenceIdeal.nD Cert.SbInReferenceIdeal.τ).loc Cert.SbInReferenceIdeal.main_arg2) = m ((c.tc : Thread Cert.SbInKernelIdeal.nD Cert.SbInKernelIdeal.τ).loc Cert.SbInKernelIdeal.main_arg2)
      ∧ m' ((c.tc : Thread Cert.SbInReferenceIdeal.nD Cert.SbInReferenceIdeal.τ).loc Cert.SbInReferenceIdeal.main_arg3) = m ((c.tc : Thread Cert.SbInKernelIdeal.nD Cert.SbInKernelIdeal.τ).loc Cert.SbInKernelIdeal.main_arg3)
      ∧ m' ((c.tc : Thread Cert.SbInReferenceIdeal.nD Cert.SbInReferenceIdeal.τ).loc Cert.SbInReferenceIdeal.main_arg4) = m ((c.tc : Thread Cert.SbInKernelIdeal.nD Cert.SbInKernelIdeal.τ).loc Cert.SbInKernelIdeal.main_arg4)) →
    ∃ (v0 : (c : Dev Cert.SbInKernelIdeal.nD) → Buf (Elt Ideal) ((c.tc : Thread Cert.SbInKernelIdeal.nD Cert.SbInKernelIdeal.τ).loc Cert.SbInKernelIdeal.main_v5)),
      θ_run (Cert.SbInKernelIdeal.defs (F := Ideal)) (onTc (τ := Cert.SbInKernelIdeal.τ) (Cert.SbInKernelIdeal.main (F := Ideal))) ⟨m, fun _ => 0, g⟩ (fun r => ∀ c : Dev Cert.SbInKernelIdeal.nD,
          r.2.mem ((c.tc : Thread Cert.SbInKernelIdeal.nD Cert.SbInKernelIdeal.τ).loc Cert.SbInKernelIdeal.main_v5) = v0 c
          ∧ r.2.mem ((c.tc : Thread Cert.SbInKernelIdeal.nD Cert.SbInKernelIdeal.τ).loc Cert.SbInKernelIdeal.main_arg0) = m ((c.tc : Thread Cert.SbInKernelIdeal.nD Cert.SbInKernelIdeal.τ).loc Cert.SbInKernelIdeal.main_arg0)
          ∧ r.2.mem ((c.tc : Thread Cert.SbInKernelIdeal.nD Cert.SbInKernelIdeal.τ).loc Cert.SbInKernelIdeal.main_arg1) = m ((c.tc : Thread Cert.SbInKernelIdeal.nD Cert.SbInKernelIdeal.τ).loc Cert.SbInKernelIdeal.main_arg1)
          ∧ r.2.mem ((c.tc : Thread Cert.SbInKernelIdeal.nD Cert.SbInKernelIdeal.τ).loc Cert.SbInKernelIdeal.main_arg2) = m ((c.tc : Thread Cert.SbInKernelIdeal.nD Cert.SbInKernelIdeal.τ).loc Cert.SbInKernelIdeal.main_arg2)
          ∧ r.2.mem ((c.tc : Thread Cert.SbInKernelIdeal.nD Cert.SbInKernelIdeal.τ).loc Cert.SbInKernelIdeal.main_arg3) = m ((c.tc : Thread Cert.SbInKernelIdeal.nD Cert.SbInKernelIdeal.τ).loc Cert.SbInKernelIdeal.main_arg3)
          ∧ r.2.mem ((c.tc : Thread Cert.SbInKernelIdeal.nD Cert.SbInKernelIdeal.τ).loc Cert.SbInKernelIdeal.main_arg4) = m ((c.tc : Thread Cert.SbInKernelIdeal.nD Cert.SbInKernelIdeal.τ).loc Cert.SbInKernelIdeal.main_arg4))
      ∧ θ_run (Cert.SbInReferenceIdeal.defs (F := Ideal)) (onTc (τ := Cert.SbInReferenceIdeal.τ) (Cert.SbInReferenceIdeal.main (F := Ideal))) ⟨m', fun _ => 0, g'⟩ (fun r => ∀ c : Dev Cert.SbInReferenceIdeal.nD,
          r.2.mem ((c.tc : Thread Cert.SbInReferenceIdeal.nD Cert.SbInReferenceIdeal.τ).loc Cert.SbInReferenceIdeal.main_v51) = v0 c
          ∧ r.2.mem ((c.tc : Thread Cert.SbInReferenceIdeal.nD Cert.SbInReferenceIdeal.τ).loc Cert.SbInReferenceIdeal.main_arg0) = m' ((c.tc : Thread Cert.SbInReferenceIdeal.nD Cert.SbInReferenceIdeal.τ).loc Cert.SbInReferenceIdeal.main_arg0)
          ∧ r.2.mem ((c.tc : Thread Cert.SbInReferenceIdeal.nD Cert.SbInReferenceIdeal.τ).loc Cert.SbInReferenceIdeal.main_arg1) = m' ((c.tc : Thread Cert.SbInReferenceIdeal.nD Cert.SbInReferenceIdeal.τ).loc Cert.SbInReferenceIdeal.main_arg1)
          ∧ r.2.mem ((c.tc : Thread Cert.SbInReferenceIdeal.nD Cert.SbInReferenceIdeal.τ).loc Cert.SbInReferenceIdeal.main_arg2) = m' ((c.tc : Thread Cert.SbInReferenceIdeal.nD Cert.SbInReferenceIdeal.τ).loc Cert.SbInReferenceIdeal.main_arg2)
          ∧ r.2.mem ((c.tc : Thread Cert.SbInReferenceIdeal.nD Cert.SbInReferenceIdeal.τ).loc Cert.SbInReferenceIdeal.main_arg3) = m' ((c.tc : Thread Cert.SbInReferenceIdeal.nD Cert.SbInReferenceIdeal.τ).loc Cert.SbInReferenceIdeal.main_arg3)
          ∧ r.2.mem ((c.tc : Thread Cert.SbInReferenceIdeal.nD Cert.SbInReferenceIdeal.τ).loc Cert.SbInReferenceIdeal.main_arg4) = m' ((c.tc : Thread Cert.SbInReferenceIdeal.nD Cert.SbInReferenceIdeal.τ).loc Cert.SbInReferenceIdeal.main_arg4))

def preserves_GdnInKernel_GdnInKernelIdeal : Prop :=
  True

def algebraic_GdnInKernelIdeal_GdnInReferenceIdeal [hGdnInKernelIdeal : Cert.GdnInKernelIdeal.Facts] [hGdnInReferenceIdeal : Cert.GdnInReferenceIdeal.Facts] : Prop :=
  ∀ (m : (ℓ : Loc Cert.GdnInKernelIdeal.nD Cert.GdnInKernelIdeal.τ Cert.GdnInKernelIdeal.sig) → Buf (Elt Ideal) ℓ) (g : Dev Cert.GdnInKernelIdeal.nD → PrngReg)
    (m' : (ℓ : Loc Cert.GdnInReferenceIdeal.nD Cert.GdnInReferenceIdeal.τ Cert.GdnInReferenceIdeal.sig) → Buf (Elt Ideal) ℓ) (g' : Dev Cert.GdnInReferenceIdeal.nD → PrngReg), Pre_GdnInKernelIdeal m →
    (∀ c : Dev Cert.GdnInKernelIdeal.nD,
      m' ((c.tc : Thread Cert.GdnInReferenceIdeal.nD Cert.GdnInReferenceIdeal.τ).loc Cert.GdnInReferenceIdeal.main_arg0) = m ((c.tc : Thread Cert.GdnInKernelIdeal.nD Cert.GdnInKernelIdeal.τ).loc Cert.GdnInKernelIdeal.main_arg0)
      ∧ m' ((c.tc : Thread Cert.GdnInReferenceIdeal.nD Cert.GdnInReferenceIdeal.τ).loc Cert.GdnInReferenceIdeal.main_arg1) = m ((c.tc : Thread Cert.GdnInKernelIdeal.nD Cert.GdnInKernelIdeal.τ).loc Cert.GdnInKernelIdeal.main_arg1)
      ∧ m' ((c.tc : Thread Cert.GdnInReferenceIdeal.nD Cert.GdnInReferenceIdeal.τ).loc Cert.GdnInReferenceIdeal.main_arg2) = m ((c.tc : Thread Cert.GdnInKernelIdeal.nD Cert.GdnInKernelIdeal.τ).loc Cert.GdnInKernelIdeal.main_arg2)) →
    ∃ (v0 : (c : Dev Cert.GdnInKernelIdeal.nD) → Buf (Elt Ideal) ((c.tc : Thread Cert.GdnInKernelIdeal.nD Cert.GdnInKernelIdeal.τ).loc Cert.GdnInKernelIdeal.main_v3)),
      θ_run (Cert.GdnInKernelIdeal.defs (F := Ideal)) (onTc (τ := Cert.GdnInKernelIdeal.τ) (Cert.GdnInKernelIdeal.main (F := Ideal))) ⟨m, fun _ => 0, g⟩ (fun r => ∀ c : Dev Cert.GdnInKernelIdeal.nD,
          r.2.mem ((c.tc : Thread Cert.GdnInKernelIdeal.nD Cert.GdnInKernelIdeal.τ).loc Cert.GdnInKernelIdeal.main_v3) = v0 c
          ∧ r.2.mem ((c.tc : Thread Cert.GdnInKernelIdeal.nD Cert.GdnInKernelIdeal.τ).loc Cert.GdnInKernelIdeal.main_arg0) = m ((c.tc : Thread Cert.GdnInKernelIdeal.nD Cert.GdnInKernelIdeal.τ).loc Cert.GdnInKernelIdeal.main_arg0)
          ∧ r.2.mem ((c.tc : Thread Cert.GdnInKernelIdeal.nD Cert.GdnInKernelIdeal.τ).loc Cert.GdnInKernelIdeal.main_arg1) = m ((c.tc : Thread Cert.GdnInKernelIdeal.nD Cert.GdnInKernelIdeal.τ).loc Cert.GdnInKernelIdeal.main_arg1)
          ∧ r.2.mem ((c.tc : Thread Cert.GdnInKernelIdeal.nD Cert.GdnInKernelIdeal.τ).loc Cert.GdnInKernelIdeal.main_arg2) = m ((c.tc : Thread Cert.GdnInKernelIdeal.nD Cert.GdnInKernelIdeal.τ).loc Cert.GdnInKernelIdeal.main_arg2))
      ∧ θ_run (Cert.GdnInReferenceIdeal.defs (F := Ideal)) (onTc (τ := Cert.GdnInReferenceIdeal.τ) (Cert.GdnInReferenceIdeal.main (F := Ideal))) ⟨m', fun _ => 0, g'⟩ (fun r => ∀ c : Dev Cert.GdnInReferenceIdeal.nD,
          r.2.mem ((c.tc : Thread Cert.GdnInReferenceIdeal.nD Cert.GdnInReferenceIdeal.τ).loc Cert.GdnInReferenceIdeal.main_v15) = v0 c
          ∧ r.2.mem ((c.tc : Thread Cert.GdnInReferenceIdeal.nD Cert.GdnInReferenceIdeal.τ).loc Cert.GdnInReferenceIdeal.main_arg0) = m' ((c.tc : Thread Cert.GdnInReferenceIdeal.nD Cert.GdnInReferenceIdeal.τ).loc Cert.GdnInReferenceIdeal.main_arg0)
          ∧ r.2.mem ((c.tc : Thread Cert.GdnInReferenceIdeal.nD Cert.GdnInReferenceIdeal.τ).loc Cert.GdnInReferenceIdeal.main_arg1) = m' ((c.tc : Thread Cert.GdnInReferenceIdeal.nD Cert.GdnInReferenceIdeal.τ).loc Cert.GdnInReferenceIdeal.main_arg1)
          ∧ r.2.mem ((c.tc : Thread Cert.GdnInReferenceIdeal.nD Cert.GdnInReferenceIdeal.τ).loc Cert.GdnInReferenceIdeal.main_arg2) = m' ((c.tc : Thread Cert.GdnInReferenceIdeal.nD Cert.GdnInReferenceIdeal.τ).loc Cert.GdnInReferenceIdeal.main_arg2))

def preserves_DswVKernel_DswVKernelIdeal : Prop :=
  True

def algebraic_DswVKernelIdeal_DswVReferenceIdeal [hDswVKernelIdeal : Cert.DswVKernelIdeal.Facts] [hDswVReferenceIdeal : Cert.DswVReferenceIdeal.Facts] : Prop :=
  ∀ (m : (ℓ : Loc Cert.DswVKernelIdeal.nD Cert.DswVKernelIdeal.τ Cert.DswVKernelIdeal.sig) → Buf (Elt Ideal) ℓ) (g : Dev Cert.DswVKernelIdeal.nD → PrngReg)
    (m' : (ℓ : Loc Cert.DswVReferenceIdeal.nD Cert.DswVReferenceIdeal.τ Cert.DswVReferenceIdeal.sig) → Buf (Elt Ideal) ℓ) (g' : Dev Cert.DswVReferenceIdeal.nD → PrngReg), Pre_DswVKernelIdeal m →
    (∀ c : Dev Cert.DswVKernelIdeal.nD,
      m' ((c.tc : Thread Cert.DswVReferenceIdeal.nD Cert.DswVReferenceIdeal.τ).loc Cert.DswVReferenceIdeal.main_arg0) = m ((c.tc : Thread Cert.DswVKernelIdeal.nD Cert.DswVKernelIdeal.τ).loc Cert.DswVKernelIdeal.main_arg0)
      ∧ m' ((c.tc : Thread Cert.DswVReferenceIdeal.nD Cert.DswVReferenceIdeal.τ).loc Cert.DswVReferenceIdeal.main_arg1) = m ((c.tc : Thread Cert.DswVKernelIdeal.nD Cert.DswVKernelIdeal.τ).loc Cert.DswVKernelIdeal.main_arg1)
      ∧ m' ((c.tc : Thread Cert.DswVReferenceIdeal.nD Cert.DswVReferenceIdeal.τ).loc Cert.DswVReferenceIdeal.main_arg2) = m ((c.tc : Thread Cert.DswVKernelIdeal.nD Cert.DswVKernelIdeal.τ).loc Cert.DswVKernelIdeal.main_arg2)) →
    ∃ (v0 : (c : Dev Cert.DswVKernelIdeal.nD) → Buf (Elt Ideal) ((c.tc : Thread Cert.DswVKernelIdeal.nD Cert.DswVKernelIdeal.τ).loc Cert.DswVKernelIdeal.main_v3)),
      θ_run (Cert.DswVKernelIdeal.defs (F := Ideal)) (onTc (τ := Cert.DswVKernelIdeal.τ) (Cert.DswVKernelIdeal.main (F := Ideal))) ⟨m, fun _ => 0, g⟩ (fun r => ∀ c : Dev Cert.DswVKernelIdeal.nD,
          r.2.mem ((c.tc : Thread Cert.DswVKernelIdeal.nD Cert.DswVKernelIdeal.τ).loc Cert.DswVKernelIdeal.main_v3) = v0 c
          ∧ r.2.mem ((c.tc : Thread Cert.DswVKernelIdeal.nD Cert.DswVKernelIdeal.τ).loc Cert.DswVKernelIdeal.main_arg0) = m ((c.tc : Thread Cert.DswVKernelIdeal.nD Cert.DswVKernelIdeal.τ).loc Cert.DswVKernelIdeal.main_arg0)
          ∧ r.2.mem ((c.tc : Thread Cert.DswVKernelIdeal.nD Cert.DswVKernelIdeal.τ).loc Cert.DswVKernelIdeal.main_arg1) = m ((c.tc : Thread Cert.DswVKernelIdeal.nD Cert.DswVKernelIdeal.τ).loc Cert.DswVKernelIdeal.main_arg1)
          ∧ r.2.mem ((c.tc : Thread Cert.DswVKernelIdeal.nD Cert.DswVKernelIdeal.τ).loc Cert.DswVKernelIdeal.main_arg2) = m ((c.tc : Thread Cert.DswVKernelIdeal.nD Cert.DswVKernelIdeal.τ).loc Cert.DswVKernelIdeal.main_arg2))
      ∧ θ_run (Cert.DswVReferenceIdeal.defs (F := Ideal)) (onTc (τ := Cert.DswVReferenceIdeal.τ) (Cert.DswVReferenceIdeal.main (F := Ideal))) ⟨m', fun _ => 0, g'⟩ (fun r => ∀ c : Dev Cert.DswVReferenceIdeal.nD,
          r.2.mem ((c.tc : Thread Cert.DswVReferenceIdeal.nD Cert.DswVReferenceIdeal.τ).loc Cert.DswVReferenceIdeal.main_v17) = v0 c
          ∧ r.2.mem ((c.tc : Thread Cert.DswVReferenceIdeal.nD Cert.DswVReferenceIdeal.τ).loc Cert.DswVReferenceIdeal.main_arg0) = m' ((c.tc : Thread Cert.DswVReferenceIdeal.nD Cert.DswVReferenceIdeal.τ).loc Cert.DswVReferenceIdeal.main_arg0)
          ∧ r.2.mem ((c.tc : Thread Cert.DswVReferenceIdeal.nD Cert.DswVReferenceIdeal.τ).loc Cert.DswVReferenceIdeal.main_arg1) = m' ((c.tc : Thread Cert.DswVReferenceIdeal.nD Cert.DswVReferenceIdeal.τ).loc Cert.DswVReferenceIdeal.main_arg1)
          ∧ r.2.mem ((c.tc : Thread Cert.DswVReferenceIdeal.nD Cert.DswVReferenceIdeal.τ).loc Cert.DswVReferenceIdeal.main_arg2) = m' ((c.tc : Thread Cert.DswVReferenceIdeal.nD Cert.DswVReferenceIdeal.τ).loc Cert.DswVReferenceIdeal.main_arg2))

def preserves_DswQKernel_DswQKernelIdeal : Prop :=
  True

def algebraic_DswQKernelIdeal_DswQReferenceIdeal [hDswQKernelIdeal : Cert.DswQKernelIdeal.Facts] [hDswQReferenceIdeal : Cert.DswQReferenceIdeal.Facts] : Prop :=
  ∀ (m : (ℓ : Loc Cert.DswQKernelIdeal.nD Cert.DswQKernelIdeal.τ Cert.DswQKernelIdeal.sig) → Buf (Elt Ideal) ℓ) (g : Dev Cert.DswQKernelIdeal.nD → PrngReg)
    (m' : (ℓ : Loc Cert.DswQReferenceIdeal.nD Cert.DswQReferenceIdeal.τ Cert.DswQReferenceIdeal.sig) → Buf (Elt Ideal) ℓ) (g' : Dev Cert.DswQReferenceIdeal.nD → PrngReg), Pre_DswQKernelIdeal m →
    (∀ c : Dev Cert.DswQKernelIdeal.nD,
      m' ((c.tc : Thread Cert.DswQReferenceIdeal.nD Cert.DswQReferenceIdeal.τ).loc Cert.DswQReferenceIdeal.main_arg0) = m ((c.tc : Thread Cert.DswQKernelIdeal.nD Cert.DswQKernelIdeal.τ).loc Cert.DswQKernelIdeal.main_arg0)
      ∧ m' ((c.tc : Thread Cert.DswQReferenceIdeal.nD Cert.DswQReferenceIdeal.τ).loc Cert.DswQReferenceIdeal.main_arg1) = m ((c.tc : Thread Cert.DswQKernelIdeal.nD Cert.DswQKernelIdeal.τ).loc Cert.DswQKernelIdeal.main_arg1)
      ∧ m' ((c.tc : Thread Cert.DswQReferenceIdeal.nD Cert.DswQReferenceIdeal.τ).loc Cert.DswQReferenceIdeal.main_arg2) = m ((c.tc : Thread Cert.DswQKernelIdeal.nD Cert.DswQKernelIdeal.τ).loc Cert.DswQKernelIdeal.main_arg2)
      ∧ m' ((c.tc : Thread Cert.DswQReferenceIdeal.nD Cert.DswQReferenceIdeal.τ).loc Cert.DswQReferenceIdeal.main_arg3) = m ((c.tc : Thread Cert.DswQKernelIdeal.nD Cert.DswQKernelIdeal.τ).loc Cert.DswQKernelIdeal.main_arg3)
      ∧ m' ((c.tc : Thread Cert.DswQReferenceIdeal.nD Cert.DswQReferenceIdeal.τ).loc Cert.DswQReferenceIdeal.main_arg4) = m ((c.tc : Thread Cert.DswQKernelIdeal.nD Cert.DswQKernelIdeal.τ).loc Cert.DswQKernelIdeal.main_arg4)
      ∧ m' ((c.tc : Thread Cert.DswQReferenceIdeal.nD Cert.DswQReferenceIdeal.τ).loc Cert.DswQReferenceIdeal.main_arg5) = m ((c.tc : Thread Cert.DswQKernelIdeal.nD Cert.DswQKernelIdeal.τ).loc Cert.DswQKernelIdeal.main_arg5)) →
    ∃ (v0 : (c : Dev Cert.DswQKernelIdeal.nD) → Buf (Elt Ideal) ((c.tc : Thread Cert.DswQKernelIdeal.nD Cert.DswQKernelIdeal.τ).loc Cert.DswQKernelIdeal.main_v5)),
      θ_run (Cert.DswQKernelIdeal.defs (F := Ideal)) (onTc (τ := Cert.DswQKernelIdeal.τ) (Cert.DswQKernelIdeal.main (F := Ideal))) ⟨m, fun _ => 0, g⟩ (fun r => ∀ c : Dev Cert.DswQKernelIdeal.nD,
          r.2.mem ((c.tc : Thread Cert.DswQKernelIdeal.nD Cert.DswQKernelIdeal.τ).loc Cert.DswQKernelIdeal.main_v5) = v0 c
          ∧ r.2.mem ((c.tc : Thread Cert.DswQKernelIdeal.nD Cert.DswQKernelIdeal.τ).loc Cert.DswQKernelIdeal.main_arg0) = m ((c.tc : Thread Cert.DswQKernelIdeal.nD Cert.DswQKernelIdeal.τ).loc Cert.DswQKernelIdeal.main_arg0)
          ∧ r.2.mem ((c.tc : Thread Cert.DswQKernelIdeal.nD Cert.DswQKernelIdeal.τ).loc Cert.DswQKernelIdeal.main_arg1) = m ((c.tc : Thread Cert.DswQKernelIdeal.nD Cert.DswQKernelIdeal.τ).loc Cert.DswQKernelIdeal.main_arg1)
          ∧ r.2.mem ((c.tc : Thread Cert.DswQKernelIdeal.nD Cert.DswQKernelIdeal.τ).loc Cert.DswQKernelIdeal.main_arg2) = m ((c.tc : Thread Cert.DswQKernelIdeal.nD Cert.DswQKernelIdeal.τ).loc Cert.DswQKernelIdeal.main_arg2)
          ∧ r.2.mem ((c.tc : Thread Cert.DswQKernelIdeal.nD Cert.DswQKernelIdeal.τ).loc Cert.DswQKernelIdeal.main_arg3) = m ((c.tc : Thread Cert.DswQKernelIdeal.nD Cert.DswQKernelIdeal.τ).loc Cert.DswQKernelIdeal.main_arg3)
          ∧ r.2.mem ((c.tc : Thread Cert.DswQKernelIdeal.nD Cert.DswQKernelIdeal.τ).loc Cert.DswQKernelIdeal.main_arg4) = m ((c.tc : Thread Cert.DswQKernelIdeal.nD Cert.DswQKernelIdeal.τ).loc Cert.DswQKernelIdeal.main_arg4)
          ∧ r.2.mem ((c.tc : Thread Cert.DswQKernelIdeal.nD Cert.DswQKernelIdeal.τ).loc Cert.DswQKernelIdeal.main_arg5) = m ((c.tc : Thread Cert.DswQKernelIdeal.nD Cert.DswQKernelIdeal.τ).loc Cert.DswQKernelIdeal.main_arg5))
      ∧ θ_run (Cert.DswQReferenceIdeal.defs (F := Ideal)) (onTc (τ := Cert.DswQReferenceIdeal.τ) (Cert.DswQReferenceIdeal.main (F := Ideal))) ⟨m', fun _ => 0, g'⟩ (fun r => ∀ c : Dev Cert.DswQReferenceIdeal.nD,
          r.2.mem ((c.tc : Thread Cert.DswQReferenceIdeal.nD Cert.DswQReferenceIdeal.τ).loc Cert.DswQReferenceIdeal.main_v43) = v0 c
          ∧ r.2.mem ((c.tc : Thread Cert.DswQReferenceIdeal.nD Cert.DswQReferenceIdeal.τ).loc Cert.DswQReferenceIdeal.main_arg0) = m' ((c.tc : Thread Cert.DswQReferenceIdeal.nD Cert.DswQReferenceIdeal.τ).loc Cert.DswQReferenceIdeal.main_arg0)
          ∧ r.2.mem ((c.tc : Thread Cert.DswQReferenceIdeal.nD Cert.DswQReferenceIdeal.τ).loc Cert.DswQReferenceIdeal.main_arg1) = m' ((c.tc : Thread Cert.DswQReferenceIdeal.nD Cert.DswQReferenceIdeal.τ).loc Cert.DswQReferenceIdeal.main_arg1)
          ∧ r.2.mem ((c.tc : Thread Cert.DswQReferenceIdeal.nD Cert.DswQReferenceIdeal.τ).loc Cert.DswQReferenceIdeal.main_arg2) = m' ((c.tc : Thread Cert.DswQReferenceIdeal.nD Cert.DswQReferenceIdeal.τ).loc Cert.DswQReferenceIdeal.main_arg2)
          ∧ r.2.mem ((c.tc : Thread Cert.DswQReferenceIdeal.nD Cert.DswQReferenceIdeal.τ).loc Cert.DswQReferenceIdeal.main_arg3) = m' ((c.tc : Thread Cert.DswQReferenceIdeal.nD Cert.DswQReferenceIdeal.τ).loc Cert.DswQReferenceIdeal.main_arg3)
          ∧ r.2.mem ((c.tc : Thread Cert.DswQReferenceIdeal.nD Cert.DswQReferenceIdeal.τ).loc Cert.DswQReferenceIdeal.main_arg4) = m' ((c.tc : Thread Cert.DswQReferenceIdeal.nD Cert.DswQReferenceIdeal.τ).loc Cert.DswQReferenceIdeal.main_arg4)
          ∧ r.2.mem ((c.tc : Thread Cert.DswQReferenceIdeal.nD Cert.DswQReferenceIdeal.τ).loc Cert.DswQReferenceIdeal.main_arg5) = m' ((c.tc : Thread Cert.DswQReferenceIdeal.nD Cert.DswQReferenceIdeal.τ).loc Cert.DswQReferenceIdeal.main_arg5))

def preserves_DswKKernel_DswKKernelIdeal : Prop :=
  True

def algebraic_DswKKernelIdeal_DswKReferenceIdeal [hDswKKernelIdeal : Cert.DswKKernelIdeal.Facts] [hDswKReferenceIdeal : Cert.DswKReferenceIdeal.Facts] : Prop :=
  ∀ (m : (ℓ : Loc Cert.DswKKernelIdeal.nD Cert.DswKKernelIdeal.τ Cert.DswKKernelIdeal.sig) → Buf (Elt Ideal) ℓ) (g : Dev Cert.DswKKernelIdeal.nD → PrngReg)
    (m' : (ℓ : Loc Cert.DswKReferenceIdeal.nD Cert.DswKReferenceIdeal.τ Cert.DswKReferenceIdeal.sig) → Buf (Elt Ideal) ℓ) (g' : Dev Cert.DswKReferenceIdeal.nD → PrngReg), Pre_DswKKernelIdeal m →
    (∀ c : Dev Cert.DswKKernelIdeal.nD,
      m' ((c.tc : Thread Cert.DswKReferenceIdeal.nD Cert.DswKReferenceIdeal.τ).loc Cert.DswKReferenceIdeal.main_arg0) = m ((c.tc : Thread Cert.DswKKernelIdeal.nD Cert.DswKKernelIdeal.τ).loc Cert.DswKKernelIdeal.main_arg0)
      ∧ m' ((c.tc : Thread Cert.DswKReferenceIdeal.nD Cert.DswKReferenceIdeal.τ).loc Cert.DswKReferenceIdeal.main_arg1) = m ((c.tc : Thread Cert.DswKKernelIdeal.nD Cert.DswKKernelIdeal.τ).loc Cert.DswKKernelIdeal.main_arg1)
      ∧ m' ((c.tc : Thread Cert.DswKReferenceIdeal.nD Cert.DswKReferenceIdeal.τ).loc Cert.DswKReferenceIdeal.main_arg2) = m ((c.tc : Thread Cert.DswKKernelIdeal.nD Cert.DswKKernelIdeal.τ).loc Cert.DswKKernelIdeal.main_arg2)
      ∧ m' ((c.tc : Thread Cert.DswKReferenceIdeal.nD Cert.DswKReferenceIdeal.τ).loc Cert.DswKReferenceIdeal.main_arg3) = m ((c.tc : Thread Cert.DswKKernelIdeal.nD Cert.DswKKernelIdeal.τ).loc Cert.DswKKernelIdeal.main_arg3)
      ∧ m' ((c.tc : Thread Cert.DswKReferenceIdeal.nD Cert.DswKReferenceIdeal.τ).loc Cert.DswKReferenceIdeal.main_arg4) = m ((c.tc : Thread Cert.DswKKernelIdeal.nD Cert.DswKKernelIdeal.τ).loc Cert.DswKKernelIdeal.main_arg4)
      ∧ m' ((c.tc : Thread Cert.DswKReferenceIdeal.nD Cert.DswKReferenceIdeal.τ).loc Cert.DswKReferenceIdeal.main_arg5) = m ((c.tc : Thread Cert.DswKKernelIdeal.nD Cert.DswKKernelIdeal.τ).loc Cert.DswKKernelIdeal.main_arg5)) →
    ∃ (v0 : (c : Dev Cert.DswKKernelIdeal.nD) → Buf (Elt Ideal) ((c.tc : Thread Cert.DswKKernelIdeal.nD Cert.DswKKernelIdeal.τ).loc Cert.DswKKernelIdeal.main_v5)),
      θ_run (Cert.DswKKernelIdeal.defs (F := Ideal)) (onTc (τ := Cert.DswKKernelIdeal.τ) (Cert.DswKKernelIdeal.main (F := Ideal))) ⟨m, fun _ => 0, g⟩ (fun r => ∀ c : Dev Cert.DswKKernelIdeal.nD,
          r.2.mem ((c.tc : Thread Cert.DswKKernelIdeal.nD Cert.DswKKernelIdeal.τ).loc Cert.DswKKernelIdeal.main_v5) = v0 c
          ∧ r.2.mem ((c.tc : Thread Cert.DswKKernelIdeal.nD Cert.DswKKernelIdeal.τ).loc Cert.DswKKernelIdeal.main_arg0) = m ((c.tc : Thread Cert.DswKKernelIdeal.nD Cert.DswKKernelIdeal.τ).loc Cert.DswKKernelIdeal.main_arg0)
          ∧ r.2.mem ((c.tc : Thread Cert.DswKKernelIdeal.nD Cert.DswKKernelIdeal.τ).loc Cert.DswKKernelIdeal.main_arg1) = m ((c.tc : Thread Cert.DswKKernelIdeal.nD Cert.DswKKernelIdeal.τ).loc Cert.DswKKernelIdeal.main_arg1)
          ∧ r.2.mem ((c.tc : Thread Cert.DswKKernelIdeal.nD Cert.DswKKernelIdeal.τ).loc Cert.DswKKernelIdeal.main_arg2) = m ((c.tc : Thread Cert.DswKKernelIdeal.nD Cert.DswKKernelIdeal.τ).loc Cert.DswKKernelIdeal.main_arg2)
          ∧ r.2.mem ((c.tc : Thread Cert.DswKKernelIdeal.nD Cert.DswKKernelIdeal.τ).loc Cert.DswKKernelIdeal.main_arg3) = m ((c.tc : Thread Cert.DswKKernelIdeal.nD Cert.DswKKernelIdeal.τ).loc Cert.DswKKernelIdeal.main_arg3)
          ∧ r.2.mem ((c.tc : Thread Cert.DswKKernelIdeal.nD Cert.DswKKernelIdeal.τ).loc Cert.DswKKernelIdeal.main_arg4) = m ((c.tc : Thread Cert.DswKKernelIdeal.nD Cert.DswKKernelIdeal.τ).loc Cert.DswKKernelIdeal.main_arg4)
          ∧ r.2.mem ((c.tc : Thread Cert.DswKKernelIdeal.nD Cert.DswKKernelIdeal.τ).loc Cert.DswKKernelIdeal.main_arg5) = m ((c.tc : Thread Cert.DswKKernelIdeal.nD Cert.DswKKernelIdeal.τ).loc Cert.DswKKernelIdeal.main_arg5))
      ∧ θ_run (Cert.DswKReferenceIdeal.defs (F := Ideal)) (onTc (τ := Cert.DswKReferenceIdeal.τ) (Cert.DswKReferenceIdeal.main (F := Ideal))) ⟨m', fun _ => 0, g'⟩ (fun r => ∀ c : Dev Cert.DswKReferenceIdeal.nD,
          r.2.mem ((c.tc : Thread Cert.DswKReferenceIdeal.nD Cert.DswKReferenceIdeal.τ).loc Cert.DswKReferenceIdeal.main_v41) = v0 c
          ∧ r.2.mem ((c.tc : Thread Cert.DswKReferenceIdeal.nD Cert.DswKReferenceIdeal.τ).loc Cert.DswKReferenceIdeal.main_arg0) = m' ((c.tc : Thread Cert.DswKReferenceIdeal.nD Cert.DswKReferenceIdeal.τ).loc Cert.DswKReferenceIdeal.main_arg0)
          ∧ r.2.mem ((c.tc : Thread Cert.DswKReferenceIdeal.nD Cert.DswKReferenceIdeal.τ).loc Cert.DswKReferenceIdeal.main_arg1) = m' ((c.tc : Thread Cert.DswKReferenceIdeal.nD Cert.DswKReferenceIdeal.τ).loc Cert.DswKReferenceIdeal.main_arg1)
          ∧ r.2.mem ((c.tc : Thread Cert.DswKReferenceIdeal.nD Cert.DswKReferenceIdeal.τ).loc Cert.DswKReferenceIdeal.main_arg2) = m' ((c.tc : Thread Cert.DswKReferenceIdeal.nD Cert.DswKReferenceIdeal.τ).loc Cert.DswKReferenceIdeal.main_arg2)
          ∧ r.2.mem ((c.tc : Thread Cert.DswKReferenceIdeal.nD Cert.DswKReferenceIdeal.τ).loc Cert.DswKReferenceIdeal.main_arg3) = m' ((c.tc : Thread Cert.DswKReferenceIdeal.nD Cert.DswKReferenceIdeal.τ).loc Cert.DswKReferenceIdeal.main_arg3)
          ∧ r.2.mem ((c.tc : Thread Cert.DswKReferenceIdeal.nD Cert.DswKReferenceIdeal.τ).loc Cert.DswKReferenceIdeal.main_arg4) = m' ((c.tc : Thread Cert.DswKReferenceIdeal.nD Cert.DswKReferenceIdeal.τ).loc Cert.DswKReferenceIdeal.main_arg4)
          ∧ r.2.mem ((c.tc : Thread Cert.DswKReferenceIdeal.nD Cert.DswKReferenceIdeal.τ).loc Cert.DswKReferenceIdeal.main_arg5) = m' ((c.tc : Thread Cert.DswKReferenceIdeal.nD Cert.DswKReferenceIdeal.τ).loc Cert.DswKReferenceIdeal.main_arg5))

def preserves_GdnGatesKernel_GdnGatesKernelIdeal : Prop :=
  True

def algebraic_GdnGatesKernelIdeal_GdnGatesReferenceIdeal [hGdnGatesKernelIdeal : Cert.GdnGatesKernelIdeal.Facts] [hGdnGatesReferenceIdeal : Cert.GdnGatesReferenceIdeal.Facts] : Prop :=
  ∀ (m : (ℓ : Loc Cert.GdnGatesKernelIdeal.nD Cert.GdnGatesKernelIdeal.τ Cert.GdnGatesKernelIdeal.sig) → Buf (Elt Ideal) ℓ) (g : Dev Cert.GdnGatesKernelIdeal.nD → PrngReg)
    (m' : (ℓ : Loc Cert.GdnGatesReferenceIdeal.nD Cert.GdnGatesReferenceIdeal.τ Cert.GdnGatesReferenceIdeal.sig) → Buf (Elt Ideal) ℓ) (g' : Dev Cert.GdnGatesReferenceIdeal.nD → PrngReg), Pre_GdnGatesKernelIdeal m →
    (∀ c : Dev Cert.GdnGatesKernelIdeal.nD,
      m' ((c.tc : Thread Cert.GdnGatesReferenceIdeal.nD Cert.GdnGatesReferenceIdeal.τ).loc Cert.GdnGatesReferenceIdeal.main_arg0) = m ((c.tc : Thread Cert.GdnGatesKernelIdeal.nD Cert.GdnGatesKernelIdeal.τ).loc Cert.GdnGatesKernelIdeal.main_arg0)
      ∧ m' ((c.tc : Thread Cert.GdnGatesReferenceIdeal.nD Cert.GdnGatesReferenceIdeal.τ).loc Cert.GdnGatesReferenceIdeal.main_arg1) = m ((c.tc : Thread Cert.GdnGatesKernelIdeal.nD Cert.GdnGatesKernelIdeal.τ).loc Cert.GdnGatesKernelIdeal.main_arg1)
      ∧ m' ((c.tc : Thread Cert.GdnGatesReferenceIdeal.nD Cert.GdnGatesReferenceIdeal.τ).loc Cert.GdnGatesReferenceIdeal.main_arg2) = m ((c.tc : Thread Cert.GdnGatesKernelIdeal.nD Cert.GdnGatesKernelIdeal.τ).loc Cert.GdnGatesKernelIdeal.main_arg2)
      ∧ m' ((c.tc : Thread Cert.GdnGatesReferenceIdeal.nD Cert.GdnGatesReferenceIdeal.τ).loc Cert.GdnGatesReferenceIdeal.main_arg3) = m ((c.tc : Thread Cert.GdnGatesKernelIdeal.nD Cert.GdnGatesKernelIdeal.τ).loc Cert.GdnGatesKernelIdeal.main_arg3)
      ∧ m' ((c.tc : Thread Cert.GdnGatesReferenceIdeal.nD Cert.GdnGatesReferenceIdeal.τ).loc Cert.GdnGatesReferenceIdeal.main_arg4) = m ((c.tc : Thread Cert.GdnGatesKernelIdeal.nD Cert.GdnGatesKernelIdeal.τ).loc Cert.GdnGatesKernelIdeal.main_arg4)) →
    ∃ (v0 : (c : Dev Cert.GdnGatesKernelIdeal.nD) → Buf (Elt Ideal) ((c.tc : Thread Cert.GdnGatesKernelIdeal.nD Cert.GdnGatesKernelIdeal.τ).loc Cert.GdnGatesKernelIdeal.main_v10)) (v1 : (c : Dev Cert.GdnGatesKernelIdeal.nD) → Buf (Elt Ideal) ((c.tc : Thread Cert.GdnGatesKernelIdeal.nD Cert.GdnGatesKernelIdeal.τ).loc Cert.GdnGatesKernelIdeal.main_v11)),
      θ_run (Cert.GdnGatesKernelIdeal.defs (F := Ideal)) (onTc (τ := Cert.GdnGatesKernelIdeal.τ) (Cert.GdnGatesKernelIdeal.main (F := Ideal))) ⟨m, fun _ => 0, g⟩ (fun r => ∀ c : Dev Cert.GdnGatesKernelIdeal.nD,
          r.2.mem ((c.tc : Thread Cert.GdnGatesKernelIdeal.nD Cert.GdnGatesKernelIdeal.τ).loc Cert.GdnGatesKernelIdeal.main_v10) = v0 c
          ∧ r.2.mem ((c.tc : Thread Cert.GdnGatesKernelIdeal.nD Cert.GdnGatesKernelIdeal.τ).loc Cert.GdnGatesKernelIdeal.main_v11) = v1 c
          ∧ r.2.mem ((c.tc : Thread Cert.GdnGatesKernelIdeal.nD Cert.GdnGatesKernelIdeal.τ).loc Cert.GdnGatesKernelIdeal.main_arg0) = m ((c.tc : Thread Cert.GdnGatesKernelIdeal.nD Cert.GdnGatesKernelIdeal.τ).loc Cert.GdnGatesKernelIdeal.main_arg0)
          ∧ r.2.mem ((c.tc : Thread Cert.GdnGatesKernelIdeal.nD Cert.GdnGatesKernelIdeal.τ).loc Cert.GdnGatesKernelIdeal.main_arg1) = m ((c.tc : Thread Cert.GdnGatesKernelIdeal.nD Cert.GdnGatesKernelIdeal.τ).loc Cert.GdnGatesKernelIdeal.main_arg1)
          ∧ r.2.mem ((c.tc : Thread Cert.GdnGatesKernelIdeal.nD Cert.GdnGatesKernelIdeal.τ).loc Cert.GdnGatesKernelIdeal.main_arg2) = m ((c.tc : Thread Cert.GdnGatesKernelIdeal.nD Cert.GdnGatesKernelIdeal.τ).loc Cert.GdnGatesKernelIdeal.main_arg2)
          ∧ r.2.mem ((c.tc : Thread Cert.GdnGatesKernelIdeal.nD Cert.GdnGatesKernelIdeal.τ).loc Cert.GdnGatesKernelIdeal.main_arg3) = m ((c.tc : Thread Cert.GdnGatesKernelIdeal.nD Cert.GdnGatesKernelIdeal.τ).loc Cert.GdnGatesKernelIdeal.main_arg3)
          ∧ r.2.mem ((c.tc : Thread Cert.GdnGatesKernelIdeal.nD Cert.GdnGatesKernelIdeal.τ).loc Cert.GdnGatesKernelIdeal.main_arg4) = m ((c.tc : Thread Cert.GdnGatesKernelIdeal.nD Cert.GdnGatesKernelIdeal.τ).loc Cert.GdnGatesKernelIdeal.main_arg4))
      ∧ θ_run (Cert.GdnGatesReferenceIdeal.defs (F := Ideal)) (onTc (τ := Cert.GdnGatesReferenceIdeal.τ) (Cert.GdnGatesReferenceIdeal.main (F := Ideal))) ⟨m', fun _ => 0, g'⟩ (fun r => ∀ c : Dev Cert.GdnGatesReferenceIdeal.nD,
          r.2.mem ((c.tc : Thread Cert.GdnGatesReferenceIdeal.nD Cert.GdnGatesReferenceIdeal.τ).loc Cert.GdnGatesReferenceIdeal.main_v32) = v0 c
          ∧ r.2.mem ((c.tc : Thread Cert.GdnGatesReferenceIdeal.nD Cert.GdnGatesReferenceIdeal.τ).loc Cert.GdnGatesReferenceIdeal.main_v33) = v1 c
          ∧ r.2.mem ((c.tc : Thread Cert.GdnGatesReferenceIdeal.nD Cert.GdnGatesReferenceIdeal.τ).loc Cert.GdnGatesReferenceIdeal.main_arg0) = m' ((c.tc : Thread Cert.GdnGatesReferenceIdeal.nD Cert.GdnGatesReferenceIdeal.τ).loc Cert.GdnGatesReferenceIdeal.main_arg0)
          ∧ r.2.mem ((c.tc : Thread Cert.GdnGatesReferenceIdeal.nD Cert.GdnGatesReferenceIdeal.τ).loc Cert.GdnGatesReferenceIdeal.main_arg1) = m' ((c.tc : Thread Cert.GdnGatesReferenceIdeal.nD Cert.GdnGatesReferenceIdeal.τ).loc Cert.GdnGatesReferenceIdeal.main_arg1)
          ∧ r.2.mem ((c.tc : Thread Cert.GdnGatesReferenceIdeal.nD Cert.GdnGatesReferenceIdeal.τ).loc Cert.GdnGatesReferenceIdeal.main_arg2) = m' ((c.tc : Thread Cert.GdnGatesReferenceIdeal.nD Cert.GdnGatesReferenceIdeal.τ).loc Cert.GdnGatesReferenceIdeal.main_arg2)
          ∧ r.2.mem ((c.tc : Thread Cert.GdnGatesReferenceIdeal.nD Cert.GdnGatesReferenceIdeal.τ).loc Cert.GdnGatesReferenceIdeal.main_arg3) = m' ((c.tc : Thread Cert.GdnGatesReferenceIdeal.nD Cert.GdnGatesReferenceIdeal.τ).loc Cert.GdnGatesReferenceIdeal.main_arg3)
          ∧ r.2.mem ((c.tc : Thread Cert.GdnGatesReferenceIdeal.nD Cert.GdnGatesReferenceIdeal.τ).loc Cert.GdnGatesReferenceIdeal.main_arg4) = m' ((c.tc : Thread Cert.GdnGatesReferenceIdeal.nD Cert.GdnGatesReferenceIdeal.τ).loc Cert.GdnGatesReferenceIdeal.main_arg4))

def preserves_BandKernel_BandKernelIdeal : Prop :=
  True

def algebraic_BandKernelIdeal_BandReferenceIdeal [hBandKernelIdeal : Cert.BandKernelIdeal.Facts] [hBandReferenceIdeal : Cert.BandReferenceIdeal.Facts] : Prop :=
  ∀ (m : (ℓ : Loc Cert.BandKernelIdeal.nD Cert.BandKernelIdeal.τ Cert.BandKernelIdeal.sig) → Buf (Elt Ideal) ℓ) (g : Dev Cert.BandKernelIdeal.nD → PrngReg)
    (m' : (ℓ : Loc Cert.BandReferenceIdeal.nD Cert.BandReferenceIdeal.τ Cert.BandReferenceIdeal.sig) → Buf (Elt Ideal) ℓ) (g' : Dev Cert.BandReferenceIdeal.nD → PrngReg), Pre_BandKernelIdeal m →
    (∀ c : Dev Cert.BandKernelIdeal.nD,
      m' ((c.tc : Thread Cert.BandReferenceIdeal.nD Cert.BandReferenceIdeal.τ).loc Cert.BandReferenceIdeal.main_arg0) = m ((c.tc : Thread Cert.BandKernelIdeal.nD Cert.BandKernelIdeal.τ).loc Cert.BandKernelIdeal.main_arg0)
      ∧ m' ((c.tc : Thread Cert.BandReferenceIdeal.nD Cert.BandReferenceIdeal.τ).loc Cert.BandReferenceIdeal.main_arg1) = m ((c.tc : Thread Cert.BandKernelIdeal.nD Cert.BandKernelIdeal.τ).loc Cert.BandKernelIdeal.main_arg1)
      ∧ m' ((c.tc : Thread Cert.BandReferenceIdeal.nD Cert.BandReferenceIdeal.τ).loc Cert.BandReferenceIdeal.main_arg2) = m ((c.tc : Thread Cert.BandKernelIdeal.nD Cert.BandKernelIdeal.τ).loc Cert.BandKernelIdeal.main_arg2)) →
    ∃ (v0 : (c : Dev Cert.BandKernelIdeal.nD) → Buf (Elt Ideal) ((c.tc : Thread Cert.BandKernelIdeal.nD Cert.BandKernelIdeal.τ).loc Cert.BandKernelIdeal.main_v0_0)) (v1 : (c : Dev Cert.BandKernelIdeal.nD) → Buf (Elt Ideal) ((c.tc : Thread Cert.BandKernelIdeal.nD Cert.BandKernelIdeal.τ).loc Cert.BandKernelIdeal.main_v0_1)),
      θ_run (Cert.BandKernelIdeal.defs (F := Ideal)) (onTc (τ := Cert.BandKernelIdeal.τ) (Cert.BandKernelIdeal.main (F := Ideal))) ⟨m, fun _ => 0, g⟩ (fun r => ∀ c : Dev Cert.BandKernelIdeal.nD,
          r.2.mem ((c.tc : Thread Cert.BandKernelIdeal.nD Cert.BandKernelIdeal.τ).loc Cert.BandKernelIdeal.main_v0_0) = v0 c
          ∧ r.2.mem ((c.tc : Thread Cert.BandKernelIdeal.nD Cert.BandKernelIdeal.τ).loc Cert.BandKernelIdeal.main_v0_1) = v1 c
          ∧ r.2.mem ((c.tc : Thread Cert.BandKernelIdeal.nD Cert.BandKernelIdeal.τ).loc Cert.BandKernelIdeal.main_arg0) = m ((c.tc : Thread Cert.BandKernelIdeal.nD Cert.BandKernelIdeal.τ).loc Cert.BandKernelIdeal.main_arg0)
          ∧ r.2.mem ((c.tc : Thread Cert.BandKernelIdeal.nD Cert.BandKernelIdeal.τ).loc Cert.BandKernelIdeal.main_arg1) = m ((c.tc : Thread Cert.BandKernelIdeal.nD Cert.BandKernelIdeal.τ).loc Cert.BandKernelIdeal.main_arg1)
          ∧ r.2.mem ((c.tc : Thread Cert.BandKernelIdeal.nD Cert.BandKernelIdeal.τ).loc Cert.BandKernelIdeal.main_arg2) = m ((c.tc : Thread Cert.BandKernelIdeal.nD Cert.BandKernelIdeal.τ).loc Cert.BandKernelIdeal.main_arg2))
      ∧ θ_run (Cert.BandReferenceIdeal.defs (F := Ideal)) (onTc (τ := Cert.BandReferenceIdeal.τ) (Cert.BandReferenceIdeal.main (F := Ideal))) ⟨m', fun _ => 0, g'⟩ (fun r => ∀ c : Dev Cert.BandReferenceIdeal.nD,
          r.2.mem ((c.tc : Thread Cert.BandReferenceIdeal.nD Cert.BandReferenceIdeal.τ).loc Cert.BandReferenceIdeal.main_v62) = v0 c
          ∧ r.2.mem ((c.tc : Thread Cert.BandReferenceIdeal.nD Cert.BandReferenceIdeal.τ).loc Cert.BandReferenceIdeal.main_v63) = v1 c
          ∧ r.2.mem ((c.tc : Thread Cert.BandReferenceIdeal.nD Cert.BandReferenceIdeal.τ).loc Cert.BandReferenceIdeal.main_arg0) = m' ((c.tc : Thread Cert.BandReferenceIdeal.nD Cert.BandReferenceIdeal.τ).loc Cert.BandReferenceIdeal.main_arg0)
          ∧ r.2.mem ((c.tc : Thread Cert.BandReferenceIdeal.nD Cert.BandReferenceIdeal.τ).loc Cert.BandReferenceIdeal.main_arg1) = m' ((c.tc : Thread Cert.BandReferenceIdeal.nD Cert.BandReferenceIdeal.τ).loc Cert.BandReferenceIdeal.main_arg1)
          ∧ r.2.mem ((c.tc : Thread Cert.BandReferenceIdeal.nD Cert.BandReferenceIdeal.τ).loc Cert.BandReferenceIdeal.main_arg2) = m' ((c.tc : Thread Cert.BandReferenceIdeal.nD Cert.BandReferenceIdeal.τ).loc Cert.BandReferenceIdeal.main_arg2))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hOutKernel : Cert.OutKernel.Facts) (hOutKernelIdeal : Cert.OutKernelIdeal.Facts) (hOutReferenceIdeal : Cert.OutReferenceIdeal.Facts) (hGdnOutKernel : Cert.GdnOutKernel.Facts) (hGdnOutKernelIdeal : Cert.GdnOutKernelIdeal.Facts) (hGdnOutReferenceIdeal : Cert.GdnOutReferenceIdeal.Facts) (hDswOutKernel : Cert.DswOutKernel.Facts) (hDswOutKernelIdeal : Cert.DswOutKernelIdeal.Facts) (hDswOutReferenceIdeal : Cert.DswOutReferenceIdeal.Facts) (hLruInKernel : Cert.LruInKernel.Facts) (hLruInKernelIdeal : Cert.LruInKernelIdeal.Facts) (hLruInReferenceIdeal : Cert.LruInReferenceIdeal.Facts) (hSbInKernel : Cert.SbInKernel.Facts) (hSbInKernelIdeal : Cert.SbInKernelIdeal.Facts) (hSbInReferenceIdeal : Cert.SbInReferenceIdeal.Facts) (hGdnInKernel : Cert.GdnInKernel.Facts) (hGdnInKernelIdeal : Cert.GdnInKernelIdeal.Facts) (hGdnInReferenceIdeal : Cert.GdnInReferenceIdeal.Facts) (hDswVKernel : Cert.DswVKernel.Facts) (hDswVKernelIdeal : Cert.DswVKernelIdeal.Facts) (hDswVReferenceIdeal : Cert.DswVReferenceIdeal.Facts) (hDswQKernel : Cert.DswQKernel.Facts) (hDswQKernelIdeal : Cert.DswQKernelIdeal.Facts) (hDswQReferenceIdeal : Cert.DswQReferenceIdeal.Facts) (hDswKKernel : Cert.DswKKernel.Facts) (hDswKKernelIdeal : Cert.DswKKernelIdeal.Facts) (hDswKReferenceIdeal : Cert.DswKReferenceIdeal.Facts) (hGdnGatesKernel : Cert.GdnGatesKernel.Facts) (hGdnGatesKernelIdeal : Cert.GdnGatesKernelIdeal.Facts) (hGdnGatesReferenceIdeal : Cert.GdnGatesReferenceIdeal.Facts) (hBandKernel : Cert.BandKernel.Facts) (hBandKernelIdeal : Cert.BandKernelIdeal.Facts) (hBandReferenceIdeal : Cert.BandReferenceIdeal.Facts),
    quiescent_Kernel (hKernel := hKernel)
    ∧ quiescent_KernelIdeal (hKernelIdeal := hKernelIdeal)
    ∧ quiescent_ReferenceIdeal (hReferenceIdeal := hReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_OutKernel (hOutKernel := hOutKernel)
    ∧ quiescent_OutKernelIdeal (hOutKernelIdeal := hOutKernelIdeal)
    ∧ quiescent_OutReferenceIdeal (hOutReferenceIdeal := hOutReferenceIdeal)
    ∧ quiescent_GdnOutKernel (hGdnOutKernel := hGdnOutKernel)
    ∧ quiescent_GdnOutKernelIdeal (hGdnOutKernelIdeal := hGdnOutKernelIdeal)
    ∧ quiescent_GdnOutReferenceIdeal (hGdnOutReferenceIdeal := hGdnOutReferenceIdeal)
    ∧ quiescent_DswOutKernel (hDswOutKernel := hDswOutKernel)
    ∧ quiescent_DswOutKernelIdeal (hDswOutKernelIdeal := hDswOutKernelIdeal)
    ∧ quiescent_DswOutReferenceIdeal (hDswOutReferenceIdeal := hDswOutReferenceIdeal)
    ∧ quiescent_LruInKernel (hLruInKernel := hLruInKernel)
    ∧ quiescent_LruInKernelIdeal (hLruInKernelIdeal := hLruInKernelIdeal)
    ∧ quiescent_LruInReferenceIdeal (hLruInReferenceIdeal := hLruInReferenceIdeal)
    ∧ quiescent_SbInKernel (hSbInKernel := hSbInKernel)
    ∧ quiescent_SbInKernelIdeal (hSbInKernelIdeal := hSbInKernelIdeal)
    ∧ quiescent_SbInReferenceIdeal (hSbInReferenceIdeal := hSbInReferenceIdeal)
    ∧ quiescent_GdnInKernel (hGdnInKernel := hGdnInKernel)
    ∧ quiescent_GdnInKernelIdeal (hGdnInKernelIdeal := hGdnInKernelIdeal)
    ∧ quiescent_GdnInReferenceIdeal (hGdnInReferenceIdeal := hGdnInReferenceIdeal)
    ∧ quiescent_DswVKernel (hDswVKernel := hDswVKernel)
    ∧ quiescent_DswVKernelIdeal (hDswVKernelIdeal := hDswVKernelIdeal)
    ∧ quiescent_DswVReferenceIdeal (hDswVReferenceIdeal := hDswVReferenceIdeal)
    ∧ quiescent_DswQKernel (hDswQKernel := hDswQKernel)
    ∧ quiescent_DswQKernelIdeal (hDswQKernelIdeal := hDswQKernelIdeal)
    ∧ quiescent_DswQReferenceIdeal (hDswQReferenceIdeal := hDswQReferenceIdeal)
    ∧ quiescent_DswKKernel (hDswKKernel := hDswKKernel)
    ∧ quiescent_DswKKernelIdeal (hDswKKernelIdeal := hDswKKernelIdeal)
    ∧ quiescent_DswKReferenceIdeal (hDswKReferenceIdeal := hDswKReferenceIdeal)
    ∧ quiescent_GdnGatesKernel (hGdnGatesKernel := hGdnGatesKernel)
    ∧ quiescent_GdnGatesKernelIdeal (hGdnGatesKernelIdeal := hGdnGatesKernelIdeal)
    ∧ quiescent_GdnGatesReferenceIdeal (hGdnGatesReferenceIdeal := hGdnGatesReferenceIdeal)
    ∧ quiescent_BandKernel (hBandKernel := hBandKernel)
    ∧ quiescent_BandKernelIdeal (hBandKernelIdeal := hBandKernelIdeal)
    ∧ quiescent_BandReferenceIdeal (hBandReferenceIdeal := hBandReferenceIdeal)
    ∧ preserves_Kernel_KernelIdeal
    ∧ algebraic_KernelIdeal_ReferenceIdeal (hKernelIdeal := hKernelIdeal) (hReferenceIdeal := hReferenceIdeal)
    ∧ preserves_FfnKernel_FfnKernelIdeal
    ∧ algebraic_FfnKernelIdeal_FfnReferenceIdeal (hFfnKernelIdeal := hFfnKernelIdeal) (hFfnReferenceIdeal := hFfnReferenceIdeal)
    ∧ preserves_OutKernel_OutKernelIdeal
    ∧ algebraic_OutKernelIdeal_OutReferenceIdeal (hOutKernelIdeal := hOutKernelIdeal) (hOutReferenceIdeal := hOutReferenceIdeal)
    ∧ preserves_GdnOutKernel_GdnOutKernelIdeal
    ∧ algebraic_GdnOutKernelIdeal_GdnOutReferenceIdeal (hGdnOutKernelIdeal := hGdnOutKernelIdeal) (hGdnOutReferenceIdeal := hGdnOutReferenceIdeal)
    ∧ preserves_DswOutKernel_DswOutKernelIdeal
    ∧ algebraic_DswOutKernelIdeal_DswOutReferenceIdeal (hDswOutKernelIdeal := hDswOutKernelIdeal) (hDswOutReferenceIdeal := hDswOutReferenceIdeal)
    ∧ preserves_LruInKernel_LruInKernelIdeal
    ∧ algebraic_LruInKernelIdeal_LruInReferenceIdeal (hLruInKernelIdeal := hLruInKernelIdeal) (hLruInReferenceIdeal := hLruInReferenceIdeal)
    ∧ preserves_SbInKernel_SbInKernelIdeal
    ∧ algebraic_SbInKernelIdeal_SbInReferenceIdeal (hSbInKernelIdeal := hSbInKernelIdeal) (hSbInReferenceIdeal := hSbInReferenceIdeal)
    ∧ preserves_GdnInKernel_GdnInKernelIdeal
    ∧ algebraic_GdnInKernelIdeal_GdnInReferenceIdeal (hGdnInKernelIdeal := hGdnInKernelIdeal) (hGdnInReferenceIdeal := hGdnInReferenceIdeal)
    ∧ preserves_DswVKernel_DswVKernelIdeal
    ∧ algebraic_DswVKernelIdeal_DswVReferenceIdeal (hDswVKernelIdeal := hDswVKernelIdeal) (hDswVReferenceIdeal := hDswVReferenceIdeal)
    ∧ preserves_DswQKernel_DswQKernelIdeal
    ∧ algebraic_DswQKernelIdeal_DswQReferenceIdeal (hDswQKernelIdeal := hDswQKernelIdeal) (hDswQReferenceIdeal := hDswQReferenceIdeal)
    ∧ preserves_DswKKernel_DswKKernelIdeal
    ∧ algebraic_DswKKernelIdeal_DswKReferenceIdeal (hDswKKernelIdeal := hDswKKernelIdeal) (hDswKReferenceIdeal := hDswKReferenceIdeal)
    ∧ preserves_GdnGatesKernel_GdnGatesKernelIdeal
    ∧ algebraic_GdnGatesKernelIdeal_GdnGatesReferenceIdeal (hGdnGatesKernelIdeal := hGdnGatesKernelIdeal) (hGdnGatesReferenceIdeal := hGdnGatesReferenceIdeal)
    ∧ preserves_BandKernel_BandKernelIdeal
    ∧ algebraic_BandKernelIdeal_BandReferenceIdeal (hBandKernelIdeal := hBandKernelIdeal) (hBandReferenceIdeal := hBandReferenceIdeal)
-- ==== Kernel.lean ====
abbrev S8x4096x4096 : Shape := ⟨3, ![8, 4096, 4096]⟩
abbrev S4x2048 : Shape := ⟨2, ![4, 2048]⟩
abbrev S2048 : Shape := ⟨1, ![2048]⟩
abbrev S8x256x256 : Shape := ⟨3, ![8, 256, 256]⟩
abbrev S8x256 : Shape := ⟨2, ![8, 256]⟩
abbrev S1x2048 : Shape := ⟨2, ![1, 2048]⟩
abbrev S8x4096x2048 : Shape := ⟨3, ![8, 4096, 2048]⟩
abbrev S1x256x2048 : Shape := ⟨3, ![1, 256, 2048]⟩
abbrev S256x2048 : Shape := ⟨2, ![256, 2048]⟩
abbrev S8x2048 : Shape := ⟨2, ![8, 2048]⟩
abbrev S264x2048 : Shape := ⟨2, ![264, 2048]⟩
abbrev S1x8x2048 : Shape := ⟨3, ![1, 8, 2048]⟩
abbrev S256x256 : Shape := ⟨2, ![256, 256]⟩
abbrev S1x256x256 : Shape := ⟨3, ![1, 256, 256]⟩
abbrev S1x256 : Shape := ⟨2, ![1, 256]⟩

abbrev nBuf : Space → Nat
  | .hbm => 15
  | .vmem => 19
  | .smem => 0
  | _ => 0

abbrev bufTy : (tb : Table) → Fin (tcTables nBuf tb) → BufTy
  | .hbm, ⟨0, _⟩ => ⟨S8x4096x4096, .f32⟩
  | .hbm, ⟨1, _⟩ => ⟨S4x2048, .f32⟩
  | .hbm, ⟨2, _⟩ => ⟨S2048, .f32⟩
  | .hbm, ⟨3, _⟩ => ⟨S8x256x256, .f32⟩
  | .hbm, ⟨4, _⟩ => ⟨S8x256, .f32⟩
  | .hbm, ⟨5, _⟩ => ⟨S8x256x256, .f32⟩
  | .hbm, ⟨6, _⟩ => ⟨S8x256, .f32⟩
  | .hbm, ⟨7, _⟩ => ⟨S2048, .f32⟩
  | .hbm, ⟨8, _⟩ => ⟨S1x2048, .f32⟩
  | .hbm, ⟨9, _⟩ => ⟨S8x256x256, .bf16⟩
  | .hbm, ⟨10, _⟩ => ⟨S8x256x256, .bf16⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S8x4096x2048, .bf16⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S4x2048, .f32⟩
  | .local _ .vmem, ⟨5, _⟩ => ⟨S1x2048, .f32⟩
  | .local _ .vmem, ⟨6, _⟩ => ⟨S8x256x256, .bf16⟩
  | .local _ .vmem, ⟨7, _⟩ => ⟨S8x256x256, .bf16⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S1x256x2048, .bf16⟩
  | .local _ .vmem, ⟨12, _⟩ => ⟨S1x256x2048, .bf16⟩
  | .local _ .vmem, ⟨13, _⟩ => ⟨S256x2048, .f32⟩
  | .local _ .vmem, ⟨14, _⟩ => ⟨S256x2048, .f32⟩
  | .local _ .vmem, ⟨15, _⟩ => ⟨S1x2048, .f32⟩
  | .local _ .vmem, ⟨16, _⟩ => ⟨S256x2048, .f32⟩
  | .local _ .vmem, ⟨17, _⟩ => ⟨S8x2048, .f32⟩
  | .local _ .vmem, ⟨18, _⟩ => ⟨S264x2048, .f32⟩
  | _, _ => ⟨S8x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32_270 : BitVec 32 := 0#32
  let c32_i32 : BitVec 32 := 32#32
  let v534 : BitVec 32 := Scalar.addi c0_i32_270 c32_i32
  let c1_i32 : BitVec 32 := 1#32
  ⟨c0_i32_270, v534, c1_i32⟩
def k0_mult1 (k0_t1 : Fin k0_t1_loop.trips) : BitVec 32 :=
  let c0_i32_270 : BitVec 32 := 0#32
  let c1_i32 : BitVec 32 := 1#32
  let arg18 : BitVec 32 := Scf.iv c0_i32_270 c1_i32 k0_t1
  let c8_i32 : BitVec 32 := 8#32
  let v547 : BitVec 32 := Scalar.muli arg18 c8_i32
  v547
def k0_off1 (k0_t1 : Fin k0_t1_loop.trips) (c0_i32_282 : BitVec 32) : Fin 2 → Nat :=
  let c0_i32_270 : BitVec 32 := 0#32
  let c1_i32 : BitVec 32 := 1#32
  let arg18 : BitVec 32 := Scf.iv c0_i32_270 c1_i32 k0_t1
  let c8_i32 : BitVec 32 := 8#32
  let v547 : BitVec 32 := Scalar.muli arg18 c8_i32
  let v548 : BitVec 32 := v547
  let v549 : BitVec 32 := Scalar.addi v548 c0_i32_282
  let v550 : Index := Scalar.indexCast v549
  let c0_283 : Index := 0#32
  ![v550.toNat, 0]
def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8x4096x4096 : Shape := ⟨3, ![8, 4096, 4096]⟩
abbrev S4x2048 : Shape := ⟨2, ![4, 2048]⟩
abbrev S2048 : Shape := ⟨1, ![2048]⟩
abbrev S8x256x256 : Shape := ⟨3, ![8, 256, 256]⟩
abbrev S8x256 : Shape := ⟨2, ![8, 256]⟩
abbrev S8x4096x2048 : Shape := ⟨3, ![8, 4096, 2048]⟩
abbrev S_ : Shape := ⟨0, ![]⟩
abbrev S8x4099x2048 : Shape := ⟨3, ![8, 4099, 2048]⟩
abbrev S1x2048 : Shape := ⟨2, ![1, 2048]⟩
abbrev S1x1x2048 : Shape := ⟨3, ![1, 1, 2048]⟩
abbrev S8x4096x8x256 : Shape := ⟨4, ![8, 4096, 8, 256]⟩
abbrev S8x256x8x4096 : Shape := ⟨4, ![8, 256, 8, 4096]⟩
abbrev S1x1x8x256 : Shape := ⟨4, ![1, 1, 8, 256]⟩
abbrev S8x2048 : Shape := ⟨2, ![8, 2048]⟩
abbrev S4096x8x2048 : Shape := ⟨3, ![4096, 8, 2048]⟩
abbrev S1x8x2048 : Shape := ⟨3, ![1, 8, 2048]⟩

abbrev nBuf : Space → Nat
  | .hbm => 138
  | .vmem => 0
  | .smem => 0
  | _ => 0

abbrev hbmTy0_0 (i : Nat) : BufTy := match i % 128 with
  | 0 => ⟨S8x4096x4096, .f32⟩
  | 1 => ⟨S4x2048, .f32⟩
  | 2 => ⟨S2048, .f32⟩
  | 3 => ⟨S8x256x256, .f32⟩
  | 4 => ⟨S8x256, .f32⟩
  | 5 => ⟨S8x256x256, .f32⟩
  | 6 => ⟨S8x256, .f32⟩
  | 7 => ⟨S2048, .f32⟩
  | 8 => ⟨S8x4096x2048, .f32⟩
  | 9 => ⟨S_, .i32⟩
  | 10 => ⟨S_, .f32⟩
  | 11 => ⟨S8x4099x2048, .f32⟩
  | 12 => ⟨S1x2048, .f32⟩
  | 13 => ⟨S2048, .f32⟩
  | 14 => ⟨S8x4096x2048, .f32⟩
  | 15 => ⟨S1x1x2048, .f32⟩
  | 16 => ⟨S8x4096x2048, .f32⟩
  | 17 => ⟨S8x4096x2048, .f32⟩
  | 18 => ⟨S_, .f32⟩
  | 19 => ⟨S8x4096x2048, .f32⟩
  | 20 => ⟨S8x4096x2048, .f32⟩
  | 21 => ⟨S1x2048, .f32⟩
  | 22 => ⟨S2048, .f32⟩
  | 23 => ⟨S8x4096x2048, .f32⟩
  | 24 => ⟨S1x1x2048, .f32⟩
  | 25 => ⟨S8x4096x2048, .f32⟩
  | 26 => ⟨S8x4096x2048, .f32⟩
  | 27 => ⟨S8x4096x2048, .f32⟩
  | 28 => ⟨S1x2048, .f32⟩
  | 29 => ⟨S2048, .f32⟩
  | 30 => ⟨S8x4096x2048, .f32⟩
  | 31 => ⟨S1x1x2048, .f32⟩
  | 32 => ⟨S8x4096x2048, .f32⟩
  | 33 => ⟨S8x4096x2048, .f32⟩
  | 34 => ⟨S8x4096x2048, .f32⟩
  | 35 => ⟨S1x2048, .f32⟩
  | 36 => ⟨S2048, .f32⟩
  | 37 => ⟨S8x4096x2048, .f32⟩
  | 38 => ⟨S1x1x2048, .f32⟩
  | 39 => ⟨S8x4096x2048, .f32⟩
  | 40 => ⟨S8x4096x2048, .f32⟩
  | 41 => ⟨S8x4096x2048, .f32⟩
  | 42 => ⟨S1x1x2048, .f32⟩
  | 43 => ⟨S8x4096x2048, .f32⟩
  | 44 => ⟨S8x4096x2048, .f32⟩
  | 45 => ⟨S8x4096x8x256, .f32⟩
  | 46 => ⟨S8x256x8x4096, .f32⟩
  | 47 => ⟨S8x4096x8x256, .f32⟩
  | 48 => ⟨S1x1x8x256, .f32⟩
  | 49 => ⟨S8x4096x8x256, .f32⟩
  | 50 => ⟨S8x4096x8x256, .f32⟩
  | 51 => ⟨S8x4096x8x256, .f32⟩
  | 52 => ⟨S8x4096x8x256, .f32⟩
  | 53 => ⟨S_, .f32⟩
  | 54 => ⟨S8x4096x8x256, .f32⟩
  | 55 => ⟨S8x4096x8x256, .f32⟩
  | 56 => ⟨S_, .f32⟩
  | 57 => ⟨S8x4096x8x256, .f32⟩
  | 58 => ⟨S8x4096x8x256, .f32⟩
  | 59 => ⟨S8x4096x2048, .f32⟩
  | 60 => ⟨S8x256x8x4096, .f32⟩
  | 61 => ⟨S8x4096x8x256, .f32⟩
  | 62 => ⟨S1x1x8x256, .f32⟩
  | 63 => ⟨S8x4096x8x256, .f32⟩
  | 64 => ⟨S8x4096x8x256, .f32⟩
  | 65 => ⟨S8x4096x8x256, .f32⟩
  | 66 => ⟨S8x4096x8x256, .f32⟩
  | 67 => ⟨S_, .f32⟩
  | 68 => ⟨S8x4096x8x256, .f32⟩
  | 69 => ⟨S8x4096x8x256, .f32⟩
  | 70 => ⟨S_, .f32⟩
  | 71 => ⟨S8x4096x8x256, .f32⟩
  | 72 => ⟨S8x4096x8x256, .f32⟩
  | 73 => ⟨S8x4096x2048, .f32⟩
  | 74 => ⟨S_, .f32⟩
  | 75 => ⟨S8x4096x2048, .f32⟩
  | 76 => ⟨S8x4096x2048, .f32⟩
  | 77 => ⟨S2048, .f32⟩
  | 78 => ⟨S_, .f32⟩
  | 79 => ⟨S2048, .f32⟩
  | 80 => ⟨S2048, .f32⟩
  | 81 => ⟨S2048, .f32⟩
  | 82 => ⟨S2048, .f32⟩
  | 83 => ⟨S2048, .i1⟩
  | 84 => ⟨S2048, .f32⟩
  | 85 => ⟨S2048, .f32⟩
  | 86 => ⟨S2048, .f32⟩
  | 87 => ⟨S2048, .f32⟩
  | 88 => ⟨S2048, .f32⟩
  | 89 => ⟨S2048, .f32⟩
  | 90 => ⟨S2048, .f32⟩
  | 91 => ⟨S2048, .f32⟩
  | 92 => ⟨S1x1x2048, .f32⟩
  | 93 => ⟨S8x4096x2048, .f32⟩
  | 94 => ⟨S8x4096x2048, .f32⟩
  | 95 => ⟨S8x4096x2048, .f32⟩
  | 96 => ⟨S_, .f32⟩
  | 97 => ⟨S8x4096x2048, .f32⟩
  | 98 => ⟨S8x4096x2048, .f32⟩
  | 99 => ⟨S8x4096x2048, .f32⟩
  | 100 => ⟨S8x4096x2048, .f32⟩
  | 101 => ⟨S8x4096x2048, .f32⟩
  | 102 => ⟨S8x4096x2048, .f32⟩
  | 103 => ⟨S8x4096x2048, .f32⟩
  | 104 => ⟨S_, .f32⟩
  | 105 => ⟨S8x2048, .f32⟩
  | 106 => ⟨S4096x8x2048, .f32⟩
  | 107 => ⟨S4096x8x2048, .f32⟩
  | 108 => ⟨S_, .f32⟩
  | 109 => ⟨S4096x8x2048, .f32⟩
  | 110 => ⟨S_, .i32⟩
  | 111 => ⟨S4096x8x2048, .f32⟩
  | 112 => ⟨S4096x8x2048, .f32⟩
  | 113 => ⟨S_, .i32⟩
  | 114 => ⟨S8x2048, .f32⟩
  | 115 => ⟨S4096x8x2048, .f32⟩
  | 116 => ⟨S_, .i32⟩
  | 117 => ⟨S_, .i1⟩
  | 118 => ⟨S_, .i32⟩
  | 119 => ⟨S_, .i32⟩
  | 120 => ⟨S1x8x2048, .f32⟩
  | 121 => ⟨S8x2048, .f32⟩
  | 122 => ⟨S_, .i32⟩
  | 123 => ⟨S_, .i32⟩
  | 124 => ⟨S1x8x2048, .f32⟩
  | 125 => ⟨S8x2048, .f32⟩
  | 126 => ⟨S8x2048, .f32⟩
  | 127 => ⟨S8x2048, .f32⟩
  | _ => ⟨S8x4096x4096, .f32⟩

abbrev hbmTy0_1 (i : Nat) : BufTy := match i % 128 with
  | 0 => ⟨S1x8x2048, .f32⟩
  | 1 => ⟨S_, .i32⟩
  | 2 => ⟨S_, .i32⟩
  | 3 => ⟨S4096x8x2048, .f32⟩
  | 4 => ⟨S_, .i32⟩
  | 5 => ⟨S_, .i32⟩
  | 6 => ⟨S8x4096x2048, .f32⟩
  | 7 => ⟨S8x4096x2048, .f32⟩
  | 8 => ⟨S8x4096x2048, .f32⟩
  | 9 => ⟨S8x4096x2048, .bf16⟩
  | _ => ⟨S8x4096x4096, .f32⟩

abbrev hbmTy (i : Nat) : BufTy := match i / 128 with
  | 0 => hbmTy0_0 i
  | 1 => hbmTy0_1 i
  | _ => ⟨S8x4096x4096, .f32⟩

abbrev bufTy : (tb : Table) → Fin (tcTables nBuf tb) → BufTy
  | .hbm, ⟨i, _⟩ => hbmTy i
  | _, _ => ⟨S8x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_0 : Ref sig .tc := ⟨.hbm, 53, rfl⟩
abbrev main_v42 : Ref sig .tc := ⟨.hbm, 54, rfl⟩
abbrev main_v43 : Ref sig .tc := ⟨.hbm, 55, rfl⟩
abbrev main_cst_1 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_2 : Ref sig .tc := ⟨.hbm, 67, rfl⟩
abbrev main_v54 : Ref sig .tc := ⟨.hbm, 68, rfl⟩
abbrev main_v55 : Ref sig .tc := ⟨.hbm, 69, rfl⟩
abbrev main_cst_3 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_4 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_call1_cst : Ref sig .tc := ⟨.hbm, 78, rfl⟩
abbrev main_call1_v0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_v7 : Ref sig .tc := ⟨.hbm, 86, rfl⟩
abbrev main_call1_v8 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_5 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_6 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_7 : Ref sig .tc := ⟨.hbm, 108, rfl⟩
abbrev main_v77 : Ref sig .tc := ⟨.hbm, 109, rfl⟩
abbrev main_c_8 : Ref sig .tc := ⟨.hbm, 110, rfl⟩
abbrev main_v78_0 : Ref sig .tc := ⟨.hbm, 111, rfl⟩
abbrev main_v78_1 : Ref sig .tc := ⟨.hbm, 112, rfl⟩
abbrev main_v78_2 : Ref sig .tc := ⟨.hbm, 113, rfl⟩
abbrev main_v78_3 : Ref sig .tc := ⟨.hbm, 114, rfl⟩
abbrev main_v78_4 : Ref sig .tc := ⟨.hbm, 115, rfl⟩
abbrev main_while0c_c_13 : Ref sig .tc := ⟨.hbm, 116, rfl⟩
abbrev main_while0c_v83 : Ref sig .tc := ⟨.hbm, 117, rfl⟩
abbrev main_while0b_call2_c : Ref sig .tc := ⟨.hbm, 118, rfl⟩
abbrev main_while0b_call2_c_0 : Ref sig .tc := ⟨.hbm, 119, rfl⟩
abbrev main_while0b_call2_v0 : Ref sig .tc := ⟨.hbm, 120, rfl⟩
abbrev main_while0b_v83 : Ref sig .tc := ⟨.hbm, 121, rfl⟩
abbrev main_while0b_call3_c : Ref sig .tc := ⟨.hbm, 122, rfl⟩
abbrev main_while0b_call3_c_0 : Ref sig .tc := ⟨.hbm, 123, rfl⟩
abbrev main_while0b_call3_v0 : Ref sig .tc := ⟨.hbm, 124, rfl⟩
abbrev main_while0b_v84 : Ref sig .tc := ⟨.hbm, 125, rfl⟩
abbrev main_while0b_v85 : Ref sig .tc := ⟨.hbm, 126, rfl⟩
abbrev main_while0b_v86 : Ref sig .tc := ⟨.hbm, 127, rfl⟩
abbrev main_while0b_call4_v0 : Ref sig .tc := ⟨.hbm, 128, rfl⟩
abbrev main_while0b_call4_c : Ref sig .tc := ⟨.hbm, 129, rfl⟩
abbrev main_while0b_call4_c_0 : Ref sig .tc := ⟨.hbm, 130, rfl⟩
abbrev main_while0b_v87 : Ref sig .tc := ⟨.hbm, 131, rfl⟩
abbrev main_while0b_c_13 : Ref sig .tc := ⟨.hbm, 132, rfl⟩
abbrev main_while0b_v88 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩

abbrev nD : Nat := 1
abbrev τ : Topo := Topo.v7x

variable {F : FTy → Type} [FloatOps F]

abbrev main_while0_count : Scf.Loop 32 := ⟨0#32, 4096#32, 1#32⟩
-- ==== FfnKernel.lean ====
abbrev S8x4096x2048 : Shape := ⟨3, ![8, 4096, 2048]⟩
abbrev S2048 : Shape := ⟨1, ![2048]⟩
abbrev S2048x11264 : Shape := ⟨2, ![2048, 11264]⟩
abbrev S5632x2048 : Shape := ⟨2, ![5632, 2048]⟩
abbrev S32768x2048 : Shape := ⟨2, ![32768, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩
abbrev S512x512 : Shape := ⟨2, ![512, 512]⟩

abbrev nBuf : Space → Nat
  | .hbm => 9
  | .vmem => 12
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S32768x2048, .f32⟩
  | .hbm, ⟨5, _⟩ => ⟨S2048x11264, .bf16⟩
  | .hbm, ⟨6, _⟩ => ⟨S5632x2048, .bf16⟩
  | .hbm, ⟨7, _⟩ => ⟨S1x2048, .f32⟩
  | .hbm, ⟨8, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnReferenceIdeal.lean ====
abbrev S8x4096x2048 : Shape := ⟨3, ![8, 4096, 2048]⟩
abbrev S2048 : Shape := ⟨1, ![2048]⟩
abbrev S2048x11264 : Shape := ⟨2, ![2048, 11264]⟩
abbrev S5632x2048 : Shape := ⟨2, ![5632, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x11264 : Shape := ⟨3, ![8, 4096, 11264]⟩
abbrev S8x4096x5632 : Shape := ⟨3, ![8, 4096, 5632]⟩
abbrev S32768x2048 : Shape := ⟨2, ![32768, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S8x4096x2048, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x2048, .f32⟩
  | .hbm, ⟨16, _⟩ => ⟨S8x4096x2048, .f32⟩
  | .hbm, ⟨17, _⟩ => ⟨S1x1x2048, .f32⟩
  | .hbm, ⟨18, _⟩ => ⟨S8x4096x2048, .f32⟩
  | .hbm, ⟨19, _⟩ => ⟨S8x4096x2048, .f32⟩
  | .hbm, ⟨20, _⟩ => ⟨S8x4096x11264, .f32⟩
  | .hbm, ⟨21, _⟩ => ⟨S8x4096x5632, .f32⟩
  | .hbm, ⟨22, _⟩ => ⟨S8x4096x5632, .f32⟩
  | .hbm, ⟨23, _⟩ => ⟨S8x4096x5632, .f32⟩
  | .hbm, ⟨24, _⟩ => ⟨S8x4096x5632, .f32⟩
  | .hbm, ⟨25, _⟩ => ⟨S_, .f32⟩
  | .hbm, ⟨26, _⟩ => ⟨S8x4096x5632, .f32⟩
  | .hbm, ⟨27, _⟩ => ⟨S8x4096x5632, .f32⟩
  | .hbm, ⟨28, _⟩ => ⟨S_, .f32⟩
  | .hbm, ⟨29, _⟩ => ⟨S8x4096x5632, .f32⟩
  | .hbm, ⟨30, _⟩ => ⟨S8x4096x5632, .f32⟩
  | .hbm, ⟨31, _⟩ => ⟨S8x4096x5632, .f32⟩
  | .hbm, ⟨32, _⟩ => ⟨S8x4096x5632, .f32⟩
  | .hbm, ⟨33, _⟩ => ⟨S8x4096x2048, .f32⟩
  | .hbm, ⟨34, _⟩ => ⟨S8x4096x2048, .f32⟩
  | .hbm, ⟨35, _⟩ => ⟨S32768x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩

abbrev nD : Nat := 1
abbrev τ : Topo := Topo.v7x

variable {F : FTy → Type} [FloatOps F]
-- ==== OutKernel.lean ====
abbrev S8x4096x2048 : Shape := ⟨3, ![8, 4096, 2048]⟩
abbrev S2048x2048 : Shape := ⟨2, ![2048, 2048]⟩
abbrev S32768x2048 : Shape := ⟨2, ![32768, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8x4096x2048, .bf16⟩
  | .hbm, ⟨1, _⟩ => ⟨S2048x2048, .f32⟩
  | .hbm, ⟨2, _⟩ => ⟨S8x4096x2048, .f32⟩
  | .hbm, ⟨3, _⟩ => ⟨S32768x2048, .bf16⟩
  | .hbm, ⟨4, _⟩ => ⟨S2048x2048, .bf16⟩
  | .hbm, ⟨5, _⟩ => ⟨S32768x2048, .f32⟩
  | .hbm, ⟨6, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutKernelIdeal.lean ====
abbrev S8x4096x2048 : Shape := ⟨3, ![8, 4096, 2048]⟩
abbrev S2048x2048 : Shape := ⟨2, ![2048, 2048]⟩
abbrev S32768x2048 : Shape := ⟨2, ![32768, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8x4096x2048, .bf16⟩
  | .hbm, ⟨1, _⟩ => ⟨S2048x2048, .f32⟩
  | .hbm, ⟨2, _⟩ => ⟨S8x4096x2048, .f32⟩
  | .hbm, ⟨3, _⟩ => ⟨S32768x2048, .bf16⟩
  | .hbm, ⟨4, _⟩ => ⟨S2048x2048, .bf16⟩
  | .hbm, ⟨5, _⟩ => ⟨S32768x2048, .f32⟩
  | .hbm, ⟨6, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutReferenceIdeal.lean ====
abbrev S8x4096x2048 : Shape := ⟨3, ![8, 4096, 2048]⟩
abbrev S2048x2048 : Shape := ⟨2, ![2048, 2048]⟩
abbrev S32768x2048 : Shape := ⟨2, ![32768, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8x4096x2048, .bf16⟩
  | .hbm, ⟨1, _⟩ => ⟨S2048x2048, .f32⟩
  | .hbm, ⟨2, _⟩ => ⟨S8x4096x2048, .f32⟩
  | .hbm, ⟨3, _⟩ => ⟨S8x4096x2048, .f32⟩
  | .hbm, ⟨4, _⟩ => ⟨S8x4096x2048, .f32⟩
  | .hbm, ⟨5, _⟩ => ⟨S32768x2048, .f32⟩
  | _, _ => ⟨S8x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== GdnOutKernel.lean ====
abbrev S8x4096x4096 : Shape := ⟨3, ![8, 4096, 4096]⟩
abbrev S4096x2048 : Shape := ⟨2, ![4096, 2048]⟩
abbrev S8x4096x2048 : Shape := ⟨3, ![8, 4096, 2048]⟩
abbrev S32768x4096 : Shape := ⟨2, ![32768, 4096]⟩
abbrev S32768x2048 : Shape := ⟨2, ![32768, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S8x4096x4096, .bf16⟩
  | .hbm, ⟨1, _⟩ => ⟨S4096x2048, .f32⟩
  | .hbm, ⟨2, _⟩ => ⟨S8x4096x2048, .f32⟩
  | .hbm, ⟨3, _⟩ => ⟨S32768x4096, .bf16⟩
  | .hbm, ⟨4, _⟩ => ⟨S4096x2048, .bf16⟩
  | .hbm, ⟨5, _⟩ => ⟨S32768x2048, .f32⟩
  | .hbm, ⟨6, _⟩ => ⟨S32768x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GdnOutKernelIdeal.lean ====
abbrev S8x4096x4096 : Shape := ⟨3, ![8, 4096, 4096]⟩
abbrev S4096x2048 : Shape := ⟨2, ![4096, 2048]⟩
abbrev S8x4096x2048 : Shape := ⟨3, ![8, 4096, 2048]⟩
abbrev S32768x4096 : Shape := ⟨2, ![32768, 4096]⟩
abbrev S32768x2048 : Shape := ⟨2, ![32768, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 7
  | .vmem => 8
  | .smem => 0
  | _ => 0

abbrev bufTy : (tb : Table) → Fin (tcTables nBuf tb) → BufTy
  | .hbm, ⟨0, _⟩ => ⟨S8x4096x4096, .bf16⟩
  | .hbm, ⟨1, _⟩ => ⟨S4096x2048, .f32⟩
  | .hbm, ⟨2, _⟩ => ⟨S8x4096x2048, .f32⟩
  | .hbm, ⟨3, _⟩ => ⟨S32768x4096, .bf16⟩
  | .hbm, ⟨4, _⟩ => ⟨S4096x2048, .bf16⟩
  | .hbm, ⟨5, _⟩ => ⟨S32768x2048, .f32⟩
  | .hbm, ⟨6, _⟩ => ⟨S32768x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GdnOutReferenceIdeal.lean ====
abbrev S8x4096x4096 : Shape := ⟨3, ![8, 4096, 4096]⟩
abbrev S4096x2048 : Shape := ⟨2, ![4096, 2048]⟩
abbrev S8x4096x2048 : Shape := ⟨3, ![8, 4096, 2048]⟩
abbrev S32768x2048 : Shape := ⟨2, ![32768, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8x4096x4096, .bf16⟩
  | .hbm, ⟨1, _⟩ => ⟨S4096x2048, .f32⟩
  | .hbm, ⟨2, _⟩ => ⟨S8x4096x2048, .f32⟩
  | .hbm, ⟨3, _⟩ => ⟨S8x4096x2048, .f32⟩
  | .hbm, ⟨4, _⟩ => ⟨S8x4096x2048, .f32⟩
  | .hbm, ⟨5, _⟩ => ⟨S32768x2048, .f32⟩
  | _, _ => ⟨S8x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DswOutKernel.lean ====
abbrev S8x4096x2304 : Shape := ⟨3, ![8, 4096, 2304]⟩
abbrev S2304x2048 : Shape := ⟨2, ![2304, 2048]⟩
abbrev S8x4096x2048 : Shape := ⟨3, ![8, 4096, 2048]⟩
abbrev S32768x2304 : Shape := ⟨2, ![32768, 2304]⟩
abbrev S32768x2048 : Shape := ⟨2, ![32768, 2048]⟩
abbrev S1024x2304 : Shape := ⟨2, ![1024, 2304]⟩
abbrev S2304x1024 : Shape := ⟨2, ![2304, 1024]⟩
abbrev S1024x1024 : Shape := ⟨2, ![1024, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8x4096x2304, .bf16⟩
  | .hbm, ⟨1, _⟩ => ⟨S2304x2048, .f32⟩
  | .hbm, ⟨2, _⟩ => ⟨S8x4096x2048, .f32⟩
  | .hbm, ⟨3, _⟩ => ⟨S32768x2304, .bf16⟩
  | .hbm, ⟨4, _⟩ => ⟨S2304x2048, .bf16⟩
  | .hbm, ⟨5, _⟩ => ⟨S32768x2048, .f32⟩
  | .hbm, ⟨6, _⟩ => ⟨S32768x2048, .f32⟩
  | .local _ .vmem, ⟨0, _⟩ => ⟨S1024x2304, .bf16⟩
  | .local _ .vmem, ⟨1, _⟩ => ⟨S1024x2304, .bf16⟩
  | .local _ .vmem, ⟨2, _⟩ => ⟨S2304x1024, .bf16⟩
  | .local _ .vmem, ⟨3, _⟩ => ⟨S2304x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8x4096x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DswOutReferenceIdeal.lean ====
abbrev S8x4096x2304 : Shape := ⟨3, ![8, 4096, 2304]⟩
abbrev S2304x2048 : Shape := ⟨2, ![2304, 2048]⟩
abbrev S8x4096x2048 : Shape := ⟨3, ![8, 4096, 2048]⟩
abbrev S32768x2048 : Shape := ⟨2, ![32768, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8x4096x2304, .bf16⟩
  | .hbm, ⟨1, _⟩ => ⟨S2304x2048, .f32⟩
  | .hbm, ⟨2, _⟩ => ⟨S8x4096x2048, .f32⟩
  | .hbm, ⟨3, _⟩ => ⟨S8x4096x2048, .f32⟩
  | .hbm, ⟨4, _⟩ => ⟨S8x4096x2048, .f32⟩
  | .hbm, ⟨5, _⟩ => ⟨S32768x2048, .f32⟩
  | _, _ => ⟨S8x4096x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== LruInKernel.lean ====
abbrev S8x4096x2048 : Shape := ⟨3, ![8, 4096, 2048]⟩
abbrev S2048 : Shape := ⟨1, ![2048]⟩
abbrev S2048x4096 : Shape := ⟨2, ![2048, 4096]⟩
abbrev S32768x2048 : Shape := ⟨2, ![32768, 2048]⟩
abbrev S1x2048 : Shape := ⟨2, ![1, 2048]⟩
abbrev S32768x4096 : Shape := ⟨2, ![32768, 4096]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x4096, .f32⟩
  | .hbm, ⟨3, _⟩ => ⟨S32768x2048, .f32⟩
  | .hbm, ⟨4, _⟩ => ⟨S2048x4096, .bf16⟩
  | .hbm, ⟨5, _⟩ => ⟨S1x2048, .f32⟩
  | .hbm, ⟨6, _⟩ => ⟨S32768x4096, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c0_i32_4 : BitVec 32 := 0#32
  let v7 : BitVec 1 := Scalar.cmpi .sge arg1 c0_i32_4
  let c2_i32 : BitVec 32 := 2#32
  let v8 : BitVec 1 := Scalar.cmpi .slt arg1 c2_i32
  let v9 : BitVec 1 := Scalar.andi v7 v8
  let v10 : BitVec 32 := Scalar.extui v9
  let c0_i32_5 : BitVec 32 := 0#32
  let v11 : BitVec 1 := Scalar.cmpi .ne v10 c0_i32_5
  v11

def k0_cond3 (i : grid0.Coords) : BitVec 1 :=
  let arg1 : BitVec 32 := BitVec.ofNat 32 (i 1).val
  let c2_i32_6 : BitVec 32 := 2#32
  let v12 : BitVec 1 := Scalar.cmpi .sge arg1 c2_i32_6
  let c4_i32 : BitVec 32 := 4#32
  let v13 : BitVec 1 := Scalar.cmpi .slt arg1 c4_i32
  let v14 : BitVec 1 := Scalar.andi v12 v13
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== LruInReferenceIdeal.lean ====
abbrev S8x4096x2048 : Shape := ⟨3, ![8, 4096, 2048]⟩
abbrev S2048 : Shape := ⟨1, ![2048]⟩
abbrev S2048x4096 : Shape := ⟨2, ![2048, 4096]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x4096 : Shape := ⟨3, ![8, 4096, 4096]⟩
abbrev S32768x4096 : Shape := ⟨2, ![32768, 4096]⟩

abbrev nBuf : Space → Nat
  | .hbm => 41
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x4096, .f32⟩
  | .hbm, ⟨3, _⟩ => ⟨S8x4096x2048, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x2048, .f32⟩
  | .hbm, ⟨15, _⟩ => ⟨S8x4096x2048, .f32⟩
  | .hbm, ⟨16, _⟩ => ⟨S1x1x2048, .f32⟩
  | .hbm, ⟨17, _⟩ => ⟨S8x4096x2048, .f32⟩
  | .hbm, ⟨18, _⟩ => ⟨S8x4096x2048, .f32⟩
  | .hbm, ⟨19, _⟩ => ⟨S8x4096x4096, .f32⟩
  | .hbm, ⟨20, _⟩ => ⟨S8x4096x2048, .f32⟩
  | .hbm, ⟨21, _⟩ => ⟨S8x4096x2048, .f32⟩
  | .hbm, ⟨22, _⟩ => ⟨S8x4096x2048, .f32⟩
  | .hbm, ⟨23, _⟩ => ⟨S8x4096x2048, .f32⟩
  | .hbm, ⟨24, _⟩ => ⟨S_, .f32⟩
  | .hbm, ⟨25, _⟩ => ⟨S8x4096x2048, .f32⟩
  | .hbm, ⟨26, _⟩ => ⟨S8x4096x2048, .f32⟩
  | .hbm, ⟨27, _⟩ => ⟨S8x4096x2048, .f32⟩
  | .hbm, ⟨28, _⟩ => ⟨S_, .f32⟩
  | .hbm, ⟨29, _⟩ => ⟨S8x4096x2048, .f32⟩
  | .hbm, ⟨30, _⟩ => ⟨S8x4096x2048, .f32⟩
  | .hbm, ⟨31, _⟩ => ⟨S8x4096x2048, .f32⟩
  | .hbm, ⟨32, _⟩ => ⟨S_, .f32⟩
  | .hbm, ⟨33, _⟩ => ⟨S8x4096x2048, .f32⟩
  | .hbm, ⟨34, _⟩ => ⟨S8x4096x2048, .f32⟩
  | .hbm, ⟨35, _⟩ => ⟨S_, .f32⟩
  | .hbm, ⟨36, _⟩ => ⟨S8x4096x2048, .f32⟩
  | .hbm, ⟨37, _⟩ => ⟨S8x4096x2048, .f32⟩
  | .hbm, ⟨38, _⟩ => ⟨S8x4096x2048, .f32⟩
  | .hbm, ⟨39, _⟩ => ⟨S8x4096x4096, .f32⟩
  | .hbm, ⟨40, _⟩ => ⟨S32768x4096, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== SbInKernel.lean ====
abbrev S8x4096x2048 : Shape := ⟨3, ![8, 4096, 2048]⟩
abbrev S2048 : Shape := ⟨1, ![2048]⟩
abbrev S2048x6144 : Shape := ⟨2, ![2048, 6144]⟩
abbrev S128 : Shape := ⟨1, ![128]⟩
abbrev S32768x2048 : Shape := ⟨2, ![32768, 2048]⟩
abbrev S1x128 : Shape := ⟨2, ![1, 128]⟩
abbrev S1x2048 : Shape := ⟨2, ![1, 2048]⟩
abbrev S32768x6144 : Shape := ⟨2, ![32768, 6144]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩
abbrev S1024x128 : Shape := ⟨2, ![1024, 128]⟩

abbrev nBuf : Space → Nat
  | .hbm => 11
  | .vmem => 10
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x6144, .f32⟩
  | .hbm, ⟨3, _⟩ => ⟨S128, .f32⟩
  | .hbm, ⟨4, _⟩ => ⟨S128, .f32⟩
  | .hbm, ⟨5, _⟩ => ⟨S32768x2048, .f32⟩
  | .hbm, ⟨6, _⟩ => ⟨S2048x6144, .bf16⟩
  | .hbm, ⟨7, _⟩ => ⟨S1x128, .f32⟩
  | .hbm, ⟨8, _⟩ => ⟨S1x128, .f32⟩
  | .hbm, ⟨9, _⟩ => ⟨S1x2048, .f32⟩
  | .hbm, ⟨10, _⟩ => ⟨S32768x6144, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1x128, .f32⟩
  | .local _ .vmem, ⟨6, _⟩ => ⟨S1x128, .f32⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![32, 6], ![false, false]⟩

def k0_cond2 (i : grid0.Coords) : BitVec 1 :=
  let arg1 : BitVec 32 := BitVec.ofNat 32 (i 1).val
  let c0_i32_8 : BitVec 32 := 0#32
  let v11 : BitVec 1 := Scalar.cmpi .sge arg1 c0_i32_8
  let c2_i32 : BitVec 32 := 2#32
  let v12 : BitVec 1 := Scalar.cmpi .slt arg1 c2_i32
  let v13 : BitVec 1 := Scalar.andi v11 v12
  let v14 : BitVec 32 := Scalar.extui v13
  let c0_i32_9 : BitVec 32 := 0#32
  let v15 : BitVec 1 := Scalar.cmpi .ne v14 c0_i32_9
  v15

def k0_cond3 (i : grid0.Coords) : BitVec 1 :=
  let arg1 : BitVec 32 := BitVec.ofNat 32 (i 1).val
  let c2_i32_10 : BitVec 32 := 2#32
  let v16 : BitVec 1 := Scalar.cmpi .sge arg1 c2_i32_10
  let c4_i32 : BitVec 32 := 4#32
  let v17 : BitVec 1 := Scalar.cmpi .slt arg1 c4_i32
  let v18 : BitVec 1 := Scalar.andi v16 v17
  let v19 : BitVec 32 := Scalar.extui v18
  let c0_i32_11 : BitVec 32 := 0#32
  let v20 : BitVec 1 := Scalar.cmpi .ne v19 c0_i32_11
  v20

def k0_cond4 (i : grid0.Coords) : BitVec 1 :=
  let arg1 : BitVec 32 := BitVec.ofNat 32 (i 1).val
  let c4_i32_12 : BitVec 32 := 4#32
  let v21 : BitVec 1 := Scalar.cmpi .sge arg1 c4_i32_12
  let c6_i32 : BitVec 32 := 6#32
  let v22 : BitVec 1 := Scalar.cmpi .slt arg1 c6_i32
  let v23 : BitVec 1 := Scalar.andi v21 v22
  let v24 : BitVec 32 := Scalar.extui v23
  let c0_i32_13 : BitVec 32 := 0#32
  let v25 : BitVec 1 := Scalar.cmpi .ne v24 c0_i32_13
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SbInReferenceIdeal.lean ====
abbrev S8x4096x2048 : Shape := ⟨3, ![8, 4096, 2048]⟩
abbrev S2048 : Shape := ⟨1, ![2048]⟩
abbrev S2048x6144 : Shape := ⟨2, ![2048, 6144]⟩
abbrev S128 : Shape := ⟨1, ![128]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x6144 : Shape := ⟨3, ![8, 4096, 6144]⟩
abbrev S8x4096x16x128 : Shape := ⟨4, ![8, 4096, 16, 128]⟩
abbrev S8x4096x16 : Shape := ⟨3, ![8, 4096, 16]⟩
abbrev S8x4096x16x1 : Shape := ⟨4, ![8, 4096, 16, 1]⟩
abbrev S1x1x1x128 : Shape := ⟨4, ![1, 1, 1, 128]⟩
abbrev S32768x6144 : Shape := ⟨2, ![32768, 6144]⟩

abbrev nBuf : Space → Nat
  | .hbm => 67
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x6144, .f32⟩
  | .hbm, ⟨3, _⟩ => ⟨S128, .f32⟩
  | .hbm, ⟨4, _⟩ => ⟨S128, .f32⟩
  | .hbm, ⟨5, _⟩ => ⟨S8x4096x2048, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x2048, .f32⟩
  | .hbm, ⟨17, _⟩ => ⟨S8x4096x2048, .f32⟩
  | .hbm, ⟨18, _⟩ => ⟨S1x1x2048, .f32⟩
  | .hbm, ⟨19, _⟩ => ⟨S8x4096x2048, .f32⟩
  | .hbm, ⟨20, _⟩ => ⟨S8x4096x2048, .f32⟩
  | .hbm, ⟨21, _⟩ => ⟨S8x4096x6144, .f32⟩
  | .hbm, ⟨22, _⟩ => ⟨S8x4096x2048, .f32⟩
  | .hbm, ⟨23, _⟩ => ⟨S8x4096x2048, .f32⟩
  | .hbm, ⟨24, _⟩ => ⟨S8x4096x2048, .f32⟩
  | .hbm, ⟨25, _⟩ => ⟨S8x4096x16x128, .f32⟩
  | .hbm, ⟨26, _⟩ => ⟨S8x4096x16x128, .f32⟩
  | .hbm, ⟨27, _⟩ => ⟨S_, .f32⟩
  | .hbm, ⟨28, _⟩ => ⟨S8x4096x16, .f32⟩
  | .hbm, ⟨29, _⟩ => ⟨S8x4096x16x1, .f32⟩
  | .hbm, ⟨30, _⟩ => ⟨S_, .f32⟩
  | .hbm, ⟨31, _⟩ => ⟨S8x4096x16x1, .f32⟩
  | .hbm, ⟨32, _⟩ => ⟨S8x4096x16x1, .f32⟩
  | .hbm, ⟨33, _⟩ => ⟨S_, .f32⟩
  | .hbm, ⟨34, _⟩ => ⟨S8x4096x16x1, .f32⟩
  | .hbm, ⟨35, _⟩ => ⟨S8x4096x16x1, .f32⟩
  | .hbm, ⟨36, _⟩ => ⟨S8x4096x16x1, .f32⟩
  | .hbm, ⟨37, _⟩ => ⟨S8x4096x16x128, .f32⟩
  | .hbm, ⟨38, _⟩ => ⟨S8x4096x16x128, .f32⟩
  | .hbm, ⟨39, _⟩ => ⟨S1x1x1x128, .f32⟩
  | .hbm, ⟨40, _⟩ => ⟨S8x4096x16x128, .f32⟩
  | .hbm, ⟨41, _⟩ => ⟨S8x4096x16x128, .f32⟩
  | .hbm, ⟨42, _⟩ => ⟨S_, .f32⟩
  | .hbm, ⟨43, _⟩ => ⟨S8x4096x16x128, .f32⟩
  | .hbm, ⟨44, _⟩ => ⟨S8x4096x16x128, .f32⟩
  | .hbm, ⟨45, _⟩ => ⟨S8x4096x16x128, .f32⟩
  | .hbm, ⟨46, _⟩ => ⟨S8x4096x16x128, .f32⟩
  | .hbm, ⟨47, _⟩ => ⟨S_, .f32⟩
  | .hbm, ⟨48, _⟩ => ⟨S8x4096x16, .f32⟩
  | .hbm, ⟨49, _⟩ => ⟨S8x4096x16x1, .f32⟩
  | .hbm, ⟨50, _⟩ => ⟨S_, .f32⟩
  | .hbm, ⟨51, _⟩ => ⟨S8x4096x16x1, .f32⟩
  | .hbm, ⟨52, _⟩ => ⟨S8x4096x16x1, .f32⟩
  | .hbm, ⟨53, _⟩ => ⟨S_, .f32⟩
  | .hbm, ⟨54, _⟩ => ⟨S8x4096x16x1, .f32⟩
  | .hbm, ⟨55, _⟩ => ⟨S8x4096x16x1, .f32⟩
  | .hbm, ⟨56, _⟩ => ⟨S8x4096x16x1, .f32⟩
  | .hbm, ⟨57, _⟩ => ⟨S8x4096x16x128, .f32⟩
  | .hbm, ⟨58, _⟩ => ⟨S8x4096x16x128, .f32⟩
  | .hbm, ⟨59, _⟩ => ⟨S1x1x1x128, .f32⟩
  | .hbm, ⟨60, _⟩ => ⟨S8x4096x16x128, .f32⟩
  | .hbm, ⟨61, _⟩ => ⟨S8x4096x16x128, .f32⟩
  | .hbm, ⟨62, _⟩ => ⟨S8x4096x2048, .f32⟩
  | .hbm, ⟨63, _⟩ => ⟨S8x4096x2048, .f32⟩
  | .hbm, ⟨64, _⟩ => ⟨S8x4096x6144, .f32⟩
  | .hbm, ⟨65, _⟩ => ⟨S32768x6144, .f32⟩
  | .hbm, ⟨66, _⟩ => ⟨S32768x6144, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== GdnInKernel.lean ====
abbrev S8x4096x2048 : Shape := ⟨3, ![8, 4096, 2048]⟩
abbrev S2048 : Shape := ⟨1, ![2048]⟩
abbrev S2048x12352 : Shape := ⟨2, ![2048, 12352]⟩
abbrev S32768x2048 : Shape := ⟨2, ![32768, 2048]⟩
abbrev S1x2048 : Shape := ⟨2, ![1, 2048]⟩
abbrev S32768x12288 : Shape := ⟨2, ![32768, 12288]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x12352, .f32⟩
  | .hbm, ⟨3, _⟩ => ⟨S32768x2048, .f32⟩
  | .hbm, ⟨4, _⟩ => ⟨S2048x12352, .bf16⟩
  | .hbm, ⟨5, _⟩ => ⟨S1x2048, .f32⟩
  | .hbm, ⟨6, _⟩ => ⟨S32768x12288, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GdnInReferenceIdeal.lean ====
abbrev S8x4096x2048 : Shape := ⟨3, ![8, 4096, 2048]⟩
abbrev S2048 : Shape := ⟨1, ![2048]⟩
abbrev S2048x12352 : Shape := ⟨2, ![2048, 12352]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x12352 : Shape := ⟨3, ![8, 4096, 12352]⟩
abbrev S8x4096x12288 : Shape := ⟨3, ![8, 4096, 12288]⟩
abbrev S32768x12288 : Shape := ⟨2, ![32768, 12288]⟩

abbrev nBuf : Space → Nat
  | .hbm => 22
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x12352, .f32⟩
  | .hbm, ⟨3, _⟩ => ⟨S8x4096x2048, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x2048, .f32⟩
  | .hbm, ⟨15, _⟩ => ⟨S8x4096x2048, .f32⟩
  | .hbm, ⟨16, _⟩ => ⟨S1x1x2048, .f32⟩
  | .hbm, ⟨17, _⟩ => ⟨S8x4096x2048, .f32⟩
  | .hbm, ⟨18, _⟩ => ⟨S8x4096x2048, .f32⟩
  | .hbm, ⟨19, _⟩ => ⟨S8x4096x12352, .f32⟩
  | .hbm, ⟨20, _⟩ => ⟨S8x4096x12288, .f32⟩
  | .hbm, ⟨21, _⟩ => ⟨S32768x12288, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== DswVKernel.lean ====
abbrev S8x4096x2048 : Shape := ⟨3, ![8, 4096, 2048]⟩
abbrev S2048 : Shape := ⟨1, ![2048]⟩
abbrev S2048x6912 : Shape := ⟨2, ![2048, 6912]⟩
abbrev S32768x2048 : Shape := ⟨2, ![32768, 2048]⟩
abbrev S1x2048 : Shape := ⟨2, ![1, 2048]⟩
abbrev S32768x2304 : Shape := ⟨2, ![32768, 2304]⟩
abbrev S1024x2048 : Shape := ⟨2, ![1024, 2048]⟩
abbrev S2048x768 : Shape := ⟨2, ![2048, 768]⟩
abbrev S1024x768 : Shape := ⟨2, ![1024, 768]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x6912, .f32⟩
  | .hbm, ⟨3, _⟩ => ⟨S32768x2048, .f32⟩
  | .hbm, ⟨4, _⟩ => ⟨S2048x6912, .bf16⟩
  | .hbm, ⟨5, _⟩ => ⟨S1x2048, .f32⟩
  | .hbm, ⟨6, _⟩ => ⟨S32768x2304, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x768, .bf16⟩
  | .local _ .vmem, ⟨4, _⟩ => ⟨S2048x768, .bf16⟩
  | .local _ .vmem, ⟨5, _⟩ => ⟨S1024x768, .f32⟩
  | .local _ .vmem, ⟨6, _⟩ => ⟨S1024x768, .f32⟩
  | .local _ .vmem, ⟨7, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DswVReferenceIdeal.lean ====
abbrev S8x4096x2048 : Shape := ⟨3, ![8, 4096, 2048]⟩
abbrev S2048 : Shape := ⟨1, ![2048]⟩
abbrev S2048x6912 : Shape := ⟨2, ![2048, 6912]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x6912 : Shape := ⟨3, ![8, 4096, 6912]⟩
abbrev S8x4096x2304 : Shape := ⟨3, ![8, 4096, 2304]⟩
abbrev S32768x2304 : Shape := ⟨2, ![32768, 2304]⟩

abbrev nBuf : Space → Nat
  | .hbm => 24
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x6912, .f32⟩
  | .hbm, ⟨3, _⟩ => ⟨S8x4096x2048, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x2048, .f32⟩
  | .hbm, ⟨15, _⟩ => ⟨S8x4096x2048, .f32⟩
  | .hbm, ⟨16, _⟩ => ⟨S1x1x2048, .f32⟩
  | .hbm, ⟨17, _⟩ => ⟨S8x4096x2048, .f32⟩
  | .hbm, ⟨18, _⟩ => ⟨S8x4096x2048, .f32⟩
  | .hbm, ⟨19, _⟩ => ⟨S8x4096x6912, .f32⟩
  | .hbm, ⟨20, _⟩ => ⟨S8x4096x2304, .f32⟩
  | .hbm, ⟨21, _⟩ => ⟨S8x4096x2304, .f32⟩
  | .hbm, ⟨22, _⟩ => ⟨S8x4096x2304, .f32⟩
  | .hbm, ⟨23, _⟩ => ⟨S32768x2304, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== DswQKernel.lean ====
abbrev S8x4096x2048 : Shape := ⟨3, ![8, 4096, 2048]⟩
abbrev S2048 : Shape := ⟨1, ![2048]⟩
abbrev S32768x128 : Shape := ⟨2, ![32768, 128]⟩
abbrev S2048x6912 : Shape := ⟨2, ![2048, 6912]⟩
abbrev S128 : Shape := ⟨1, ![128]⟩
abbrev S32768x2048 : Shape := ⟨2, ![32768, 2048]⟩
abbrev S1x128 : Shape := ⟨2, ![1, 128]⟩
abbrev S1x2048 : Shape := ⟨2, ![1, 2048]⟩
abbrev S32768x2304 : Shape := ⟨2, ![32768, 2304]⟩
abbrev S1024x2048 : Shape := ⟨2, ![1024, 2048]⟩
abbrev S2048x768 : Shape := ⟨2, ![2048, 768]⟩
abbrev S1024x128 : Shape := ⟨2, ![1024, 128]⟩
abbrev S1024x768 : Shape := ⟨2, ![1024, 768]⟩
abbrev S2x1024x768 : Shape := ⟨3, ![2, 1024, 768]⟩
abbrev S1024 : Shape := ⟨1, ![1024]⟩
abbrev S1024x1 : Shape := ⟨2, ![1024, 1]⟩
abbrev S1x1024x768 : Shape := ⟨3, ![1, 1024, 768]⟩

abbrev nBuf : Space → Nat
  | .hbm => 12
  | .vmem => 14
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S32768x128, .f32⟩
  | .hbm, ⟨3, _⟩ => ⟨S32768x128, .f32⟩
  | .hbm, ⟨4, _⟩ => ⟨S2048x6912, .f32⟩
  | .hbm, ⟨5, _⟩ => ⟨S128, .f32⟩
  | .hbm, ⟨6, _⟩ => ⟨S32768x2048, .f32⟩
  | .hbm, ⟨7, _⟩ => ⟨S2048x6912, .bf16⟩
  | .hbm, ⟨8, _⟩ => ⟨S1x128, .f32⟩
  | .hbm, ⟨9, _⟩ => ⟨S1x2048, .f32⟩
  | .hbm, ⟨10, _⟩ => ⟨S1x2048, .f32⟩
  | .hbm, ⟨11, _⟩ => ⟨S32768x2304, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x768, .bf16⟩
  | .local _ .vmem, ⟨4, _⟩ => ⟨S2048x768, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1x128, .f32⟩
  | .local _ .vmem, ⟨10, _⟩ => ⟨S1024x768, .f32⟩
  | .local _ .vmem, ⟨11, _⟩ => ⟨S1024x768, .f32⟩
  | .local _ .vmem, ⟨12, _⟩ => ⟨S1024x2048, .bf16⟩
  | .local _ .vmem, ⟨13, _⟩ => ⟨S2x1024x768, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![97], ![false]⟩

def k0_off1 (i : grid0.Coords) : Fin 3 → Nat :=
  let c1_i32 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32 v6
  let v8 : Index := Scalar.indexCast v7
  let c0 : Index := 0#32
  let c0_2 : Index := 0#32
  ![v8.toNat, 0, 0]
def k0_off2 (i : grid0.Coords) : Fin 3 → Nat :=
  let arg0 : BitVec 32 := BitVec.ofNat 32 (i 0).val
  let c2_i32 : BitVec 32 := 2#32
  let v6 : BitVec 32 := Scalar.remsi arg0 c2_i32
  let v158 : Index := Scalar.indexCast v6
  let c0_55 : Index := 0#32
  let c0_56 : Index := 0#32
  ![v158.toNat, 0, 0]
def cc0_transform_0 (i : grid0.Coords) : Fin 2 → Nat :=
  let arg0 : BitVec 32 := BitVec.ofNat 32 (i 0).val
  let c95_i32 : BitVec 32 := 95#32
  let v0 : BitVec 32 := Scalar.minsi arg0 c95_i32
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c95_i32 : BitVec 32 := 95#32
  let v0 : BitVec 32 := Scalar.minsi arg0 c95_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let v11 : BitVec 32 := Scalar.addi v10 c0_i32_3
  let c0_i32_4 : BitVec 32 := 0#32
  let c0_i32_5 : BitVec 32 := 0#32
  ![c0_i32_4.toNat, v11.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let v2 : BitVec 32 := Scalar.divsi v1 c3_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c3_i32 c0_i32_2
  let v9 : BitVec 32 := Scalar.extui v8
  let c0_i32_3 : BitVec 32 := 0#32
  let v10 : BitVec 1 := Scalar.cmpi .slt c3_i32 c0_i32_3
  let v11 : BitVec 32 := Scalar.extui v10
  let v12 : BitVec 32 := Scalar.subi v9 v11
  let v13 : BitVec 1 := Scalar.cmpi .ne v7 v12
  let v14 : BitVec 32 := Scalar.remsi v1 c3_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let v2 : BitVec 32 := Scalar.divsi v1 c3_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c3_i32 c0_i32_2
  let v9 : BitVec 32 := Scalar.extui v8
  let c0_i32_3 : BitVec 32 := 0#32
  let v10 : BitVec 1 := Scalar.cmpi .slt c3_i32 c0_i32_3
  let v11 : BitVec 32 := Scalar.extui v10
  let v12 : BitVec 32 := Scalar.subi v9 v11
  let v13 : BitVec 1 := Scalar.cmpi .ne v7 v12
  let v14 : BitVec 32 := Scalar.remsi v1 c3_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let v2 : BitVec 32 := Scalar.divsi v1 c3_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c3_i32 c0_i32_2
  let v9 : BitVec 32 := Scalar.extui v8
  let c0_i32_3 : BitVec 32 := 0#32
  let v10 : BitVec 1 := Scalar.cmpi .slt c3_i32 c0_i32_3
  let v11 : BitVec 32 := Scalar.extui v10
  let v12 : BitVec 32 := Scalar.subi v9 v11
  let v13 : BitVec 1 := Scalar.cmpi .ne v7 v12
  let v14 : BitVec 32 := Scalar.remsi v1 c3_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c3_i32_8 : BitVec 32 := 3#32
  let c0_i32_9 : BitVec 32 := 0#32
  let v21 : BitVec 1 := Scalar.cmpi .eq c3_i32_8 c0_i32_9
  let c1_i32_10 : BitVec 32 := 1#32
  let v22 : BitVec 32 := Scalar.select v21 c1_i32_10 c3_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, v30.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DswQReferenceIdeal.lean ====
abbrev S8x4096x2048 : Shape := ⟨3, ![8, 4096, 2048]⟩
abbrev S2048 : Shape := ⟨1, ![2048]⟩
abbrev S32768x128 : Shape := ⟨2, ![32768, 128]⟩
abbrev S2048x6912 : Shape := ⟨2, ![2048, 6912]⟩
abbrev S128 : Shape := ⟨1, ![128]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x6912 : Shape := ⟨3, ![8, 4096, 6912]⟩
abbrev S8x4096x2304 : Shape := ⟨3, ![8, 4096, 2304]⟩
abbrev S8x4096x18x128 : Shape := ⟨4, ![8, 4096, 18, 128]⟩
abbrev S8x4096x18 : Shape := ⟨3, ![8, 4096, 18]⟩
abbrev S8x4096x18x1 : Shape := ⟨4, ![8, 4096, 18, 1]⟩
abbrev S1x1x1x128 : Shape := ⟨4, ![1, 1, 1, 128]⟩
abbrev S8x4096x18x16 : Shape := ⟨4, ![8, 4096, 18, 16]⟩
abbrev S8x4096x18x112 : Shape := ⟨4, ![8, 4096, 18, 112]⟩
abbrev S8x4096x1x128 : Shape := ⟨4, ![8, 4096, 1, 128]⟩
abbrev S32768x2304 : Shape := ⟨2, ![32768, 2304]⟩

abbrev nBuf : Space → Nat
  | .hbm => 57
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S32768x128, .f32⟩
  | .hbm, ⟨3, _⟩ => ⟨S32768x128, .f32⟩
  | .hbm, ⟨4, _⟩ => ⟨S2048x6912, .f32⟩
  | .hbm, ⟨5, _⟩ => ⟨S128, .f32⟩
  | .hbm, ⟨6, _⟩ => ⟨S8x4096x2048, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x2048, .f32⟩
  | .hbm, ⟨18, _⟩ => ⟨S8x4096x2048, .f32⟩
  | .hbm, ⟨19, _⟩ => ⟨S1x1x2048, .f32⟩
  | .hbm, ⟨20, _⟩ => ⟨S8x4096x2048, .f32⟩
  | .hbm, ⟨21, _⟩ => ⟨S8x4096x2048, .f32⟩
  | .hbm, ⟨22, _⟩ => ⟨S8x4096x6912, .f32⟩
  | .hbm, ⟨23, _⟩ => ⟨S8x4096x2304, .f32⟩
  | .hbm, ⟨24, _⟩ => ⟨S8x4096x2304, .f32⟩
  | .hbm, ⟨25, _⟩ => ⟨S8x4096x2304, .f32⟩
  | .hbm, ⟨26, _⟩ => ⟨S8x4096x18x128, .f32⟩
  | .hbm, ⟨27, _⟩ => ⟨S8x4096x18x128, .f32⟩
  | .hbm, ⟨28, _⟩ => ⟨S_, .f32⟩
  | .hbm, ⟨29, _⟩ => ⟨S8x4096x18, .f32⟩
  | .hbm, ⟨30, _⟩ => ⟨S8x4096x18x1, .f32⟩
  | .hbm, ⟨31, _⟩ => ⟨S_, .f32⟩
  | .hbm, ⟨32, _⟩ => ⟨S8x4096x18x1, .f32⟩
  | .hbm, ⟨33, _⟩ => ⟨S8x4096x18x1, .f32⟩
  | .hbm, ⟨34, _⟩ => ⟨S_, .f32⟩
  | .hbm, ⟨35, _⟩ => ⟨S8x4096x18x1, .f32⟩
  | .hbm, ⟨36, _⟩ => ⟨S8x4096x18x1, .f32⟩
  | .hbm, ⟨37, _⟩ => ⟨S8x4096x18x1, .f32⟩
  | .hbm, ⟨38, _⟩ => ⟨S8x4096x18x128, .f32⟩
  | .hbm, ⟨39, _⟩ => ⟨S8x4096x18x128, .f32⟩
  | .hbm, ⟨40, _⟩ => ⟨S1x1x1x128, .f32⟩
  | .hbm, ⟨41, _⟩ => ⟨S8x4096x18x128, .f32⟩
  | .hbm, ⟨42, _⟩ => ⟨S8x4096x18x128, .f32⟩
  | .hbm, ⟨43, _⟩ => ⟨S8x4096x18x16, .f32⟩
  | .hbm, ⟨44, _⟩ => ⟨S8x4096x18x112, .f32⟩
  | .hbm, ⟨45, _⟩ => ⟨S8x4096x18x128, .f32⟩
  | .hbm, ⟨46, _⟩ => ⟨S8x4096x1x128, .f32⟩
  | .hbm, ⟨47, _⟩ => ⟨S8x4096x18x128, .f32⟩
  | .hbm, ⟨48, _⟩ => ⟨S8x4096x18x128, .f32⟩
  | .hbm, ⟨49, _⟩ => ⟨S8x4096x1x128, .f32⟩
  | .hbm, ⟨50, _⟩ => ⟨S8x4096x18x128, .f32⟩
  | .hbm, ⟨51, _⟩ => ⟨S8x4096x18x128, .f32⟩
  | .hbm, ⟨52, _⟩ => ⟨S8x4096x18x128, .f32⟩
  | .hbm, ⟨53, _⟩ => ⟨S_, .f32⟩
  | .hbm, ⟨54, _⟩ => ⟨S8x4096x18x128, .f32⟩
  | .hbm, ⟨55, _⟩ => ⟨S8x4096x18x128, .f32⟩
  | .hbm, ⟨56, _⟩ => ⟨S32768x2304, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== DswKKernel.lean ====
abbrev S8x4096x2048 : Shape := ⟨3, ![8, 4096, 2048]⟩
abbrev S2048 : Shape := ⟨1, ![2048]⟩
abbrev S32768x128 : Shape := ⟨2, ![32768, 128]⟩
abbrev S2048x6912 : Shape := ⟨2, ![2048, 6912]⟩
abbrev S128 : Shape := ⟨1, ![128]⟩
abbrev S32768x2048 : Shape := ⟨2, ![32768, 2048]⟩
abbrev S1x128 : Shape := ⟨2, ![1, 128]⟩
abbrev S1x2048 : Shape := ⟨2, ![1, 2048]⟩
abbrev S32768x2304 : Shape := ⟨2, ![32768, 2304]⟩
abbrev S1024x2048 : Shape := ⟨2, ![1024, 2048]⟩
abbrev S2048x768 : Shape := ⟨2, ![2048, 768]⟩
abbrev S1024x128 : Shape := ⟨2, ![1024, 128]⟩
abbrev S1024x768 : Shape := ⟨2, ![1024, 768]⟩
abbrev S2x1024x768 : Shape := ⟨3, ![2, 1024, 768]⟩
abbrev S1024 : Shape := ⟨1, ![1024]⟩
abbrev S1024x1 : Shape := ⟨2, ![1024, 1]⟩
abbrev S1x1024x768 : Shape := ⟨3, ![1, 1024, 768]⟩

abbrev nBuf : Space → Nat
  | .hbm => 12
  | .vmem => 14
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S32768x128, .f32⟩
  | .hbm, ⟨3, _⟩ => ⟨S32768x128, .f32⟩
  | .hbm, ⟨4, _⟩ => ⟨S2048x6912, .f32⟩
  | .hbm, ⟨5, _⟩ => ⟨S128, .f32⟩
  | .hbm, ⟨6, _⟩ => ⟨S32768x2048, .f32⟩
  | .hbm, ⟨7, _⟩ => ⟨S2048x6912, .bf16⟩
  | .hbm, ⟨8, _⟩ => ⟨S1x128, .f32⟩
  | .hbm, ⟨9, _⟩ => ⟨S1x2048, .f32⟩
  | .hbm, ⟨10, _⟩ => ⟨S1x2048, .f32⟩
  | .hbm, ⟨11, _⟩ => ⟨S32768x2304, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x768, .bf16⟩
  | .local _ .vmem, ⟨4, _⟩ => ⟨S2048x768, .bf16⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1x128, .f32⟩
  | .local _ .vmem, ⟨10, _⟩ => ⟨S1024x768, .f32⟩
  | .local _ .vmem, ⟨11, _⟩ => ⟨S1024x768, .f32⟩
  | .local _ .vmem, ⟨12, _⟩ => ⟨S1024x2048, .bf16⟩
  | .local _ .vmem, ⟨13, _⟩ => ⟨S2x1024x768, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![97], ![false]⟩

def k0_off1 (i : grid0.Coords) : Fin 3 → Nat :=
  let c1_i32 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32 v6
  let v8 : Index := Scalar.indexCast v7
  let c0 : Index := 0#32
  let c0_2 : Index := 0#32
  ![v8.toNat, 0, 0]
def k0_off2 (i : grid0.Coords) : Fin 3 → Nat :=
  let arg0 : BitVec 32 := BitVec.ofNat 32 (i 0).val
  let c2_i32 : BitVec 32 := 2#32
  let v6 : BitVec 32 := Scalar.remsi arg0 c2_i32
  let v158 : Index := Scalar.indexCast v6
  let c0_55 : Index := 0#32
  let c0_56 : Index := 0#32
  ![v158.toNat, 0, 0]
def cc0_transform_0 (i : grid0.Coords) : Fin 2 → Nat :=
  let arg0 : BitVec 32 := BitVec.ofNat 32 (i 0).val
  let c95_i32 : BitVec 32 := 95#32
  let v0 : BitVec 32 := Scalar.minsi arg0 c95_i32
  let c3_i32 : BitVec 32 := 3#32
  let v1 : BitVec 32 := Scalar.divsi v0 c3_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi v0 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c95_i32 : BitVec 32 := 95#32
  let v0 : BitVec 32 := Scalar.minsi arg0 c95_i32
  let c3_i32 : BitVec 32 := 3#32
  let c0_i32 : BitVec 32 := 0#32
  let v1 : BitVec 1 := Scalar.cmpi .eq c3_i32 c0_i32
  let c1_i32 : BitVec 32 := 1#32
  let v2 : BitVec 32 := Scalar.select v1 c1_i32 c3_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c3_i32_3 : BitVec 32 := 3#32
  let v11 : BitVec 32 := Scalar.addi v10 c3_i32_3
  let c0_i32_4 : BitVec 32 := 0#32
  let c0_i32_5 : BitVec 32 := 0#32
  ![c0_i32_4.toNat, v11.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let v2 : BitVec 32 := Scalar.divsi v1 c3_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c3_i32 c0_i32_2
  let v9 : BitVec 32 := Scalar.extui v8
  let c0_i32_3 : BitVec 32 := 0#32
  let v10 : BitVec 1 := Scalar.cmpi .slt c3_i32 c0_i32_3
  let v11 : BitVec 32 := Scalar.extui v10
  let v12 : BitVec 32 := Scalar.subi v9 v11
  let v13 : BitVec 1 := Scalar.cmpi .ne v7 v12
  let v14 : BitVec 32 := Scalar.remsi v1 c3_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let v2 : BitVec 32 := Scalar.divsi v1 c3_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c3_i32 c0_i32_2
  let v9 : BitVec 32 := Scalar.extui v8
  let c0_i32_3 : BitVec 32 := 0#32
  let v10 : BitVec 1 := Scalar.cmpi .slt c3_i32 c0_i32_3
  let v11 : BitVec 32 := Scalar.extui v10
  let v12 : BitVec 32 := Scalar.subi v9 v11
  let v13 : BitVec 1 := Scalar.cmpi .ne v7 v12
  let v14 : BitVec 32 := Scalar.remsi v1 c3_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c0_i32_6 : BitVec 32 := 0#32
  let c0_i32_7 : BitVec 32 := 0#32
  ![v18.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c3_i32 : BitVec 32 := 3#32
  let v2 : BitVec 32 := Scalar.divsi v1 c3_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c3_i32 c0_i32_2
  let v9 : BitVec 32 := Scalar.extui v8
  let c0_i32_3 : BitVec 32 := 0#32
  let v10 : BitVec 1 := Scalar.cmpi .slt c3_i32 c0_i32_3
  let v11 : BitVec 32 := Scalar.extui v10
  let v12 : BitVec 32 := Scalar.subi v9 v11
  let v13 : BitVec 1 := Scalar.cmpi .ne v7 v12
  let v14 : BitVec 32 := Scalar.remsi v1 c3_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c3_i32_8 : BitVec 32 := 3#32
  let c0_i32_9 : BitVec 32 := 0#32
  let v21 : BitVec 1 := Scalar.cmpi .eq c3_i32_8 c0_i32_9
  let c1_i32_10 : BitVec 32 := 1#32
  let v22 : BitVec 32 := Scalar.select v21 c1_i32_10 c3_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  ![v18.toNat, v30.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DswKReferenceIdeal.lean ====
abbrev S8x4096x2048 : Shape := ⟨3, ![8, 4096, 2048]⟩
abbrev S2048 : Shape := ⟨1, ![2048]⟩
abbrev S32768x128 : Shape := ⟨2, ![32768, 128]⟩
abbrev S2048x6912 : Shape := ⟨2, ![2048, 6912]⟩
abbrev S128 : Shape := ⟨1, ![128]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x6912 : Shape := ⟨3, ![8, 4096, 6912]⟩
abbrev S8x4096x2304 : Shape := ⟨3, ![8, 4096, 2304]⟩
abbrev S8x4096x18x128 : Shape := ⟨4, ![8, 4096, 18, 128]⟩
abbrev S8x4096x18 : Shape := ⟨3, ![8, 4096, 18]⟩
abbrev S8x4096x18x1 : Shape := ⟨4, ![8, 4096, 18, 1]⟩
abbrev S1x1x1x128 : Shape := ⟨4, ![1, 1, 1, 128]⟩
abbrev S8x4096x18x16 : Shape := ⟨4, ![8, 4096, 18, 16]⟩
abbrev S8x4096x18x112 : Shape := ⟨4, ![8, 4096, 18, 112]⟩
abbrev S8x4096x1x128 : Shape := ⟨4, ![8, 4096, 1, 128]⟩
abbrev S32768x2304 : Shape := ⟨2, ![32768, 2304]⟩

abbrev nBuf : Space → Nat
  | .hbm => 54
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S32768x128, .f32⟩
  | .hbm, ⟨3, _⟩ => ⟨S32768x128, .f32⟩
  | .hbm, ⟨4, _⟩ => ⟨S2048x6912, .f32⟩
  | .hbm, ⟨5, _⟩ => ⟨S128, .f32⟩
  | .hbm, ⟨6, _⟩ => ⟨S8x4096x2048, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x2048, .f32⟩
  | .hbm, ⟨18, _⟩ => ⟨S8x4096x2048, .f32⟩
  | .hbm, ⟨19, _⟩ => ⟨S1x1x2048, .f32⟩
  | .hbm, ⟨20, _⟩ => ⟨S8x4096x2048, .f32⟩
  | .hbm, ⟨21, _⟩ => ⟨S8x4096x2048, .f32⟩
  | .hbm, ⟨22, _⟩ => ⟨S8x4096x6912, .f32⟩
  | .hbm, ⟨23, _⟩ => ⟨S8x4096x2304, .f32⟩
  | .hbm, ⟨24, _⟩ => ⟨S8x4096x2304, .f32⟩
  | .hbm, ⟨25, _⟩ => ⟨S8x4096x2304, .f32⟩
  | .hbm, ⟨26, _⟩ => ⟨S8x4096x18x128, .f32⟩
  | .hbm, ⟨27, _⟩ => ⟨S8x4096x18x128, .f32⟩
  | .hbm, ⟨28, _⟩ => ⟨S_, .f32⟩
  | .hbm, ⟨29, _⟩ => ⟨S8x4096x18, .f32⟩
  | .hbm, ⟨30, _⟩ => ⟨S8x4096x18x1, .f32⟩
  | .hbm, ⟨31, _⟩ => ⟨S_, .f32⟩
  | .hbm, ⟨32, _⟩ => ⟨S8x4096x18x1, .f32⟩
  | .hbm, ⟨33, _⟩ => ⟨S8x4096x18x1, .f32⟩
  | .hbm, ⟨34, _⟩ => ⟨S_, .f32⟩
  | .hbm, ⟨35, _⟩ => ⟨S8x4096x18x1, .f32⟩
  | .hbm, ⟨36, _⟩ => ⟨S8x4096x18x1, .f32⟩
  | .hbm, ⟨37, _⟩ => ⟨S8x4096x18x1, .f32⟩
  | .hbm, ⟨38, _⟩ => ⟨S8x4096x18x128, .f32⟩
  | .hbm, ⟨39, _⟩ => ⟨S8x4096x18x128, .f32⟩
  | .hbm, ⟨40, _⟩ => ⟨S1x1x1x128, .f32⟩
  | .hbm, ⟨41, _⟩ => ⟨S8x4096x18x128, .f32⟩
  | .hbm, ⟨42, _⟩ => ⟨S8x4096x18x128, .f32⟩
  | .hbm, ⟨43, _⟩ => ⟨S8x4096x18x16, .f32⟩
  | .hbm, ⟨44, _⟩ => ⟨S8x4096x18x112, .f32⟩
  | .hbm, ⟨45, _⟩ => ⟨S8x4096x18x128, .f32⟩
  | .hbm, ⟨46, _⟩ => ⟨S8x4096x1x128, .f32⟩
  | .hbm, ⟨47, _⟩ => ⟨S8x4096x18x128, .f32⟩
  | .hbm, ⟨48, _⟩ => ⟨S8x4096x18x128, .f32⟩
  | .hbm, ⟨49, _⟩ => ⟨S8x4096x1x128, .f32⟩
  | .hbm, ⟨50, _⟩ => ⟨S8x4096x18x128, .f32⟩
  | .hbm, ⟨51, _⟩ => ⟨S8x4096x18x128, .f32⟩
  | .hbm, ⟨52, _⟩ => ⟨S8x4096x18x128, .f32⟩
  | .hbm, ⟨53, _⟩ => ⟨S32768x2304, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]
-- ==== GdnGatesKernel.lean ====
abbrev S8x4096x2048 : Shape := ⟨3, ![8, 4096, 2048]⟩
abbrev S2048 : Shape := ⟨1, ![2048]⟩
abbrev S2048x12352 : Shape := ⟨2, ![2048, 12352]⟩
abbrev S32 : Shape := ⟨1, ![32]⟩
abbrev S32768x2048 : Shape := ⟨2, ![32768, 2048]⟩
abbrev S2048x64 : Shape := ⟨2, ![2048, 64]⟩
abbrev S_ : Shape := ⟨0, ![]⟩
abbrev S2048x128 : Shape := ⟨2, ![2048, 128]⟩
abbrev S128 : Shape := ⟨1, ![128]⟩
abbrev S1x128 : Shape := ⟨2, ![1, 128]⟩
abbrev S1x2048 : Shape := ⟨2, ![1, 2048]⟩
abbrev S32768x128 : Shape := ⟨2, ![32768, 128]⟩
abbrev S1024x2048 : Shape := ⟨2, ![1024, 2048]⟩
abbrev S1024x128 : Shape := ⟨2, ![1024, 128]⟩
abbrev S1024 : Shape := ⟨1, ![1024]⟩
abbrev S1024x1 : Shape := ⟨2, ![1024, 1]⟩
abbrev S32768x32 : Shape := ⟨2, ![32768, 32]⟩

abbrev nBuf : Space → Nat
  | .hbm => 23
  | .vmem => 9
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x12352, .f32⟩
  | .hbm, ⟨3, _⟩ => ⟨S32, .f32⟩
  | .hbm, ⟨4, _⟩ => ⟨S32, .f32⟩
  | .hbm, ⟨5, _⟩ => ⟨S32768x2048, .f32⟩
  | .hbm, ⟨6, _⟩ => ⟨S2048x64, .f32⟩
  | .hbm, ⟨7, _⟩ => ⟨S_, .i32⟩
  | .hbm, ⟨8, _⟩ => ⟨S_, .f32⟩
  | .hbm, ⟨9, _⟩ => ⟨S2048x128, .f32⟩
  | .hbm, ⟨10, _⟩ => ⟨S2048x128, .bf16⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S1x2048, .f32⟩
  | .hbm, ⟨20, _⟩ => ⟨S32768x128, .f32⟩
  | .hbm, ⟨21, _⟩ => ⟨S32768x32, .f32⟩
  | .hbm, ⟨22, _⟩ => ⟨S32768x32, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x128, .bf16⟩
  | .local _ .vmem, ⟨4, _⟩ => ⟨S1x128, .f32⟩
  | .local _ .vmem, ⟨5, _⟩ => ⟨S1x128, .f32⟩
  | .local _ .vmem, ⟨6, _⟩ => ⟨S1024x128, .f32⟩
  | .local _ .vmem, ⟨7, _⟩ => ⟨S1024x128, .f32⟩
  | .local _ .vmem, ⟨8, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_call2_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GdnGatesReferenceIdeal.lean ====
abbrev S8x4096x2048 : Shape := ⟨3, ![8, 4096, 2048]⟩
abbrev S2048 : Shape := ⟨1, ![2048]⟩
abbrev S2048x12352 : Shape := ⟨2, ![2048, 12352]⟩
abbrev S32 : Shape := ⟨1, ![32]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x12352 : Shape := ⟨3, ![8, 4096, 12352]⟩
abbrev S8x4096x12288 : Shape := ⟨3, ![8, 4096, 12288]⟩
abbrev S8x4096x32 : Shape := ⟨3, ![8, 4096, 32]⟩
abbrev S1x1x32 : Shape := ⟨3, ![1, 1, 32]⟩
abbrev S32768x32 : Shape := ⟨2, ![32768, 32]⟩

abbrev nBuf : Space → Nat
  | .hbm => 57
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x12352, .f32⟩
  | .hbm, ⟨3, _⟩ => ⟨S32, .f32⟩
  | .hbm, ⟨4, _⟩ => ⟨S32, .f32⟩
  | .hbm, ⟨5, _⟩ => ⟨S8x4096x2048, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x2048, .f32⟩
  | .hbm, ⟨17, _⟩ => ⟨S8x4096x2048, .f32⟩
  | .hbm, ⟨18, _⟩ => ⟨S1x1x2048, .f32⟩
  | .hbm, ⟨19, _⟩ => ⟨S8x4096x2048, .f32⟩
  | .hbm, ⟨20, _⟩ => ⟨S8x4096x2048, .f32⟩
  | .hbm, ⟨21, _⟩ => ⟨S8x4096x12352, .f32⟩
  | .hbm, ⟨22, _⟩ => ⟨S8x4096x12288, .f32⟩
  | .hbm, ⟨23, _⟩ => ⟨S8x4096x32, .f32⟩
  | .hbm, ⟨24, _⟩ => ⟨S8x4096x32, .f32⟩
  | .hbm, ⟨25, _⟩ => ⟨S8x4096x32, .f32⟩
  | .hbm, ⟨26, _⟩ => ⟨S8x4096x32, .f32⟩
  | .hbm, ⟨27, _⟩ => ⟨S_, .f32⟩
  | .hbm, ⟨28, _⟩ => ⟨S8x4096x32, .f32⟩
  | .hbm, ⟨29, _⟩ => ⟨S8x4096x32, .f32⟩
  | .hbm, ⟨30, _⟩ => ⟨S_, .f32⟩
  | .hbm, ⟨31, _⟩ => ⟨S8x4096x32, .f32⟩
  | .hbm, ⟨32, _⟩ => ⟨S8x4096x32, .f32⟩
  | .hbm, ⟨33, _⟩ => ⟨S32, .f32⟩
  | .hbm, ⟨34, _⟩ => ⟨S32, .f32⟩
  | .hbm, ⟨35, _⟩ => ⟨S1x1x32, .f32⟩
  | .hbm, ⟨36, _⟩ => ⟨S8x4096x32, .f32⟩
  | .hbm, ⟨37, _⟩ => ⟨S8x4096x32, .f32⟩
  | .hbm, ⟨38, _⟩ => ⟨S_, .f32⟩
  | .hbm, ⟨39, _⟩ => ⟨S8x4096x32, .f32⟩
  | .hbm, ⟨40, _⟩ => ⟨S8x4096x32, .f32⟩
  | .hbm, ⟨41, _⟩ => ⟨S8x4096x32, .f32⟩
  | .hbm, ⟨42, _⟩ => ⟨S8x4096x32, .f32⟩
  | .hbm, ⟨43, _⟩ => ⟨S8x4096x32, .i1⟩
  | .hbm, ⟨44, _⟩ => ⟨S8x4096x32, .f32⟩
  | .hbm, ⟨45, _⟩ => ⟨S8x4096x32, .f32⟩
  | .hbm, ⟨46, _⟩ => ⟨S8x4096x32, .f32⟩
  | .hbm, ⟨47, _⟩ => ⟨S8x4096x32, .f32⟩
  | .hbm, ⟨48, _⟩ => ⟨S8x4096x32, .f32⟩
  | .hbm, ⟨49, _⟩ => ⟨S8x4096x32, .f32⟩
  | .hbm, ⟨50, _⟩ => ⟨S8x4096x32, .f32⟩
  | .hbm, ⟨51, _⟩ => ⟨S8x4096x32, .f32⟩
  | .hbm, ⟨52, _⟩ => ⟨S1x1x32, .f32⟩
  | .hbm, ⟨53, _⟩ => ⟨S8x4096x32, .f32⟩
  | .hbm, ⟨54, _⟩ => ⟨S8x4096x32, .f32⟩
  | .hbm, ⟨55, _⟩ => ⟨S32768x32, .f32⟩
  | .hbm, ⟨56, _⟩ => ⟨S32768x32, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩

abbrev nD : Nat := 1
abbrev τ : Topo := Topo.v7x

variable {F : FTy → Type} [FloatOps F]
-- ==== BandKernel.lean ====
abbrev S8x4096x2304 : Shape := ⟨3, ![8, 4096, 2304]⟩
abbrev S8x4096x768 : Shape := ⟨3, ![8, 4096, 768]⟩
abbrev S1x128x768 : Shape := ⟨3, ![1, 128, 768]⟩
abbrev S128x256 : Shape := ⟨2, ![128, 256]⟩
abbrev S1x128x128 : Shape := ⟨3, ![1, 128, 128]⟩
abbrev S128x128 : Shape := ⟨2, ![128, 128]⟩
abbrev S256x128 : Shape := ⟨2, ![256, 128]⟩
abbrev S128 : Shape := ⟨1, ![128]⟩
abbrev S128x1 : Shape := ⟨2, ![128, 1]⟩

abbrev nBuf : Space → Nat
  | .hbm => 5
  | .vmem => 14
  | .smem => 0
  | _ => 0

abbrev bufTy : (tb : Table) → Fin (tcTables nBuf tb) → BufTy
  | .hbm, ⟨0, _⟩ => ⟨S8x4096x2304, .f32⟩
  | .hbm, ⟨1, _⟩ => ⟨S8x4096x2304, .f32⟩
  | .hbm, ⟨2, _⟩ => ⟨S8x4096x2304, .f32⟩
  | .hbm, ⟨3, _⟩ => ⟨S8x4096x768, .f32⟩
  | .hbm, ⟨4, _⟩ => ⟨S8x4096x768, .f32⟩
  | .local _ .vmem, ⟨0, _⟩ => ⟨S1x128x768, .f32⟩
  | .local _ .vmem, ⟨1, _⟩ => ⟨S1x128x768, .f32⟩
  | .local _ .vmem, ⟨2, _⟩ => ⟨S1x128x768, .f32⟩
  | .local _ .vmem, ⟨3, _⟩ => ⟨S1x128x768, .f32⟩
  | .local _ .vmem, ⟨4, _⟩ => ⟨S1x128x768, .f32⟩
  | .local _ .vmem, ⟨5, _⟩ => ⟨S1x128x768, .f32⟩
  | .local _ .vmem, ⟨6, _⟩ => ⟨S1x128x768, .f32⟩
  | .local _ .vmem, ⟨7, _⟩ => ⟨S1x128x768, .f32⟩
  | .local _ .vmem, ⟨8, _⟩ => ⟨S1x128x768, .f32⟩
  | .local _ .vmem, ⟨9, _⟩ => ⟨S1x128x768, .f32⟩
  | .local _ .vmem, ⟨10, _⟩ => ⟨S1x128x768, .f32⟩
  | .local _ .vmem, ⟨11, _⟩ => ⟨S1x128x768, .f32⟩
  | .local _ .vmem, ⟨12, _⟩ => ⟨S1x128x768, .f32⟩
  | .local _ .vmem, ⟨13, _⟩ => ⟨S1x128x768, .f32⟩
  | _, _ => ⟨S8x4096x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 1, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let v2 : BitVec 32 := Scalar.addi c0_i32_0 arg1
  let c0_i32_1 : BitVec 32 := 0#32
  ![arg0.toNat, v1.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg2 c1_i32
  let c0_i32 : BitVec 32 := 0#32
  let v1 : BitVec 32 := Scalar.maxsi v0 c0_i32
  let c0_i32_0 : BitVec 32 := 0#32
  let v2 : BitVec 32 := Scalar.addi c0_i32_0 arg1
  let c0_i32_1 : BitVec 32 := 0#32
  ![arg0.toNat, v1.toNat, v2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== BandReferenceIdeal.lean ====
abbrev S8x4096x2304 : Shape := ⟨3, ![8, 4096, 2304]⟩
abbrev S8x4096x768 : Shape := ⟨3, ![8, 4096, 768]⟩
abbrev S8x32x128x6x128 : Shape := ⟨5, ![8, 32, 128, 6, 128]⟩
abbrev S8x31x128x6x128 : Shape := ⟨5, ![8, 31, 128, 6, 128]⟩
abbrev S_ : Shape := ⟨0, ![]⟩
abbrev S8x32x256x6x128 : Shape := ⟨5, ![8, 32, 256, 6, 128]⟩
abbrev S8x32x6x128x256 : Shape := ⟨5, ![8, 32, 6, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x128x256 : Shape := ⟨4, ![32, 1, 128, 256]⟩
abbrev S8x32x6x128 : Shape := ⟨4, ![8, 32, 6, 128]⟩
abbrev S8x32x6x128x1 : Shape := ⟨5, ![8, 32, 6, 128, 1]⟩
abbrev S8x32x6x128x128 : Shape := ⟨5, ![8, 32, 6, 128, 128]⟩
abbrev S8x32x128x6 : Shape := ⟨4, ![8, 32, 128, 6]⟩
abbrev S8x32x128x6x1 : Shape := ⟨5, ![8, 32, 128, 6, 1]⟩

abbrev nBuf : Space → Nat
  | .hbm => 83
  | .vmem => 0
  | .smem => 0
  | _ => 0

abbrev bufTy : (tb : Table) → Fin (tcTables nBuf tb) → BufTy
  | .hbm, ⟨0, _⟩ => ⟨S8x4096x2304, .f32⟩
  | .hbm, ⟨1, _⟩ => ⟨S8x4096x2304, .f32⟩
  | .hbm, ⟨2, _⟩ => ⟨S8x4096x2304, .f32⟩
  | .hbm, ⟨3, _⟩ => ⟨S8x4096x768, .f32⟩
  | .hbm, ⟨4, _⟩ => ⟨S8x32x128x6x128, .f32⟩
  | .hbm, ⟨5, _⟩ => ⟨S8x4096x768, .f32⟩
  | .hbm, ⟨6, _⟩ => ⟨S8x32x128x6x128, .f32⟩
  | .hbm, ⟨7, _⟩ => ⟨S8x31x128x6x128, .f32⟩
  | .hbm, ⟨8, _⟩ => ⟨S_, .i32⟩
  | .hbm, ⟨9, _⟩ => ⟨S_, .f32⟩
  | .hbm, ⟨10, _⟩ => ⟨S8x32x128x6x128, .f32⟩
  | .hbm, ⟨11, _⟩ => ⟨S8x32x256x6x128, .f32⟩
  | .hbm, ⟨12, _⟩ => ⟨S8x4096x768, .f32⟩
  | .hbm, ⟨13, _⟩ => ⟨S8x32x128x6x128, .f32⟩
  | .hbm, ⟨14, _⟩ => ⟨S8x31x128x6x128, .f32⟩
  | .hbm, ⟨15, _⟩ => ⟨S_, .i32⟩
  | .hbm, ⟨16, _⟩ => ⟨S_, .f32⟩
  | .hbm, ⟨17, _⟩ => ⟨S8x32x128x6x128, .f32⟩
  | .hbm, ⟨18, _⟩ => ⟨S8x32x256x6x128, .f32⟩
  | .hbm, ⟨19, _⟩ => ⟨S8x32x6x128x256, .f32⟩
  | .hbm, ⟨20, _⟩ => ⟨S128, .i32⟩
  | .hbm, ⟨21, _⟩ => ⟨S128x1, .i32⟩
  | .hbm, ⟨22, _⟩ => ⟨S256, .i32⟩
  | .hbm, ⟨23, _⟩ => ⟨S1x256, .i32⟩
  | .hbm, ⟨24, _⟩ => ⟨S_, .i32⟩
  | .hbm, ⟨25, _⟩ => ⟨S128x1, .i32⟩
  | .hbm, ⟨26, _⟩ => ⟨S128x1, .i32⟩
  | .hbm, ⟨27, _⟩ => ⟨S128x256, .i32⟩
  | .hbm, ⟨28, _⟩ => ⟨S128x256, .i32⟩
  | .hbm, ⟨29, _⟩ => ⟨S128x256, .i32⟩
  | .hbm, ⟨30, _⟩ => ⟨S_, .i32⟩
  | .hbm, ⟨31, _⟩ => ⟨S128x256, .i32⟩
  | .hbm, ⟨32, _⟩ => ⟨S128x256, .i1⟩
  | .hbm, ⟨33, _⟩ => ⟨S_, .i32⟩
  | .hbm, ⟨34, _⟩ => ⟨S128x256, .i32⟩
  | .hbm, ⟨35, _⟩ => ⟨S128x256, .i1⟩
  | .hbm, ⟨36, _⟩ => ⟨S128x256, .i1⟩
  | .hbm, ⟨37, _⟩ => ⟨S32, .i32⟩
  | .hbm, ⟨38, _⟩ => ⟨S32x1x1, .i32⟩
  | .hbm, ⟨39, _⟩ => ⟨S_, .i32⟩
  | .hbm, ⟨40, _⟩ => ⟨S32x1x1, .i32⟩
  | .hbm, ⟨41, _⟩ => ⟨S32x1x1, .i32⟩
  | .hbm, ⟨42, _⟩ => ⟨S_, .i32⟩
  | .hbm, ⟨43, _⟩ => ⟨S1x256, .i32⟩
  | .hbm, ⟨44, _⟩ => ⟨S1x256, .i32⟩
  | .hbm, ⟨45, _⟩ => ⟨S1x1x256, .i32⟩
  | .hbm, ⟨46, _⟩ => ⟨S32x1x256, .i32⟩
  | .hbm, ⟨47, _⟩ => ⟨S32x1x256, .i32⟩
  | .hbm, ⟨48, _⟩ => ⟨S32x1x256, .i32⟩
  | .hbm, ⟨49, _⟩ => ⟨S1x128x256, .i1⟩
  | .hbm, ⟨50, _⟩ => ⟨S_, .i32⟩
  | .hbm, ⟨51, _⟩ => ⟨S32x1x256, .i32⟩
  | .hbm, ⟨52, _⟩ => ⟨S32x1x256, .i1⟩
  | .hbm, ⟨53, _⟩ => ⟨S32x128x256, .i1⟩
  | .hbm, ⟨54, _⟩ => ⟨S32x128x256, .i1⟩
  | .hbm, ⟨55, _⟩ => ⟨S32x128x256, .i1⟩
  | .hbm, ⟨56, _⟩ => ⟨S32x1x128x256, .i1⟩
  | .hbm, ⟨57, _⟩ => ⟨S_, .f32⟩
  | .hbm, ⟨58, _⟩ => ⟨S_, .f32⟩
  | .hbm, ⟨59, _⟩ => ⟨S8x32x6x128x256, .i1⟩
  | .hbm, ⟨60, _⟩ => ⟨S8x32x6x128x256, .f32⟩
  | .hbm, ⟨61, _⟩ => ⟨S8x32x6x128x256, .f32⟩
  | .hbm, ⟨62, _⟩ => ⟨S_, .f32⟩
  | .hbm, ⟨63, _⟩ => ⟨S8x32x6x128, .f32⟩
  | .hbm, ⟨64, _⟩ => ⟨S8x32x6x128x1, .f32⟩
  | .hbm, ⟨65, _⟩ => ⟨S8x32x6x128x256, .f32⟩
  | .hbm, ⟨66, _⟩ => ⟨S8x32x6x128x256, .f32⟩
  | .hbm, ⟨67, _⟩ => ⟨S8x32x6x128x256, .f32⟩
  | .hbm, ⟨68, _⟩ => ⟨S_, .f32⟩
  | .hbm, ⟨69, _⟩ => ⟨S8x32x6x128, .f32⟩
  | .hbm, ⟨70, _⟩ => ⟨S8x32x6x128x1, .f32⟩
  | .hbm, ⟨71, _⟩ => ⟨S8x32x6x128x256, .f32⟩
  | .hbm, ⟨72, _⟩ => ⟨S8x32x6x128x256, .f32⟩
  | .hbm, ⟨73, _⟩ => ⟨S8x32x6x128x128, .f32⟩
  | .hbm, ⟨74, _⟩ => ⟨S8x32x128x6x128, .f32⟩
  | .hbm, ⟨75, _⟩ => ⟨S8x32x6x128x1, .f32⟩
  | .hbm, ⟨76, _⟩ => ⟨S8x32x6x128x1, .f32⟩
  | .hbm, ⟨77, _⟩ => ⟨S8x32x6x128, .f32⟩
  | .hbm, ⟨78, _⟩ => ⟨S8x32x128x6, .f32⟩
  | .hbm, ⟨79, _⟩ => ⟨S8x32x128x6x1, .f32⟩
  | .hbm, ⟨80, _⟩ => ⟨S8x32x128x6x128, .f32⟩
  | .hbm, ⟨81, _⟩ => ⟨S8x4096x768, .f32⟩
  | .hbm, ⟨82, _⟩ => ⟨S8x4096x768, .f32⟩
  | _, _ => ⟨S8x4096x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_call1_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_6 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩

abbrev nD : Nat := 1
abbrev τ : Topo := Topo.v7x

variable {F : FTy → Type} [FloatOps F]
-- ==== Proof.Lru.RunA.lean ====
/- The body of the recurrence kernel run at the first block of a batch row, over any float values. -/
module

public import proofs.«01_k».proof.Proof.Gen.KernelIdeal.Loops
public import proofs.«01_k».proof.Proof.Gen.KernelIdeal.Frame

@[expose] public section

set_option maxRecDepth 16384

noncomputable section

namespace Cert.KernelIdeal.Lru

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The condition under which the body clears its carried scratches: the second grid coordinate is 0. -/
abbrev cond0 (i : grid0.Coords) : Prop :=
  (Scalar.cmpi .ne (Scalar.extui (Scalar.cmpi .eq (BitVec.ofNat 32 (i 1).val) 0#32)) 0#32) = 1#1

set_option maxHeartbeats 4000000 in
/-- The body run once. At the first block of a batch row the two carried scratches are set to zero, so what they held does not matter.
    The pieces it leaves in the output block, in the carried row and in the carried halo are what the run finds. -/
def runA (c : Dev nD) (i : grid0.Coords)
  (arg2 : Memref sig .tc .vmem S1x256x2048 .f32) (harg2 : arg2.IsWhole) (arg3 : Memref sig .tc .vmem S1x256x2048 .f32) (harg3 : arg3.IsWhole) (arg4 : Memref sig .tc .vmem S4x2048 .f32) (harg4 : arg4.IsWhole)
  (arg5 : Memref sig .tc .vmem S1x2048 .f32) (harg5 : arg5.IsWhole) (arg6 : Memref sig .tc .vmem S8x256x256 .bf16) (harg6 : arg6.IsWhole) (arg7 : Memref sig .tc .vmem S8x256x256 .bf16) (harg7 : arg7.IsWhole)
  (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole)
  (arg11 : Memref sig .tc .vmem S1x256x2048 .bf16) (harg11 : arg11.IsWhole) (arg12 : Memref sig .tc .vmem S256x2048 .f32) (harg12 : arg12.IsWhole) (arg13 : Memref sig .tc .vmem S256x2048 .f32) (harg13 : arg13.IsWhole)
  (arg14 : Memref sig .tc .vmem S1x2048 .f32) (harg14 : arg14.IsWhole) (arg15 : Memref sig .tc .vmem S256x2048 .f32) (harg15 : arg15.IsWhole) (arg16 : Memref sig .tc .vmem S8x2048 .f32) (harg16 : arg16.IsWhole)
  (arg17 : Memref sig .tc .vmem S264x2048 .f32) (harg17 : arg17.IsWhole)
  (hc : cond0 i) (x0 : Vec F S1x256x2048 .f32) (x1 : Vec F S1x256x2048 .f32) (x2 : Vec F S4x2048 .f32) (x3 : Vec F S1x2048 .f32) (x4 : Vec F S8x256x256 .bf16) (x5 : Vec F S8x256x256 .bf16) (x6 : Vec F S1x2048 .f32) (x7 : Vec F S1x2048 .f32) (x8 : Vec F S1x2048 .f32)  :
    Σ' (L11 : List (View.Piece (Elt F) S1x256x2048 .bf16)) (L14 : List (View.Piece (Elt F) S1x2048 .f32)),
      { L16 : List (View.Piece (Elt F) S8x2048 .f32) // ∀ (E : Set ℕ) (K : PUnit → sProp 𝕄),
        iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4 ∗ owns (c : Thread nD τ) arg7 fullShare x5
          ∗ owns (c : Thread nD τ) arg8 fullShare x6 ∗ owns (c : Thread nD τ) arg9 fullShare x7 ∗ owns (c : Thread nD τ) arg10 fullShare x8
          ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
          ∗ (∃ d, owns (c : Thread nD τ) arg15 fullShare d) ∗ (∃ d, owns (c : Thread nD τ) arg16 fullShare d) ∗ (∃ d, owns (c : Thread nD τ) arg17 fullShare d)
          ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4 ∗ owns (c : Thread nD τ) arg7 fullShare x5
          ∗ owns (c : Thread nD τ) arg8 fullShare x6 ∗ owns (c : Thread nD τ) arg9 fullShare x7 ∗ owns (c : Thread nD τ) arg10 fullShare x8
            ∗ (∃ f, arg11.view.loc (c : Thread nD τ) ↦[arg11.view.set]{fullShare} arg11.view.writes (Elt F) f L11) ∗ (∃ f, arg12.view.loc (c : Thread nD τ) ↦[arg12.view.set]{fullShare} f) ∗ (∃ f, arg13.view.loc (c : Thread nD τ) ↦[arg13.view.set]{fullShare} f)
            ∗ (∃ f, arg14.view.loc (c : Thread nD τ) ↦[arg14.view.set]{fullShare} arg14.view.writes (Elt F) f L14) ∗ (∃ f, arg15.view.loc (c : Thread nD τ) ↦[arg15.view.set]{fullShare} f)
            ∗ (∃ f, arg16.view.loc (c : Thread nD τ) ↦[arg16.view.set]{fullShare} arg16.view.writes (Elt F) f L16) ∗ (∃ f, arg17.view.loc (c : Thread nD τ) ↦[arg17.view.set]{fullShare} f)) -∗ K ⟨⟩))
        ⊢ wp frame (wpE (defs₀ (F := F)) Variants.none c none) E (cc0_lru_scan i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0_lru_scan_eq_skeleton]; unfold cc0_lru_scan_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17

end Cert.KernelIdeal.Lru

end
-- ==== Proof.Lru.RunB.lean ====
/- The body of the recurrence kernel run at a later block, over any float values. -/
module

public import proofs.«01_k».proof.Proof.Lru.RunA

@[expose] public section

set_option maxRecDepth 16384

noncomputable section

namespace Cert.KernelIdeal.Lru

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- The body run once. At a later block the body reads the two carried scratches: the row `h0` of the recurrence and the last eight input rows `l0`.
    The pieces it leaves in the output block, in the carried row and in the carried halo are what the run finds. -/
def runB (c : Dev nD) (i : grid0.Coords)
  (arg2 : Memref sig .tc .vmem S1x256x2048 .f32) (harg2 : arg2.IsWhole) (arg3 : Memref sig .tc .vmem S1x256x2048 .f32) (harg3 : arg3.IsWhole) (arg4 : Memref sig .tc .vmem S4x2048 .f32) (harg4 : arg4.IsWhole)
  (arg5 : Memref sig .tc .vmem S1x2048 .f32) (harg5 : arg5.IsWhole) (arg6 : Memref sig .tc .vmem S8x256x256 .bf16) (harg6 : arg6.IsWhole) (arg7 : Memref sig .tc .vmem S8x256x256 .bf16) (harg7 : arg7.IsWhole)
  (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole)
  (arg11 : Memref sig .tc .vmem S1x256x2048 .bf16) (harg11 : arg11.IsWhole) (arg12 : Memref sig .tc .vmem S256x2048 .f32) (harg12 : arg12.IsWhole) (arg13 : Memref sig .tc .vmem S256x2048 .f32) (harg13 : arg13.IsWhole)
  (arg14 : Memref sig .tc .vmem S1x2048 .f32) (harg14 : arg14.IsWhole) (arg15 : Memref sig .tc .vmem S256x2048 .f32) (harg15 : arg15.IsWhole) (arg16 : Memref sig .tc .vmem S8x2048 .f32) (harg16 : arg16.IsWhole)
  (arg17 : Memref sig .tc .vmem S264x2048 .f32) (harg17 : arg17.IsWhole)
  (hc : ¬ cond0 i) (x0 : Vec F S1x256x2048 .f32) (x1 : Vec F S1x256x2048 .f32) (x2 : Vec F S4x2048 .f32) (x3 : Vec F S1x2048 .f32) (x4 : Vec F S8x256x256 .bf16) (x5 : Vec F S8x256x256 .bf16) (x6 : Vec F S1x2048 .f32) (x7 : Vec F S1x2048 .f32) (x8 : Vec F S1x2048 .f32) (h0 : Vec F S1x2048 .f32) (l0 : Vec F S8x2048 .f32) :
    Σ' (L11 : List (View.Piece (Elt F) S1x256x2048 .bf16)) (L14 : List (View.Piece (Elt F) S1x2048 .f32)),
      { L16 : List (View.Piece (Elt F) S8x2048 .f32) // ∀ (E : Set ℕ) (K : PUnit → sProp 𝕄),
        iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4 ∗ owns (c : Thread nD τ) arg7 fullShare x5
          ∗ owns (c : Thread nD τ) arg8 fullShare x6 ∗ owns (c : Thread nD τ) arg9 fullShare x7 ∗ owns (c : Thread nD τ) arg10 fullShare x8
          ∗ (∃ d, owns (c : Thread nD τ) arg11 fullShare d) ∗ (∃ d, owns (c : Thread nD τ) arg12 fullShare d) ∗ (∃ d, owns (c : Thread nD τ) arg13 fullShare d) ∗ owns (c : Thread nD τ) arg14 fullShare h0
          ∗ (∃ d, owns (c : Thread nD τ) arg15 fullShare d) ∗ owns (c : Thread nD τ) arg16 fullShare l0 ∗ (∃ d, owns (c : Thread nD τ) arg17 fullShare d)
          ∗ (iprop(owns (c : Thread nD τ) arg2 fullShare x0 ∗ owns (c : Thread nD τ) arg3 fullShare x1 ∗ owns (c : Thread nD τ) arg4 fullShare x2
          ∗ owns (c : Thread nD τ) arg5 fullShare x3 ∗ owns (c : Thread nD τ) arg6 fullShare x4 ∗ owns (c : Thread nD τ) arg7 fullShare x5
          ∗ owns (c : Thread nD τ) arg8 fullShare x6 ∗ owns (c : Thread nD τ) arg9 fullShare x7 ∗ owns (c : Thread nD τ) arg10 fullShare x8
            ∗ (∃ f, arg11.view.loc (c : Thread nD τ) ↦[arg11.view.set]{fullShare} arg11.view.writes (Elt F) f L11) ∗ (∃ f, arg12.view.loc (c : Thread nD τ) ↦[arg12.view.set]{fullShare} f) ∗ (∃ f, arg13.view.loc (c : Thread nD τ) ↦[arg13.view.set]{fullShare} f)
            ∗ (∃ f, arg14.view.loc (c : Thread nD τ) ↦[arg14.view.set]{fullShare} arg14.view.writes (Elt F) f L14) ∗ (∃ f, arg15.view.loc (c : Thread nD τ) ↦[arg15.view.set]{fullShare} f)
            ∗ (∃ f, arg16.view.loc (c : Thread nD τ) ↦[arg16.view.set]{fullShare} arg16.view.writes (Elt F) f L16) ∗ (∃ f, arg17.view.loc (c : Thread nD τ) ↦[arg17.view.set]{fullShare} f)) -∗ K ⟨⟩))
        ⊢ wp frame (wpE (defs₀ (F := F)) Variants.none c none) E (cc0_lru_scan i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0_lru_scan_eq_skeleton]; unfold cc0_lru_scan_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%f14, %hf14, H14⟩, ⟨%d15, %f15, -, H15⟩, ⟨%f16, %hf16, H16⟩, ⟨%d17, %f17, -, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg14.eq_unread hf14; obtain rfl := harg16.eq_unread hf16
    sl_exec (disch := first | sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17

end Cert.KernelIdeal.Lru

end
-- ==== Proof.Lru.Loop.lean ====
/- The loop over the rows of a block: each row of the state is the row before, scaled and moved, and the
   scratch of the inputs ends holding the states. Over any float values. -/
module

public import proofs.«01_k».proof.Proof.Lru.RunB
public import Idealize.ShloMosaic.Lib.WritesUnit
public import Idealize.ShloMosaic.Lib.Pipeline.Value
public import Idealize.ShloMosaic.Lib.Pointwise

@[expose] public section

set_option maxRecDepth 16384

noncomputable section

namespace Cert.KernelIdeal.Lru

open Cert.KernelIdeal.Gen
open Idealize.ShloMosaic Idealize.ShloMosaic.TcCoe Idealize.ShloMosaic.Tactic

variable {F : FTy → Type} [FloatOps F]

/-- Row `t` of a block of 256 rows. -/
def rowOf (A : Vec F S256x2048 .f32) (t : ℕ) : Vec F S1x2048 .f32 :=
  fun y => A (ix2 ⟨t % 256, Nat.mod_lt _ (by decide)⟩ (y 1))

/-- One step of the recurrence on a row: the state times the row's decay, plus the row's input. -/
def rowStep (a h u : Vec F S1x2048 .f32) : Vec F S1x2048 .f32 := addf (mulf a h) u

/-- The state after `t` rows of a block, from the state `h0` it starts with. -/
def hrow (A U : Vec F S256x2048 .f32) (h0 : Vec F S1x2048 .f32) : ℕ → Vec F S1x2048 .f32
  | 0 => h0
  | t + 1 => rowStep (rowOf A t) (hrow A U h0 t) (rowOf U t)

/-- The states after every row of a block. -/
def hrows (A U : Vec F S256x2048 .f32) (h0 : Vec F S1x2048 .f32) : Vec F S256x2048 .f32 :=
  fun y => hrow A U h0 ((y 0).val + 1) (ix2 0 (y 1))

theorem off1_eq : ∀ (k : Fin k0_t1_loop.trips) (r : Fin 8), k0_off1 k (BitVec.ofNat 32 r.val) = ![8 * k.val + r.val, 0] := by
  decide +kernel

theorem trips_eq : k0_t1_loop.trips = 32 := by decide +kernel

/-- A load of one row at an offset known to be row `n` is that row. -/
theorem readAt_row (v : View sig .tc .vmem S256x2048 .f32) (f : BufTy.Contents (Elt F) v.ty) {off : Fin 2 → ℕ} {n : ℕ}
    (h : off = ![n, 0]) (inb : ∀ a, off a + (![1, 2048] : Fin 2 → ℕ) a ≤ S256x2048.size a) :
    v.readAt (Elt F) (Rect.unit (s := S256x2048) off ![1, 2048] inb).toLoadRect f = rowOf (v.read (Elt F) f) n := by
  subst h
  have hn : n + 1 ≤ 256 := inb 0
  funext y
  show v.read (Elt F) f _ = v.read (Elt F) f _
  congr 1
  funext a
  have hy : (y 0).val < 1 := (y 0).isLt
  fin_cases a
  · apply Fin.ext
    show n + 1 * (y 0).val = n % 256
    rw [Nat.mod_eq_of_lt (by omega)]; omega
  · apply Fin.ext
    show 0 + 1 * (y 1).val = (y 1).val
    omega

/-- A store of one row, last, seen from every row. -/
theorem read_row_write (v : View sig .tc .vmem S256x2048 .f32) (f : BufTy.Contents (Elt F) v.ty) {off : Fin 2 → ℕ} {n : ℕ}
    (h : off = ![n, 0]) (inb : ∀ a, off a + (![1, 2048] : Fin 2 → ℕ) a ≤ S256x2048.size a)
    (w : Vec F S1x2048 .f32) (L : List (View.Piece (Elt F) S256x2048 .f32)) (t : Fin 256) (j : Fin 2048) :
    v.read (Elt F) (v.writes (Elt F) f ((⟨Rect.unit (s := S256x2048) off ![1, 2048] inb, w⟩ : View.Piece (Elt F) S256x2048 .f32) :: L)) (ix2 t j)
      = if t.val = n then w (ix2 0 j) else v.read (Elt F) (v.writes (Elt F) f L) (ix2 t j) := by
  split
  · next e =>
    exact View.read_writes_cons_rows_of_mem _ _ inb w L (ix2 t j) (ix2 (0 : Fin 1) j) h (by show t.val = n + 0; omega) rfl
  · next e =>
    exact View.read_writes_cons_rows_of_not_mem (W := 1) _ _ inb w L (ix2 t j) h rfl (by show t.val < n ∨ n + 1 ≤ t.val; omega)

section
variable (c : Dev nD) (i : grid0.Coords)
  (arg2 : Memref sig .tc .vmem S1x256x2048 .f32) (harg2 : arg2.IsWhole) (arg3 : Memref sig .tc .vmem S1x256x2048 .f32) (harg3 : arg3.IsWhole) (arg4 : Memref sig .tc .vmem S4x2048 .f32) (harg4 : arg4.IsWhole)
  (arg5 : Memref sig .tc .vmem S1x2048 .f32) (harg5 : arg5.IsWhole) (arg6 : Memref sig .tc .vmem S8x256x256 .bf16) (harg6 : arg6.IsWhole) (arg7 : Memref sig .tc .vmem S8x256x256 .bf16) (harg7 : arg7.IsWhole)
  (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole)
  (arg11 : Memref sig .tc .vmem S1x256x2048 .bf16) (harg11 : arg11.IsWhole) (arg12 : Memref sig .tc .vmem S256x2048 .f32) (harg12 : arg12.IsWhole) (arg13 : Memref sig .tc .vmem S256x2048 .f32) (harg13 : arg13.IsWhole)
  (arg14 : Memref sig .tc .vmem S1x2048 .f32) (harg14 : arg14.IsWhole) (arg15 : Memref sig .tc .vmem S256x2048 .f32) (harg15 : arg15.IsWhole) (arg16 : Memref sig .tc .vmem S8x2048 .f32) (harg16 : arg16.IsWhole)
  (arg17 : Memref sig .tc .vmem S264x2048 .f32) (harg17 : arg17.IsWhole)

/-- One trip of the loop, eight rows: from the state after `8 * k` rows it leaves the state after eight more, and those
    eight states in the scratch's eight rows. -/
theorem trip_eq (A U : Vec F S256x2048 .f32) (h0 : Vec F S1x2048 .f32)
    (X : BufTy.Contents (Elt F) arg12.view.ty) (hX : arg12.view.read (Elt F) X = A) (k : Fin k0_t1_loop.trips)
    (f : BufTy.Contents (Elt F) arg13.view.ty)
    (hf : ∀ t : Fin 256, 8 * k.val ≤ t.val → ∀ j : Fin 2048, arg13.view.read (Elt F) f (ix2 t j) = U (ix2 t j)) :
    tripR_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X k (hrow A U h0 (8 * k.val)) f = hrow A U h0 (8 * k.val + 8)
    ∧ ∀ (t : Fin 256) (j : Fin 2048),
      arg13.view.read (Elt F) (arg13.view.writes (Elt F) f (tripL_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X k (hrow A U h0 (8 * k.val)) f)) (ix2 t j)
        = if 8 * k.val ≤ t.val ∧ t.val < 8 * k.val + 8 then hrow A U h0 (t.val + 1) (ix2 0 j) else arg13.view.read (Elt F) f (ix2 t j) := by
  have hk : k.val < 32 := lt_of_lt_of_eq k.isLt trips_eq
  have hrowU : ∀ r, r < 8 → rowOf (arg13.view.read (Elt F) f) (8 * k.val + r) = rowOf U (8 * k.val + r) := fun r hr => by
    funext y
    refine hf ⟨(8 * k.val + r) % 256, _⟩ ?_ (y 1)
    show 8 * k.val ≤ (8 * k.val + r) % 256
    rw [Nat.mod_eq_of_lt (by omega)]; omega
  have au : ∀ r : Fin 8, arg13.view.readAt (Elt F) (Rect.unit (s := S256x2048) (k0_off1 k (BitVec.ofNat 32 r.val)) ![1, 2048] (k0_off1_inb k r)).toLoadRect f
      = rowOf U (8 * k.val + r.val) := fun r => (readAt_row arg13.view f (off1_eq k r) (k0_off1_inb k r)).trans (hrowU r.val r.isLt)
  have aa : ∀ r : Fin 8, arg12.view.readAt (Elt F) (Rect.unit (s := S256x2048) (k0_off1 k (BitVec.ofNat 32 r.val)) ![1, 2048] (k0_off1_inb k r)).toLoadRect X
      = rowOf A (8 * k.val + r.val) := fun r => hX ▸ readAt_row arg12.view X (off1_eq k r) (k0_off1_inb k r)
  have hr : trip_k0_t1.sl.r arg12 arg13 X k (hrow A U h0 (8 * k.val)) f = hrow A U h0 (8 * k.val + 3) := by
    refine (show _ = k0_pay13 _ _ _ _ _ _ _ from rfl).trans ?_
    refine (congrArg₂ (fun (a : Vec F S1x2048 .f32) b => k0_pay13 _ a b _ _ _ _) (aa 0) (au 0)).trans ?_
    refine (congrArg₂ (fun (a : Vec F S1x2048 .f32) b => k0_pay13 _ _ _ a b _ _) (aa 1) (au 1)).trans ?_
    exact congrArg₂ (fun (a : Vec F S1x2048 .f32) b => k0_pay13 _ _ _ _ _ a b) (aa 2) (au 2)
  have w1 : trip_k0_t1.sl.v568 arg13 k f = rowOf U (8 * k.val + 1) := au 1
  have w3 : trip_k0_t1.sl.v594 arg13 k f = rowOf U (8 * k.val + 3) := au 3
  have w4 : trip_k0_t1.sl.v607 arg13 k f = rowOf U (8 * k.val + 4) := au 4
  have w6 : trip_k0_t1.sl.v633 arg13 k f = rowOf U (8 * k.val + 6) := au 6
  have w7 : trip_k0_t1.sl.v646 arg13 k f = rowOf U (8 * k.val + 7) := au 7
  have hr1 : trip_k0_t1.sl.r_1 arg12 arg13 X k (hrow A U h0 (8 * k.val)) f = hrow A U h0 (8 * k.val + 6) := by
    refine (show _ = k0_pay19 (trip_k0_t1.sl.r arg12 arg13 X k (hrow A U h0 (8 * k.val)) f) _ _ _ _ _ _ from rfl).trans ?_
    rw [hr]
    refine (congrArg₂ (fun (a : Vec F S1x2048 .f32) b => k0_pay19 _ a b _ _ _ _) (aa 3) (au 3)).trans ?_
    refine (congrArg₂ (fun (a : Vec F S1x2048 .f32) b => k0_pay19 _ _ _ a b _ _) (aa 4) (au 4)).trans ?_
    exact congrArg₂ (fun (a : Vec F S1x2048 .f32) b => k0_pay19 _ _ _ _ _ a b) (aa 5) (au 5)
  have a0 : arg12.view.readAt (Elt F) (Rect.unit (s := S256x2048) (k0_off1 k 0#32) ![1, 2048] (k0_off1_inb k 0)).toLoadRect X = rowOf A (8 * k.val + 0) := aa 0
  have o0 : k0_off1 k 0#32 = ![8 * k.val + 0, 0] := off1_eq k 0
  have a1 : arg12.view.readAt (Elt F) (Rect.unit (s := S256x2048) (k0_off1 k 1#32) ![1, 2048] (k0_off1_inb k 1)).toLoadRect X = rowOf A (8 * k.val + 1) := aa 1
  have o1 : k0_off1 k 1#32 = ![8 * k.val + 1, 0] := off1_eq k 1
  have o2 : k0_off1 k 2#32 = ![8 * k.val + 2, 0] := off1_eq k 2
  have a3 : arg12.view.readAt (Elt F) (Rect.unit (s := S256x2048) (k0_off1 k 3#32) ![1, 2048] (k0_off1_inb k 3)).toLoadRect X = rowOf A (8 * k.val + 3) := aa 3
  have o3 : k0_off1 k 3#32 = ![8 * k.val + 3, 0] := off1_eq k 3
  have a4 : arg12.view.readAt (Elt F) (Rect.unit (s := S256x2048) (k0_off1 k 4#32) ![1, 2048] (k0_off1_inb k 4)).toLoadRect X = rowOf A (8 * k.val + 4) := aa 4
  have o4 : k0_off1 k 4#32 = ![8 * k.val + 4, 0] := off1_eq k 4
  have o5 : k0_off1 k 5#32 = ![8 * k.val + 5, 0] := off1_eq k 5
  have a6 : arg12.view.readAt (Elt F) (Rect.unit (s := S256x2048) (k0_off1 k 6#32) ![1, 2048] (k0_off1_inb k 6)).toLoadRect X = rowOf A (8 * k.val + 6) := aa 6
  have o6 : k0_off1 k 6#32 = ![8 * k.val + 6, 0] := off1_eq k 6
  have a7 : arg12.view.readAt (Elt F) (Rect.unit (s := S256x2048) (k0_off1 k 7#32) ![1, 2048] (k0_off1_inb k 7)).toLoadRect X = rowOf A (8 * k.val + 7) := aa 7
  have o7 : k0_off1 k 7#32 = ![8 * k.val + 7, 0] := off1_eq k 7
  have u0 : arg13.view.readAt (Elt F) (Rect.unit (s := S256x2048) (k0_off1 k 0#32) ![1, 2048] (k0_off1_inb k 0)).toLoadRect f = rowOf U (8 * k.val + 0) := au 0
  have s3 : ∀ v : Vec F S1x2048 .f32, shapeCast S1x2048 v shapeCasts_S1x2048_S1x2048 = v := fun v => shapeCast_self v _
  unfold tripL_k0_t1 tripR_k0_t1 trip_k0_t1
  dsimp only
  simp only [hr, hr1, w1, w3, w4, w6, w7, a0, a1, a3, a4, a6, a7, u0]
  refine ⟨rfl, fun t j => ?_⟩
  rw [read_row_write arg13.view f o7, read_row_write arg13.view f o6, read_row_write arg13.view f o5, read_row_write arg13.view f o4,
    read_row_write arg13.view f o3, read_row_write arg13.view f o2, read_row_write arg13.view f o1, read_row_write arg13.view f o0,
    View.writes_nil]
  unfold k0_pay6 k0_pay4 k0_pay2 k0_pay18 k0_pay16 k0_pay14 k0_pay12 k0_pay10
  simp only [s3]
  by_cases ht : 8 * k.val ≤ t.val ∧ t.val < 8 * k.val + 8
  · rw [if_pos ht]
    obtain ⟨r, hr8, e⟩ : ∃ r, r < 8 ∧ t.val = 8 * k.val + r := ⟨t.val - 8 * k.val, by omega, by omega⟩
    rw [e]
    interval_cases r <;> simp <;> rfl
  · rw [if_neg ht]
    rw [if_neg (by omega), if_neg (by omega), if_neg (by omega), if_neg (by omega), if_neg (by omega), if_neg (by omega), if_neg (by omega), if_neg (by omega)]

/-- The whole loop: after `k` trips the state of `8 * k` rows is carried, and the scratch holds the states in the rows done
    and the inputs in the rest. -/
theorem loop_eq (A U : Vec F S256x2048 .f32) (h0 : Vec F S1x2048 .f32)
    (X : BufTy.Contents (Elt F) arg12.view.ty) (hX : arg12.view.read (Elt F) X = A)
    (G : BufTy.Contents (Elt F) arg13.view.ty) (hG : arg13.view.read (Elt F) G = U) :
    ∀ k, k ≤ 32 → (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X G h0 k).1 = hrow A U h0 (8 * k)
      ∧ ∀ (t : Fin 256) (j : Fin 2048),
        arg13.view.read (Elt F) (arg13.view.writes (Elt F) G (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X G h0 k).2) (ix2 t j)
          = if t.val < 8 * k then hrow A U h0 (t.val + 1) (ix2 0 j) else U (ix2 t j)
  | 0, _ => ⟨rfl, fun t j => by rw [if_neg (by omega)]; exact congrFun hG _⟩
  | k + 1, hk => by
    obtain ⟨ih1, ih2⟩ := loop_eq A U h0 X hX G hG k (by omega)
    have hkt : k < k0_t1_loop.trips := by rw [trips_eq]; omega
    have hs := st_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X G h0 ⟨k, hkt⟩
    have ht := trip_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 A U h0 X hX ⟨k, hkt⟩
      (arg13.view.writes (Elt F) G (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X G h0 k).2)
      (fun t h j => by rw [ih2, if_neg (by show ¬ _; have : 8 * k ≤ t.val := h; omega)])
    dsimp only at hs ht
    rw [hs, ih1]
    refine ⟨ht.1, fun t j => ?_⟩
    rw [View.writes_append, ht.2 t j, ih2]
    by_cases h1 : t.val < 8 * k
    · rw [if_neg (by omega), if_pos h1, if_pos (by omega)]
    · by_cases h2 : t.val < 8 * k + 8
      · rw [if_pos (by omega), if_pos (by omega)]
      · rw [if_neg (by omega), if_neg h1, if_neg (by omega)]

end
end Cert.KernelIdeal.Lru
end
-- ==== Proof.Lru.Spec.lean ====
/- What one block of the recurrence kernel computes, as functions of the block's inputs and of the two scratches
   carried from the block before. Over any float values. -/
module

public import proofs.«01_k».proof.Proof.Lru.Loop

@[expose] public section

set_option maxRecDepth 16384

noncomputable section

namespace Cert.KernelIdeal.Lru

open Cert.KernelIdeal.Gen
open Idealize.ShloMosaic Idealize.ShloMosaic.TcCoe Idealize.ShloMosaic.Tactic

variable {F : FTy → Type} [FloatOps F]

/-- The eight rows before the block, then the block's own rows. -/
def bufV (l : Vec F S8x2048 .f32) (x : Vec F S1x256x2048 .f32) : Vec F S264x2048 .f32 := fun y =>
  if h : (y 0).val < 8 then l (ix2 ⟨(y 0).val, h⟩ (y 1))
  else x (ix3 0 ⟨(y 0).val - 8, by have : (y 0).val < 264 := (y 0).isLt; omega⟩ (y 1))

/-- The convolved block: four rows of the input ending at each row, weighted, plus the bias. -/
def xcV (cw : Vec F S4x2048 .f32) (cb : Vec F S1x2048 .f32) (l : Vec F S8x2048 .f32) (x : Vec F S1x256x2048 .f32) :
    Vec F S256x2048 .f32 :=
  k0_pay27 cw (k0_pay25 cw cb x) (k0_pay26 cw)
    (View.ld (bufV l x) (Rect.unit ![5, 0] S256x2048.size inb_S264x2048_S256x2048_5_0))
    (View.ld (bufV l x) (Rect.unit ![6, 0] S256x2048.size inb_S264x2048_S256x2048_6_0))
    (View.ld (bufV l x) (Rect.unit ![7, 0] S256x2048.size inb_S264x2048_S256x2048_7_0))

/-- The decays of one block of 256 columns. -/
def aBlk (xb : Vec F S256x256 .f32) (wa : Vec F S1x256x256 .bf16) (ba lam : Vec F S1x256 .f32) : Vec F S256x256 .f32 :=
  k0_pay32 (k0_pay29 xb wa ba) lam

/-- The inputs to the recurrence of one block of 256 columns. -/
def uBlk (xb : Vec F S256x256 .f32) (wa wx : Vec F S1x256x256 .bf16) (ba bx lam : Vec F S1x256 .f32) : Vec F S256x256 .f32 :=
  k0_pay33 xb (k0_pay29 xb wa ba) (k0_pay30 xb wx) bx lam

/-- Columns `256 * n` on of a block of rows. -/
def colsOf (X : Vec F S256x2048 .f32) (n : Fin 8) : Vec F S256x256 .f32 :=
  fun y => X (ix2 (y 0) ⟨256 * n.val + (y 1).val, by have : (y 1).val < 256 := (y 1).isLt; omega⟩)

/-- Columns `256 * n` on of a single row. -/
def rowCols (X : Vec F S1x2048 .f32) (n : Fin 8) : Vec F S1x256 .f32 :=
  fun y => X (ix2 0 ⟨256 * n.val + (y 1).val, by have : (y 1).val < 256 := (y 1).isLt; omega⟩)

/-- Weight block `n`. -/
def wOf (W : Vec F S8x256x256 .bf16) (n : Fin 8) : Vec F S1x256x256 .bf16 := fun y => W (ix3 n (y 1) (y 2))

/-- The block of columns an index lies in, and its place there. -/
def blkNo (y : S256x2048.Idx) : Fin 8 := ⟨(y 1).val / 256, by have : (y 1).val < 2048 := (y 1).isLt; omega⟩
/-- The index within its block of columns. -/
def blkIx (y : S256x2048.Idx) : S256x256.Idx := ix2 (y 0) ⟨(y 1).val % 256, Nat.mod_lt _ (by decide)⟩

/-- The decays of a block of rows. -/
def AV (xc : Vec F S256x2048 .f32) (wa : Vec F S8x256x256 .bf16) (ba lam : Vec F S1x2048 .f32) : Vec F S256x2048 .f32 := fun y =>
  aBlk (colsOf xc (blkNo y)) (wOf wa (blkNo y)) (rowCols ba (blkNo y)) (rowCols lam (blkNo y)) (blkIx y)

/-- The inputs to the recurrence of a block of rows. -/
def UV (xc : Vec F S256x2048 .f32) (wa wx : Vec F S8x256x256 .bf16) (ba bx lam : Vec F S1x2048 .f32) : Vec F S256x2048 .f32 := fun y =>
  uBlk (colsOf xc (blkNo y)) (wOf wa (blkNo y)) (wOf wx (blkNo y)) (rowCols ba (blkNo y)) (rowCols bx (blkNo y)) (rowCols lam (blkNo y)) (blkIx y)

/-- The eight stores of the decays, last first. -/
def piecesA (xc : Vec F S256x2048 .f32) (wa : Vec F S8x256x256 .bf16) (ba lam : Vec F S1x2048 .f32) :
    List (View.Piece (Elt F) S256x2048 .f32) :=
  [⟨Rect.unit ![0, 1792] S256x256.size inb_S256x2048_S256x256_0_1792, aBlk (colsOf xc 7) (wOf wa 7) (rowCols ba 7) (rowCols lam 7)⟩,
   ⟨Rect.unit ![0, 1536] S256x256.size inb_S256x2048_S256x256_0_1536, aBlk (colsOf xc 6) (wOf wa 6) (rowCols ba 6) (rowCols lam 6)⟩,
   ⟨Rect.unit ![0, 1280] S256x256.size inb_S256x2048_S256x256_0_1280, aBlk (colsOf xc 5) (wOf wa 5) (rowCols ba 5) (rowCols lam 5)⟩,
   ⟨Rect.unit ![0, 1024] S256x256.size inb_S256x2048_S256x256_0_1024, aBlk (colsOf xc 4) (wOf wa 4) (rowCols ba 4) (rowCols lam 4)⟩,
   ⟨Rect.unit ![0, 768] S256x256.size inb_S256x2048_S256x256_0_768, aBlk (colsOf xc 3) (wOf wa 3) (rowCols ba 3) (rowCols lam 3)⟩,
   ⟨Rect.unit ![0, 512] S256x256.size inb_S256x2048_S256x256_0_512, aBlk (colsOf xc 2) (wOf wa 2) (rowCols ba 2) (rowCols lam 2)⟩,
   ⟨Rect.unit ![0, 256] S256x256.size inb_S256x2048_S256x256_0_256, aBlk (colsOf xc 1) (wOf wa 1) (rowCols ba 1) (rowCols lam 1)⟩,
   ⟨Rect.unit ![0, 0] S256x256.size inb_S256x2048_S256x256_0_0, aBlk (colsOf xc 0) (wOf wa 0) (rowCols ba 0) (rowCols lam 0)⟩]

/-- The eight stores of the inputs, last first. -/
def piecesU (xc : Vec F S256x2048 .f32) (wa wx : Vec F S8x256x256 .bf16) (ba bx lam : Vec F S1x2048 .f32) :
    List (View.Piece (Elt F) S256x2048 .f32) :=
  [⟨Rect.unit ![0, 1792] S256x256.size inb_S256x2048_S256x256_0_1792, uBlk (colsOf xc 7) (wOf wa 7) (wOf wx 7) (rowCols ba 7) (rowCols bx 7) (rowCols lam 7)⟩,
   ⟨Rect.unit ![0, 1536] S256x256.size inb_S256x2048_S256x256_0_1536, uBlk (colsOf xc 6) (wOf wa 6) (wOf wx 6) (rowCols ba 6) (rowCols bx 6) (rowCols lam 6)⟩,
   ⟨Rect.unit ![0, 1280] S256x256.size inb_S256x2048_S256x256_0_1280, uBlk (colsOf xc 5) (wOf wa 5) (wOf wx 5) (rowCols ba 5) (rowCols bx 5) (rowCols lam 5)⟩,
   ⟨Rect.unit ![0, 1024] S256x256.size inb_S256x2048_S256x256_0_1024, uBlk (colsOf xc 4) (wOf wa 4) (wOf wx 4) (rowCols ba 4) (rowCols bx 4) (rowCols lam 4)⟩,
   ⟨Rect.unit ![0, 768] S256x256.size inb_S256x2048_S256x256_0_768, uBlk (colsOf xc 3) (wOf wa 3) (wOf wx 3) (rowCols ba 3) (rowCols bx 3) (rowCols lam 3)⟩,
   ⟨Rect.unit ![0, 512] S256x256.size inb_S256x2048_S256x256_0_512, uBlk (colsOf xc 2) (wOf wa 2) (wOf wx 2) (rowCols ba 2) (rowCols bx 2) (rowCols lam 2)⟩,
   ⟨Rect.unit ![0, 256] S256x256.size inb_S256x2048_S256x256_0_256, uBlk (colsOf xc 1) (wOf wa 1) (wOf wx 1) (rowCols ba 1) (rowCols bx 1) (rowCols lam 1)⟩,
   ⟨Rect.unit ![0, 0] S256x256.size inb_S256x2048_S256x256_0_0, uBlk (colsOf xc 0) (wOf wa 0) (wOf wx 0) (rowCols ba 0) (rowCols bx 0) (rowCols lam 0)⟩]

/-- A store of the columns `256 * n` on lands on the indices of block `n`, in order. -/
theorem emb_cols (n : Fin 8) {off : Fin 2 → ℕ} (h : off = ![0, 256 * n.val]) (inb : ∀ a, off a + S256x256.size a ≤ S256x2048.size a)
    (x : S256x256.Idx) :
    blkNo ((Rect.unit (s := S256x2048) off S256x256.size inb).emb x) = n ∧ blkIx ((Rect.unit (s := S256x2048) off S256x256.size inb).emb x) = x := by
  subst h
  have h0 : (x 0).val < 256 := (x 0).isLt
  have h1 : (x 1).val < 256 := (x 1).isLt
  constructor
  · apply Fin.ext
    show (256 * n.val + 1 * (x 1).val) / 256 = n.val
    omega
  · funext a
    fin_cases a
    · apply Fin.ext
      show 0 + 1 * (x 0).val = (x 0).val
      omega
    · apply Fin.ext
      show (256 * n.val + 1 * (x 1).val) % 256 = (x 1).val
      omega

/-- Loads of columns, of a row's columns and of a weight block, from the whole. -/
theorem ld_cols (n : Fin 8) (X : Vec F S256x2048 .f32) {off : Fin 2 → ℕ} (h : off = ![0, 256 * n.val])
    (inb : ∀ a, off a + S256x256.size a ≤ S256x2048.size a) :
    View.ld X (Rect.unit (s := S256x2048) off S256x256.size inb) = colsOf X n := by
  subst h
  funext x
  refine congrArg X (funext fun a => ?_)
  fin_cases a
  · apply Fin.ext
    show 0 + 1 * (x 0).val = (x 0).val
    omega
  · apply Fin.ext
    show 256 * n.val + 1 * (x 1).val = 256 * n.val + (x 1).val
    omega

theorem ld_rowCols (n : Fin 8) (X : Vec F S1x2048 .f32) {off : Fin 2 → ℕ} (h : off = ![0, 256 * n.val])
    (inb : ∀ a, off a + S1x256.size a ≤ S1x2048.size a) :
    View.ld X (Rect.unit (s := S1x2048) off S1x256.size inb) = rowCols X n := by
  subst h
  funext x
  have h0 : (x 0).val < 1 := (x 0).isLt
  refine congrArg X (funext fun a => ?_)
  fin_cases a
  · apply Fin.ext
    show 0 + 1 * (x 0).val = 0
    omega
  · apply Fin.ext
    show 256 * n.val + 1 * (x 1).val = 256 * n.val + (x 1).val
    omega

theorem ld_wOf (n : Fin 8) (X : Vec F S8x256x256 .bf16) {off : Fin 3 → ℕ} (h : off = ![n.val, 0, 0])
    (inb : ∀ a, off a + S1x256x256.size a ≤ S8x256x256.size a) :
    View.ld X (Rect.unit (s := S8x256x256) off S1x256x256.size inb) = wOf X n := by
  subst h
  funext x
  have h0 : (x 0).val < 1 := (x 0).isLt
  refine congrArg X (funext fun a => ?_)
  fin_cases a
  · apply Fin.ext
    show n.val + 1 * (x 0).val = n.val
    omega
  · apply Fin.ext
    show 0 + 1 * (x 1).val = (x 1).val
    omega
  · apply Fin.ext
    show 0 + 1 * (x 2).val = (x 2).val
    omega

/-- The eight stores of the decays leave the decays of the block of rows. -/
theorem canon_piecesA (xc : Vec F S256x2048 .f32) (wa : Vec F S8x256x256 .bf16) (ba lam : Vec F S1x2048 .f32) :
    View.canon (piecesA xc wa ba lam) = AV xc wa ba lam := by
  funext y
  refine View.canon_apply_of_pieces (AV xc wa ba lam) _ ?_ y
    (View.cover_of_tiledL (piecesA xc wa ba lam) S256x256.size (by sl_kernel_rfl) y)
  intro p hp x
  simp only [piecesA, List.mem_cons, List.not_mem_nil, or_false] at hp
  have key : ∀ (n : Fin 8) {off : Fin 2 → ℕ} (h : off = ![0, 256 * n.val]) (inb : ∀ a, off a + S256x256.size a ≤ S256x2048.size a)
      (x : S256x256.Idx), aBlk (colsOf xc n) (wOf wa n) (rowCols ba n) (rowCols lam n) x
        = AV xc wa ba lam ((Rect.unit (s := S256x2048) off S256x256.size inb).emb x) := fun n off h inb x => by
    unfold AV; rw [(emb_cols n h inb x).1, (emb_cols n h inb x).2]
  rcases hp with rfl | rfl | rfl | rfl | rfl | rfl | rfl | rfl
  · exact key 7 rfl inb_S256x2048_S256x256_0_1792 x
  · exact key 6 rfl inb_S256x2048_S256x256_0_1536 x
  · exact key 5 rfl inb_S256x2048_S256x256_0_1280 x
  · exact key 4 rfl inb_S256x2048_S256x256_0_1024 x
  · exact key 3 rfl inb_S256x2048_S256x256_0_768 x
  · exact key 2 rfl inb_S256x2048_S256x256_0_512 x
  · exact key 1 rfl inb_S256x2048_S256x256_0_256 x
  · exact key 0 rfl inb_S256x2048_S256x256_0_0 x

/-- The eight stores of the inputs leave the inputs of the block of rows. -/
theorem canon_piecesU (xc : Vec F S256x2048 .f32) (wa wx : Vec F S8x256x256 .bf16) (ba bx lam : Vec F S1x2048 .f32) :
    View.canon (piecesU xc wa wx ba bx lam) = UV xc wa wx ba bx lam := by
  funext y
  refine View.canon_apply_of_pieces (UV xc wa wx ba bx lam) _ ?_ y
    (View.cover_of_tiledL (piecesU xc wa wx ba bx lam) S256x256.size (by sl_kernel_rfl) y)
  intro p hp x
  simp only [piecesU, List.mem_cons, List.not_mem_nil, or_false] at hp
  have key : ∀ (n : Fin 8) {off : Fin 2 → ℕ} (h : off = ![0, 256 * n.val]) (inb : ∀ a, off a + S256x256.size a ≤ S256x2048.size a)
      (x : S256x256.Idx), uBlk (colsOf xc n) (wOf wa n) (wOf wx n) (rowCols ba n) (rowCols bx n) (rowCols lam n) x
        = UV xc wa wx ba bx lam ((Rect.unit (s := S256x2048) off S256x256.size inb).emb x) := fun n off h inb x => by
    unfold UV; rw [(emb_cols n h inb x).1, (emb_cols n h inb x).2]
  rcases hp with rfl | rfl | rfl | rfl | rfl | rfl | rfl | rfl
  · exact key 7 rfl inb_S256x2048_S256x256_0_1792 x
  · exact key 6 rfl inb_S256x2048_S256x256_0_1536 x
  · exact key 5 rfl inb_S256x2048_S256x256_0_1280 x
  · exact key 4 rfl inb_S256x2048_S256x256_0_1024 x
  · exact key 3 rfl inb_S256x2048_S256x256_0_768 x
  · exact key 2 rfl inb_S256x2048_S256x256_0_512 x
  · exact key 1 rfl inb_S256x2048_S256x256_0_256 x
  · exact key 0 rfl inb_S256x2048_S256x256_0_0 x

theorem pay23_apply (x : Vec F S1x256x2048 .f32) (r : Fin 256) (j : Fin 2048) : k0_pay23 x (ix2 r j) = x (ix3 0 r j) := by
  pointwise [k0_pay23]

/-- The two stores into the buffer of the convolution leave the rows before, then the block's rows. -/
theorem canon_buf (l : Vec F S8x2048 .f32) (x : Vec F S1x256x2048 .f32) :
    View.canon [(⟨Rect.unit ![8, 0] ![256, 2048] inb_S264x2048_S256x2048_8_0, k0_pay23 x⟩ : View.Piece (Elt F) S264x2048 .f32),
      ⟨Rect.unit ![0, 0] ![8, 2048] inb_S264x2048_S8x2048_0_0, k0_pay22 l⟩] = bufV l x := by
  funext y
  refine View.canon_apply_of_pieces (bufV l x) _ ?_ y ?_
  · intro p hp z
    simp only [List.mem_cons, List.not_mem_nil, or_false] at hp
    rcases hp with rfl | rfl
    · have z0 : (z 0).val < 256 := (z 0).isLt
      refine ((congrArg (k0_pay23 x) (eq_ix2 z)).trans (pay23_apply x (z 0) (z 1))).trans ?_
      unfold bufV
      refine Eq.trans ?_ (dif_neg (Nat.not_lt.mpr (Nat.le_add_right 8 (1 * (z 0).val)))).symm
      refine congrArg x ?_
      · funext a
        fin_cases a
        · rfl
        · apply Fin.ext
          show (z 0).val = 8 + 1 * (z 0).val - 8
          omega
        · apply Fin.ext
          show (z 1).val = 0 + 1 * (z 1).val
          omega
    · have z0 : (z 0).val < 8 := (z 0).isLt
      unfold bufV
      refine Eq.trans ?_ (dif_pos (show 0 + 1 * (z 0).val < 8 by omega)).symm
      refine (congrFun (shapeCast_self (show Vec F S8x2048 .f32 from l) _) z).trans ?_
      refine congrArg l (funext fun a => ?_)
      fin_cases a
      · apply Fin.ext
        show (z 0).val = 0 + 1 * (z 0).val
        omega
      · apply Fin.ext
        show (z 1).val = 0 + 1 * (z 1).val
        omega
  · have y0 : (y 0).val < 264 := (y 0).isLt
    have y1 : (y 1).val < 2048 := (y 1).isLt
    by_cases h : (y 0).val < 8
    · refine ⟨_, List.mem_cons_of_mem _ (List.mem_singleton_self _), (Rect.mem_set_unit (inb := inb_S264x2048_S8x2048_0_0)).mpr fun a => ?_⟩
      fin_cases a
      · exact ⟨Nat.zero_le _, by show (y 0).val < 0 + 8; omega⟩
      · exact ⟨Nat.zero_le _, by show (y 1).val < 0 + 2048; omega⟩
    · refine ⟨_, List.mem_cons_self, (Rect.mem_set_unit (inb := inb_S264x2048_S256x2048_8_0)).mpr fun a => ?_⟩
      fin_cases a
      · exact ⟨by show 8 ≤ (y 0).val; omega, by show (y 0).val < 8 + 256; omega⟩
      · exact ⟨Nat.zero_le _, by show (y 1).val < 0 + 2048; omega⟩

/-- A load out of whole contents, out of one whole store, and out of the two stores of the convolution's buffer. -/
theorem readAt_whole {s : Shape} {e : EltTy} (m : Memref sig .tc .vmem s e) (h : m.IsWhole) (X : Vec F s e) (B : Rect s) :
    m.view.readAt (Elt F) B.toLoadRect (h.unread X) = View.ld X B := by
  rw [View.readAt_eq_ld, h.read_unread]

theorem readCov_ld {s : Shape} {e : EltTy} (v : View sig .tc .vmem s e) (L : List (View.Piece (Elt F) s e)) (B : Rect s) :
    v.readCov L B.toLoadRect = View.ld (View.canon L) B := View.readCov_eq_canon' v L _

/-- Whole loads, and one whole store, of each shape the kernel meets. -/
theorem ld4 (X : Vec F S4x2048 .f32) : View.ld X (Rect.unit ![0, 0] ![4, 2048] inb_S4x2048_S4x2048_0_0) = X :=
  View.ld_unit_zero (S := S4x2048) (by funext a; fin_cases a <;> rfl) _ X
theorem ld1 (X : Vec F S1x2048 .f32) : View.ld X (Rect.unit ![0, 0] ![1, 2048] inb_S1x2048_S1x2048_0_0) = X :=
  View.ld_unit_zero (S := S1x2048) (by funext a; fin_cases a <;> rfl) _ X
theorem ld8 (X : Vec F S8x2048 .f32) : View.ld X (Rect.unit ![0, 0] ![8, 2048] inb_S8x2048_S8x2048_0_0) = X :=
  View.ld_unit_zero (S := S8x2048) (by funext a; fin_cases a <;> rfl) _ X
theorem ld256 (X : Vec F S256x2048 .f32) : View.ld X (Rect.unit ![0, 0] ![256, 2048] inb_S256x2048_S256x2048_0_0) = X :=
  View.ld_unit_zero (S := S256x2048) (by funext a; fin_cases a <;> rfl) _ X
theorem ldx (X : Vec F S1x256x2048 .f32) : View.ld X (Rect.unit ![0, 0, 0] ![1, 256, 2048] inb_S1x256x2048_S1x256x2048_0_0_0) = X :=
  View.ld_unit_zero (S := S1x256x2048) (by funext a; fin_cases a <;> rfl) _ X
theorem canon256 (w : Vec F S256x2048 .f32) :
    View.canon [(⟨Rect.unit ![0, 0] ![256, 2048] inb_S256x2048_S256x2048_0_0, w⟩ : View.Piece (Elt F) S256x2048 .f32)] = w :=
  View.canon_unit_zero (S := S256x2048) (by funext a; fin_cases a <;> rfl) _ w
theorem canon1 (w : Vec F S1x2048 .f32) (L : List (View.Piece (Elt F) S1x2048 .f32)) :
    View.canon ((⟨Rect.unit ![0, 0] ![1, 2048] inb_S1x2048_S1x2048_0_0, w⟩ : View.Piece (Elt F) S1x2048 .f32) :: L) = w :=
  View.canon_cons_unit_zero (S := S1x2048) (by funext a; fin_cases a <;> rfl) _ w L
theorem canon8 (w : Vec F S8x2048 .f32) (L : List (View.Piece (Elt F) S8x2048 .f32)) :
    View.canon ((⟨Rect.unit ![0, 0] ![8, 2048] inb_S8x2048_S8x2048_0_0, w⟩ : View.Piece (Elt F) S8x2048 .f32) :: L) = w :=
  View.canon_cons_unit_zero (S := S8x2048) (by funext a; fin_cases a <;> rfl) _ w L
theorem canonO (w : Vec F S1x256x2048 .bf16) (L : List (View.Piece (Elt F) S1x256x2048 .bf16)) :
    View.canon ((⟨Rect.unit ![0, 0, 0] ![1, 256, 2048] inb_S1x256x2048_S1x256x2048_0_0_0, w⟩ : View.Piece (Elt F) S1x256x2048 .bf16) :: L) = w :=
  View.canon_cons_unit_zero (S := S1x256x2048) (by funext a; fin_cases a <;> rfl) _ w L

end Cert.KernelIdeal.Lru

end
-- ==== Proof.Lru.Outs.lean ====
/- What the body's run leaves: the output block, the carried row and the carried halo, as functions of the block's
   inputs. Over any float values. -/
module

public import proofs.«01_k».proof.Proof.Lru.Spec

@[expose] public section

set_option maxRecDepth 16384

noncomputable section

namespace Cert.KernelIdeal.Lru

open Cert.KernelIdeal.Gen
open Idealize.ShloMosaic Idealize.ShloMosaic.TcCoe Idealize.ShloMosaic.Tactic

variable {F : FTy → Type} [FloatOps F]

section
variable (c : Dev nD) (i : grid0.Coords)
  (arg2 : Memref sig .tc .vmem S1x256x2048 .f32) (harg2 : arg2.IsWhole) (arg3 : Memref sig .tc .vmem S1x256x2048 .f32) (harg3 : arg3.IsWhole) (arg4 : Memref sig .tc .vmem S4x2048 .f32) (harg4 : arg4.IsWhole)
  (arg5 : Memref sig .tc .vmem S1x2048 .f32) (harg5 : arg5.IsWhole) (arg6 : Memref sig .tc .vmem S8x256x256 .bf16) (harg6 : arg6.IsWhole) (arg7 : Memref sig .tc .vmem S8x256x256 .bf16) (harg7 : arg7.IsWhole)
  (arg8 : Memref sig .tc .vmem S1x2048 .f32) (harg8 : arg8.IsWhole) (arg9 : Memref sig .tc .vmem S1x2048 .f32) (harg9 : arg9.IsWhole) (arg10 : Memref sig .tc .vmem S1x2048 .f32) (harg10 : arg10.IsWhole)
  (arg11 : Memref sig .tc .vmem S1x256x2048 .bf16) (harg11 : arg11.IsWhole) (arg12 : Memref sig .tc .vmem S256x2048 .f32) (harg12 : arg12.IsWhole) (arg13 : Memref sig .tc .vmem S256x2048 .f32) (harg13 : arg13.IsWhole)
  (arg14 : Memref sig .tc .vmem S1x2048 .f32) (harg14 : arg14.IsWhole) (arg15 : Memref sig .tc .vmem S256x2048 .f32) (harg15 : arg15.IsWhole) (arg16 : Memref sig .tc .vmem S8x2048 .f32) (harg16 : arg16.IsWhole)
  (arg17 : Memref sig .tc .vmem S264x2048 .f32) (harg17 : arg17.IsWhole)
variable (x0 : Vec F S1x256x2048 .f32) (x1 : Vec F S1x256x2048 .f32) (x2 : Vec F S4x2048 .f32) (x3 : Vec F S1x2048 .f32) (x4 : Vec F S8x256x256 .bf16) (x5 : Vec F S8x256x256 .bf16) (x6 : Vec F S1x2048 .f32) (x7 : Vec F S1x2048 .f32) (x8 : Vec F S1x2048 .f32)

theorem xcV_eq (cw : Vec F S4x2048 .f32) (cb : Vec F S1x2048 .f32) (l : Vec F S8x2048 .f32) (x : Vec F S1x256x2048 .f32) :
    k0_pay27 cw (k0_pay25 cw cb x) (k0_pay26 cw)
      (View.ld (bufV l x) (Rect.unit ![5, 0] ![256, 2048] inb_S264x2048_S256x2048_5_0))
      (View.ld (bufV l x) (Rect.unit ![6, 0] ![256, 2048] inb_S264x2048_S256x2048_6_0))
      (View.ld (bufV l x) (Rect.unit ![7, 0] ![256, 2048] inb_S264x2048_S256x2048_7_0)) = xcV cw cb l x := rfl

variable {c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8}

/-- The stores of the decays at a later block. -/
theorem decaysB (l0 : Vec F S8x2048 .f32) :
    runB.sl.H12_8 c arg2 harg2 arg4 harg4 arg5 harg5 arg6 harg6 arg8 harg8 arg10 harg10 arg15 arg16 harg16 arg17 x0 x2 x3 x4 x6 x8 l0
      = piecesA (xcV x2 x3 l0 x0) x4 x6 x8 := by
  sl_unfold_words
  simp only [readAt_whole, readCov_ld, ld4, ld1, ld8, ldx, canon256, canon8, canon_buf, xcV_eq,
    ld_cols 0 _ (off := ![0, 0]) rfl inb_S256x2048_S256x256_0_0, ld_cols 1 _ (off := ![0, 256]) rfl inb_S256x2048_S256x256_0_256,
    ld_cols 2 _ (off := ![0, 512]) rfl inb_S256x2048_S256x256_0_512, ld_cols 3 _ (off := ![0, 768]) rfl inb_S256x2048_S256x256_0_768,
    ld_cols 4 _ (off := ![0, 1024]) rfl inb_S256x2048_S256x256_0_1024, ld_cols 5 _ (off := ![0, 1280]) rfl inb_S256x2048_S256x256_0_1280,
    ld_cols 6 _ (off := ![0, 1536]) rfl inb_S256x2048_S256x256_0_1536, ld_cols 7 _ (off := ![0, 1792]) rfl inb_S256x2048_S256x256_0_1792,
    ld_rowCols 0 _ (off := ![0, 0]) rfl inb_S1x2048_S1x256_0_0, ld_rowCols 1 _ (off := ![0, 256]) rfl inb_S1x2048_S1x256_0_256,
    ld_rowCols 2 _ (off := ![0, 512]) rfl inb_S1x2048_S1x256_0_512, ld_rowCols 3 _ (off := ![0, 768]) rfl inb_S1x2048_S1x256_0_768,
    ld_rowCols 4 _ (off := ![0, 1024]) rfl inb_S1x2048_S1x256_0_1024, ld_rowCols 5 _ (off := ![0, 1280]) rfl inb_S1x2048_S1x256_0_1280,
    ld_rowCols 6 _ (off := ![0, 1536]) rfl inb_S1x2048_S1x256_0_1536, ld_rowCols 7 _ (off := ![0, 1792]) rfl inb_S1x2048_S1x256_0_1792,
    ld_wOf 0 _ (off := ![0, 0, 0]) rfl inb_S8x256x256_S1x256x256_0_0_0, ld_wOf 1 _ (off := ![1, 0, 0]) rfl inb_S8x256x256_S1x256x256_1_0_0,
    ld_wOf 2 _ (off := ![2, 0, 0]) rfl inb_S8x256x256_S1x256x256_2_0_0, ld_wOf 3 _ (off := ![3, 0, 0]) rfl inb_S8x256x256_S1x256x256_3_0_0,
    ld_wOf 4 _ (off := ![4, 0, 0]) rfl inb_S8x256x256_S1x256x256_4_0_0, ld_wOf 5 _ (off := ![5, 0, 0]) rfl inb_S8x256x256_S1x256x256_5_0_0,
    ld_wOf 6 _ (off := ![6, 0, 0]) rfl inb_S8x256x256_S1x256x256_6_0_0, ld_wOf 7 _ (off := ![7, 0, 0]) rfl inb_S8x256x256_S1x256x256_7_0_0]
  rfl

/-- The stores of the recurrence's inputs at a later block. -/
theorem inputsB (l0 : Vec F S8x2048 .f32) :
    runB.sl.H13_8 c arg2 harg2 arg4 harg4 arg5 harg5 arg6 harg6 arg7 harg7 arg8 harg8 arg9 harg9 arg10 harg10 arg15 arg16 harg16 arg17 x0 x2 x3 x4 x5 x6 x7 x8 l0
      = piecesU (xcV x2 x3 l0 x0) x4 x5 x6 x7 x8 := by
  sl_unfold_words
  simp only [readAt_whole, readCov_ld, ld4, ld1, ld8, ldx, canon256, canon8, canon_buf, xcV_eq,
    ld_cols 0 _ (off := ![0, 0]) rfl inb_S256x2048_S256x256_0_0, ld_cols 1 _ (off := ![0, 256]) rfl inb_S256x2048_S256x256_0_256,
    ld_cols 2 _ (off := ![0, 512]) rfl inb_S256x2048_S256x256_0_512, ld_cols 3 _ (off := ![0, 768]) rfl inb_S256x2048_S256x256_0_768,
    ld_cols 4 _ (off := ![0, 1024]) rfl inb_S256x2048_S256x256_0_1024, ld_cols 5 _ (off := ![0, 1280]) rfl inb_S256x2048_S256x256_0_1280,
    ld_cols 6 _ (off := ![0, 1536]) rfl inb_S256x2048_S256x256_0_1536, ld_cols 7 _ (off := ![0, 1792]) rfl inb_S256x2048_S256x256_0_1792,
    ld_rowCols 0 _ (off := ![0, 0]) rfl inb_S1x2048_S1x256_0_0, ld_rowCols 1 _ (off := ![0, 256]) rfl inb_S1x2048_S1x256_0_256,
    ld_rowCols 2 _ (off := ![0, 512]) rfl inb_S1x2048_S1x256_0_512, ld_rowCols 3 _ (off := ![0, 768]) rfl inb_S1x2048_S1x256_0_768,
    ld_rowCols 4 _ (off := ![0, 1024]) rfl inb_S1x2048_S1x256_0_1024, ld_rowCols 5 _ (off := ![0, 1280]) rfl inb_S1x2048_S1x256_0_1280,
    ld_rowCols 6 _ (off := ![0, 1536]) rfl inb_S1x2048_S1x256_0_1536, ld_rowCols 7 _ (off := ![0, 1792]) rfl inb_S1x2048_S1x256_0_1792,
    ld_wOf 0 _ (off := ![0, 0, 0]) rfl inb_S8x256x256_S1x256x256_0_0_0, ld_wOf 1 _ (off := ![1, 0, 0]) rfl inb_S8x256x256_S1x256x256_1_0_0,
    ld_wOf 2 _ (off := ![2, 0, 0]) rfl inb_S8x256x256_S1x256x256_2_0_0, ld_wOf 3 _ (off := ![3, 0, 0]) rfl inb_S8x256x256_S1x256x256_3_0_0,
    ld_wOf 4 _ (off := ![4, 0, 0]) rfl inb_S8x256x256_S1x256x256_4_0_0, ld_wOf 5 _ (off := ![5, 0, 0]) rfl inb_S8x256x256_S1x256x256_5_0_0,
    ld_wOf 6 _ (off := ![6, 0, 0]) rfl inb_S8x256x256_S1x256x256_6_0_0, ld_wOf 7 _ (off := ![7, 0, 0]) rfl inb_S8x256x256_S1x256x256_7_0_0]
  rfl

/-- The stores of the decays at a batch's first block. -/
theorem decaysA :
    runA.sl.H12_8 c arg2 harg2 arg4 harg4 arg5 harg5 arg6 harg6 arg8 harg8 arg10 harg10 arg15 arg16 arg17 x0 x2 x3 x4 x6 x8
      = piecesA (xcV x2 x3 k0_pay21 x0) x4 x6 x8 := by
  sl_unfold_words
  simp only [readAt_whole, readCov_ld, ld4, ld1, ld8, ldx, canon256, canon8, canon_buf, xcV_eq,
    ld_cols 0 _ (off := ![0, 0]) rfl inb_S256x2048_S256x256_0_0, ld_cols 1 _ (off := ![0, 256]) rfl inb_S256x2048_S256x256_0_256,
    ld_cols 2 _ (off := ![0, 512]) rfl inb_S256x2048_S256x256_0_512, ld_cols 3 _ (off := ![0, 768]) rfl inb_S256x2048_S256x256_0_768,
    ld_cols 4 _ (off := ![0, 1024]) rfl inb_S256x2048_S256x256_0_1024, ld_cols 5 _ (off := ![0, 1280]) rfl inb_S256x2048_S256x256_0_1280,
    ld_cols 6 _ (off := ![0, 1536]) rfl inb_S256x2048_S256x256_0_1536, ld_cols 7 _ (off := ![0, 1792]) rfl inb_S256x2048_S256x256_0_1792,
    ld_rowCols 0 _ (off := ![0, 0]) rfl inb_S1x2048_S1x256_0_0, ld_rowCols 1 _ (off := ![0, 256]) rfl inb_S1x2048_S1x256_0_256,
    ld_rowCols 2 _ (off := ![0, 512]) rfl inb_S1x2048_S1x256_0_512, ld_rowCols 3 _ (off := ![0, 768]) rfl inb_S1x2048_S1x256_0_768,
    ld_rowCols 4 _ (off := ![0, 1024]) rfl inb_S1x2048_S1x256_0_1024, ld_rowCols 5 _ (off := ![0, 1280]) rfl inb_S1x2048_S1x256_0_1280,
    ld_rowCols 6 _ (off := ![0, 1536]) rfl inb_S1x2048_S1x256_0_1536, ld_rowCols 7 _ (off := ![0, 1792]) rfl inb_S1x2048_S1x256_0_1792,
    ld_wOf 0 _ (off := ![0, 0, 0]) rfl inb_S8x256x256_S1x256x256_0_0_0, ld_wOf 1 _ (off := ![1, 0, 0]) rfl inb_S8x256x256_S1x256x256_1_0_0,
    ld_wOf 2 _ (off := ![2, 0, 0]) rfl inb_S8x256x256_S1x256x256_2_0_0, ld_wOf 3 _ (off := ![3, 0, 0]) rfl inb_S8x256x256_S1x256x256_3_0_0,
    ld_wOf 4 _ (off := ![4, 0, 0]) rfl inb_S8x256x256_S1x256x256_4_0_0, ld_wOf 5 _ (off := ![5, 0, 0]) rfl inb_S8x256x256_S1x256x256_5_0_0,
    ld_wOf 6 _ (off := ![6, 0, 0]) rfl inb_S8x256x256_S1x256x256_6_0_0, ld_wOf 7 _ (off := ![7, 0, 0]) rfl inb_S8x256x256_S1x256x256_7_0_0]
  rfl

/-- The stores of the recurrence's inputs at a batch's first block. -/
theorem inputsA :
    runA.sl.H13_8 c arg2 harg2 arg4 harg4 arg5 harg5 arg6 harg6 arg7 harg7 arg8 harg8 arg9 harg9 arg10 harg10 arg15 arg16 arg17 x0 x2 x3 x4 x5 x6 x7 x8
      = piecesU (xcV x2 x3 k0_pay21 x0) x4 x5 x6 x7 x8 := by
  sl_unfold_words
  simp only [readAt_whole, readCov_ld, ld4, ld1, ld8, ldx, canon256, canon8, canon_buf, xcV_eq,
    ld_cols 0 _ (off := ![0, 0]) rfl inb_S256x2048_S256x256_0_0, ld_cols 1 _ (off := ![0, 256]) rfl inb_S256x2048_S256x256_0_256,
    ld_cols 2 _ (off := ![0, 512]) rfl inb_S256x2048_S256x256_0_512, ld_cols 3 _ (off := ![0, 768]) rfl inb_S256x2048_S256x256_0_768,
    ld_cols 4 _ (off := ![0, 1024]) rfl inb_S256x2048_S256x256_0_1024, ld_cols 5 _ (off := ![0, 1280]) rfl inb_S256x2048_S256x256_0_1280,
    ld_cols 6 _ (off := ![0, 1536]) rfl inb_S256x2048_S256x256_0_1536, ld_cols 7 _ (off := ![0, 1792]) rfl inb_S256x2048_S256x256_0_1792,
    ld_rowCols 0 _ (off := ![0, 0]) rfl inb_S1x2048_S1x256_0_0, ld_rowCols 1 _ (off := ![0, 256]) rfl inb_S1x2048_S1x256_0_256,
    ld_rowCols 2 _ (off := ![0, 512]) rfl inb_S1x2048_S1x256_0_512, ld_rowCols 3 _ (off := ![0, 768]) rfl inb_S1x2048_S1x256_0_768,
    ld_rowCols 4 _ (off := ![0, 1024]) rfl inb_S1x2048_S1x256_0_1024, ld_rowCols 5 _ (off := ![0, 1280]) rfl inb_S1x2048_S1x256_0_1280,
    ld_rowCols 6 _ (off := ![0, 1536]) rfl inb_S1x2048_S1x256_0_1536, ld_rowCols 7 _ (off := ![0, 1792]) rfl inb_S1x2048_S1x256_0_1792,
    ld_wOf 0 _ (off := ![0, 0, 0]) rfl inb_S8x256x256_S1x256x256_0_0_0, ld_wOf 1 _ (off := ![1, 0, 0]) rfl inb_S8x256x256_S1x256x256_1_0_0,
    ld_wOf 2 _ (off := ![2, 0, 0]) rfl inb_S8x256x256_S1x256x256_2_0_0, ld_wOf 3 _ (off := ![3, 0, 0]) rfl inb_S8x256x256_S1x256x256_3_0_0,
    ld_wOf 4 _ (off := ![4, 0, 0]) rfl inb_S8x256x256_S1x256x256_4_0_0, ld_wOf 5 _ (off := ![5, 0, 0]) rfl inb_S8x256x256_S1x256x256_5_0_0,
    ld_wOf 6 _ (off := ![6, 0, 0]) rfl inb_S8x256x256_S1x256x256_6_0_0, ld_wOf 7 _ (off := ![7, 0, 0]) rfl inb_S8x256x256_S1x256x256_7_0_0]
  rfl

variable (c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8)

/-- The output block: the states times the gate, rounded to the output's format. -/
def outV (a u : Vec F S256x2048 .f32) (h0 : Vec F S1x2048 .f32) (gate : Vec F S1x256x2048 .f32) : Vec F S1x256x2048 .bf16 :=
  k0_pay8 (hrows a u h0) gate

/-- The halo carried to the next block: the block's last eight rows. -/
def haloV (x : Vec F S1x256x2048 .f32) : Vec F S8x2048 .f32 :=
  k0_pay24 (View.ld x (Rect.unit ![0, 248, 0] ![1, 8, 2048] inb_S1x256x2048_S1x8x2048_0_248_0))

/-- The carried row is stored as it is. -/
theorem pay7_eq (v : Vec F S1x2048 .f32) : k0_pay7 v = v := shapeCast_self _ _

/-- The loop over scratches that hold the decays `a` and the inputs `u`: it carries out the last state, and the
    second scratch reads as the states. -/
theorem loop_out (a u : Vec F S256x2048 .f32) (h0 : Vec F S1x2048 .f32) (LA LU : List (View.Piece (Elt F) S256x2048 .f32))
    (hA : View.canon LA = a) (hU : View.canon LU = u) (h : Vec F S1x2048 .f32)
    (hh : h = h0) (n : ℕ) (hn : n = 32) :
    (st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (arg12.view.writes (Elt F) arg12.view.junk LA) (arg13.view.writes (Elt F) arg13.view.junk LU) h n).1
      = hrow a u h0 256
    ∧ arg13.view.read (Elt F) (arg13.view.writes (Elt F) arg13.view.junk
        ((st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (arg12.view.writes (Elt F) arg12.view.junk LA) (arg13.view.writes (Elt F) arg13.view.junk LU) h n).2 ++ LU))
      = hrows a u h0 := by
  subst hn hh
  obtain ⟨e1, e2⟩ := loop_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a u _ (arg12.view.writes (Elt F) arg12.view.junk LA)
    ((View.read_writes_junk_eq_canon _ _).trans hA) (arg13.view.writes (Elt F) arg13.view.junk LU)
    ((View.read_writes_junk_eq_canon _ _).trans hU) 32 (Nat.le_refl _)
  refine ⟨e1, funext fun y => ?_⟩
  rw [View.writes_append]
  refine (congrArg (arg13.view.read (Elt F) _) (eq_ix2 y)).trans ((e2 (y 0) (y 1)).trans ?_)
  rw [if_pos (by have : (y 0).val < 256 := (y 0).isLt; omega)]
  rfl

/-- What the body leaves at a batch's first block, from zeros. -/
theorem outsA (hc : cond0 i) :
    View.canon (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8).1 = outV (AV (xcV x2 x3 k0_pay21 x0) x4 x6 x8) (UV (xcV x2 x3 k0_pay21 x0) x4 x5 x6 x7 x8) k0_pay20 x1
    ∧ View.canon (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8).2.1 = hrow (AV (xcV x2 x3 k0_pay21 x0) x4 x6 x8) (UV (xcV x2 x3 k0_pay21 x0) x4 x5 x6 x7 x8) k0_pay20 256
    ∧ View.canon (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8).2.2.1 = haloV x0 := by
  unfold runA
  dsimp only
  refine ⟨?_, ?_, ?_⟩
  · refine (canonO _ _).trans ?_
    rw [readAt_whole, ldx]
    refine congrArg (fun v => k0_pay8 v x1) ?_
    unfold runA.sl.v539
    rw [View.readAt_eq_ld]
    refine (ld256 _).trans ?_
    refine (loop_out c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ k0_pay20 _ _ ((congrArg View.canon (decaysA (x0 := x0) (x2 := x2) (x3 := x3) (x4 := x4) (x6 := x6) (x8 := x8) )).trans (canon_piecesA _ x4 x6 x8)) ((congrArg View.canon (inputsA (x0 := x0) (x2 := x2) (x3 := x3) (x4 := x4) (x5 := x5) (x6 := x6) (x7 := x7) (x8 := x8) )).trans (canon_piecesU _ x4 x5 x6 x7 x8)) _ ?_ _ trips_eq).2
    unfold runA.sl.v533; rw [readCov_ld]; exact (ld1 _).trans (canon1 _ _)
  · refine (canon1 _ _).trans ((pay7_eq _).trans ?_)
    refine (loop_out c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ k0_pay20 _ _ ((congrArg View.canon (decaysA (x0 := x0) (x2 := x2) (x3 := x3) (x4 := x4) (x6 := x6) (x8 := x8) )).trans (canon_piecesA _ x4 x6 x8)) ((congrArg View.canon (inputsA (x0 := x0) (x2 := x2) (x3 := x3) (x4 := x4) (x5 := x5) (x6 := x6) (x7 := x7) (x8 := x8) )).trans (canon_piecesU _ x4 x5 x6 x7 x8)) _ ?_ _ trips_eq).1
    unfold runA.sl.v533; rw [readCov_ld]; exact (ld1 _).trans (canon1 _ _)
  · sl_unfold_words
    refine (canon8 _ _).trans ?_
    rw [readAt_whole]
    rfl

/-- What the body leaves at a later block, from the state and the halo it finds. -/
theorem outsB (hc : ¬ cond0 i) (h0 : Vec F S1x2048 .f32) (l0 : Vec F S8x2048 .f32) :
    View.canon (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 h0 l0).1 = outV (AV (xcV x2 x3 l0 x0) x4 x6 x8) (UV (xcV x2 x3 l0 x0) x4 x5 x6 x7 x8) h0 x1
    ∧ View.canon (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 h0 l0).2.1 = hrow (AV (xcV x2 x3 l0 x0) x4 x6 x8) (UV (xcV x2 x3 l0 x0) x4 x5 x6 x7 x8) h0 256
    ∧ View.canon (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 x8 h0 l0).2.2.1 = haloV x0 := by
  unfold runB
  dsimp only
  refine ⟨?_, ?_, ?_⟩
  · refine (canonO _ _).trans ?_
    rw [readAt_whole, ldx]
    refine congrArg (fun v => k0_pay8 v x1) ?_
    unfold runB.sl.v539
    rw [View.readAt_eq_ld]
    refine (ld256 _).trans ?_
    refine (loop_out c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ h0 _ _ ((congrArg View.canon (decaysB (x0 := x0) (x2 := x2) (x3 := x3) (x4 := x4) (x6 := x6) (x8 := x8)  l0)).trans (canon_piecesA _ x4 x6 x8)) ((congrArg View.canon (inputsB (x0 := x0) (x2 := x2) (x3 := x3) (x4 := x4) (x5 := x5) (x6 := x6) (x7 := x7) (x8 := x8)  l0)).trans (canon_piecesU _ x4 x5 x6 x7 x8)) _ ?_ _ trips_eq).2
    rw [readAt_whole]; exact ld1 _
  · refine (canon1 _ _).trans ((pay7_eq _).trans ?_)
    refine (loop_out c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 _ _ h0 _ _ ((congrArg View.canon (decaysB (x0 := x0) (x2 := x2) (x3 := x3) (x4 := x4) (x6 := x6) (x8 := x8)  l0)).trans (canon_piecesA _ x4 x6 x8)) ((congrArg View.canon (inputsB (x0 := x0) (x2 := x2) (x3 := x3) (x4 := x4) (x5 := x5) (x6 := x6) (x7 := x7) (x8 := x8)  l0)).trans (canon_piecesU _ x4 x5 x6 x7 x8)) _ ?_ _ trips_eq).1
    rw [readAt_whole]; exact ld1 _
  · sl_unfold_words
    refine (canon8 _ _).trans ?_
    rw [readAt_whole]
    rfl
end

end Cert.KernelIdeal.Lru

end
-- ==== Proof.Lru.Frame.lean ====
/- The pipeline of the recurrence kernel, over any float values: what each point leaves, the invariant that carries the
   state row and the halo between points, the body at a generic point, and the run. -/
module

public import proofs.«01_k».proof.Proof.Lru.Outs
public import Idealize.ShloMosaic.Lib.Claim

@[expose] public section

set_option maxRecDepth 16384

noncomputable section

namespace Cert.KernelIdeal.Lru

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body clears what it carries exactly at the points that begin a batch row. -/
theorem cond0_iff : ∀ t : Fin cfg0.N, cond0 (grid0.coords t) ↔ t.val % 16 = 0 :=
  (fun t => by
    have ht : t.val < 128 := Nat.lt_of_lt_of_eq t.isLt N_0
    have e1 : (grid0.coords t 1).val = t.val / 1 % 16 := Pipeline.Grid.coords_val t 1 (by decide) rfl
    simp only [cond0, e1]
    word_cmp
   : ∀ t : Fin grid0.N, cond0 (grid0.coords t) ↔ t.val % 16 = 0)

/-- Window 0's staging memref at a point, and its wholeness. -/
abbrev ms0 (t : Fin cfg0.N) : Memref sig .tc .vmem S1x256x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S8x256x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S8x256x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x2048 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x2048 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x2048 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x256x2048 .bf16 := win0_9.stage (cfg0.slots t 9)
abbrev hs9 (t : Fin cfg0.N) : (ms9 t).IsWhole := hstage0_9 ((cfg0.slots t 9).cast nbuf0_9)
/-- The scratch buffers, whole: the decays, the inputs and states, the carried row, the convolution, the halo, its buffer. -/
abbrev sc0 : Memref sig .tc .vmem S256x2048 .f32 := Memref.whole cc0_scratch0
abbrev sc1 : Memref sig .tc .vmem S256x2048 .f32 := Memref.whole cc0_scratch1
abbrev sc2 : Memref sig .tc .vmem S1x2048 .f32 := Memref.whole cc0_scratch2
abbrev sc3 : Memref sig .tc .vmem S256x2048 .f32 := Memref.whole cc0_scratch3
abbrev sc4 : Memref sig .tc .vmem S8x2048 .f32 := Memref.whole cc0_scratch4
abbrev sc5 : Memref sig .tc .vmem S264x2048 .f32 := Memref.whole cc0_scratch5

/-- The scoped rest of the frame kit, with the scratches as memrefs owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-- A block's decays and inputs, from its input blocks and the halo it starts from. -/
def blkA (x0 : Vec F S1x256x2048 .f32) (x2 : Vec F S4x2048 .f32) (x3 : Vec F S1x2048 .f32) (x4 : Vec F S8x256x256 .bf16)
    (x6 x8 : Vec F S1x2048 .f32) (l0 : Vec F S8x2048 .f32) : Vec F S256x2048 .f32 := AV (xcV x2 x3 l0 x0) x4 x6 x8
def blkU (x0 : Vec F S1x256x2048 .f32) (x2 : Vec F S4x2048 .f32) (x3 : Vec F S1x2048 .f32) (x4 x5 : Vec F S8x256x256 .bf16)
    (x6 x7 x8 : Vec F S1x2048 .f32) (l0 : Vec F S8x2048 .f32) : Vec F S256x2048 .f32 := UV (xcV x2 x3 l0 x0) x4 x5 x6 x7 x8

/-- The decays and the inputs of the block at point `t`, from the halo it starts from. -/
def decays (c : Dev nD) (t : Fin cfg0.N) (l0 : Vec F S8x2048 .f32) : Vec F S256x2048 .f32 :=
  blkA (iblk m c 0 t) (iblk m c 2 t) (iblk m c 3 t) (iblk m c 4 t) (iblk m c 6 t) (iblk m c 8 t) l0
def inputs (c : Dev nD) (t : Fin cfg0.N) (l0 : Vec F S8x2048 .f32) : Vec F S256x2048 .f32 :=
  blkU (iblk m c 0 t) (iblk m c 2 t) (iblk m c 3 t) (iblk m c 4 t) (iblk m c 5 t) (iblk m c 6 t) (iblk m c 7 t) (iblk m c 8 t) l0

/-- The state row and the halo that point `n` starts from: zeros at a batch's first block, else what the point
    before left. -/
def start (c : Dev nD) : (n : ℕ) → n ≤ cfg0.N → Vec F S1x2048 .f32 × Vec F S8x2048 .f32
  | 0, _ => (k0_pay20, k0_pay21)
  | n + 1, h => if (n + 1) % 16 = 0 then (k0_pay20, k0_pay21) else
      (hrow (decays m c ⟨n, h⟩ (start c n (Nat.le_of_lt h)).2) (inputs m c ⟨n, h⟩ (start c n (Nat.le_of_lt h)).2) (start c n (Nat.le_of_lt h)).1 256,
        haloV (iblk m c 0 ⟨n, h⟩))

/-- The state row that point `t` leaves, and its output block. -/
def rowAt (c : Dev nD) (t : Fin cfg0.N) : Vec F S1x2048 .f32 :=
  hrow (decays m c t (start m c t.val (Nat.le_of_lt t.isLt)).2) (inputs m c t (start m c t.val (Nat.le_of_lt t.isLt)).2) (start m c t.val (Nat.le_of_lt t.isLt)).1 256
def outAt (c : Dev nD) (t : Fin cfg0.N) : Vec F S1x256x2048 .bf16 :=
  outV (decays m c t (start m c t.val (Nat.le_of_lt t.isLt)).2) (inputs m c t (start m c t.val (Nat.le_of_lt t.isLt)).2) (start m c t.val (Nat.le_of_lt t.isLt)).1 (iblk m c 1 t)

theorem start_first (c : Dev nD) (n : ℕ) (h : n ≤ cfg0.N) (h0 : n % 16 = 0) : start m c n h = (k0_pay20, k0_pay21) := by
  cases n with
  | zero => rfl
  | succ n => rw [start, if_pos h0]

theorem start_succ (c : Dev nD) (n : ℕ) (h : n + 1 ≤ cfg0.N) (h0 : ¬ (n + 1) % 16 = 0) :
    start m c (n + 1) h = (rowAt m c ⟨n, h⟩, haloV (iblk m c 0 ⟨n, h⟩)) := by
  rw [start, if_neg h0]; rfl

/-- The invariant: before the first point anything; after point `n` the carried row and halo at what it left. -/
def PhiS (c : Dev nD) : (n : ℕ) → n ≤ cfg0.N → sProp 𝕄
  | 0, _ => Pipeline.ΦA spec0 c
  | n + 1, h => iprop(iprop((∃ d, owns (c : Thread nD τ) sc0 fullShare d) ∗ (∃ d, owns (c : Thread nD τ) sc1 fullShare d) ∗ owns (c : Thread nD τ) sc2 fullShare (rowAt m c ⟨n, h⟩) ∗ (∃ d, owns (c : Thread nD τ) sc3 fullShare d)
      ∗ owns (c : Thread nD τ) sc4 fullShare (haloV (iblk m c 0 ⟨n, h⟩)) ∗ (∃ d, owns (c : Thread nD τ) sc5 fullShare d)) ∗ (∃ r, prngReg c r))

theorem PhiS_succ (c : Dev nD) (n : ℕ) (h : n < cfg0.N) :
    PhiS m c (n + 1) h = iprop(iprop((∃ d, owns (c : Thread nD τ) sc0 fullShare d) ∗ (∃ d, owns (c : Thread nD τ) sc1 fullShare d) ∗ owns (c : Thread nD τ) sc2 fullShare (rowAt m c ⟨n, h⟩) ∗ (∃ d, owns (c : Thread nD τ) sc3 fullShare d)
      ∗ owns (c : Thread nD τ) sc4 fullShare (haloV (iblk m c 0 ⟨n, h⟩)) ∗ (∃ d, owns (c : Thread nD τ) sc5 fullShare d)) ∗ (∃ r, prngReg c r)) := rfl

/-- At any point the invariant gives the scratches at some contents. -/
theorem PhiS_any (c : Dev nD) (n : ℕ) (h : n ≤ cfg0.N) : PhiS m c n h ⊢ Pipeline.ΦA spec0 c := by
  cases n with
  | zero => exact Idealize.SL.BI.Entails.refl _
  | succ n =>
    rw [PhiS_succ, PhiA_eq]
    iintro ⟨⟨H0, H1, H2, H3, H4, H5⟩, Hg⟩
    isplitr [Hg]
    · isplitl [H0]; · iexact H0
      isplitl [H1]; · iexact H1
      isplitl [H2]; · iexists _; iexact H2
      isplitl [H3]; · iexact H3
      isplitl [H4]; · iexists _; iexact H4
      iexact H5
    iexact Hg

/-- Inside a batch row the invariant holds the row and the halo the point starts from. -/
theorem PhiS_start (c : Dev nD) (n : ℕ) (h : n ≤ cfg0.N) (h0 : ¬ n % 16 = 0) :
    PhiS m c n h = iprop(iprop((∃ d, owns (c : Thread nD τ) sc0 fullShare d) ∗ (∃ d, owns (c : Thread nD τ) sc1 fullShare d) ∗ owns (c : Thread nD τ) sc2 fullShare (start m c n h).1 ∗ (∃ d, owns (c : Thread nD τ) sc3 fullShare d)
      ∗ owns (c : Thread nD τ) sc4 fullShare (start m c n h).2 ∗ (∃ d, owns (c : Thread nD τ) sc5 fullShare d)) ∗ (∃ r, prngReg c r)) := by
  cases n with
  | zero => exact absurd rfl h0
  | succ n => rw [start_succ m c n h h0]; rfl

/-- The proof data: the arrays as the region finds them, the inputs left in place, the output block of each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d

/-- The body at point `t`, run from the inputs' blocks, the output buffer at anything, and the scratches: it leaves the
    point's output block, row and halo. -/
def leaves (c : Dev nD) (t : Fin cfg0.N) : sProp 𝕄 :=
  iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t)
    ∗ owns (c : Thread nD τ) (ms9 t) fullShare (outAt m c t) ∗ (∃ d, owns (c : Thread nD τ) sc0 fullShare d) ∗ (∃ d, owns (c : Thread nD τ) sc1 fullShare d) ∗ owns (c : Thread nD τ) sc2 fullShare (rowAt m c t)
    ∗ (∃ d, owns (c : Thread nD τ) sc3 fullShare d) ∗ owns (c : Thread nD τ) sc4 fullShare (haloV (iblk m c 0 t)) ∗ (∃ d, owns (c : Thread nD τ) sc5 fullShare d))

set_option maxHeartbeats 3200000 in
/-- The run at a point that begins a batch row. -/
theorem bodyA (c : Dev nD) (t : Fin cfg0.N) (h0 : t.val % 16 = 0) (K : PUnit → sProp 𝕄) :
    iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t)
      ∗ (∃ d, owns (c : Thread nD τ) (ms9 t) fullShare d) ∗ (∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)
      ∗ (leaves m c t -∗ K ⟨⟩)) ⊢ wp frame (wpE (defs₀ (F := F)) Variants.none c none) Set.univ (bodyAt0 t) K := by
  have hO := outsA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) (iblk m c 4 t) (iblk m c 5 t) (iblk m c 6 t) (iblk m c 7 t) (iblk m c 8 t) ((cond0_iff t).mpr h0)
  unfold bodyAt0 leaves
  iintro ⟨H0, H1, H2, H3, H4, H5, H6, H7, H8, H9, H10, H11, H12, H13, H14, H15, Hk⟩
  iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) ((cond0_iff t).mpr h0) (iblk m c 0 t) (iblk m c 1 t) (iblk m c 2 t) (iblk m c 3 t) (iblk m c 4 t) (iblk m c 5 t) (iblk m c 6 t) (iblk m c 7 t) (iblk m c 8 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H0, H1, H2, H3, H4, H5, H6, H7, H8, ⟨%f9, H9⟩, ⟨%f10, H10⟩, ⟨%f11, H11⟩, ⟨%f12, H12⟩, ⟨%f13, H13⟩, ⟨%f14, H14⟩, ⟨%f15, H15⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro
    refine (View.read_writes_eq_canon _ _ _ (View.cover_of_tiledL _ S1x256x2048.size (by sl_kernel_rfl))).trans (hO.1.trans ?_)
    unfold outAt; rw [start_first m c _ _ h0]; rfl
  isplitl [H10]
  · unfold owns; iexists _; iexists _; isplitr
    swap; · iexact H10
    ipureintro; rfl
  isplitl [H11]
  · unfold owns; iexists _; iexists _; isplitr
    swap; · iexact H11
    ipureintro; rfl
  isplitl [H12]
  · unfold owns; iexists _; isplitr
    swap; · iexact H12
    ipureintro
    refine (View.read_writes_eq_canon _ _ _ (View.cover_of_tiledL _ S1x2048.size (by sl_kernel_rfl))).trans (hO.2.1.trans ?_)
    unfold rowAt; rw [start_first m c _ _ h0]; rfl
  isplitl [H13]
  · unfold owns; iexists _; iexists _; isplitr
    swap; · iexact H13
    ipureintro; rfl
  isplitl [H14]
  · unfold owns; iexists _; isplitr
    swap; · iexact H14
    ipureintro
    refine (View.read_writes_eq_canon _ _ _ (View.cover_of_tiledL _ S8x2048.size (by sl_kernel_rfl))).trans (hO.2.2.trans ?_)
    rfl
  unfold owns; iexists _; iexists _; isplitr
  swap; · iexact H15
  ipureintro; rfl

set_option maxHeartbeats 3200000 in
/-- The run at a point that continues a batch row. -/
theorem bodyB (c : Dev nD) (t : Fin cfg0.N) (h0 : ¬ t.val % 16 = 0) (K : PUnit → sProp 𝕄) :
    iprop(owns (c : Thread nD τ) (ms0 t) fullShare (iblk m c 0 t) ∗ owns (c : Thread nD τ) (ms1 t) fullShare (iblk m c 1 t) ∗ owns (c : Thread nD τ) (ms2 t) fullShare (iblk m c 2 t) ∗ owns (c : Thread nD τ) (ms3 t) fullShare (iblk m c 3 t) ∗ owns (c : Thread nD τ) (ms4 t) fullShare (iblk m c 4 t) ∗ owns (c : Thread nD τ) (ms5 t) fullShare (iblk m c 5 t) ∗ owns (c : Thread nD τ) (ms6 t) fullShare (iblk m c 6 t) ∗ owns (c : Thread nD τ) (ms7 t) fullShare (iblk m c 7 t) ∗ owns (c : Thread nD τ) (ms8 t) fullShare (iblk m c 8 t)
      ∗ (∃ d, owns (c : Thread nD τ) (ms9 t) fullShare d) ∗ (∃ d, owns (c : Thread nD τ) sc0 fullShare d) ∗ (∃ d, owns (c : Thread nD τ) sc1 fullShare d) ∗ owns (c : Thread nD τ) sc2 fullShare (start m c t.val (Nat.le_of_lt t.isLt)).1 ∗ (∃ d, owns (c : Thread nD τ) sc3 fullShare d) ∗ owns (c : Thread nD τ) sc4 fullShare (start m c t.val (Nat.le_of_lt t.isLt)).2 ∗ (∃ d, owns (c : Thread nD τ) sc5 fullShare d)
      ∗ (leaves m c t -∗ K ⟨⟩)) ⊢ wp frame (wpE (defs₀ (F := F)) Variants.none c none) Set.univ (bodyAt0 t) K := by
  have hO := outsB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) (iblk m c 0 t) (iblk m c 1 t) (iblk m c 2 t) (iblk m c 3 t) (iblk m c 4 t) (iblk m c 5 t) (iblk m c 6 t) (iblk m c 7 t) (iblk m c 8 t) (fun h => h0 ((cond0_iff t).mp h)) (start m c t.val (Nat.le_of_lt t.isLt)).1 (start m c t.val (Nat.le_of_lt t.isLt)).2
  unfold bodyAt0 leaves
  iintro ⟨H0, H1, H2, H3, H4, H5, H6, H7, H8, H9, H10, H11, H12, H13, H14, H15, Hk⟩
  iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) sc4 (Memref.isWhole_whole _) sc5 (Memref.isWhole_whole _) (fun h => h0 ((cond0_iff t).mp h)) (iblk m c 0 t) (iblk m c 1 t) (iblk m c 2 t) (iblk m c 3 t) (iblk m c 4 t) (iblk m c 5 t) (iblk m c 6 t) (iblk m c 7 t) (iblk m c 8 t) (start m c t.val (Nat.le_of_lt t.isLt)).1 (start m c t.val (Nat.le_of_lt t.isLt)).2).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro ⟨H0, H1, H2, H3, H4, H5, H6, H7, H8, ⟨%f9, H9⟩, ⟨%f10, H10⟩, ⟨%f11, H11⟩, ⟨%f12, H12⟩, ⟨%f13, H13⟩, ⟨%f14, H14⟩, ⟨%f15, H15⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · unfold owns; iexists _; isplitr
    swap; · iexact H9
    ipureintro
    refine (View.read_writes_eq_canon _ _ _ (View.cover_of_tiledL _ S1x256x2048.size (by sl_kernel_rfl))).trans (hO.1.trans ?_)
    rfl
  isplitl [H10]
  · unfold owns; iexists _; iexists _; isplitr
    swap; · iexact H10
    ipureintro; rfl
  isplitl [H11]
  · unfold owns; iexists _; iexists _; isplitr
    swap; · iexact H11
    ipureintro; rfl
  isplitl [H12]
  · unfold owns; iexists _; isplitr
    swap; · iexact H12
    ipureintro
    refine (View.read_writes_eq_canon _ _ _ (View.cover_of_tiledL _ S1x2048.size (by sl_kernel_rfl))).trans (hO.2.1.trans ?_)
    rfl
  isplitl [H13]
  · unfold owns; iexists _; iexists _; isplitr
    swap; · iexact H13
    ipureintro; rfl
  isplitl [H14]
  · unfold owns; iexists _; isplitr
    swap; · iexact H14
    ipureintro
    refine (View.read_writes_eq_canon _ _ _ (View.cover_of_tiledL _ S8x2048.size (by sl_kernel_rfl))).trans (hO.2.2.trans ?_)
    rfl
  unfold owns; iexists _; iexists _; isplitr
  swap; · iexact H15
  ipureintro; rfl

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)) ∗ (∃ d, owns (c : Thread nD τ) (ms9 t) fullShare ((dats m 0 c).before 9 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t) ∗ owns (c : Thread nD τ) (ms9 t) fullShare ((dats m 0 c).after 9 t))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, before3, before4, before5, before6, before7, before8]
  rw [show (dats m 0 c).owesAt () t.succ = (dats m 0 c).owesAt () t.castSucc from rfl, after0, after1, after2, after3, after4, after5, after6, after7, after8, after9]
  rw [show (dats m 0 c).Φ t.succ = PhiS m c (t.val + 1) t.isLt from rfl, PhiS_succ, PhiS_castSucc m c t]
  by_cases h0 : t.val % 16 = 0
  · refine (Idealize.SL.BI.Laws.sep_mono_left ((PhiS_any m c t.val (Nat.le_of_lt t.isLt)).trans (Entails.of_eq (PhiA_eq c)))).trans ?_
    iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (bodyA m c t h0 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [S0]; · iexact S0
    isplitl [S1]; · iexact S1
    isplitl [S2]; · iexact S2
    isplitl [S3]; · iexact S3
    isplitl [S4]; · iexact S4
    isplitl [S5]; · iexact S5
    iintro HL
    unfold leaves
    icases HL with ⟨H0, H1, H2, H3, H4, H5, H6, H7, H8, H9, S0, S1, S2, S3, S4, S5⟩
    isplitl [S0 S1 S2 S3 S4 S5 Hg]
    · isplitr [Hg]
      · isplitl [S0]; · iexact S0
        isplitl [S1]; · iexact S1
        isplitl [S2]; · iexact S2
        isplitl [S3]; · iexact S3
        isplitl [S4]; · iexact S4
        iexact S5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [PhiS_start m c t.val (Nat.le_of_lt t.isLt) h0]
    iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (bodyB m c t h0 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [S0]; · iexact S0
    isplitl [S1]; · iexact S1
    isplitl [S2]; · iexact S2
    isplitl [S3]; · iexact S3
    isplitl [S4]; · iexact S4
    isplitl [S5]; · iexact S5
    iintro HL
    unfold leaves
    icases HL with ⟨H0, H1, H2, H3, H4, H5, H6, H7, H8, H9, S0, S1, S2, S3, S4, S5⟩
    isplitl [S0 S1 S2 S3 S4 S5 Hg]
    · isplitr [Hg]
      · isplitl [S0]; · iexact S0
        isplitl [S1]; · iexact S1
        isplitl [S2]; · iexact S2
        isplitl [S3]; · iexact S3
        isplitl [S4]; · iexact S4
        iexact S5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl]
  exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N (Nat.le_refl _) from rfl]
  exact PhiS_any m c _ _

set_option backward.isDefEq.respectTransparency.types false in
/-- The run: every array of the pipeline ends at what the proof data says, every other buffer is as it was, and the
    semaphore counters are zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end as they began, and the counters are zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_quiescent m ρ))

end Cert.KernelIdeal.Lru

end
-- ==== Proof.Lru.Math.lean ====
/- The recurrence in numbers, over the extended reals: the gates, the decay, the input, the convolution, the states; and
   the two identities by which the two programs' ways of writing them agree. -/
module

public import Idealize.ShloMosaic.Lib.Pointwise

@[expose] public section

noncomputable section

namespace Cert.LruMath

open Idealize.ShloMosaic

/-- The logistic function. -/
def sg (z : EReal) : EReal := Ideal.div 1 (1 + Ideal.exp (-z))

/-- `log (1 + exp d)`, written so that the exponential does not grow. -/
def sp (d : EReal) : EReal := max d 0 + Ideal.log (1 + Ideal.exp (-(d ⊔ -d)))

/-- A gate: the logistic function of an inner product with the block's channels, plus a bias. -/
def gate (x w : Fin 256 → EReal) (b : EReal) : EReal := sg ((∑ k, x k * w k) + b)

/-- The logarithm of the decay, the decay, and what enters the recurrence. -/
def logA (r lam : EReal) : EReal := Ideal.ofBits .f32 0xC1000000#32 * r * sp (-lam)
def dec (r lam : EReal) : EReal := Ideal.exp (logA r lam)
def inp (r g x lam : EReal) : EReal := Ideal.sqrt (1 - dec r lam * dec r lam) * (g * x)

/-- The value `k` steps back, zero before the sequence begins. -/
def back (X : ℕ → EReal) (t k : ℕ) : EReal := if t < k then 0 else X (t - k)

/-- The causal convolution with four taps. -/
def conv (X : ℕ → EReal) (w : Fin 4 → EReal) (b : EReal) (t : ℕ) : EReal :=
  b + w 3 * X t + w 0 * back X t 3 + w 1 * back X t 2 + w 2 * back X t 1

/-- The states of one channel: from zero, decayed and increased. -/
def state (a u : ℕ → EReal) : ℕ → EReal
  | 0 => 0
  | n + 1 => a n * state a u n + u n

/-- What both programs are given: the projected rows (a gate half, then the recurrence's half), the convolution's taps and
    bias, the two gates' weights and biases by blocks of 256 channels, and the decay's parameter. -/
structure Args where
  P : (⟨3, ![8, 4096, 4096]⟩ : Shape).Idx → EReal
  CW : (⟨2, ![4, 2048]⟩ : Shape).Idx → EReal
  CB : (⟨1, ![2048]⟩ : Shape).Idx → EReal
  WA : (⟨3, ![8, 256, 256]⟩ : Shape).Idx → EReal
  BA : (⟨2, ![8, 256]⟩ : Shape).Idx → EReal
  WX : (⟨3, ![8, 256, 256]⟩ : Shape).Idx → EReal
  BX : (⟨2, ![8, 256]⟩ : Shape).Idx → EReal
  LAM : (⟨1, ![2048]⟩ : Shape).Idx → EReal

/-- The block of 256 channels a channel lies in, its place there, and the channel at a place of a block. -/
def blk (j : Fin 2048) : Fin 8 := ⟨j.val / 256, by omega⟩
def pos (j : Fin 2048) : Fin 256 := ⟨j.val % 256, by omega⟩
def chanOf (n : Fin 8) (k : Fin 256) : Fin 2048 := ⟨256 * n.val + k.val, by omega⟩

variable (A : Args) (b : Fin 8)

/-- The recurrence's half of the rows: channel `j` over time. -/
def chan (j : Fin 2048) (t : ℕ) : EReal :=
  if h : t < 4096 then A.P (ix3 b ⟨t, h⟩ ⟨2048 + j.val, by omega⟩) else 0

/-- The convolved channel. -/
def xcAt (t : ℕ) (j : Fin 2048) : EReal := conv (chan A b j) (fun k => A.CW (ix2 k j)) (A.CB (ix1 j)) t

/-- The two gates, the decay and the input at time `t`, channel `j`. -/
def rAt (t : ℕ) (j : Fin 2048) : EReal :=
  gate (fun k => xcAt A b t (chanOf (blk j) k)) (fun k => A.WA (ix3 (blk j) k (pos j))) (A.BA (ix2 (blk j) (pos j)))
def gAt (t : ℕ) (j : Fin 2048) : EReal :=
  gate (fun k => xcAt A b t (chanOf (blk j) k)) (fun k => A.WX (ix3 (blk j) k (pos j))) (A.BX (ix2 (blk j) (pos j)))
def aAt (j : Fin 2048) (t : ℕ) : EReal := dec (rAt A b t j) (A.LAM (ix1 j))
def uAt (j : Fin 2048) (t : ℕ) : EReal := inp (rAt A b t j) (gAt A b t j) (xcAt A b t j) (A.LAM (ix1 j))

/-- The state before time `t`, and the result: the state after time `t` times the gate half. -/
def hAt (j : Fin 2048) (t : ℕ) : EReal := state (aAt A b j) (uAt A b j) t
def resAt (t : Fin 4096) (j : Fin 2048) : EReal := hAt A b j (t.val + 1) * A.P (ix3 b t ⟨j.val, by omega⟩)

end Cert.LruMath

end
-- ==== Proof.Lru.Block.lean ====
/- The recurrence kernel's vector expressions read at an index, over the extended reals. -/
module

public import proofs.«01_k».proof.Proof.Lru.Frame
public import proofs.«01_k».proof.Proof.Lru.Math

@[expose] public section

set_option maxRecDepth 16384

noncomputable section

namespace Cert.KernelIdeal.Lru

open Cert.KernelIdeal.Gen Cert.LruMath
open Idealize.ShloMosaic Idealize.ShloMosaic.TcCoe Idealize.ShloMosaic.Tactic

theorem aBlk_apply (xb : Vec Ideal S256x256 .f32) (wa : Vec Ideal S1x256x256 .bf16) (ba lam : Vec Ideal S1x256 .f32) (r j : Fin 256) :
    aBlk xb wa ba lam (ix2 r j)
      = dec (gate (fun k => xb (ix2 r k)) (fun k => wa (ix3 0 k j)) (ba (ix2 0 j))) (lam (ix2 0 j)) := by
  unfold aBlk dec logA gate sg sp
  pointwise [k0_pay32, k0_pay31, k0_pay29, k0_pay28, zero_sub]
  rfl

theorem uBlk_apply (xb : Vec Ideal S256x256 .f32) (wa wx : Vec Ideal S1x256x256 .bf16) (ba bx lam : Vec Ideal S1x256 .f32) (r j : Fin 256) :
    uBlk xb wa wx ba bx lam (ix2 r j)
      = inp (gate (fun k => xb (ix2 r k)) (fun k => wa (ix3 0 k j)) (ba (ix2 0 j)))
          (gate (fun k => xb (ix2 r k)) (fun k => wx (ix3 0 k j)) (bx (ix2 0 j))) (xb (ix2 r j)) (lam (ix2 0 j)) := by
  unfold uBlk inp dec logA gate sg sp
  pointwise [k0_pay33, k0_pay31, k0_pay30, k0_pay29, k0_pay28, zero_sub]
  rfl

theorem outV_apply (a u : Vec Ideal S256x2048 .f32) (h0 : Vec Ideal S1x2048 .f32) (g : Vec Ideal S1x256x2048 .f32) (r : Fin 256) (j : Fin 2048) :
    outV a u h0 g (ix3 0 r j) = hrows a u h0 (ix2 r j) * g (ix3 0 r j) := by
  unfold outV
  pointwise [k0_pay8]

theorem haloV_apply (x : Vec Ideal S1x256x2048 .f32) (r : Fin 8) (j : Fin 2048) :
    haloV x (ix2 r j) = x (ix3 0 ⟨248 + r.val, by omega⟩ j) := by
  unfold haloV
  pointwise [k0_pay24]

theorem zrow_apply (j : Fin 2048) : k0_pay20 (F := Ideal) (ix2 0 j) = 0 := by
  pointwise [k0_pay20]

theorem zhalo_apply (r : Fin 8) (j : Fin 2048) : k0_pay21 (F := Ideal) (ix2 r j) = 0 := by
  pointwise [k0_pay21]

theorem xcV_apply (cw : Vec Ideal S4x2048 .f32) (cb : Vec Ideal S1x2048 .f32) (l : Vec Ideal S8x2048 .f32) (x : Vec Ideal S1x256x2048 .f32)
    (r : Fin 256) (j : Fin 2048) :
    xcV cw cb l x (ix2 r j) = cb (ix2 0 j) + cw (ix2 3 j) * x (ix3 0 r j) + cw (ix2 0 j) * bufV l x (ix2 ⟨5 + r.val, by omega⟩ j)
      + cw (ix2 1 j) * bufV l x (ix2 ⟨6 + r.val, by omega⟩ j) + cw (ix2 2 j) * bufV l x (ix2 ⟨7 + r.val, by omega⟩ j) := by
  unfold xcV
  pointwise [k0_pay25, k0_pay26, k0_pay27]

end Cert.KernelIdeal.Lru

end
-- ==== Proof.Lru.Rows.lean ====
/- What the recurrence kernel's result array holds: every channel's states, times the gate. -/
module

public import proofs.«01_k».proof.Proof.Lru.Block
public import Idealize.ShloMosaic.Lib.Pipeline.ValueKit

@[expose] public section

set_option maxRecDepth 16384

noncomputable section

namespace Cert.KernelIdeal.Lru

open Cert.KernelIdeal.Gen Cert.LruMath
open Idealize.ShloMosaic Idealize.ShloMosaic.TcCoe Idealize.ShloMosaic.Tactic

/-- Which block of its array each window holds at a point: batch row `t / 16`, time block `t % 16`. -/
theorem index_at : ∀ t : Fin grid0.N, win0_0.index t = ![t.val / 16, t.val % 16, 1] ∧ win0_1.index t = ![t.val / 16, t.val % 16, 0]
    ∧ win0_2.index t = ![0, 0] ∧ win0_3.index t = ![0, 0] ∧ win0_4.index t = ![0, 0, 0] ∧ win0_5.index t = ![0, 0, 0]
    ∧ win0_6.index t = ![0, 0] ∧ win0_7.index t = ![0, 0] ∧ win0_8.index t = ![0, 0] ∧ win0_9.index t = ![t.val / 16, t.val % 16, 0] := by
  decide +kernel

variable (m : (ℓ : Loc nD τ sig) → Buf (Elt Ideal) ℓ)

/-- What the program is given, by name. -/
def args (c : Dev nD) : Args where
  P := m ((c : Thread nD τ).loc main_arg0)
  CW := m ((c : Thread nD τ).loc main_arg1)
  CB := m ((c : Thread nD τ).loc main_arg2)
  WA := m ((c : Thread nD τ).loc main_arg3)
  BA := m ((c : Thread nD τ).loc main_arg4)
  WX := m ((c : Thread nD τ).loc main_arg5)
  BX := m ((c : Thread nD τ).loc main_arg6)
  LAM := m ((c : Thread nD τ).loc main_arg7)

/-- The batch row of a point. -/
def bat (t : Fin cfg0.N) : Fin 8 := ⟨t.val / 16, by have : t.val < 128 := t.isLt; omega⟩

theorem x_block (c : Dev nD) (t : Fin cfg0.N) (r : Fin 256) (j : Fin 2048) :
    iblk m c 0 t (ix3 0 r j) = chan (args m c) (bat t) j (256 * (t.val % 16) + r.val) := by
  have ht : t.val < 128 := t.isLt
  unfold chan
  rw [dif_pos (by omega)]
  unfold args bat
  blk_ext! [iblk, V, index_at t]

theorem gate_block (c : Dev nD) (t : Fin cfg0.N) (r : Fin 256) (j : Fin 2048) :
    iblk m c 1 t (ix3 0 r j) = (args m c).P (ix3 (bat t) ⟨256 * (t.val % 16) + r.val, by omega⟩ ⟨j.val, by omega⟩) := by
  have ht : t.val < 128 := t.isLt
  unfold args bat
  blk_ext! [iblk, V, index_at t]

theorem cw_block (c : Dev nD) (t : Fin cfg0.N) (k : Fin 4) (j : Fin 2048) : iblk m c 2 t (ix2 k j) = (args m c).CW (ix2 k j) := by
  unfold args
  blk_ext! [iblk, V, index_at t]

theorem cb_block (c : Dev nD) (t : Fin cfg0.N) (j : Fin 2048) : iblk m c 3 t (ix2 0 j) = (args m c).CB (ix1 j) := by
  unfold args
  blk_ext! [iblk, V, index_at t]

theorem wa_block (c : Dev nD) (t : Fin cfg0.N) (n : Fin 8) (k l : Fin 256) : iblk m c 4 t (ix3 n k l) = (args m c).WA (ix3 n k l) := by
  unfold args
  blk_ext! [iblk, V, index_at t]

theorem wx_block (c : Dev nD) (t : Fin cfg0.N) (n : Fin 8) (k l : Fin 256) : iblk m c 5 t (ix3 n k l) = (args m c).WX (ix3 n k l) := by
  unfold args
  blk_ext! [iblk, V, index_at t]

theorem ba_block (c : Dev nD) (t : Fin cfg0.N) (j : Fin 2048) : iblk m c 6 t (ix2 0 j) = (args m c).BA (ix2 (blk j) (pos j)) := by
  unfold args blk pos
  blk_ext! [iblk, V, index_at t]

theorem bx_block (c : Dev nD) (t : Fin cfg0.N) (j : Fin 2048) : iblk m c 7 t (ix2 0 j) = (args m c).BX (ix2 (blk j) (pos j)) := by
  unfold args blk pos
  blk_ext! [iblk, V, index_at t]

theorem lam_block (c : Dev nD) (t : Fin cfg0.N) (j : Fin 2048) : iblk m c 8 t (ix2 0 j) = (args m c).LAM (ix1 j) := by
  unfold args
  blk_ext! [iblk, V, index_at t]

end Cert.KernelIdeal.Lru

end
-- ==== Proof.Lru.Value.lean ====
/- What the recurrence kernel's result array holds: every channel's states, times the gate. -/
module

public import proofs.«01_k».proof.Proof.Lru.Rows

@[expose] public section

set_option maxRecDepth 16384

noncomputable section

namespace Cert.KernelIdeal.Lru

open Cert.KernelIdeal.Gen Cert.LruMath
open Idealize.ShloMosaic Idealize.ShloMosaic.TcCoe Idealize.ShloMosaic.Tactic

/-- The buffer of halo and block, read in either part. -/
theorem bufV_halo (l : Vec Ideal S8x2048 .f32) (x : Vec Ideal S1x256x2048 .f32) (q : Fin 264) (j : Fin 2048) (h : q.val < 8) :
    bufV l x (ix2 q j) = l (ix2 ⟨q.val, h⟩ j) := by
  unfold bufV
  exact dif_pos h
theorem bufV_block (l : Vec Ideal S8x2048 .f32) (x : Vec Ideal S1x256x2048 .f32) (q : Fin 264) (j : Fin 2048) (h : ¬ q.val < 8) :
    bufV l x (ix2 q j) = x (ix3 0 ⟨q.val - 8, by omega⟩ j) := by
  unfold bufV
  exact dif_neg h

/-- The halo before the block and the block itself, read `k` rows back. -/
theorem bufV_back (X : Fin 2048 → ℕ → EReal) (s : ℕ) (l : Vec Ideal S8x2048 .f32) (x : Vec Ideal S1x256x2048 .f32)
    (hl : ∀ r j, l (ix2 r j) = back (X j) s (8 - r.val)) (hx : ∀ r j, x (ix3 0 r j) = X j (s + r.val))
    (k : ℕ) (hk : k < 8) (hk0 : 0 < k) (r : Fin 256) (j : Fin 2048) (q : Fin 264) (hq : q.val = 8 - k + r.val) :
    bufV l x (ix2 q j) = back (X j) (s + r.val) k := by
  by_cases h : q.val < 8
  · rw [bufV_halo l x q j h, hl]
    unfold back
    dsimp only
    by_cases h1 : s + r.val < k
    · rw [if_pos h1, if_pos (by omega)]
    · rw [if_neg h1, if_neg (by omega)]
      congr 1
      omega
  · rw [bufV_block l x q j h, hx]
    unfold back
    dsimp only
    rw [if_neg (by omega)]
    congr 1
    omega

/-- The decays and the inputs, at a row and a channel. -/
theorem AV_apply (xc : Vec Ideal S256x2048 .f32) (wa : Vec Ideal S8x256x256 .bf16) (ba lam : Vec Ideal S1x2048 .f32) (r : Fin 256)
    (j : Fin 2048) : AV xc wa ba lam (ix2 r j)
      = dec (gate (fun k => xc (ix2 r (chanOf (blk j) k))) (fun k => wa (ix3 (blk j) k (pos j))) (ba (ix2 0 j))) (lam (ix2 0 j)) := by
  have e : (⟨256 * (blk j).val + (pos j).val, by unfold blk pos; dsimp only; omega⟩ : Fin 2048) = j := Fin.ext (Nat.div_add_mod _ _)
  have h := aBlk_apply (colsOf xc (blk j)) (wOf wa (blk j)) (rowCols ba (blk j)) (rowCols lam (blk j)) r (pos j)
  conv_rhs => rw [show ba (ix2 0 j) = rowCols ba (blk j) (ix2 0 (pos j)) from congrArg (fun q => ba (ix2 0 q)) e.symm,
    show lam (ix2 0 j) = rowCols lam (blk j) (ix2 0 (pos j)) from congrArg (fun q => lam (ix2 0 q)) e.symm]
  exact h

theorem UV_apply (xc : Vec Ideal S256x2048 .f32) (wa wx : Vec Ideal S8x256x256 .bf16) (ba bx lam : Vec Ideal S1x2048 .f32) (r : Fin 256)
    (j : Fin 2048) : UV xc wa wx ba bx lam (ix2 r j)
      = inp (gate (fun k => xc (ix2 r (chanOf (blk j) k))) (fun k => wa (ix3 (blk j) k (pos j))) (ba (ix2 0 j)))
          (gate (fun k => xc (ix2 r (chanOf (blk j) k))) (fun k => wx (ix3 (blk j) k (pos j))) (bx (ix2 0 j)))
          (xc (ix2 r j)) (lam (ix2 0 j)) := by
  have e : (⟨256 * (blk j).val + (pos j).val, by unfold blk pos; dsimp only; omega⟩ : Fin 2048) = j := Fin.ext (Nat.div_add_mod _ _)
  have h := uBlk_apply (colsOf xc (blk j)) (wOf wa (blk j)) (wOf wx (blk j)) (rowCols ba (blk j)) (rowCols bx (blk j)) (rowCols lam (blk j)) r (pos j)
  conv_rhs => rw [show ba (ix2 0 j) = rowCols ba (blk j) (ix2 0 (pos j)) from congrArg (fun q => ba (ix2 0 q)) e.symm,
    show bx (ix2 0 j) = rowCols bx (blk j) (ix2 0 (pos j)) from congrArg (fun q => bx (ix2 0 q)) e.symm,
    show xc (ix2 r j) = colsOf xc (blk j) (ix2 r (pos j)) from congrArg (fun q => xc (ix2 r q)) e.symm,
    show lam (ix2 0 j) = rowCols lam (blk j) (ix2 0 (pos j)) from congrArg (fun q => lam (ix2 0 q)) e.symm]
  exact h

variable (m : (ℓ : Loc nD τ sig) → Buf (Elt Ideal) ℓ)

section Block

variable (c : Dev nD) (t : Fin cfg0.N) (l : Vec Ideal S8x2048 .f32)
  (hl : ∀ r j, l (ix2 r j) = back (chan (args m c) (bat t) j) (256 * (t.val % 16)) (8 - r.val))
include hl

/-- The convolved block. -/
theorem xc_apply (r : Fin 256) (j : Fin 2048) :
    xcV (iblk m c 2 t) (iblk m c 3 t) l (iblk m c 0 t) (ix2 r j) = xcAt (args m c) (bat t) (256 * (t.val % 16) + r.val) j := by
  have hb := bufV_back (chan (args m c) (bat t)) _ l (iblk m c 0 t) hl (x_block m c t)
  rw [xcV_apply, hb 3 (by decide) (by decide) r j ⟨5 + r.val, by omega⟩ rfl, hb 2 (by decide) (by decide) r j ⟨6 + r.val, by omega⟩ rfl,
    hb 1 (by decide) (by decide) r j ⟨7 + r.val, by omega⟩ rfl, x_block, cb_block]
  simp only [cw_block]
  rfl

theorem decays_apply (r : Fin 256) (j : Fin 2048) :
    decays m c t l (ix2 r j) = aAt (args m c) (bat t) j (256 * (t.val % 16) + r.val) := by
  unfold decays blkA
  rw [AV_apply, ba_block, lam_block]
  simp only [wa_block, xc_apply m c t l hl]
  rfl

theorem inputs_apply (r : Fin 256) (j : Fin 2048) :
    inputs m c t l (ix2 r j) = uAt (args m c) (bat t) j (256 * (t.val % 16) + r.val) := by
  unfold inputs blkU
  rw [UV_apply, ba_block, bx_block, lam_block]
  simp only [wa_block, wx_block, xc_apply m c t l hl]
  rfl

/-- The rows of a block go on with the states. -/
theorem hrow_apply (h0 : Vec Ideal S1x2048 .f32) (hh : ∀ j, h0 (ix2 0 j) = hAt (args m c) (bat t) j (256 * (t.val % 16)))
    (j : Fin 2048) : ∀ k, k ≤ 256 →
      hrow (decays m c t l) (inputs m c t l) h0 k (ix2 0 j) = hAt (args m c) (bat t) j (256 * (t.val % 16) + k)
  | 0, _ => hh j
  | k + 1, hk => by
    have ih := hrow_apply h0 hh j k (by omega)
    have e : (⟨k % 256, Nat.mod_lt _ (by decide)⟩ : Fin 256) = ⟨k, by omega⟩ := Fin.ext (Nat.mod_eq_of_lt (by omega))
    have ha := decays_apply m c t l hl ⟨k, by omega⟩ j
    have hu := inputs_apply m c t l hl ⟨k, by omega⟩ j
    change decays m c t l (ix2 ⟨k % 256, _⟩ j) * hrow (decays m c t l) (inputs m c t l) h0 k (ix2 0 j)
      + inputs m c t l (ix2 ⟨k % 256, _⟩ j) = _
    rw [ih, e, ha, hu]
    rfl

end Block

/-- What a point starts from: the states so far and the eight rows before. -/
theorem start_apply (c : Dev nD) : ∀ (n : ℕ) (h : n < cfg0.N),
    (∀ j, (start m c n (Nat.le_of_lt h)).1 (ix2 0 j) = hAt (args m c) (bat ⟨n, h⟩) j (256 * (n % 16)))
    ∧ ∀ r j, (start m c n (Nat.le_of_lt h)).2 (ix2 r j) = back (chan (args m c) (bat ⟨n, h⟩) j) (256 * (n % 16)) (8 - r.val) := by
  intro n
  induction n with
  | zero =>
    intro h
    rw [start_first m c 0 _ rfl]
    refine ⟨fun j => zrow_apply j, fun r j => (zhalo_apply r j).trans ?_⟩
    unfold back
    rw [if_pos (by omega)]
  | succ n ih =>
    intro h
    obtain ⟨i1, i2⟩ := ih (Nat.lt_of_succ_lt h)
    by_cases h0 : (n + 1) % 16 = 0
    · rw [start_first m c (n + 1) _ h0, h0]
      refine ⟨fun j => zrow_apply j, fun r j => (zhalo_apply r j).trans ?_⟩
      unfold back
      rw [if_pos (by omega)]
    · rw [start_succ m c n _ h0]
      have eb : bat ⟨n + 1, h⟩ = bat ⟨n, Nat.lt_of_succ_lt h⟩ := Fin.ext (by unfold bat; dsimp only; omega)
      have es : 256 * ((n + 1) % 16) = 256 * (n % 16) + 256 := by omega
      rw [eb, es]
      refine ⟨fun j => hrow_apply m c ⟨n, Nat.lt_of_succ_lt h⟩ _ i2 _ i1 j 256 le_rfl, fun r j => ?_⟩
      refine (haloV_apply (iblk m c 0 ⟨n, Nat.lt_of_succ_lt h⟩) r j).trans ((x_block m c _ _ j).trans ?_)
      unfold back
      rw [if_neg (by omega)]
      congr 1
      dsimp only
      omega

/-- A point's block of the result. -/
theorem outAt_apply (c : Dev nD) (t : Fin cfg0.N) (r : Fin 256) (j : Fin 2048) :
    outAt m c t (ix3 0 r j) = resAt (args m c) (bat t) ⟨256 * (t.val % 16) + r.val, by omega⟩ j := by
  obtain ⟨i1, i2⟩ := start_apply m c t.val t.isLt
  refine (outV_apply _ _ _ _ r j).trans ?_
  rw [gate_block]
  exact congrArg (· * _) (hrow_apply m c t _ i2 _ i1 j (r.val + 1) (by omega))

/-- The result array. -/
theorem out_array (c : Dev nD) :
    (dats m 0 c).arrAt 9 cfg0.N = fun y => resAt (args m c) (y 0) (y 1) (y 2) := by
  refine (dats m 0 c).arrAt_eq_of_covers 9 _ (by decide +kernel) fun t hf y => ?_
  blk_simp
  rw [after9]
  obtain ⟨r, j, rfl⟩ : ∃ (r : Fin 256) (j : Fin 2048), y = ix3 (0 : Fin 1) r j := ⟨y 1, y 2, by
    funext a; apply Fin.ext
    match a with
    | ⟨0, _⟩ => exact Nat.lt_one_iff.mp (y 0).isLt
    | ⟨1, _⟩ => rfl
    | ⟨2, _⟩ => rfl⟩
  rw [outAt_apply]
  have e : (win0_9.blk t).view.emb (ix3 (0 : Fin 1) r j) = ix3 (bat t) ⟨256 * (t.val % 16) + r.val, by omega⟩ j := by
    unfold bat
    blk_ext! [index_at t]
  rw [e]
  rfl

end Cert.KernelIdeal.Lru

end
-- ==== Proof.Lru.RefConv.lean ====
/- The reference's arrays at an index: the convolved channels. -/
module

public import proofs.«01_k».proof.Proof.Gen.ReferenceIdeal.Step
public import proofs.«01_k».proof.Proof.Lru.Math
public import Idealize.ShloMosaic.Lib.KernelVsHost

@[expose] public section

set_option maxRecDepth 16384

noncomputable section

namespace Cert.ReferenceIdeal.Lru

open Cert.ReferenceIdeal.Step Cert.LruMath
open Idealize.ShloMosaic Idealize.ShloMosaic.TcCoe Idealize.ShloMosaic.Tactic

variable (a : Args) (b : Fin 8)

/-- The channels with three zeros in front. -/
theorem padded_apply (s : Fin 4099) (j : Fin 2048) :
    A_main_v1 (F := Ideal) a.P a.CW a.CB a.WA a.BA a.WX a.BX a.LAM (ix3 b s j) = back (chan a b j) s.val 3 := by
  unfold A_main_v1 back chan
  by_cases h : s.val < 3
  · rw [if_pos h]
    refine (pad_apply_of_not_inside _ _ _ _ _ _ _ _ (1 : Fin 3) (fun hh => ?_)).trans ?_
    · have := hh.1
      change 3 ≤ s.val at this
      omega
    · pointwise [K_main_call0_v0, K_main_c]
      show (((0#32 : BitVec 32).toInt : ℝ) : EReal) = 0
      simp
  · rw [if_neg h, dif_pos (by omega)]
    refine (pad_apply_of_inside _ _ _ _ _ _ _ _ (ix3 b (⟨s.val - 3, by omega⟩ : Fin 4096) j) (fun d => ?_)).trans ?_
    · match d with
      | ⟨0, _⟩ => show b.val = 0 + b.val * (0 + 1); omega
      | ⟨1, _⟩ => show s.val = 3 + (s.val - 3) * (0 + 1); omega
      | ⟨2, _⟩ => show j.val = 0 + j.val * (0 + 1); omega
    · pointwise [A_main_v0]

theorem back_add (X : ℕ → EReal) (t k : ℕ) (hk : k ≤ 3) : back X (t + k) 3 = back X t (3 - k) := by
  unfold back
  by_cases h : t + k < 3
  · rw [if_pos h, if_pos (by omega)]
  · rw [if_neg h, if_neg (by omega)]
    congr 1
    omega

/-- The convolved channel. -/
theorem conv_apply (t : Fin 4096) (j : Fin 2048) :
    A_main_v33 (F := Ideal) a.P a.CW a.CB a.WA a.BA a.WX a.BX a.LAM (ix3 b t j) = xcAt a b t.val j := by
  have hp := fun (k : ℕ) (hk : k ≤ 3) => (padded_apply a b ⟨t.val + k, by omega⟩ j).trans (back_add _ _ _ hk)
  have h0 := hp 0 (by decide)
  have h1 := hp 1 (by decide)
  have h2 := hp 2 (by decide)
  have h3 := hp 3 (by decide)
  generalize hq : A_main_v1 (F := Ideal) a.P a.CW a.CB a.WA a.BA a.WX a.BX a.LAM = q at h0 h1 h2 h3
  unfold xcAt conv
  rw [show chan a b j t.val = back (chan a b j) t.val 0 from rfl, ← h0, ← h1, ← h2, ← h3]
  pointwise [A_main_v33, A_main_v32, A_main_v31, A_main_v30, A_main_v29, A_main_v28, A_main_v27, A_main_v26, A_main_v25, A_main_v24,
    A_main_v23, A_main_v22, A_main_v21, A_main_v20, A_main_v19, A_main_v18, A_main_v17,
    A_main_v16, A_main_v15, A_main_v14, A_main_v13, A_main_v12, A_main_v11, A_main_v10,
    A_main_v9, A_main_v7, A_main_v6, A_main_v5, A_main_v4, A_main_v3, A_main_v2, K_main_v8, K_main_cst, hq, zero_add]
  have e : ∀ k : ℕ, ∀ hk : k + t.val < 4099, ∀ hk' : t.val + k < 4099,
      q (ix3 b (⟨k + t.val, hk⟩ : Fin 4099) j) = q (ix3 b (⟨t.val + k, hk'⟩ : Fin 4099) j) := fun k _ _ =>
    congrArg (fun z => q (ix3 b z j)) (Fin.ext (Nat.add_comm k t.val))
  rw [e 1 _ (by omega), e 2 _ (by omega), e 3 _ (by omega)]
  ac_rfl

end Cert.ReferenceIdeal.Lru

end
-- ==== Proof.Lru.RefGates.lean ====
/- The reference's arrays at an index: the gates, the decays and the inputs. -/
module

public import proofs.«01_k».proof.Proof.Gen.ReferenceIdeal.Step
public import proofs.«01_k».proof.Proof.Lru.Math

@[expose] public section

set_option maxRecDepth 16384

noncomputable section

namespace Cert.ReferenceIdeal.Lru

open Cert.ReferenceIdeal.Step Cert.LruMath
open Idealize.ShloMosaic Idealize.ShloMosaic.TcCoe Idealize.ShloMosaic.Tactic

variable (a : Args) (b : Fin 8)

/-- The softplus of the parameter. -/
theorem softplus_apply (j : Fin 2048) :
    A_main_v62 (F := Ideal) a.P a.CW a.CB a.WA a.BA a.WX a.BX a.LAM (ix1 j) = sp (-(a.LAM (ix1 j))) := by
  unfold sp
  pointwise [A_main_v62, A_main_call1_v11, A_main_call1_v10, A_main_call1_v9, A_main_call1_v8, A_main_call1_v7, A_main_call1_v6,
    A_main_call1_v4, A_main_call1_v3, A_main_call1_v1, A_main_v61, K_main_call1_v0, K_main_call1_v2, K_main_call1_v5, K_main_call1_cst]
  rw [if_neg (fun h => h rfl)]
  rfl

/-- The two gates. -/
theorem gateA_apply (x : (⟨S8x4096x2048, .f32⟩ : BufTy).Contents (Elt Ideal))
    (hx : A_main_v33 (F := Ideal) a.P a.CW a.CB a.WA a.BA a.WX a.BX a.LAM = x) (t : Fin 4096) (j : Fin 2048) :
    A_main_v46 (F := Ideal) a.P a.CW a.CB a.WA a.BA a.WX a.BX a.LAM (ix3 b t j)
      = gate (fun k => x (ix3 b t (chanOf (blk j) k))) (fun k => a.WA (ix3 (blk j) k (pos j))) (a.BA (ix2 (blk j) (pos j))) := by
  unfold gate sg
  pointwise [A_main_v46, A_main_v45, A_main_v43, A_main_v41, A_main_v40, A_main_v39, A_main_v38, A_main_v37, A_main_v36, A_main_v35, A_main_v34,
    K_main_v44, K_main_v42, K_main_cst_0, K_main_cst_1, hx]
  refine congrArg (fun z => Ideal.div 1 (1 + Ideal.exp (-(z + _)))) (Finset.sum_congr rfl fun k _ => ?_)
  rw [mul_comm]
  refine congrArg (fun z => x (ix3 b t z) * _) (Fin.ext ?_)
  unfold chanOf blk
  exact congrArg (· + k.val) (Nat.mul_comm _ _)

theorem gateX_apply (x : (⟨S8x4096x2048, .f32⟩ : BufTy).Contents (Elt Ideal))
    (hx : A_main_v33 (F := Ideal) a.P a.CW a.CB a.WA a.BA a.WX a.BX a.LAM = x) (t : Fin 4096) (j : Fin 2048) :
    A_main_v58 (F := Ideal) a.P a.CW a.CB a.WA a.BA a.WX a.BX a.LAM (ix3 b t j)
      = gate (fun k => x (ix3 b t (chanOf (blk j) k))) (fun k => a.WX (ix3 (blk j) k (pos j))) (a.BX (ix2 (blk j) (pos j))) := by
  unfold gate sg
  pointwise [A_main_v58, A_main_v57, A_main_v55, A_main_v53, A_main_v52, A_main_v51, A_main_v50, A_main_v49, A_main_v48, A_main_v47, A_main_v34,
    K_main_v56, K_main_v54, K_main_cst_2, K_main_cst_3, hx]
  refine congrArg (fun z => Ideal.div 1 (1 + Ideal.exp (-(z + _)))) (Finset.sum_congr rfl fun k _ => ?_)
  rw [mul_comm]
  refine congrArg (fun z => x (ix3 b t z) * _) (Fin.ext ?_)
  unfold chanOf blk
  exact congrArg (· + k.val) (Nat.mul_comm _ _)

/-- The constant two. -/
theorem two_f32 : Ideal.ofBits .f32 0x40000000#32 = 2 := by
  rw [show (2 : EReal) = ((2 : ℝ) : EReal) from rfl]
  simp [Ideal.ofBits, Ideal.ieee, -EReal.coe_mul]
  norm_num

/-- One minus a square of an exponential, as the reference writes it. -/
theorem sqrt_form (L : EReal) : Ideal.sqrt (-(Ideal.expm1 (2 * L))) = Ideal.sqrt (1 - Ideal.exp L * Ideal.exp L) := by
  congr 1
  unfold Ideal.expm1
  induction L using EReal.rec with
  | bot =>
    rw [EReal.mul_bot_of_pos (by norm_num), show Ideal.exp ⊥ = 0 from rfl]
    simp
  | top =>
    rw [EReal.mul_top_of_pos (by norm_num), show Ideal.exp ⊤ = ⊤ from rfl, show (1 : EReal) = ((1 : ℝ) : EReal) from rfl, EReal.top_sub_coe]
    simp
  | coe r =>
    rw [show (2 : EReal) * (r : EReal) = ((2 * r : ℝ) : EReal) from by push_cast; rfl,
      show Ideal.exp ((2 * r : ℝ) : EReal) = ((Real.exp (2 * r) : ℝ) : EReal) from rfl,
      show Ideal.exp (r : EReal) = ((Real.exp r : ℝ) : EReal) from rfl, two_mul, Real.exp_add]
    norm_cast
    ring_nf

/-- The decay and the input, from the two gates and the convolved channel. -/
theorem decay_apply (t : Fin 4096) (j : Fin 2048) :
    A_main_v66 (F := Ideal) a.P a.CW a.CB a.WA a.BA a.WX a.BX a.LAM (ix3 b t j)
      = dec (A_main_v46 (F := Ideal) a.P a.CW a.CB a.WA a.BA a.WX a.BX a.LAM (ix3 b t j)) (a.LAM (ix1 j)) := by
  have h := softplus_apply a j
  generalize hr : A_main_v46 (F := Ideal) a.P a.CW a.CB a.WA a.BA a.WX a.BX a.LAM = r
  generalize hs : A_main_v62 (F := Ideal) a.P a.CW a.CB a.WA a.BA a.WX a.BX a.LAM = s at h
  unfold dec logA
  rw [← h]
  pointwise [A_main_v66, A_main_v65, A_main_v64, A_main_v63, A_main_v60, K_main_v59, K_main_cst_4, hr, hs]

theorem input_apply (t : Fin 4096) (j : Fin 2048) :
    A_main_v73 (F := Ideal) a.P a.CW a.CB a.WA a.BA a.WX a.BX a.LAM (ix3 b t j)
      = inp (A_main_v46 (F := Ideal) a.P a.CW a.CB a.WA a.BA a.WX a.BX a.LAM (ix3 b t j))
          (A_main_v58 (F := Ideal) a.P a.CW a.CB a.WA a.BA a.WX a.BX a.LAM (ix3 b t j))
          (A_main_v33 (F := Ideal) a.P a.CW a.CB a.WA a.BA a.WX a.BX a.LAM (ix3 b t j)) (a.LAM (ix1 j)) := by
  have h := softplus_apply a j
  generalize hr : A_main_v46 (F := Ideal) a.P a.CW a.CB a.WA a.BA a.WX a.BX a.LAM = r
  generalize hg : A_main_v58 (F := Ideal) a.P a.CW a.CB a.WA a.BA a.WX a.BX a.LAM = g
  generalize hx : A_main_v33 (F := Ideal) a.P a.CW a.CB a.WA a.BA a.WX a.BX a.LAM = x
  generalize hs : A_main_v62 (F := Ideal) a.P a.CW a.CB a.WA a.BA a.WX a.BX a.LAM = s at h
  unfold inp dec
  rw [← sqrt_form, ← two_f32]
  unfold logA
  rw [← h]
  pointwise [A_main_v73, A_main_v72, A_main_v71, A_main_v70, A_main_v69, A_main_v68, A_main_v65, A_main_v64, A_main_v63, A_main_v60,
    K_main_v67, K_main_cst_5, K_main_v59, K_main_cst_4, hr, hg, hx, hs]
  rfl

end Cert.ReferenceIdeal.Lru

end
-- ==== Proof.Lru.RefLoop.lean ====
/- The reference's loop: the carried row and the stacked rows after any number of trips. -/
module

public import proofs.«01_k».proof.Proof.Gen.ReferenceIdeal.Step
public import proofs.«01_k».proof.Proof.Lru.RefConv
public import proofs.«01_k».proof.Proof.Lru.RefGates
public import Idealize.ShloMosaic.Lib.WordCmp

@[expose] public section

set_option maxRecDepth 16384

noncomputable section

namespace Cert.ReferenceIdeal.Lru

open Cert.ReferenceIdeal Cert.ReferenceIdeal.Step Cert.LruMath
open Idealize.ShloMosaic Idealize.ShloMosaic.TcCoe Idealize.ShloMosaic.Tactic

/-- A trip's number, read back from its word. -/
theorem toInt_trip (n : ℕ) (h : n < 4096) : (BitVec.ofNat 32 n).toInt = (n : ℤ) := by
  rw [BitVec.toInt_ofNat']
  exact Int.bmod_eq_of_le (by omega) (by omega)

/-- Where a trip's slices start. -/
theorem start_trip (n : ℕ) (h : n < 4096) : ∀ d : Fin 3,
    (((![(constantI S_ 32 (BitVec.ofNat 32 n) : (⟨S_, .i32⟩ : BufTy).Contents (Elt Ideal)), constantI S_ 32 0#32, constantI S_ 32 0#32] :
      Fin 3 → (⟨S_, .i32⟩ : BufTy).Contents (Elt Ideal))) d (Shape.Idx.first Gen.h_S_)).toInt = ((![n, 0, 0] : Fin 3 → ℕ) d : ℤ) := fun d =>
  match d with
  | ⟨0, _⟩ => toInt_trip n h
  | ⟨1, _⟩ => rfl
  | ⟨2, _⟩ => rfl

theorem slices_trip (n : ℕ) (h : n < 4096) : S4096x8x2048.Slices (![n, 0, 0] : Fin 3 → ℕ) S1x8x2048 :=
  ⟨rfl, fun d => match d with
    | ⟨0, _⟩ => by show n + 1 ≤ 4096; omega
    | ⟨1, _⟩ => by show 0 + 8 ≤ 8; omega
    | ⟨2, _⟩ => by show 0 + 2048 ≤ 2048; omega⟩

variable (s : State Ideal) (n : ℕ) (h : n < 4096) (b : Fin 8) (j : Fin 2048)
include h

theorem row0 : b3 n s (ix2 b j) = s.main_v78_0 (ix3 ⟨n, h⟩ b j) := by
  unfold b3 b2 b0 b1
  rw [WordCmp.dynamicSlice_eq_extract _ _ _ _ _ (slices_trip n h) (start_trip n h)]
  pointwise []

theorem row1 : b7 n s (ix2 b j) = s.main_v78_1 (ix3 ⟨n, h⟩ b j) := by
  unfold b7 b6 b4 b5
  rw [WordCmp.dynamicSlice_eq_extract _ _ _ _ _ (slices_trip n h) (start_trip n h)]
  pointwise []

/-- The row a trip carries on. -/
theorem carry_step : (step n s).main_v78_3 (ix2 b j)
    = s.main_v78_0 (ix3 ⟨n, h⟩ b j) * s.main_v78_3 (ix2 b j) + s.main_v78_1 (ix3 ⟨n, h⟩ b j) := by
  have h0 := row0 s n h b j
  have h1 := row1 s n h b j
  rw [step_main_v78_3, ← h0, ← h1]
  rfl

/-- The stack after a trip: its row replaced. -/
theorem stack_step (t : Fin 4096) : (step n s).main_v78_4 (ix3 t b j)
    = if t.val = n then (step n s).main_v78_3 (ix2 b j) else s.main_v78_4 (ix3 t b j) := by
  rw [step_main_v78_4, step_main_v78_3]
  unfold b13 b11 b12
  rw [WordCmp.dynamicUpdateSlice_eq_update _ _ _ _ _ (slices_trip n h) (start_trip n h)]
  generalize hq : b9 n s = q
  pointwise [b10, hq]
  by_cases ht : t.val = n
  · rw [dif_pos ⟨by omega, by omega⟩, if_pos ht]
  · rw [dif_neg (by omega), if_neg ht]

omit h s n b j

/-- The decays and the inputs the loop reads. -/
theorem decays_ref (a : Args) (b : Fin 8) (j : Fin 2048) (t : Fin 4096) :
    A_main_v75 (F := Ideal) a.P a.CW a.CB a.WA a.BA a.WX a.BX a.LAM (ix3 t b j) = aAt a b j t.val := by
  have h1 := decay_apply a b t j
  rw [gateA_apply a b _ rfl] at h1
  simp only [conv_apply] at h1
  refine Eq.trans ?_ h1
  generalize hq : A_main_v66 (F := Ideal) a.P a.CW a.CB a.WA a.BA a.WX a.BX a.LAM = q
  pointwise [A_main_v75, hq]

theorem inputs_ref (a : Args) (b : Fin 8) (j : Fin 2048) (t : Fin 4096) :
    A_main_v76 (F := Ideal) a.P a.CW a.CB a.WA a.BA a.WX a.BX a.LAM (ix3 t b j) = uAt a b j t.val := by
  have h1 := input_apply a b t j
  rw [gateA_apply a b _ rfl, gateX_apply a b _ rfl] at h1
  simp only [conv_apply] at h1
  refine Eq.trans ?_ h1
  generalize hq : A_main_v73 (F := Ideal) a.P a.CW a.CB a.WA a.BA a.WX a.BX a.LAM = q
  pointwise [A_main_v76, hq]

/-- The loop's states, one after another. -/
def states (a : Args) : ℕ → State Ideal
  | 0 => init (F := Ideal) a.P a.CW a.CB a.WA a.BA a.WX a.BX a.LAM
  | n + 1 => step n (states a n)

/-- After `n` trips: the carried row holds the states, and so do the rows of the stack made so far. -/
theorem states_apply (a : Args) : ∀ n, n ≤ 4096 →
    (states a n).main_v78_0 = A_main_v75 (F := Ideal) a.P a.CW a.CB a.WA a.BA a.WX a.BX a.LAM
    ∧ (states a n).main_v78_1 = A_main_v76 (F := Ideal) a.P a.CW a.CB a.WA a.BA a.WX a.BX a.LAM
    ∧ (∀ b j, (states a n).main_v78_3 (ix2 b j) = hAt a b j n)
    ∧ ∀ (t : Fin 4096) b j, t.val < n → (states a n).main_v78_4 (ix3 t b j) = hAt a b j (t.val + 1) := by
  intro n
  induction n with
  | zero =>
    intro _
    refine ⟨rfl, rfl, fun b j => ?_, fun t b j h => absurd h (Nat.not_lt_zero _)⟩
    show K_main_v74 (F := Ideal) (ix2 b j) = 0
    pointwise [K_main_v74, K_main_cst_6]
  | succ n ih =>
    intro hn
    obtain ⟨i0, i1, i3, i4⟩ := ih (by omega)
    have hc : ∀ b j, (states a (n + 1)).main_v78_3 (ix2 b j) = hAt a b j (n + 1) := fun b j => by
      refine (carry_step (states a n) n (by omega) b j).trans ?_
      rw [i0, i1, i3, decays_ref, inputs_ref]
      rfl
    refine ⟨i0, i1, hc, fun t b j ht => ?_⟩
    refine (stack_step (states a n) n (by omega) b j t).trans ?_
    by_cases e : t.val = n
    · rw [if_pos e, e]
      exact hc b j
    · rw [if_neg e]
      exact i4 t b j (by omega)

/-- The reference's result. -/
theorem result_ref (a : Args) (b : Fin 8) (t : Fin 4096) (j : Fin 2048) :
    R_main_v82 (F := Ideal) (states a 4096) a.P (ix3 b t j) = resAt a b t j := by
  unfold resAt
  rw [← (states_apply a 4096 le_rfl).2.2.2 t b j t.isLt]
  generalize states a 4096 = s
  unfold R_main_v82
  pointwise []

end Cert.ReferenceIdeal.Lru

end
-- ==== Proof.Lru.RefRun.lean ====
/- The reference's run: its loop's buffers go through the states, one trip after another. -/
module

public import proofs.«01_k».proof.Proof.Gen.ReferenceIdeal.Run
public import proofs.«01_k».proof.Proof.Lru.RefLoop

@[expose] public section

set_option maxRecDepth 65536

noncomputable section

namespace Cert.ReferenceIdeal.Lru

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init b13 b12 b11 b10 b9 b8 b7 b6 b5 b4 b3 b2 b1 b0)

variable (V : Valuation τ sig (Elt Ideal))

/-- What the loop carries, read off the buffers. -/
def carried : State Ideal where
  main_v78_3 := V (Proc.devRef .tc main_v78_3)
  main_v78_4 := V (Proc.devRef .tc main_v78_4)
  main_v78_0 := V (Proc.devRef .tc main_v78_0)
  main_v78_1 := V (Proc.devRef .tc main_v78_1)

/-- A trip's row, its stack and its counter. -/
theorem carried_row (n : ℕ) (h : V (Proc.devRef .tc main_v78_2) = constantI S_ 32 (BitVec.ofNat 32 n)) :
    step_main_v78_3 V = b9 n (carried V) := by
  unfold step_main_v78_3 b9 b8 b7 b6 b5 b4 b3 b2 b1 b0 carried
  rw [← h]
  rfl

theorem carried_stack (n : ℕ) (h : V (Proc.devRef .tc main_v78_2) = constantI S_ 32 (BitVec.ofNat 32 n)) :
    step_main_v78_4 V = b13 n (carried V) := by
  have e := carried_row V n h
  unfold step_main_v78_4 b13 b12 b11 b10
  rw [← e, ← h]
  rfl

theorem counter_next (n : ℕ) (h : V (Proc.devRef .tc main_v78_2) = constantI S_ 32 (BitVec.ofNat 32 n)) :
    STEP V (Proc.devRef .tc main_v78_2) = constantI S_ 32 (BitVec.ofNat 32 (n + 1)) := by
  rw [STEP_main_v78_2]
  unfold step_main_v78_2
  rw [h]
  funext i
  show BitVec.ofNat 32 n + 1#32 = BitVec.ofNat 32 (n + 1)
  rw [BitVec.ofNat_add]

theorem carried_next (n : ℕ) (h : V (Proc.devRef .tc main_v78_2) = constantI S_ 32 (BitVec.ofNat 32 n)) :
    carried (STEP V) = step n (carried V) := by
  have e3 := (STEP_main_v78_3 V).trans (carried_row V n h)
  have e4 := (STEP_main_v78_4 V).trans (carried_stack V n h)
  have e0 := STEP_main_v78_0 V
  have e1 := STEP_main_v78_1 V
  unfold step
  rw [show carried (STEP V) = ⟨STEP V (Proc.devRef .tc main_v78_3), STEP V (Proc.devRef .tc main_v78_4),
    STEP V (Proc.devRef .tc main_v78_0), STEP V (Proc.devRef .tc main_v78_1)⟩ from rfl, e3, e4, e0, e1]
  rfl

variable (m : (ℓ : Loc nD τ sig) → Buf (Elt Ideal) ℓ) (c : Dev nD)

/-- What the reference is given, by name. -/
def args : Cert.LruMath.Args where
  P := m ((c.tc : Thread nD τ).loc main_arg0)
  CW := m ((c.tc : Thread nD τ).loc main_arg1)
  CB := m ((c.tc : Thread nD τ).loc main_arg2)
  WA := m ((c.tc : Thread nD τ).loc main_arg3)
  BA := m ((c.tc : Thread nD τ).loc main_arg4)
  WX := m ((c.tc : Thread nD τ).loc main_arg5)
  BX := m ((c.tc : Thread nD τ).loc main_arg6)
  LAM := m ((c.tc : Thread nD τ).loc main_arg7)

set_option maxHeartbeats 1000000 in
/-- What the loop starts with. -/
theorem carried_first : carried (entryContents preI m c) = states (args m c) 0
    ∧ entryContents preI m c (Proc.devRef .tc main_v78_2) = constantI S_ 32 (BitVec.ofNat 32 0) := by
  have e3 : entryContents preI m c (Proc.devRef .tc main_v78_3) = (states (args m c) 0).main_v78_3 := by
    simp only [entryContents, afterL_cons, afterL_nil]; after_reads_simp; rfl
  have e4 : entryContents preI m c (Proc.devRef .tc main_v78_4) = (states (args m c) 0).main_v78_4 := by
    simp only [entryContents, afterL_cons, afterL_nil]; after_reads_simp; rfl
  have e0 : entryContents preI m c (Proc.devRef .tc main_v78_0) = (states (args m c) 0).main_v78_0 := by
    simp only [entryContents, afterL_cons, afterL_nil]; after_reads_simp; rfl
  have e1 : entryContents preI m c (Proc.devRef .tc main_v78_1) = (states (args m c) 0).main_v78_1 := by
    simp only [entryContents, afterL_cons, afterL_nil]; after_reads_simp; rfl
  refine ⟨?_, ?_⟩
  · rw [show carried (entryContents preI m c) = ⟨entryContents preI m c (Proc.devRef .tc main_v78_3), entryContents preI m c (Proc.devRef .tc main_v78_4),
      entryContents preI m c (Proc.devRef .tc main_v78_0), entryContents preI m c (Proc.devRef .tc main_v78_1)⟩ from rfl, e3, e4, e0, e1]
  · simp only [entryContents, afterL_cons, afterL_nil]; after_reads_simp; rfl

/-- After any number of trips. -/
theorem carried_trips : ∀ n, carried (STEP^[n] (entryContents preI m c)) = states (args m c) n
    ∧ (STEP^[n] (entryContents preI m c)) (Proc.devRef .tc main_v78_2) = constantI S_ 32 (BitVec.ofNat 32 n)
  | 0 => carried_first m c
  | n + 1 => by
    obtain ⟨h1, h2⟩ := carried_trips n
    rw [Function.iterate_succ_apply']
    exact ⟨(carried_next _ n h2).trans (congrArg (step n) h1), counter_next _ n h2⟩

/-- The reference's result buffer. -/
theorem result_eq : out_main_v82 (STEP^[4096] (entryContents preI m c)) = Step.R_main_v82 (states (args m c) 4096) (args m c).P := by
  have h := (carried_trips m c 4096).1
  have e : (STEP^[4096] (entryContents preI m c)) (Proc.devRef .tc main_arg0) = (args m c).P := iter_main_arg0 m c 4096
  rw [← h, ← e]
  generalize STEP^[4096] (entryContents preI m c) = X
  rfl

end Cert.ReferenceIdeal.Lru

end
-- ==== Proof.Lru.Claims.lean ====
/- The recurrence's claims: the frames, and equal results over the extended reals. -/
module

public import proofs.«01_k».proof.Defs
public import proofs.«01_k».proof.Proof.Lru.Value
public import proofs.«01_k».proof.Proof.Gen.Kernel.Frame
public import proofs.«01_k».proof.Proof.Lru.RefRun

@[expose] public section

set_option maxRecDepth 16384

noncomputable section

namespace Cert.Lru

open Idealize.ShloMosaic Idealize.ShloMosaic.TcCoe Idealize.SL.Sem Cert.LruMath

/-- The kernel's body table is the same text in both programs, one label at a time. -/
theorem bodies_eq : @Cert.Kernel.defs₀ Bits _ _ = @Cert.KernelIdeal.defs₀ Bits _ _ := by
  unfold Cert.Kernel.defs₀ Cert.KernelIdeal.defs₀
  refine congrArg Defs.onTc (funext fun l => funext fun x => ?_)
  match l, x with
  | 0, (t, s) => rfl

theorem defs_eq : @Cert.Kernel.defs Bits _ _ = @Cert.KernelIdeal.defs Bits _ _ :=
  congrArg (Pipeline.defs (@Cert.KernelIdeal.pcfgs Bits _)) bodies_eq

/-- The kernel over words: the same run, its values words. -/
theorem frame_kernel : @Cert.quiescent_Kernel Cert.Kernel.Gen.facts := fun m ρ _ => by
  rw [defs_eq]
  exact (θ_run Cert.KernelIdeal.defs _ _).mono (fun _ h => h) (KernelIdeal.Lru.frame_run (F := Bits) m ρ)

/-- The kernel over the extended reals. -/
theorem frame_ideal : @Cert.quiescent_KernelIdeal Cert.KernelIdeal.Gen.facts := fun m ρ _ => KernelIdeal.Lru.frame_run m ρ

/-- The reference runs, leaves its arguments as they were, and has no semaphore to leave raised. -/
theorem frame_reference : @Cert.quiescent_ReferenceIdeal Cert.ReferenceIdeal.Gen.facts := fun m ρ _ =>
  (θ_run Cert.ReferenceIdeal.defs _ _).mono (fun r h => ⟨fun c => (h c).2,
      Idealize.ShloMosaic.sem_eq_zero_of_no_sems (by decide) r.2⟩)
    (ReferenceIdeal.Value.run (F := Ideal) m ρ)

/-- The kernel's run with its result read. -/
theorem run_kernel (m : (ℓ : Loc KernelIdeal.nD KernelIdeal.τ KernelIdeal.sig) → Buf (Elt Ideal) ℓ) (ρ : Dev KernelIdeal.nD → PrngReg) :
    θ_run (KernelIdeal.defs (F := Ideal)) (onTc (τ := KernelIdeal.τ) (KernelIdeal.main (F := Ideal))) ⟨m, fun _ => 0, ρ⟩ (fun r => ∀ c : Dev KernelIdeal.nD,
      r.2.mem ((c.tc : Thread KernelIdeal.nD KernelIdeal.τ).loc KernelIdeal.main_v6)
        = fun y => resAt (KernelIdeal.Lru.args m c) (y 0) (y 1) (y 2)) :=
  (θ_run _ _ _).mono (fun _ h c => ((h c).1 9).trans (KernelIdeal.Lru.out_array m c)) (KernelIdeal.Lru.run_main m ρ)

theorem algebraic : @Cert.algebraic_KernelIdeal_ReferenceIdeal Cert.KernelIdeal.Gen.facts Cert.ReferenceIdeal.Gen.facts := by
  intro m g m' g' _ hagree
  refine ⟨fun c y => resAt (KernelIdeal.Lru.args m c) (y 0) (y 1) (y 2), ?_, ?_⟩
  · exact (θ_run _ _ _).mono (fun _ h c => ⟨h.1 c, h.2.1 c⟩) (θ_run_and (run_kernel m g) (KernelIdeal.Lru.frame_run m g))
  · have hi : ∀ c : Dev KernelIdeal.nD, ReferenceIdeal.Lru.args m' c = KernelIdeal.Lru.args m c := fun c => by
      obtain ⟨e0, e1, e2, e3, e4, e5, e6, e7⟩ := hagree c
      unfold ReferenceIdeal.Lru.args
      rw [e0, e1, e2, e3, e4, e5, e6, e7]
      rfl
    refine (θ_run _ _ _).mono (fun r h c => ?_) (ReferenceIdeal.Value.run (F := Ideal) m' g')
    refine ⟨(h c).1.trans ((ReferenceIdeal.Lru.result_eq m' c).trans ?_), (h c).2⟩
    rw [show ReferenceIdeal.Lru.args m' c = KernelIdeal.Lru.args m c from hi c]
    funext i
    obtain ⟨b, t, j, rfl⟩ : ∃ (b : Fin 8) (t : Fin 4096) (j : Fin 2048), i = ix3 b t j := ⟨i 0, i 1, i 2, eq_ix3 i⟩
    exact ReferenceIdeal.Lru.result_ref (KernelIdeal.Lru.args m c) b t j

end Cert.Lru

end
-- ==== Proof.Ffn.Block.lean ====
/- What one grid point of the feed-forward kernel leaves, as a term over the blocks it was given. -/
module

public import proofs.«01_k».proof.Proof.Gen.FfnKernelIdeal.Value

@[expose] public section

set_option maxRecDepth 16384

noncomputable section

namespace Cert.FfnKernelIdeal.Block

open Cert.FfnKernelIdeal Cert.FfnKernelIdeal.Gen
open Idealize.ShloMosaic Idealize.ShloMosaic.TcCoe Idealize.ShloMosaic.Tactic

variable {F : FTy → Type} [FloatOps F]

theorem off_zero : (![0, 0] : Fin 2 → Nat) = fun _ => 0 := funext fun a => by fin_cases a <;> rfl

/-- The left and the right 256 columns of a block of gate or up weights. -/
abbrev leftHalf (w : Vec F S2048x512 .bf16) : Vec F S2048x256 .bf16 :=
  View.ld w (Rect.unit (s := S2048x512) ![0, 0] S2048x256.size inb_S2048x512_S2048x256_0_0)
abbrev rightHalf (w : Vec F S2048x512 .bf16) : Vec F S2048x256 .bf16 :=
  View.ld w (Rect.unit (s := S2048x512) ![0, 256] S2048x256.size inb_S2048x512_S2048x256_0_256)

/-- One accumulation step: the rows `acc`, plus the gated hidden columns of this block times its down weights. -/
def step (n : Vec F S512x2048 .bf16) (wg wu : Vec F S2048x512 .bf16) (wd : Vec F S512x2048 .bf16)
    (acc : Vec F S512x2048 .f32) : Vec F S512x2048 .f32 :=
  k0_pay1 (k0_pay4 n (leftHalf wg) (leftHalf wu)) (k0_pay5 n (rightHalf wg) (rightHalf wu)) acc wd

/-- A later point of a row block adds its step to what the point before left. -/
theorem out_later (c : Dev nD) (i : grid0.Coords)
    (a2 : Memref sig .tc .vmem S512x2048 .f32) (h2 : a2.IsWhole) (a3 : Memref sig .tc .vmem S1x2048 .f32) (h3 : a3.IsWhole)
    (a4 : Memref sig .tc .vmem S2048x512 .bf16) (h4 : a4.IsWhole) (a5 : Memref sig .tc .vmem S2048x512 .bf16) (h5 : a5.IsWhole)
    (a6 : Memref sig .tc .vmem S512x2048 .bf16) (h6 : a6.IsWhole) (a7 : Memref sig .tc .vmem S512x2048 .f32) (h7 : a7.IsWhole)
    (a8 : Memref sig .tc .vmem S512x2048 .bf16) (h8 : a8.IsWhole)
    (hc : ¬cond0_0 i) (x0 : Vec F S512x2048 .f32) (x1 : Vec F S1x2048 .f32) (x2 : Vec F S2048x512 .bf16) (x3 : Vec F S2048x512 .bf16) (x4 : Vec F S512x2048 .bf16) (xo : Vec F S512x2048 .f32) (xs : Vec F S512x2048 .bf16) :
    out0_B_5 c i a2 h2 a3 h3 a4 h4 a5 h5 a6 h6 a7 h7 a8 h8 hc x0 x1 x2 x3 x4 xo xs = step xs x2 x3 x4 xo := by
  unfold out0_B_5
  rw [View.read_writes_junk_eq_canon]
  unfold kernelRun0_B
  dsimp only
  sl_unfold_words
  rw [View.canon_unit_zero off_zero]
  unfold step
  simp only [View.readAt_eq_ld, h4.read_unread, h5.read_unread, h6.read_unread, h7.read_unread, h8.read_unread,
    View.ld_unit_zero (S := S512x2048) off_zero]

/-- The first point of a row block starts from the block of `x` itself and the rows it has just normalised. -/
theorem out_first (c : Dev nD) (i : grid0.Coords)
    (a2 : Memref sig .tc .vmem S512x2048 .f32) (h2 : a2.IsWhole) (a3 : Memref sig .tc .vmem S1x2048 .f32) (h3 : a3.IsWhole)
    (a4 : Memref sig .tc .vmem S2048x512 .bf16) (h4 : a4.IsWhole) (a5 : Memref sig .tc .vmem S2048x512 .bf16) (h5 : a5.IsWhole)
    (a6 : Memref sig .tc .vmem S512x2048 .bf16) (h6 : a6.IsWhole) (a7 : Memref sig .tc .vmem S512x2048 .f32) (h7 : a7.IsWhole)
    (a8 : Memref sig .tc .vmem S512x2048 .bf16) (h8 : a8.IsWhole)
    (hc : cond0_0 i) (x0 : Vec F S512x2048 .f32) (x1 : Vec F S1x2048 .f32) (x2 : Vec F S2048x512 .bf16) (x3 : Vec F S2048x512 .bf16) (x4 : Vec F S512x2048 .bf16) :
    out0_A_5 c i a2 h2 a3 h3 a4 h4 a5 h5 a6 h6 a7 h7 a8 h8 hc x0 x1 x2 x3 x4 = step (k0_pay3 x0 x1) x2 x3 x4 x0 := by
  unfold out0_A_5
  rw [View.read_writes_junk_eq_canon]
  unfold kernelRun0_A
  dsimp only
  sl_unfold_words
  rw [View.canon_cons_unit_zero (S := S512x2048) off_zero]
  simp only [View.readCov_unit_zero (S := S512x2048) _ off_zero]
  unfold step
  simp only [View.readAt_eq_ld, h2.read_unread, h3.read_unread, h4.read_unread, h5.read_unread, h6.read_unread,
    View.ld_unit_zero (S := S512x2048) off_zero, View.ld_unit_zero (S := S1x2048) off_zero, k0_pay2, shapeCast_self]

/-- and leaves those normalised rows for the later points. -/
theorem kept_first (c : Dev nD) (i : grid0.Coords)
    (a2 : Memref sig .tc .vmem S512x2048 .f32) (h2 : a2.IsWhole) (a3 : Memref sig .tc .vmem S1x2048 .f32) (h3 : a3.IsWhole)
    (a4 : Memref sig .tc .vmem S2048x512 .bf16) (h4 : a4.IsWhole) (a5 : Memref sig .tc .vmem S2048x512 .bf16) (h5 : a5.IsWhole)
    (a6 : Memref sig .tc .vmem S512x2048 .bf16) (h6 : a6.IsWhole) (a7 : Memref sig .tc .vmem S512x2048 .f32) (h7 : a7.IsWhole)
    (a8 : Memref sig .tc .vmem S512x2048 .bf16) (h8 : a8.IsWhole)
    (hc : cond0_0 i) (x0 : Vec F S512x2048 .f32) (x1 : Vec F S1x2048 .f32) (x2 : Vec F S2048x512 .bf16) (x3 : Vec F S2048x512 .bf16) (x4 : Vec F S512x2048 .bf16) :
    sout0_A_0 c i a2 h2 a3 h3 a4 h4 a5 h5 a6 h6 a7 h7 a8 h8 hc x0 x1 x2 x3 x4 = k0_pay3 x0 x1 := by
  unfold sout0_A_0
  rw [View.read_writes_junk_eq_canon]
  unfold kernelRun0_A
  dsimp only
  sl_unfold_words
  rw [View.canon_unit_zero (S := S512x2048) off_zero]
  simp only [View.readAt_eq_ld, h2.read_unread, h3.read_unread,
    View.ld_unit_zero (S := S512x2048) off_zero, View.ld_unit_zero (S := S1x2048) off_zero]

end Cert.FfnKernelIdeal.Block

end
-- ==== Proof.Ffn.Math.lean ====
/- The feed-forward part on one row, in plain sums: what both programs are shown to compute. -/
module

public import Idealize.ShloMosaic.Lib.Pointwise
public import Idealize.ShloMosaic.Lib.Pipeline.ValueKit

@[expose] public section

noncomputable section

namespace Cert.FfnMath

open Idealize.ShloMosaic

/-- A row divided by the root of its mean square (with the small constant inside the root), times the weights. -/
def normRow (x g : Fin 2048 → EReal) (k : Fin 2048) : EReal :=
  x k * Ideal.rsqrt (Ideal.div (∑ j, x j * x j) (Ideal.ofBits .f32 1157627904#32) + Ideal.ofBits .f32 897988541#32) * g k

/-- The gate: `a / (1 + exp (-a))` times `b`. -/
def gated (a b : EReal) : EReal := a * Ideal.div 1 (1 + Ideal.exp (-a)) * b

/-- Hidden unit `j` of a normalised row: its gate column is column `j`, its up column is column `5632 + j`. -/
def hidUnit (n : Fin 2048 → EReal) (W : (⟨2, ![2048, 11264]⟩ : Shape).Idx → EReal) (j : Fin 5632) : EReal :=
  gated (∑ k, n k * W (ix2 k ⟨j.val, by omega⟩)) (∑ k, n k * W (ix2 k ⟨5632 + j.val, by omega⟩))

/-- The contribution of hidden unit `j` to result column `c` (nothing past the last unit). -/
def part (n : Fin 2048 → EReal) (W : (⟨2, ![2048, 11264]⟩ : Shape).Idx → EReal)
    (D : (⟨2, ![5632, 2048]⟩ : Shape).Idx → EReal) (c : Fin 2048) (j : ℕ) : EReal :=
  if h : j < 5632 then hidUnit n W ⟨j, h⟩ * D (ix2 ⟨j, h⟩ c) else 0

/-- The feed-forward part of one row: the row plus the sum over the hidden units. -/
def ffnRow (x g : Fin 2048 → EReal) (W : (⟨2, ![2048, 11264]⟩ : Shape).Idx → EReal)
    (D : (⟨2, ![5632, 2048]⟩ : Shape).Idx → EReal) (c : Fin 2048) : EReal :=
  x c + ∑ j : Fin 5632, hidUnit (normRow x g) W j * D (ix2 j c)

/-- The same sum taken 512 hidden units at a time. -/
theorem ffnRow_eq_blocks (x g : Fin 2048 → EReal) (W : (⟨2, ![2048, 11264]⟩ : Shape).Idx → EReal)
    (D : (⟨2, ![5632, 2048]⟩ : Shape).Idx → EReal) (c : Fin 2048) :
    ffnRow x g W D c
      = x c + ∑ s ∈ Finset.range 11, ∑ l ∈ Finset.range 512, part (normRow x g) W D c (s * 512 + l) := by
  unfold ffnRow
  rw [Finset.sum_range_range_mul_add 11 512, ← Fin.sum_univ_eq_sum_range]
  refine congrArg (x c + ·) (Finset.sum_congr rfl fun j _ => ?_)
  unfold part
  rw [dif_pos (show (j : ℕ) < 5632 from j.isLt)]

end Cert.FfnMath

end
-- ==== Proof.Ffn.Rows.lean ====
/- What the feed-forward kernel's result array holds: every row of it is the feed-forward part of that row. -/
module

public import proofs.«01_k».proof.Proof.Ffn.Block
public import proofs.«01_k».proof.Proof.Ffn.Math

@[expose] public section

set_option maxRecDepth 16384

noncomputable section

namespace Cert.FfnKernelIdeal.Rows

open Cert.FfnKernelIdeal Cert.FfnKernelIdeal.Gen Cert.FfnKernelIdeal.Block Cert.FfnMath
open Idealize.ShloMosaic Idealize.ShloMosaic.TcCoe Idealize.ShloMosaic.Tactic

/-- The block the kernel normalises, row by row. -/
theorem norm_apply (x : Vec Ideal S512x2048 .f32) (g : Vec Ideal S1x2048 .f32) (r : Fin 512) (k : Fin 2048) :
    k0_pay3 x g (ix2 r k) = normRow (fun k => x (ix2 r k)) (fun k => g (ix2 0 k)) k := by
  unfold normRow
  pointwise [k0_pay3, k0_pay2]

/-- One accumulation step at an index: 512 hidden units are added. -/
theorem step_apply (n : Vec Ideal S512x2048 .bf16) (wg wu : Vec Ideal S2048x512 .bf16) (wd : Vec Ideal S512x2048 .bf16)
    (acc : Vec Ideal S512x2048 .f32) (r : Fin 512) (c : Fin 2048) :
    step n wg wu wd acc (ix2 r c) = acc (ix2 r c)
      + ∑ l : Fin 512, gated (∑ k, n (ix2 r k) * wg (ix2 k l)) (∑ k, n (ix2 r k) * wu (ix2 k l)) * wd (ix2 l c) := by
  rw [Fin.sum_univ_two_halves 256 256 rfl]
  unfold step gated
  pointwise [k0_pay1, k0_pay4, k0_pay5, leftHalf, rightHalf, zero_sub]

/-- Which block of its array each input window holds at a point: the row block is `t / 11`, the hidden block `t % 11`. -/
theorem index_at : ∀ t : Fin grid0.N, win0_0.index t = ![t.val / 11, 0] ∧ win0_1.index t = ![0, 0]
    ∧ win0_2.index t = ![0, t.val % 11] ∧ win0_3.index t = ![0, t.val % 11 + 11] ∧ win0_4.index t = ![t.val % 11, 0] := by
  decide +kernel

variable (m : (ℓ : Loc nD τ sig) → Buf (Elt Ideal) ℓ)

/-- The arrays the program is given, as functions of an index: a row of the input (its first two axes run together), the
    norm's weights, the joined gate and up weights, the down weights. -/
def inRow (c : Dev nD) (n : ℕ) (k : Fin 2048) : EReal :=
  if h : n < 32768 then m ((c : Thread nD τ).loc main_arg0) (ix3 (⟨n / 4096, by omega⟩ : Fin 8) (⟨n % 4096, by omega⟩ : Fin 4096) k) else 0
def gRow (c : Dev nD) (k : Fin 2048) : EReal := m ((c : Thread nD τ).loc main_arg1) (ix1 k)
def wGU (c : Dev nD) : (⟨2, ![2048, 11264]⟩ : Shape).Idx → EReal := m ((c : Thread nD τ).loc main_arg2)
def wD (c : Dev nD) : (⟨2, ![5632, 2048]⟩ : Shape).Idx → EReal := m ((c : Thread nD τ).loc main_arg3)

theorem x_block (c : Dev nD) (t : Fin cfg0.N) (r : Fin 512) (k : Fin 2048) :
    iblk m c 0 t (ix2 r k) = inRow m c (512 * (t.val / 11) + r.val) k := by
  have ht : t.val < 704 := t.isLt
  unfold inRow
  rw [dif_pos (by omega)]
  blk_ext! [iblk, V, index_at t]

theorem g_block (c : Dev nD) (t : Fin cfg0.N) (k : Fin 2048) : iblk m c 1 t (ix2 0 k) = gRow m c k := by
  unfold gRow
  blk_ext! [iblk, V, index_at t]

theorem gate_block (c : Dev nD) (t : Fin cfg0.N) (k : Fin 2048) (l : Fin 512) :
    iblk m c 2 t (ix2 k l) = wGU m c (ix2 k ⟨t.val % 11 * 512 + l.val, by omega⟩) := by
  unfold wGU
  blk_ext [iblk, V, index_at t]

theorem up_block (c : Dev nD) (t : Fin cfg0.N) (k : Fin 2048) (l : Fin 512) :
    iblk m c 3 t (ix2 k l) = wGU m c (ix2 k ⟨5632 + (t.val % 11 * 512 + l.val), by omega⟩) := by
  unfold wGU
  blk_ext [iblk, V, index_at t]

theorem down_block (c : Dev nD) (t : Fin cfg0.N) (l : Fin 512) (k : Fin 2048) :
    iblk m c 4 t (ix2 l k) = wD m c (ix2 ⟨t.val % 11 * 512 + l.val, by omega⟩ k) := by
  unfold wD
  blk_ext [iblk, V, index_at t]

/-- The normalised row with global number `n`. -/
def normAt (c : Dev nD) (n : ℕ) : Fin 2048 → EReal := normRow (inRow m c n) (gRow m c)

/-- The step of point `t`, over the normalised rows of its row block, adds the 512 hidden units of its hidden block. -/
theorem step_at (c : Dev nD) (t : Fin cfg0.N) (n : Vec Ideal S512x2048 .bf16)
    (hn : ∀ (r : Fin 512) (k : Fin 2048), n (ix2 r k) = normAt m c (512 * (t.val / 11) + r.val) k)
    (acc : Vec Ideal S512x2048 .f32) (r : Fin 512) (k : Fin 2048) :
    step n (iblk m c 2 t) (iblk m c 3 t) (iblk m c 4 t) acc (ix2 r k) = acc (ix2 r k)
      + ∑ l ∈ Finset.range 512, part (normAt m c (512 * (t.val / 11) + r.val)) (wGU m c) (wD m c) k (t.val % 11 * 512 + l) := by
  rw [step_apply, ← Fin.sum_univ_eq_sum_range]
  refine congrArg (acc (ix2 r k) + ·) (Finset.sum_congr rfl fun l _ => ?_)
  unfold part hidUnit
  rw [dif_pos (show t.val % 11 * 512 + (l : ℕ) < 5632 by omega)]
  simp only [hn, gate_block, up_block, down_block]

/-- What the kernel carries after point `n`: the normalised rows of its row block, and those rows with the hidden units
    added that the points so far have reached. -/
theorem fold_at (c : Dev nD) : ∀ (n : ℕ) (h : 0 + n < cfg0.N) (r : Fin 512) (k : Fin 2048),
    (Pipeline.accAt (fun n h => Value.stAt0 m c n h Value.junk0) (Value.stAt0 m c) 0 n h).2 (ix2 r k) = normAt m c (512 * (n / 11) + r.val) k
    ∧ (Pipeline.accAt (fun n h => Value.stAt0 m c n h Value.junk0) (Value.stAt0 m c) 0 n h).1 (ix2 r k)
      = inRow m c (512 * (n / 11) + r.val) k
        + ∑ s ∈ Finset.range (n % 11 + 1), ∑ l ∈ Finset.range 512,
            part (normAt m c (512 * (n / 11) + r.val)) (wGU m c) (wD m c) k (s * 512 + l) := by
  have first : ∀ (t : Fin cfg0.N) (acc : Vec Ideal S512x2048 .f32 × Vec Ideal S512x2048 .bf16), t.val % 11 = 0 →
      ∀ (r : Fin 512) (k : Fin 2048),
      (Value.stAt0 m c t.val t.isLt acc).2 (ix2 r k) = normAt m c (512 * (t.val / 11) + r.val) k
      ∧ (Value.stAt0 m c t.val t.isLt acc).1 (ix2 r k) = inRow m c (512 * (t.val / 11) + r.val) k
        + ∑ s ∈ Finset.range (t.val % 11 + 1), ∑ l ∈ Finset.range 512,
            part (normAt m c (512 * (t.val / 11) + r.val)) (wGU m c) (wD m c) k (s * 512 + l) := by
    intro t acc h0 r k
    have hn : ∀ (r : Fin 512) (k : Fin 2048), k0_pay3 (F := Ideal) (iblk m c 0 t) (iblk m c 1 t) (ix2 r k) = normAt m c (512 * (t.val / 11) + r.val) k := by
      intro r k
      rw [norm_apply]
      unfold normAt
      simp only [x_block, g_block]
    rw [Value.stAt0_A m c t acc h0]
    dsimp only
    rw [out_first, kept_first]
    refine ⟨hn r k, ?_⟩
    rw [step_at m c t _ hn, x_block, h0, Finset.sum_range_one]
  intro n
  induction n with
  | zero => intro h; exact first ⟨0, h⟩ _ rfl
  | succ n ih =>
    intro h
    have h' : n + 1 < cfg0.N := by omega
    rw [Pipeline.accAt_succ]
    simp only [Nat.zero_add]
    by_cases h0 : (n + 1) % 11 = 0
    · exact first ⟨n + 1, h'⟩ _ h0
    · have hd : (n + 1) / 11 = n / 11 := by omega
      have hm : (n + 1) % 11 = n % 11 + 1 := by omega
      have ih' := ih (by omega)
      intro r k
      rw [Value.stAt0_B m c ⟨n + 1, h'⟩ _ h0]
      dsimp only
      rw [out_later]
      refine ⟨by rw [hd]; exact (ih' r k).1, ?_⟩
      rw [step_at m c ⟨n + 1, h'⟩ _ (fun r k => by dsimp only; rw [hd]; exact (ih' r k).1), (ih' r k).2]
      dsimp only
      rw [hd, hm, Finset.sum_range_succ _ (n % 11 + 1), add_assoc]

/-- The result array, row by row. -/
theorem result_apply (c : Dev nD) (n : Fin 32768) (k : Fin 2048) :
    Value.G5 m c (ix2 n k) = ffnRow (inRow m c n.val) (gRow m c) (wGU m c) (wD m c) k := by
  have hN : cfg0.N = 704 := N_0
  have hr : Value.run5Of (ix2 n k) = n.val / 512 := by
    show 1 * (n.val / 512 - 0) + 1 * (k.val / 2048 - 0) = _
    omega
  have hp : Value.pt5Of (ix2 n k) = 11 * (n.val / 512) + 10 := by
    show 11 * Value.run5Of (ix2 n k) + 10 = _
    rw [hr]
  have hl : Value.loc5Of (ix2 n k) = ix2 (⟨n.val % 512, by omega⟩ : Fin 512) k := by
    funext a; apply Fin.ext
    match a with
    | ⟨0, _⟩ => rfl
    | ⟨1, _⟩ => exact Nat.mod_eq_of_lt k.isLt
  have hb : 0 + (11 * (n.val / 512) + 10) < cfg0.N := by omega
  unfold Value.G5
  rw [dif_pos (by rw [hp]; omega), hl, Value.fold0_congr m c _ _ _ hb hp, (fold_at m c _ hb _ _).2, ffnRow_eq_blocks]
  have e1 : 512 * ((11 * (n.val / 512) + 10) / 11) + n.val % 512 = n.val := by omega
  have e2 : (11 * (n.val / 512) + 10) % 11 + 1 = 11 := by omega
  dsimp only
  rw [e1, e2]
  rfl

end Cert.FfnKernelIdeal.Rows

end
-- ==== Proof.Ffn.Reference.lean ====
/- What the feed-forward reference computes, row by row. -/
module

public import proofs.«01_k».proof.Proof.Ffn.Math
public import proofs.«01_k».proof.Proof.Gen.FfnReferenceIdeal.Read

@[expose] public section

set_option maxRecDepth 16384

noncomputable section

namespace Cert.FfnReferenceIdeal.Rows

open Cert.FfnReferenceIdeal Cert.FfnReferenceIdeal.Read Cert.FfnMath
open Idealize.ShloMosaic Idealize.ShloMosaic.TcCoe

variable (x : (⟨S8x4096x2048, .f32⟩ : BufTy).Contents (Elt Ideal)) (g : (⟨S2048, .f32⟩ : BufTy).Contents (Elt Ideal))
  (W : (⟨S2048x11264, .f32⟩ : BufTy).Contents (Elt Ideal)) (D : (⟨S5632x2048, .f32⟩ : BufTy).Contents (Elt Ideal))

/-- The reference's normalised row. -/
theorem norm_apply (b : Fin 8) (t : Fin 4096) (k : Fin 2048) :
    val_main_v12 x g (ix3 b t k) = normRow (fun k => x (ix3 b t k)) (fun k => g (ix1 k)) k := by
  unfold normRow
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

/-- The reference's result. -/
theorem result_apply (n : Fin 32768) (k : Fin 2048) :
    val_main_v20 x g W D (ix2 n k)
      = ffnRow (fun k => x (ix3 (⟨n.val / 4096, by omega⟩ : Fin 8) (⟨n.val % 4096, by omega⟩ : Fin 4096) k)) (fun k => g (ix1 k)) W D k := by
  unfold ffnRow hidUnit gated
  pointwise [val_main_v20, val_main_v19, val_main_v18, val_main_v17, val_main_v16, val_main_v15, val_main_v14, val_main_v13,
    val_main_call0_v5, val_main_call0_v4, val_main_call0_v3, val_main_call0_v2, val_main_call0_v1, val_main_call0_v0,
    val_main_call0_cst, val_main_call0_cst_0]
  simp only [norm_apply]

end Cert.FfnReferenceIdeal.Rows

end
-- ==== Proof.Ffn.Claims.lean ====
/- The feed-forward kernel and its reference end with equal results over the extended reals. -/
module

public import proofs.«01_k».proof.Defs
public import proofs.«01_k».proof.Proof.Ffn.Rows
public import proofs.«01_k».proof.Proof.Ffn.Reference
public import proofs.«01_k».proof.Proof.Gen.FfnReferenceIdeal.Run

@[expose] public section

set_option maxRecDepth 16384

noncomputable section

namespace Cert.Ffn

open Idealize.ShloMosaic Idealize.ShloMosaic.TcCoe Idealize.SL.Sem

/-- Both results are the feed-forward part of the same rows. -/
theorem results_eq (m : (ℓ : Loc FfnKernelIdeal.nD FfnKernelIdeal.τ FfnKernelIdeal.sig) → Buf (Elt Ideal) ℓ) (c : Dev FfnKernelIdeal.nD) :
    FfnReferenceIdeal.Read.val_main_v20 (F := Ideal)
        (m ((c.tc : Thread FfnKernelIdeal.nD FfnKernelIdeal.τ).loc FfnKernelIdeal.main_arg0))
        (m ((c.tc : Thread FfnKernelIdeal.nD FfnKernelIdeal.τ).loc FfnKernelIdeal.main_arg1))
        (m ((c.tc : Thread FfnKernelIdeal.nD FfnKernelIdeal.τ).loc FfnKernelIdeal.main_arg2))
        (m ((c.tc : Thread FfnKernelIdeal.nD FfnKernelIdeal.τ).loc FfnKernelIdeal.main_arg3))
      = FfnKernelIdeal.Value.G5 m c := by
  funext i
  obtain ⟨n, k, rfl⟩ : ∃ (n : Fin 32768) (k : Fin 2048), i = ix2 n k := ⟨i 0, i 1, eq_ix2 i⟩
  rw [FfnReferenceIdeal.Rows.result_apply, FfnKernelIdeal.Rows.result_apply]
  refine congrArg₂ (fun x g => FfnMath.ffnRow x g _ _ k) (funext fun k => ?_) rfl
  unfold FfnKernelIdeal.Rows.inRow
  rw [dif_pos n.isLt]

theorem algebraic : @Cert.algebraic_FfnKernelIdeal_FfnReferenceIdeal Cert.FfnKernelIdeal.Gen.facts Cert.FfnReferenceIdeal.Gen.facts := by
  intro m g m' g' _ hagree
  refine ⟨fun c => FfnKernelIdeal.Value.G5 m c, FfnKernelIdeal.Value.run m g, ?_⟩
  refine (θ_run _ _ _).mono (fun r h c => ?_) (FfnReferenceIdeal.Value.run (F := Ideal) m' g')
  obtain ⟨h0, h1, h2, h3, h4⟩ := h c
  obtain ⟨e0, e1, e2, e3⟩ := hagree c
  refine ⟨?_, h1, h2, h3, h4⟩
  rw [h0, FfnReferenceIdeal.Read.val_main_v20_eq, e0, e1, e2, e3]
  exact results_eq m c

/-- The feed-forward reference runs, leaves its arguments as they were, and has no semaphore to leave raised. -/
theorem frame_reference : @Cert.quiescent_FfnReferenceIdeal Cert.FfnReferenceIdeal.Gen.facts := fun m ρ _ =>
  (θ_run Cert.FfnReferenceIdeal.defs _ _).mono (fun r h => ⟨fun c => (h c).2,
      Idealize.ShloMosaic.sem_eq_zero_of_no_sems (by decide) r.2⟩)
    (FfnReferenceIdeal.Value.run (F := Ideal) m ρ)

end Cert.Ffn

end
-- ==== Proof.Proj.Math.lean ====
/- Products of rows with weight columns, in plain sums: what the projections are shown to compute. -/
module

public import proofs.«01_k».proof.Proof.Ffn.Math

@[expose] public section

noncomputable section

namespace Cert.ProjMath

open Idealize.ShloMosaic Cert.FfnMath

/-- Row `n` of a `[8, 4096, K]` array whose first two axes run together. -/
def rowAt {K : ℕ} (x : (⟨3, ![8, 4096, K]⟩ : Shape).Idx → EReal) (n : Fin 32768) (k : Fin K) : EReal :=
  x (ix3 (⟨n.val / 4096, by omega⟩ : Fin 8) (⟨n.val % 4096, by omega⟩ : Fin 4096) k)

/-- The output projection at an index: the residual plus the row times the weight column. -/
def outAt {K : ℕ} (o : (⟨3, ![8, 4096, K]⟩ : Shape).Idx → EReal) (W : (⟨2, ![K, 2048]⟩ : Shape).Idx → EReal)
    (x : (⟨3, ![8, 4096, 2048]⟩ : Shape).Idx → EReal) (n : Fin 32768) (c : Fin 2048) : EReal :=
  rowAt x n c + ∑ k : Fin K, rowAt o n k * W (ix2 k c)

/-- The input projection at an index: the normalised row times the weight column. -/
def inAt {C : ℕ} (x : (⟨3, ![8, 4096, 2048]⟩ : Shape).Idx → EReal) (g : (⟨1, ![2048]⟩ : Shape).Idx → EReal)
    (W : (⟨2, ![2048, C]⟩ : Shape).Idx → EReal) (n : Fin 32768) (c : Fin C) : EReal :=
  ∑ k : Fin 2048, normRow (rowAt x n) (fun k => g (ix1 k)) k * W (ix2 k c)

end Cert.ProjMath

end
-- ==== Proof.Proj.Out.lean ====
/- The output projection over 2048 columns (attention's and the recurrence's): the kernel's blocks and the reference. -/
module

public import proofs.«01_k».proof.Defs
public import proofs.«01_k».proof.Proof.Proj.Math
public import proofs.«01_k».proof.Proof.Gen.OutKernel.Frame
public import proofs.«01_k».proof.Proof.Gen.OutKernelIdeal.Value
public import proofs.«01_k».proof.Proof.Gen.OutReferenceIdeal.Read
public import proofs.«01_k».proof.Proof.Gen.OutReferenceIdeal.Run

@[expose] public section

set_option maxRecDepth 16384

noncomputable section

namespace Cert.OutKernelIdeal.Proj

open Cert.OutKernelIdeal Cert.OutKernelIdeal.Gen Cert.ProjMath
open Idealize.ShloMosaic Idealize.ShloMosaic.TcCoe Idealize.ShloMosaic.Tactic

theorem block_apply (a : Vec Ideal S1024x2048 .bf16) (w : Vec Ideal S2048x1024 .bf16) (x : Vec Ideal S1024x1024 .f32)
    (r : Fin 1024) (k : Fin 1024) :
    out0_3 a w x (ix2 r k) = x (ix2 r k) + ∑ l : Fin 2048, a (ix2 r l) * w (ix2 l k) := by
  have h0 : (![0, 0] : Fin 2 → Nat) = fun _ => 0 := funext fun a => by fin_cases a <;> rfl
  unfold out0_3
  rw [View.canon_unit_zero h0]
  pointwise [k0_pay1]

theorem index_at : ∀ t : Fin grid0.N, win0_0.index t = ![t.val / 2, 0] ∧ win0_1.index t = ![0, t.val % 2]
    ∧ win0_2.index t = ![t.val / 2, t.val % 2] ∧ win0_3.index t = ![t.val / 2, t.val % 2] := by
  decide +kernel

variable (m : (ℓ : Loc nD τ sig) → Buf (Elt Ideal) ℓ)

/-- The arrays the program is given: the mixer's rows, the weights, the residual rows. -/
def oArr (c : Dev nD) : (⟨3, ![8, 4096, 2048]⟩ : Shape).Idx → EReal := m ((c : Thread nD τ).loc main_arg0)
def wArr (c : Dev nD) : (⟨2, ![2048, 2048]⟩ : Shape).Idx → EReal := m ((c : Thread nD τ).loc main_arg1)
def xArr (c : Dev nD) : (⟨3, ![8, 4096, 2048]⟩ : Shape).Idx → EReal := m ((c : Thread nD τ).loc main_arg2)

/-- The array row and column that row `r` and column `k` of point `t`'s block are. -/
def rowOf (t : Fin cfg0.N) (r : Fin 1024) : Fin 32768 := ⟨1024 * (t.val / 2) + r.val, by have : t.val < 64 := t.isLt; omega⟩
def colOf (t : Fin cfg0.N) (k : Fin 1024) : Fin 2048 := ⟨1024 * (t.val % 2) + k.val, by omega⟩

theorem o_block (c : Dev nD) (t : Fin cfg0.N) (r : Fin 1024) (l : Fin 2048) :
    iblk m c 0 t (ix2 r l) = rowAt (oArr m c) (rowOf t r) l := by
  have ht : t.val < 64 := t.isLt
  unfold rowAt oArr rowOf
  blk_ext! [iblk, V, index_at t]

theorem w_block (c : Dev nD) (t : Fin cfg0.N) (l : Fin 2048) (k : Fin 1024) :
    iblk m c 1 t (ix2 l k) = wArr m c (ix2 l (colOf t k)) := by
  unfold wArr colOf
  blk_ext! [iblk, V, index_at t]

theorem x_block (c : Dev nD) (t : Fin cfg0.N) (r k : Fin 1024) :
    iblk m c 2 t (ix2 r k) = rowAt (xArr m c) (rowOf t r) (colOf t k) := by
  have ht : t.val < 64 := t.isLt
  unfold rowAt xArr rowOf colOf
  blk_ext! [iblk, V, index_at t]

/-- The result array. -/
theorem out_array (c : Dev nD) :
    (dats m 0 c).arrAt 3 cfg0.N = fun y => outAt (oArr m c) (wArr m c) (xArr m c) (y 0) (y 1) := by
  refine (dats m 0 c).arrAt_eq_of_covers 3 _ (by decide +kernel) fun t hf y => ?_
  blk_simp
  rw [after0_3]
  obtain ⟨r, k, rfl⟩ : ∃ (r : Fin 1024) (k : Fin 1024), y = ix2 r k := ⟨y 0, y 1, eq_ix2 y⟩
  have e : (win0_3.blk t).view.emb (ix2 r k) = ix2 (rowOf t r) (colOf t k) := by
    unfold rowOf colOf
    blk_ext! [index_at t]
  rw [e, block_apply]
  unfold outAt
  simp only [o_block, w_block, x_block]
  rfl

end Cert.OutKernelIdeal.Proj

namespace Cert.ProjOut

open Cert.ProjMath Idealize.ShloMosaic Idealize.ShloMosaic.TcCoe Idealize.SL.Sem

theorem reference_apply (o : (⟨OutReferenceIdeal.S8x4096x2048, .bf16⟩ : BufTy).Contents (Elt Ideal))
    (W : (⟨OutReferenceIdeal.S2048x2048, .f32⟩ : BufTy).Contents (Elt Ideal))
    (x : (⟨OutReferenceIdeal.S8x4096x2048, .f32⟩ : BufTy).Contents (Elt Ideal)) (n : Fin 32768) (k : Fin 2048) :
    OutReferenceIdeal.Read.val_main_v2 o W x (ix2 n k) = outAt o W x n k := by
  unfold outAt rowAt
  pointwise [OutReferenceIdeal.Read.val_main_v2, OutReferenceIdeal.Read.val_main_v1, OutReferenceIdeal.Read.val_main_v0]

theorem algebraic : @Cert.algebraic_OutKernelIdeal_OutReferenceIdeal Cert.OutKernelIdeal.Gen.facts Cert.OutReferenceIdeal.Gen.facts := by
  intro m g m' g' _ hagree
  refine ⟨fun c => _, OutKernelIdeal.Value.run_blocks m g, ?_⟩
  refine (θ_run _ _ _).mono (fun r h c => ?_) (OutReferenceIdeal.Value.run (F := Ideal) m' g')
  obtain ⟨h0, h1, h2, h3⟩ := h c
  obtain ⟨e0, e1, e2⟩ := hagree c
  refine ⟨?_, h1, h2, h3⟩
  rw [h0, OutReferenceIdeal.Read.val_main_v2_eq, e0, e1, e2]
  refine Eq.trans ?_ (OutKernelIdeal.Proj.out_array m c).symm
  funext i
  obtain ⟨n, k, rfl⟩ : ∃ (n : Fin 32768) (k : Fin 2048), i = ix2 n k := ⟨i 0, i 1, eq_ix2 i⟩
  exact reference_apply _ _ _ n k

theorem frame_reference : @Cert.quiescent_OutReferenceIdeal Cert.OutReferenceIdeal.Gen.facts := fun m ρ _ =>
  (θ_run Cert.OutReferenceIdeal.defs _ _).mono (fun r h => ⟨fun c => (h c).2,
      Idealize.ShloMosaic.sem_eq_zero_of_no_sems (by decide) r.2⟩)
    (OutReferenceIdeal.Value.run (F := Ideal) m ρ)

end Cert.ProjOut

end
-- ==== Proof.Proj.GdnOut.lean ====
/- The output projection over 4096 columns (gated DeltaNet's): the kernel's blocks and the reference. -/
module

public import proofs.«01_k».proof.Defs
public import proofs.«01_k».proof.Proof.Proj.Math
public import proofs.«01_k».proof.Proof.Gen.GdnOutKernel.Frame
public import proofs.«01_k».proof.Proof.Gen.GdnOutKernelIdeal.Value
public import proofs.«01_k».proof.Proof.Gen.GdnOutReferenceIdeal.Read
public import proofs.«01_k».proof.Proof.Gen.GdnOutReferenceIdeal.Run

@[expose] public section

set_option maxRecDepth 16384

noncomputable section

namespace Cert.GdnOutKernelIdeal.Proj

open Cert.GdnOutKernelIdeal Cert.GdnOutKernelIdeal.Gen Cert.ProjMath
open Idealize.ShloMosaic Idealize.ShloMosaic.TcCoe Idealize.ShloMosaic.Tactic

theorem block_apply (a : Vec Ideal S1024x4096 .bf16) (w : Vec Ideal S4096x512 .bf16) (x : Vec Ideal S1024x512 .f32)
    (r : Fin 1024) (k : Fin 512) :
    out0_3 a w x (ix2 r k) = x (ix2 r k) + ∑ l : Fin 4096, a (ix2 r l) * w (ix2 l k) := by
  have h0 : (![0, 0] : Fin 2 → Nat) = fun _ => 0 := funext fun a => by fin_cases a <;> rfl
  unfold out0_3
  rw [View.canon_unit_zero h0]
  pointwise [k0_pay1]

theorem index_at : ∀ t : Fin grid0.N, win0_0.index t = ![t.val / 4, 0] ∧ win0_1.index t = ![0, t.val % 4]
    ∧ win0_2.index t = ![t.val / 4, t.val % 4] ∧ win0_3.index t = ![t.val / 4, t.val % 4] := by
  decide +kernel

variable (m : (ℓ : Loc nD τ sig) → Buf (Elt Ideal) ℓ)

/-- The arrays the program is given: the mixer's rows, the weights, the residual rows. -/
def oArr (c : Dev nD) : (⟨3, ![8, 4096, 4096]⟩ : Shape).Idx → EReal := m ((c : Thread nD τ).loc main_arg0)
def wArr (c : Dev nD) : (⟨2, ![4096, 2048]⟩ : Shape).Idx → EReal := m ((c : Thread nD τ).loc main_arg1)
def xArr (c : Dev nD) : (⟨3, ![8, 4096, 2048]⟩ : Shape).Idx → EReal := m ((c : Thread nD τ).loc main_arg2)

/-- The array row and column that row `r` and column `k` of point `t`'s block are. -/
def rowOf (t : Fin cfg0.N) (r : Fin 1024) : Fin 32768 := ⟨1024 * (t.val / 4) + r.val, by have : t.val < 128 := t.isLt; omega⟩
def colOf (t : Fin cfg0.N) (k : Fin 512) : Fin 2048 := ⟨512 * (t.val % 4) + k.val, by omega⟩

theorem o_block (c : Dev nD) (t : Fin cfg0.N) (r : Fin 1024) (l : Fin 4096) :
    iblk m c 0 t (ix2 r l) = rowAt (oArr m c) (rowOf t r) l := by
  have ht : t.val < 128 := t.isLt
  unfold rowAt oArr rowOf
  blk_ext! [iblk, V, index_at t]

theorem w_block (c : Dev nD) (t : Fin cfg0.N) (l : Fin 4096) (k : Fin 512) :
    iblk m c 1 t (ix2 l k) = wArr m c (ix2 l (colOf t k)) := by
  unfold wArr colOf
  blk_ext! [iblk, V, index_at t]

theorem x_block (c : Dev nD) (t : Fin cfg0.N) (r : Fin 1024) (k : Fin 512) :
    iblk m c 2 t (ix2 r k) = rowAt (xArr m c) (rowOf t r) (colOf t k) := by
  have ht : t.val < 128 := t.isLt
  unfold rowAt xArr rowOf colOf
  blk_ext! [iblk, V, index_at t]

/-- The result array. -/
theorem out_array (c : Dev nD) :
    (dats m 0 c).arrAt 3 cfg0.N = fun y => outAt (oArr m c) (wArr m c) (xArr m c) (y 0) (y 1) := by
  refine (dats m 0 c).arrAt_eq_of_covers 3 _ (by decide +kernel) fun t hf y => ?_
  blk_simp
  rw [after0_3]
  obtain ⟨r, k, rfl⟩ : ∃ (r : Fin 1024) (k : Fin 512), y = ix2 r k := ⟨y 0, y 1, eq_ix2 y⟩
  have e : (win0_3.blk t).view.emb (ix2 r k) = ix2 (rowOf t r) (colOf t k) := by
    unfold rowOf colOf
    blk_ext! [index_at t]
  rw [e, block_apply]
  unfold outAt
  simp only [o_block, w_block, x_block]
  rfl

end Cert.GdnOutKernelIdeal.Proj

namespace Cert.ProjGdnOut

open Cert.ProjMath Idealize.ShloMosaic Idealize.ShloMosaic.TcCoe Idealize.SL.Sem

theorem reference_apply (o : (⟨GdnOutReferenceIdeal.S8x4096x4096, .bf16⟩ : BufTy).Contents (Elt Ideal))
    (W : (⟨GdnOutReferenceIdeal.S4096x2048, .f32⟩ : BufTy).Contents (Elt Ideal))
    (x : (⟨GdnOutReferenceIdeal.S8x4096x2048, .f32⟩ : BufTy).Contents (Elt Ideal)) (n : Fin 32768) (k : Fin 2048) :
    GdnOutReferenceIdeal.Read.val_main_v2 o W x (ix2 n k) = outAt o W x n k := by
  unfold outAt rowAt
  pointwise [GdnOutReferenceIdeal.Read.val_main_v2, GdnOutReferenceIdeal.Read.val_main_v1, GdnOutReferenceIdeal.Read.val_main_v0]

theorem algebraic : @Cert.algebraic_GdnOutKernelIdeal_GdnOutReferenceIdeal Cert.GdnOutKernelIdeal.Gen.facts Cert.GdnOutReferenceIdeal.Gen.facts := by
  intro m g m' g' _ hagree
  refine ⟨fun c => _, GdnOutKernelIdeal.Value.run_blocks m g, ?_⟩
  refine (θ_run _ _ _).mono (fun r h c => ?_) (GdnOutReferenceIdeal.Value.run (F := Ideal) m' g')
  obtain ⟨h0, h1, h2, h3⟩ := h c
  obtain ⟨e0, e1, e2⟩ := hagree c
  refine ⟨?_, h1, h2, h3⟩
  rw [h0, GdnOutReferenceIdeal.Read.val_main_v2_eq, e0, e1, e2]
  refine Eq.trans ?_ (GdnOutKernelIdeal.Proj.out_array m c).symm
  funext i
  obtain ⟨n, k, rfl⟩ : ∃ (n : Fin 32768) (k : Fin 2048), i = ix2 n k := ⟨i 0, i 1, eq_ix2 i⟩
  exact reference_apply _ _ _ n k

theorem frame_reference : @Cert.quiescent_GdnOutReferenceIdeal Cert.GdnOutReferenceIdeal.Gen.facts := fun m ρ _ =>
  (θ_run Cert.GdnOutReferenceIdeal.defs _ _).mono (fun r h => ⟨fun c => (h c).2,
      Idealize.ShloMosaic.sem_eq_zero_of_no_sems (by decide) r.2⟩)
    (GdnOutReferenceIdeal.Value.run (F := Ideal) m ρ)

end Cert.ProjGdnOut

end
-- ==== Proof.Proj.DswOut.lean ====
/- The output projection over 2304 columns (dilated attention's): the kernel's blocks and the reference. -/
module

public import proofs.«01_k».proof.Defs
public import proofs.«01_k».proof.Proof.Proj.Math
public import proofs.«01_k».proof.Proof.Gen.DswOutKernel.Frame
public import proofs.«01_k».proof.Proof.Gen.DswOutKernelIdeal.Value
public import proofs.«01_k».proof.Proof.Gen.DswOutReferenceIdeal.Read
public import proofs.«01_k».proof.Proof.Gen.DswOutReferenceIdeal.Run

@[expose] public section

set_option maxRecDepth 16384

noncomputable section

namespace Cert.DswOutKernelIdeal.Proj

open Cert.DswOutKernelIdeal Cert.DswOutKernelIdeal.Gen Cert.ProjMath
open Idealize.ShloMosaic Idealize.ShloMosaic.TcCoe Idealize.ShloMosaic.Tactic

theorem block_apply (a : Vec Ideal S1024x2304 .bf16) (w : Vec Ideal S2304x1024 .bf16) (x : Vec Ideal S1024x1024 .f32)
    (r : Fin 1024) (k : Fin 1024) :
    out0_3 a w x (ix2 r k) = x (ix2 r k) + ∑ l : Fin 2304, a (ix2 r l) * w (ix2 l k) := by
  have h0 : (![0, 0] : Fin 2 → Nat) = fun _ => 0 := funext fun a => by fin_cases a <;> rfl
  unfold out0_3
  rw [View.canon_unit_zero h0]
  pointwise [k0_pay1]

theorem index_at : ∀ t : Fin grid0.N, win0_0.index t = ![t.val / 2, 0] ∧ win0_1.index t = ![0, t.val % 2]
    ∧ win0_2.index t = ![t.val / 2, t.val % 2] ∧ win0_3.index t = ![t.val / 2, t.val % 2] := by
  decide +kernel

variable (m : (ℓ : Loc nD τ sig) → Buf (Elt Ideal) ℓ)

/-- The arrays the program is given: the mixer's rows, the weights, the residual rows. -/
def oArr (c : Dev nD) : (⟨3, ![8, 4096, 2304]⟩ : Shape).Idx → EReal := m ((c : Thread nD τ).loc main_arg0)
def wArr (c : Dev nD) : (⟨2, ![2304, 2048]⟩ : Shape).Idx → EReal := m ((c : Thread nD τ).loc main_arg1)
def xArr (c : Dev nD) : (⟨3, ![8, 4096, 2048]⟩ : Shape).Idx → EReal := m ((c : Thread nD τ).loc main_arg2)

/-- The array row and column that row `r` and column `k` of point `t`'s block are. -/
def rowOf (t : Fin cfg0.N) (r : Fin 1024) : Fin 32768 := ⟨1024 * (t.val / 2) + r.val, by have : t.val < 64 := t.isLt; omega⟩
def colOf (t : Fin cfg0.N) (k : Fin 1024) : Fin 2048 := ⟨1024 * (t.val % 2) + k.val, by omega⟩

theorem o_block (c : Dev nD) (t : Fin cfg0.N) (r : Fin 1024) (l : Fin 2304) :
    iblk m c 0 t (ix2 r l) = rowAt (oArr m c) (rowOf t r) l := by
  have ht : t.val < 64 := t.isLt
  unfold rowAt oArr rowOf
  blk_ext! [iblk, V, index_at t]

theorem w_block (c : Dev nD) (t : Fin cfg0.N) (l : Fin 2304) (k : Fin 1024) :
    iblk m c 1 t (ix2 l k) = wArr m c (ix2 l (colOf t k)) := by
  unfold wArr colOf
  blk_ext! [iblk, V, index_at t]

theorem x_block (c : Dev nD) (t : Fin cfg0.N) (r : Fin 1024) (k : Fin 1024) :
    iblk m c 2 t (ix2 r k) = rowAt (xArr m c) (rowOf t r) (colOf t k) := by
  have ht : t.val < 64 := t.isLt
  unfold rowAt xArr rowOf colOf
  blk_ext! [iblk, V, index_at t]

/-- The result array. -/
theorem out_array (c : Dev nD) :
    (dats m 0 c).arrAt 3 cfg0.N = fun y => outAt (oArr m c) (wArr m c) (xArr m c) (y 0) (y 1) := by
  refine (dats m 0 c).arrAt_eq_of_covers 3 _ (by decide +kernel) fun t hf y => ?_
  blk_simp
  rw [after0_3]
  obtain ⟨r, k, rfl⟩ : ∃ (r : Fin 1024) (k : Fin 1024), y = ix2 r k := ⟨y 0, y 1, eq_ix2 y⟩
  have e : (win0_3.blk t).view.emb (ix2 r k) = ix2 (rowOf t r) (colOf t k) := by
    unfold rowOf colOf
    blk_ext! [index_at t]
  rw [e, block_apply]
  unfold outAt
  simp only [o_block, w_block, x_block]
  rfl

end Cert.DswOutKernelIdeal.Proj

namespace Cert.ProjDswOut

open Cert.ProjMath Idealize.ShloMosaic Idealize.ShloMosaic.TcCoe Idealize.SL.Sem

theorem reference_apply (o : (⟨DswOutReferenceIdeal.S8x4096x2304, .bf16⟩ : BufTy).Contents (Elt Ideal))
    (W : (⟨DswOutReferenceIdeal.S2304x2048, .f32⟩ : BufTy).Contents (Elt Ideal))
    (x : (⟨DswOutReferenceIdeal.S8x4096x2048, .f32⟩ : BufTy).Contents (Elt Ideal)) (n : Fin 32768) (k : Fin 2048) :
    DswOutReferenceIdeal.Read.val_main_v2 o W x (ix2 n k) = outAt o W x n k := by
  unfold outAt rowAt
  pointwise [DswOutReferenceIdeal.Read.val_main_v2, DswOutReferenceIdeal.Read.val_main_v1, DswOutReferenceIdeal.Read.val_main_v0]

theorem algebraic : @Cert.algebraic_DswOutKernelIdeal_DswOutReferenceIdeal Cert.DswOutKernelIdeal.Gen.facts Cert.DswOutReferenceIdeal.Gen.facts := by
  intro m g m' g' _ hagree
  refine ⟨fun c => _, DswOutKernelIdeal.Value.run_blocks m g, ?_⟩
  refine (θ_run _ _ _).mono (fun r h c => ?_) (DswOutReferenceIdeal.Value.run (F := Ideal) m' g')
  obtain ⟨h0, h1, h2, h3⟩ := h c
  obtain ⟨e0, e1, e2⟩ := hagree c
  refine ⟨?_, h1, h2, h3⟩
  rw [h0, DswOutReferenceIdeal.Read.val_main_v2_eq, e0, e1, e2]
  refine Eq.trans ?_ (DswOutKernelIdeal.Proj.out_array m c).symm
  funext i
  obtain ⟨n, k, rfl⟩ : ∃ (n : Fin 32768) (k : Fin 2048), i = ix2 n k := ⟨i 0, i 1, eq_ix2 i⟩
  exact reference_apply _ _ _ n k

theorem frame_reference : @Cert.quiescent_DswOutReferenceIdeal Cert.DswOutReferenceIdeal.Gen.facts := fun m ρ _ =>
  (θ_run Cert.DswOutReferenceIdeal.defs _ _).mono (fun r h => ⟨fun c => (h c).2,
      Idealize.ShloMosaic.sem_eq_zero_of_no_sems (by decide) r.2⟩)
    (DswOutReferenceIdeal.Value.run (F := Ideal) m ρ)

end Cert.ProjDswOut

end
-- ==== Proof.Proj.LruIn.lean ====
/- The RG-LRU's input projection, the gate columns through gelu: the kernel's blocks and the reference. -/
module

public import proofs.«01_k».proof.Defs
public import proofs.«01_k».proof.Proof.Proj.Math
public import proofs.«01_k».proof.Proof.Gen.LruInKernel.Frame
public import proofs.«01_k».proof.Proof.Gen.LruInKernelIdeal.Value
public import proofs.«01_k».proof.Proof.Gen.LruInReferenceIdeal.Read
public import proofs.«01_k».proof.Proof.Gen.LruInReferenceIdeal.Run

@[expose] public section

set_option maxRecDepth 16128

noncomputable section

namespace Cert.LruInKernelIdeal.Proj

open Cert.LruInKernelIdeal Cert.LruInKernelIdeal.Gen Cert.ProjMath Cert.FfnMath
open Idealize.ShloMosaic Idealize.ShloMosaic.TcCoe Idealize.ShloMosaic.Tactic

theorem off_zero : (![0, 0] : Fin 2 → Nat) = fun _ => 0 := funext fun a => by fin_cases a <;> rfl

/-- The rows a first point normalises. -/
theorem norm_apply (x : Vec Ideal S1024x2048 .f32) (g : Vec Ideal S1x2048 .f32) (r : Fin 1024) (k : Fin 2048) :
    k0_pay1 x g (ix2 r k) = normRow (fun k => x (ix2 r k)) (fun k => g (ix2 0 k)) k := by
  unfold normRow
  pointwise [k0_pay1]

theorem prod_apply (n : Vec Ideal S1024x2048 .bf16) (w : Vec Ideal S2048x1024 .bf16) (r k : Fin 1024) :
    k0_pay2 n w (ix2 r k) = ∑ l : Fin 2048, n (ix2 r l) * w (ix2 l k) := by
  pointwise [k0_pay2]

/-- gelu in its tanh form. -/
def gelu (y : EReal) : EReal :=
  Ideal.ofBits .f32 1056964608#32 * y
    * (1 + Ideal.tanh (Ideal.ofBits .f32 1061962282#32 * (y + Ideal.ofBits .f32 1027024659#32 * (y * y * y))))

/-- The result at an index: the gate columns are the first half. -/
def lruAt (x : (⟨3, ![8, 4096, 2048]⟩ : Shape).Idx → EReal) (g : (⟨1, ![2048]⟩ : Shape).Idx → EReal)
    (W : (⟨2, ![2048, 4096]⟩ : Shape).Idx → EReal) (n : Fin 32768) (c : Fin 4096) : EReal :=
  if c.val < 2048 then gelu (inAt x g W n c) else inAt x g W n c

theorem gelu_apply (n : Vec Ideal S1024x2048 .bf16) (w : Vec Ideal S2048x1024 .bf16) (r k : Fin 1024) :
    k0_pay3 n w (ix2 r k) = gelu (k0_pay2 n w (ix2 r k)) := by
  unfold gelu
  pointwise [k0_pay3]
  done

theorem index_at : ∀ t : Fin grid0.N, win0_0.index t = ![t.val / 4, 0] ∧ win0_1.index t = ![0, 0]
    ∧ win0_2.index t = ![0, t.val % 4] ∧ win0_3.index t = ![t.val / 4, t.val % 4] := by
  decide +kernel

variable (m : (ℓ : Loc nD τ sig) → Buf (Elt Ideal) ℓ)

/-- What a point writes from rows `n` and weights `w`: its first two blocks of columns go through gelu. -/
def piece (t : Fin cfg0.N) (n : Vec Ideal S1024x2048 .bf16) (w : Vec Ideal S2048x1024 .bf16) : Vec Ideal S1024x1024 .f32 :=
  if t.val % 4 ≤ 1 then k0_pay3 n w else k0_pay2 n w

/-- The first point of a row block normalises its rows, keeps them, and multiplies them. -/
theorem outs_first (c : Dev nD) (t : Fin cfg0.N) (h0 : t.val % 4 = 0) :
    outsAt0 m c t.val t.isLt = (piece t (k0_pay1 (iblk m c 0 t) (iblk m c 1 t)) (iblk m c 2 t), k0_pay1 (iblk m c 0 t) (iblk m c 1 t)) := by
  have h1 : t.val % 4 ≤ 1 := by omega
  rw [outsAt0_A m c t h0 h1 (by omega)]
  unfold piece
  rw [if_pos h1]
  refine Prod.ext ?_ ?_ <;> dsimp only
  · unfold out0_A_3
    rw [View.read_writes_junk_eq_canon]
    unfold kernelRun0_A
    dsimp only
    sl_unfold_words
    rw [View.canon_unit_zero off_zero]
    simp only [View.readCov_unit_zero (S := S1024x2048) _ off_zero]
    simp only [View.readAt_eq_ld, (hs0_0 t).read_unread, (hs0_1 t).read_unread, (hs0_2 t).read_unread,
      View.ld_unit_zero (S := S1024x2048) off_zero, View.ld_unit_zero (S := S1x2048) off_zero, View.ld_unit_zero (S := S2048x1024) off_zero]
  · unfold sout0_A_0
    rw [View.read_writes_junk_eq_canon]
    unfold kernelRun0_A
    dsimp only
    sl_unfold_words
    rw [View.canon_unit_zero (S := S1024x2048) off_zero]
    simp only [View.readAt_eq_ld, (hs0_0 t).read_unread, (hs0_1 t).read_unread,
      View.ld_unit_zero (S := S1024x2048) off_zero, View.ld_unit_zero (S := S1x2048) off_zero]

/-- A later point multiplies the rows the point before kept. -/
theorem outs_later (c : Dev nD) (t : Fin cfg0.N) (h0 : ¬t.val % 4 = 0) :
    outsAt0 m c t.val t.isLt = (piece t (outsAt0 m c (t.val - 1) (Nat.lt_of_le_of_lt (Nat.sub_le _ _) t.isLt)).2 (iblk m c 2 t),
      (outsAt0 m c (t.val - 1) (Nat.lt_of_le_of_lt (Nat.sub_le _ _) t.isLt)).2) := by
  unfold piece
  by_cases h1 : t.val % 4 ≤ 1
  · rw [outsAt0_B m c t h0 h1 (by omega), if_pos h1]
    refine Prod.ext ?_ rfl
    dsimp only
    unfold out0_B_3
    rw [View.read_writes_junk_eq_canon]
    unfold kernelRun0_B
    dsimp only
    sl_unfold_words
    rw [View.canon_unit_zero off_zero]
    simp only [View.readAt_eq_ld, (hs0_2 t).read_unread, (Memref.isWhole_whole _).read_unread,
      View.ld_unit_zero (S := S1024x2048) off_zero, View.ld_unit_zero (S := S2048x1024) off_zero]
  · rw [outsAt0_C m c t h0 h1 (by omega), if_neg h1]
    refine Prod.ext ?_ rfl
    dsimp only
    unfold out0_C_3
    rw [View.read_writes_junk_eq_canon]
    unfold kernelRun0_C
    dsimp only
    sl_unfold_words
    rw [View.canon_unit_zero off_zero]
    simp only [View.readAt_eq_ld, (hs0_2 t).read_unread, (Memref.isWhole_whole _).read_unread,
      View.ld_unit_zero (S := S1024x2048) off_zero, View.ld_unit_zero (S := S2048x1024) off_zero]

/-- The arrays the program is given: the residual rows, the norm's weights, the projection's weights. -/
def xArr (c : Dev nD) : (⟨3, ![8, 4096, 2048]⟩ : Shape).Idx → EReal := m ((c : Thread nD τ).loc main_arg0)
def gArr (c : Dev nD) : (⟨1, ![2048]⟩ : Shape).Idx → EReal := m ((c : Thread nD τ).loc main_arg1)
def wArr (c : Dev nD) : (⟨2, ![2048, 4096]⟩ : Shape).Idx → EReal := m ((c : Thread nD τ).loc main_arg2)

/-- The array row and column that row `r` and column `k` of point `t`'s block are. -/
def rowOf (t : Fin cfg0.N) (r : Fin 1024) : Fin 32768 := ⟨1024 * (t.val / 4) + r.val, by have : t.val < 128 := t.isLt; omega⟩
def colOf (t : Fin cfg0.N) (k : Fin 1024) : Fin 4096 := ⟨1024 * (t.val % 4) + k.val, by omega⟩

theorem x_block (c : Dev nD) (t : Fin cfg0.N) (r : Fin 1024) (k : Fin 2048) :
    iblk m c 0 t (ix2 r k) = rowAt (xArr m c) (rowOf t r) k := by
  have ht : t.val < 128 := t.isLt
  unfold rowAt xArr rowOf
  blk_ext! [iblk, V, index_at t]

theorem g_block (c : Dev nD) (t : Fin cfg0.N) (k : Fin 2048) : iblk m c 1 t (ix2 0 k) = gArr m c (ix1 k) := by
  unfold gArr
  blk_ext! [iblk, V, index_at t]

theorem w_block (c : Dev nD) (t : Fin cfg0.N) (l : Fin 2048) (k : Fin 1024) :
    iblk m c 2 t (ix2 l k) = wArr m c (ix2 l (colOf t k)) := by
  unfold wArr colOf
  blk_ext! [iblk, V, index_at t]

/-- The rows kept after a point are the normalised rows of its row block. -/
theorem kept_apply (c : Dev nD) : ∀ (n : ℕ) (h : n < cfg0.N) (r : Fin 1024) (k : Fin 2048),
    (outsAt0 m c n h).2 (ix2 r k) = normRow (rowAt (xArr m c) (rowOf ⟨n, h⟩ r)) (fun k => gArr m c (ix1 k)) k := by
  intro n
  induction n with
  | zero =>
    intro h r k
    rw [outs_first m c ⟨0, h⟩ rfl]
    dsimp only
    rw [norm_apply]
    simp only [x_block, g_block]
  | succ n ih =>
    intro h r k
    by_cases h0 : (n + 1) % 4 = 0
    · rw [outs_first m c ⟨n + 1, h⟩ h0]
      dsimp only
      rw [norm_apply]
      simp only [x_block, g_block]
    · rw [outs_later m c ⟨n + 1, h⟩ h0]
      refine (ih (Nat.lt_of_succ_lt h) r k).trans ?_
      have e : rowOf ⟨n, Nat.lt_of_succ_lt h⟩ r = rowOf ⟨n + 1, h⟩ r := Fin.ext (by unfold rowOf; dsimp only; omega)
      rw [e]

/-- A point's block of the result. -/
theorem out_apply (c : Dev nD) (t : Fin cfg0.N) (r k : Fin 1024) :
    (outsAt0 m c t.val t.isLt).1 (ix2 r k) = lruAt (xArr m c) (gArr m c) (wArr m c) (rowOf t r) (colOf t k) := by
  have e : (outsAt0 m c t.val t.isLt).1 = piece t (outsAt0 m c t.val t.isLt).2 (iblk m c 2 t) := by
    by_cases h0 : t.val % 4 = 0
    · rw [outs_first m c t h0]
    · rw [outs_later m c t h0]
  have p : k0_pay2 (outsAt0 m c t.val t.isLt).2 (iblk m c 2 t) (ix2 r k) = inAt (xArr m c) (gArr m c) (wArr m c) (rowOf t r) (colOf t k) := by
    rw [prod_apply]
    unfold inAt
    simp only [kept_apply, w_block]
  rw [e]
  unfold piece lruAt
  by_cases h : t.val % 4 ≤ 1
  · rw [if_pos h, if_pos (by unfold colOf; dsimp only; omega), gelu_apply, p]
  · rw [if_neg h, if_neg (by unfold colOf; dsimp only; omega), p]

/-- The result array. -/
theorem out_array (c : Dev nD) :
    (dats m 0 c).arrAt 3 cfg0.N = fun y => lruAt (xArr m c) (gArr m c) (wArr m c) (y 0) (y 1) := by
  refine (dats m 0 c).arrAt_eq_of_covers 3 _ (by decide +kernel) fun t hf y => ?_
  blk_simp
  rw [after0_3]
  obtain ⟨r, k, rfl⟩ : ∃ (r : Fin 1024) (k : Fin 1024), y = ix2 r k := ⟨y 0, y 1, eq_ix2 y⟩
  have e : (win0_3.blk t).view.emb (ix2 r k) = ix2 (rowOf t r) (colOf t k) := by
    unfold rowOf colOf
    blk_ext! [index_at t]
  rw [e, out_apply]
  rfl

end Cert.LruInKernelIdeal.Proj

namespace Cert.ProjLruIn

open Cert.ProjMath Cert.FfnMath Idealize.ShloMosaic Idealize.ShloMosaic.TcCoe Idealize.SL.Sem
open Cert.LruInReferenceIdeal.Read

variable (x : (⟨LruInReferenceIdeal.S8x4096x2048, .f32⟩ : BufTy).Contents (Elt Ideal))
  (g : (⟨LruInReferenceIdeal.S2048, .f32⟩ : BufTy).Contents (Elt Ideal))
  (W : (⟨LruInReferenceIdeal.S2048x4096, .f32⟩ : BufTy).Contents (Elt Ideal))

theorem reference_norm (b : Fin 8) (t : Fin 4096) (k : Fin 2048) :
    val_main_v12 x g (ix3 b t k) = normRow (fun k => x (ix3 b t k)) (fun k => g (ix1 k)) k := by
  unfold normRow
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

theorem reference_product (b : Fin 8) (t : Fin 4096) (k : Fin 4096) :
    val_main_v13 x g W (ix3 b t k) = ∑ l : Fin 2048, normRow (fun k => x (ix3 b t k)) (fun k => g (ix1 k)) l * W (ix2 l k) := by
  pointwise [val_main_v13]
  simp only [reference_norm]

theorem reference_gelu (b : Fin 8) (t : Fin 4096) (k : Fin 2048) :
    val_main_v28 x g W (ix3 b t k) = LruInKernelIdeal.Proj.gelu (val_main_v14 x g W (ix3 b t k)) := by
  unfold LruInKernelIdeal.Proj.gelu
  pointwise [val_main_v28, val_main_v27, val_main_v26, val_main_v25, val_main_v24, val_main_v23, val_main_v22, val_main_v21,
    val_main_v20, val_main_v19, val_main_v18, val_main_v17, val_main_v16, val_main_cst_2, val_main_cst_3, val_main_cst_4, val_main_cst_5]
  rw [← mul_assoc, mul_comm (val_main_v14 x g W (ix3 b t k)) (Ideal.ofBits .f32 1056964608#32)]

theorem reference_apply (n : Fin 32768) (k : Fin 4096) :
    val_main_v30 x g W (ix2 n k) = LruInKernelIdeal.Proj.lruAt x g W n k := by
  unfold LruInKernelIdeal.Proj.lruAt inAt rowAt
  pointwise [val_main_v30, val_main_v29]
  by_cases h : k.val < 2048
  · rw [dif_pos h, if_pos h, reference_gelu]
    pointwise [val_main_v14]
    rw [reference_product]
  · rw [dif_neg h, if_neg h]
    pointwise [val_main_v15]
    rw [reference_product]
    simp only [Nat.add_sub_of_le (Nat.le_of_not_lt h)]

theorem algebraic : @Cert.algebraic_LruInKernelIdeal_LruInReferenceIdeal Cert.LruInKernelIdeal.Gen.facts Cert.LruInReferenceIdeal.Gen.facts := by
  intro m g m' g' _ hagree
  refine ⟨fun c => _, LruInKernelIdeal.Value.run_blocks m g, ?_⟩
  refine (θ_run _ _ _).mono (fun r h c => ?_) (LruInReferenceIdeal.Value.run (F := Ideal) m' g')
  obtain ⟨h0, h1, h2, h3⟩ := h c
  obtain ⟨e0, e1, e2⟩ := hagree c
  refine ⟨?_, h1, h2, h3⟩
  refine (h0.trans (val_main_v30_eq m' c)).trans ?_
  rw [e0, e1, e2]
  refine Eq.trans ?_ (LruInKernelIdeal.Proj.out_array m c).symm
  funext i
  obtain ⟨n, k, rfl⟩ : ∃ (n : Fin 32768) (k : Fin 4096), i = ix2 n k := ⟨i 0, i 1, eq_ix2 i⟩
  exact reference_apply _ _ _ n k

theorem frame_reference : @Cert.quiescent_LruInReferenceIdeal Cert.LruInReferenceIdeal.Gen.facts := fun m ρ _ =>
  (θ_run Cert.LruInReferenceIdeal.defs _ _).mono (fun r h => ⟨fun c => (h c).2,
      Idealize.ShloMosaic.sem_eq_zero_of_no_sems (by decide) r.2⟩)
    (LruInReferenceIdeal.Value.run (F := Ideal) m ρ)

end Cert.ProjLruIn

end
-- ==== Proof.Proj.SbIn.lean ====
/- Sliding-block attention's input projection, with the heads of q and k normalised: the kernel's blocks and the reference. -/
module

public import proofs.«01_k».proof.Defs
public import proofs.«01_k».proof.Proof.Proj.Math
public import proofs.«01_k».proof.Proof.Gen.SbInKernel.Frame
public import proofs.«01_k».proof.Proof.Gen.SbInKernelIdeal.Value
public import proofs.«01_k».proof.Proof.Gen.SbInReferenceIdeal.Read
public import proofs.«01_k».proof.Proof.Gen.SbInReferenceIdeal.Run

@[expose] public section

set_option maxRecDepth 16384

noncomputable section

namespace Cert.SbInKernelIdeal.Proj

open Cert.SbInKernelIdeal Cert.SbInKernelIdeal.Gen Cert.ProjMath Cert.FfnMath
open Idealize.ShloMosaic Idealize.ShloMosaic.TcCoe Idealize.ShloMosaic.Tactic

theorem off_zero : (![0, 0] : Fin 2 → Nat) = fun _ => 0 := funext fun a => by fin_cases a <;> rfl

/-- Place `l` of the head whose first column is `o`: the column times `φ` of the inverse root of the head's mean square (with
    the small constant inside the root), times the weight of the place. -/
def headOf {C : ℕ} (y : Fin C → EReal) (g : Fin 128 → EReal) (φ : EReal → EReal) (o : ℕ) (ho : o + 128 ≤ C) (l : Fin 128) : EReal :=
  y ⟨o + l.val, by omega⟩ * φ (Ideal.rsqrt (Ideal.div (∑ i : Fin 128, y ⟨o + i.val, by omega⟩ * y ⟨o + i.val, by omega⟩)
    (Ideal.ofBits .f32 1124073472#32) + Ideal.ofBits .f32 897988541#32)) * g l

/-- Column `k` of a row of heads of 128 columns. -/
def headAt {C : ℕ} (hC : 128 ∣ C) (y : Fin C → EReal) (g : Fin 128 → EReal) (φ : EReal → EReal) (k : Fin C) : EReal :=
  headOf y g φ (128 * (k.val / 128)) (by omega) ⟨k.val % 128, Nat.mod_lt _ (by omega)⟩

/-- The same with the head's first column named. -/
theorem headAt_eq {C : ℕ} (hC : 128 ∣ C) (y : Fin C → EReal) (g : Fin 128 → EReal) (φ : EReal → EReal) (k : Fin C) (o : ℕ)
    (ho : 128 ∣ o) (h1 : o ≤ k.val) (h2 : k.val - o < 128) :
    headOf y g φ o (by omega) ⟨k.val - o, h2⟩ = headAt hC y g φ k := by
  have e : 128 * (k.val / 128) = o := by omega
  have e' : k.val % 128 = k.val - o := by omega
  unfold headAt
  simp only [e, e']

/-- Eight heads one after the other. -/
theorem headAt_chain (hC : 128 ∣ 1024) (y : Fin 1024 → EReal) (g : Fin 128 → EReal) (φ : EReal → EReal) (k : Fin 1024) :
    (if h : k.val < 128 then headOf y g φ 0 (by omega) ⟨k.val, h⟩
      else if h : k.val - 128 < 128 then headOf y g φ 128 (by omega) ⟨k.val - 128, h⟩
      else if h : k.val - 256 < 128 then headOf y g φ 256 (by omega) ⟨k.val - 256, h⟩
      else if h : k.val - 384 < 128 then headOf y g φ 384 (by omega) ⟨k.val - 384, h⟩
      else if h : k.val - 512 < 128 then headOf y g φ 512 (by omega) ⟨k.val - 512, h⟩
      else if h : k.val - 640 < 128 then headOf y g φ 640 (by omega) ⟨k.val - 640, h⟩
      else if h : k.val - 768 < 128 then headOf y g φ 768 (by omega) ⟨k.val - 768, h⟩
      else headOf y g φ 896 (by omega) ⟨k.val - 896, by omega⟩) = headAt hC y g φ k := by
  split_ifs <;> exact headAt_eq hC y g φ k _ (by decide) (by omega) _

/-- Heads of a stretch of columns are heads of the row. -/
theorem headAt_stretch {B C : ℕ} (hB : 128 ∣ B) (hC : 128 ∣ C) (p : Fin C → EReal) (g : Fin 128 → EReal) (φ : EReal → EReal) (o : ℕ)
    (ho : 128 ∣ o) (hj : o + B ≤ C) (k : Fin B) :
    headAt hB (fun k : Fin B => p ⟨o + k.val, by omega⟩) g φ k = headAt hC p g φ ⟨o + k.val, by omega⟩ := by
  have e : 128 * ((o + k.val) / 128) = o + 128 * (k.val / 128) := by omega
  have e' : (o + k.val) % 128 = k.val % 128 := by omega
  unfold headAt headOf
  simp only [e, e', Nat.add_assoc]

/-- q's factor, the root of 128's inverse as a number of 32 bits. -/
def qScale (z : EReal) : EReal := z * Ideal.ofBits .f32 1035273459#32

/-- The result at an index: q's heads, then k's, then v. -/
def sbAt (x : (⟨3, ![8, 4096, 2048]⟩ : Shape).Idx → EReal) (g : (⟨1, ![2048]⟩ : Shape).Idx → EReal)
    (W : (⟨2, ![2048, 6144]⟩ : Shape).Idx → EReal) (q k : (⟨1, ![128]⟩ : Shape).Idx → EReal) (n : Fin 32768) (c : Fin 6144) : EReal :=
  if c.val < 2048 then headAt (by decide) (inAt x g W n) (fun l => q (ix1 l)) qScale c
  else if c.val < 4096 then headAt (by decide) (inAt x g W n) (fun l => k (ix1 l)) id c
  else inAt x g W n c

/-- A point's q block from its product: every head of 128 columns normalised, scaled and weighted. -/
def qBlock (g : Vec Ideal S1x128 .f32) (y : FVec Ideal S1024x1024 .f32) : Vec Ideal S1024x1024 .bf16 :=
  k0_pay6 g (k0_pay11 y) (k0_pay12 y) (k0_pay13 y) (k0_pay14 y) (k0_pay15 y) (k0_pay16 y) (k0_pay17 y) (k0_pay19 y) (k0_pay20 y)
    (k0_pay22 (k0_pay21 y)) (k0_pay23 (k0_pay14 y)) (k0_pay24 (k0_pay15 y)) (k0_pay25 (k0_pay16 y)) (k0_pay26 (k0_pay17 y))
    (k0_pay5 g (k0_pay10 y) (k0_pay18 y))

/-- A point's k block, the same with another scale. -/
def kBlock (g : Vec Ideal S1x128 .f32) (y : FVec Ideal S1024x1024 .f32) : Vec Ideal S1024x1024 .bf16 :=
  k0_pay8 g (k0_pay28 y) (k0_pay29 y) (k0_pay30 y) (k0_pay31 y) (k0_pay32 y) (k0_pay33 y) (k0_pay34 y) (k0_pay36 y) (k0_pay37 y)
    (k0_pay39 (k0_pay38 y)) (k0_pay40 (k0_pay31 y)) (k0_pay41 (k0_pay32 y)) (k0_pay42 (k0_pay33 y)) (k0_pay43 (k0_pay34 y))
    (k0_pay7 g (k0_pay27 y) (k0_pay35 y))

theorem q_apply (g : Vec Ideal S1x128 .f32) (y : FVec Ideal S1024x1024 .f32) (r k : Fin 1024) :
    qBlock g y (ix2 r k) = headAt (by decide) (fun k => y (ix2 r k)) (fun l => g (ix2 0 l)) qScale k := by
  unfold qBlock
  pointwise [k0_pay6, k0_pay3, k0_pay5, k0_pay10, k0_pay11, k0_pay12, k0_pay13, k0_pay14, k0_pay15, k0_pay16, k0_pay17, k0_pay18,
    k0_pay19, k0_pay20, k0_pay21, k0_pay22, k0_pay23, k0_pay24, k0_pay25, k0_pay26]
  simp only [Nat.sub_sub, Nat.reduceAdd]
  have H := headAt_chain (by decide) (fun k => y (ix2 r k)) (fun l => g (ix2 0 l)) qScale k
  simp only [headOf, Nat.zero_add] at H
  exact H

theorem k_apply (g : Vec Ideal S1x128 .f32) (y : FVec Ideal S1024x1024 .f32) (r k : Fin 1024) :
    kBlock g y (ix2 r k) = headAt (by decide) (fun k => y (ix2 r k)) (fun l => g (ix2 0 l)) id k := by
  unfold kBlock
  pointwise [k0_pay8, k0_pay4, k0_pay7, k0_pay27, k0_pay28, k0_pay29, k0_pay30, k0_pay31, k0_pay32, k0_pay33, k0_pay34, k0_pay35,
    k0_pay36, k0_pay37, k0_pay38, k0_pay39, k0_pay40, k0_pay41, k0_pay42, k0_pay43]
  simp only [Nat.sub_sub, Nat.reduceAdd]
  have H := headAt_chain (by decide) (fun k => y (ix2 r k)) (fun l => g (ix2 0 l)) id k
  simp only [headOf, Nat.zero_add] at H
  exact H

/-- The rows a first point normalises. -/
theorem norm_apply (x : Vec Ideal S1024x2048 .f32) (g : Vec Ideal S1x2048 .f32) (r : Fin 1024) (k : Fin 2048) :
    k0_pay1 x g (ix2 r k) = normRow (fun k => x (ix2 r k)) (fun k => g (ix2 0 k)) k := by
  unfold normRow
  pointwise [k0_pay1]

theorem prod_apply (n : Vec Ideal S1024x2048 .bf16) (w : Vec Ideal S2048x1024 .bf16) (r k : Fin 1024) :
    k0_pay2 n w (ix2 r k) = ∑ l : Fin 2048, n (ix2 r l) * w (ix2 l k) := by
  pointwise [k0_pay2]

theorem v_apply (n : Vec Ideal S1024x2048 .bf16) (w : Vec Ideal S2048x1024 .bf16) (r k : Fin 1024) :
    k0_pay9 n w (ix2 r k) = k0_pay2 n w (ix2 r k) := by
  pointwise [k0_pay9]

theorem index_at : ∀ t : Fin grid0.N, win0_0.index t = ![t.val / 6, 0] ∧ win0_1.index t = ![0, 0]
    ∧ win0_2.index t = ![0, t.val % 6] ∧ win0_3.index t = ![0, 0] ∧ win0_4.index t = ![0, 0] ∧ win0_5.index t = ![t.val / 6, t.val % 6] := by
  decide +kernel

variable (m : (ℓ : Loc nD τ sig) → Buf (Elt Ideal) ℓ)

/-- What a point writes from rows `n`: two blocks of columns of q, two of k, two of v. -/
def piece (c : Dev nD) (t : Fin cfg0.N) (n : Vec Ideal S1024x2048 .bf16) : Vec Ideal S1024x1024 .bf16 :=
  if t.val % 6 ≤ 1 then qBlock (iblk m c 3 t) (k0_pay2 n (iblk m c 2 t))
  else if t.val % 6 ≤ 3 then kBlock (iblk m c 4 t) (k0_pay2 n (iblk m c 2 t))
  else k0_pay9 n (iblk m c 2 t)

/-- The first point of a row block normalises its rows, keeps them, and multiplies them. -/
theorem outs_first (c : Dev nD) (t : Fin cfg0.N) (h0 : t.val % 6 = 0) :
    outsAt0 m c t.val t.isLt = (piece m c t (k0_pay1 (iblk m c 0 t) (iblk m c 1 t)), k0_pay1 (iblk m c 0 t) (iblk m c 1 t)) := by
  have h1 : t.val % 6 ≤ 1 := by omega
  rw [outsAt0_A m c t h0 h1 (by omega) (by omega)]
  unfold piece
  rw [if_pos h1]
  refine Prod.ext ?_ ?_ <;> dsimp only
  · unfold out0_A_5
    rw [View.read_writes_junk_eq_canon]
    unfold kernelRun0_A
    dsimp only
    sl_unfold_words
    rw [View.canon_unit_zero off_zero]
    simp only [View.readCov_unit_zero (S := S1024x2048) _ off_zero]
    simp only [View.readAt_eq_ld, (hs0_0 t).read_unread, (hs0_1 t).read_unread, (hs0_2 t).read_unread, (hs0_3 t).read_unread,
      View.ld_unit_zero (S := S1024x2048) off_zero, View.ld_unit_zero (S := S1x2048) off_zero, View.ld_unit_zero (S := S2048x1024) off_zero,
      View.ld_unit_zero (S := S1x128) off_zero]
    rfl
  · unfold sout0_A_0
    rw [View.read_writes_junk_eq_canon]
    unfold kernelRun0_A
    dsimp only
    sl_unfold_words
    rw [View.canon_unit_zero (S := S1024x2048) off_zero]
    simp only [View.readAt_eq_ld, (hs0_0 t).read_unread, (hs0_1 t).read_unread,
      View.ld_unit_zero (S := S1024x2048) off_zero, View.ld_unit_zero (S := S1x2048) off_zero]

/-- A later point multiplies the rows the point before kept. -/
theorem outs_later (c : Dev nD) (t : Fin cfg0.N) (h0 : ¬t.val % 6 = 0) :
    outsAt0 m c t.val t.isLt = (piece m c t (outsAt0 m c (t.val - 1) (Nat.lt_of_le_of_lt (Nat.sub_le _ _) t.isLt)).2,
      (outsAt0 m c (t.val - 1) (Nat.lt_of_le_of_lt (Nat.sub_le _ _) t.isLt)).2) := by
  unfold piece
  by_cases h1 : t.val % 6 ≤ 1
  · rw [outsAt0_B m c t h0 h1 (by omega) (by omega), if_pos h1]
    refine Prod.ext ?_ rfl
    dsimp only
    unfold out0_B_5
    rw [View.read_writes_junk_eq_canon]
    unfold kernelRun0_B
    dsimp only
    sl_unfold_words
    rw [View.canon_unit_zero off_zero]
    simp only [View.readAt_eq_ld, (hs0_2 t).read_unread, (hs0_3 t).read_unread, (Memref.isWhole_whole _).read_unread,
      View.ld_unit_zero (S := S1024x2048) off_zero, View.ld_unit_zero (S := S2048x1024) off_zero, View.ld_unit_zero (S := S1x128) off_zero]
    rfl
  rw [if_neg h1]
  by_cases h2 : t.val % 6 ≤ 3
  · rw [outsAt0_C m c t h0 h1 (by omega) (by omega), if_pos h2]
    refine Prod.ext ?_ rfl
    dsimp only
    unfold out0_C_5
    rw [View.read_writes_junk_eq_canon]
    unfold kernelRun0_C
    dsimp only
    sl_unfold_words
    rw [View.canon_unit_zero off_zero]
    simp only [View.readAt_eq_ld, (hs0_2 t).read_unread, (hs0_4 t).read_unread, (Memref.isWhole_whole _).read_unread,
      View.ld_unit_zero (S := S1024x2048) off_zero, View.ld_unit_zero (S := S2048x1024) off_zero, View.ld_unit_zero (S := S1x128) off_zero]
    rfl
  · rw [outsAt0_D m c t h0 h1 (by omega) (by omega), if_neg h2]
    refine Prod.ext ?_ rfl
    dsimp only
    unfold out0_D_5
    rw [View.read_writes_junk_eq_canon]
    unfold kernelRun0_D
    dsimp only
    sl_unfold_words
    rw [View.canon_unit_zero off_zero]
    simp only [View.readAt_eq_ld, (hs0_2 t).read_unread, (Memref.isWhole_whole _).read_unread,
      View.ld_unit_zero (S := S1024x2048) off_zero, View.ld_unit_zero (S := S2048x1024) off_zero]

/-- The arrays the program is given: the residual rows, the norm's weights, the projection's weights, the weights of q's
    heads and of k's. -/
def xArr (c : Dev nD) : (⟨3, ![8, 4096, 2048]⟩ : Shape).Idx → EReal := m ((c : Thread nD τ).loc main_arg0)
def gArr (c : Dev nD) : (⟨1, ![2048]⟩ : Shape).Idx → EReal := m ((c : Thread nD τ).loc main_arg1)
def wArr (c : Dev nD) : (⟨2, ![2048, 6144]⟩ : Shape).Idx → EReal := m ((c : Thread nD τ).loc main_arg2)
def qArr (c : Dev nD) : (⟨1, ![128]⟩ : Shape).Idx → EReal := m ((c : Thread nD τ).loc main_arg3)
def kArr (c : Dev nD) : (⟨1, ![128]⟩ : Shape).Idx → EReal := m ((c : Thread nD τ).loc main_arg4)

/-- The array row and column that row `r` and column `k` of point `t`'s block are. -/
def rowOf (t : Fin cfg0.N) (r : Fin 1024) : Fin 32768 := ⟨1024 * (t.val / 6) + r.val, by have : t.val < 192 := t.isLt; omega⟩
def colOf (t : Fin cfg0.N) (k : Fin 1024) : Fin 6144 := ⟨1024 * (t.val % 6) + k.val, by omega⟩

theorem x_block (c : Dev nD) (t : Fin cfg0.N) (r : Fin 1024) (k : Fin 2048) :
    iblk m c 0 t (ix2 r k) = rowAt (xArr m c) (rowOf t r) k := by
  have ht : t.val < 192 := t.isLt
  unfold rowAt xArr rowOf
  blk_ext! [iblk, V, index_at t]

theorem g_block (c : Dev nD) (t : Fin cfg0.N) (k : Fin 2048) : iblk m c 1 t (ix2 0 k) = gArr m c (ix1 k) := by
  unfold gArr
  blk_ext! [iblk, V, index_at t]

theorem w_block (c : Dev nD) (t : Fin cfg0.N) (l : Fin 2048) (k : Fin 1024) :
    iblk m c 2 t (ix2 l k) = wArr m c (ix2 l (colOf t k)) := by
  unfold wArr colOf
  blk_ext! [iblk, V, index_at t]

theorem q_block (c : Dev nD) (t : Fin cfg0.N) (k : Fin 128) : iblk m c 3 t (ix2 0 k) = qArr m c (ix1 k) := by
  unfold qArr
  blk_ext! [iblk, V, index_at t]

theorem k_block (c : Dev nD) (t : Fin cfg0.N) (k : Fin 128) : iblk m c 4 t (ix2 0 k) = kArr m c (ix1 k) := by
  unfold kArr
  blk_ext! [iblk, V, index_at t]

/-- The rows kept after a point are the normalised rows of its row block. -/
theorem kept_apply (c : Dev nD) : ∀ (n : ℕ) (h : n < cfg0.N) (r : Fin 1024) (k : Fin 2048),
    (outsAt0 m c n h).2 (ix2 r k) = normRow (rowAt (xArr m c) (rowOf ⟨n, h⟩ r)) (fun k => gArr m c (ix1 k)) k := by
  intro n
  induction n with
  | zero =>
    intro h r k
    rw [outs_first m c ⟨0, h⟩ rfl]
    dsimp only
    rw [norm_apply]
    simp only [x_block, g_block]
  | succ n ih =>
    intro h r k
    by_cases h0 : (n + 1) % 6 = 0
    · rw [outs_first m c ⟨n + 1, h⟩ h0]
      dsimp only
      rw [norm_apply]
      simp only [x_block, g_block]
    · rw [outs_later m c ⟨n + 1, h⟩ h0]
      refine (ih (Nat.lt_of_succ_lt h) r k).trans ?_
      have e : rowOf ⟨n, Nat.lt_of_succ_lt h⟩ r = rowOf ⟨n + 1, h⟩ r := Fin.ext (by unfold rowOf; dsimp only; omega)
      rw [e]

/-- A point's block of the result. -/
theorem out_apply (c : Dev nD) (t : Fin cfg0.N) (r k : Fin 1024) :
    (outsAt0 m c t.val t.isLt).1 (ix2 r k) = sbAt (xArr m c) (gArr m c) (wArr m c) (qArr m c) (kArr m c) (rowOf t r) (colOf t k) := by
  have e : (outsAt0 m c t.val t.isLt).1 = piece m c t (outsAt0 m c t.val t.isLt).2 := by
    by_cases h0 : t.val % 6 = 0
    · rw [outs_first m c t h0]
    · rw [outs_later m c t h0]
  have p (k : Fin 1024) : k0_pay2 (outsAt0 m c t.val t.isLt).2 (iblk m c 2 t) (ix2 r k)
      = inAt (xArr m c) (gArr m c) (wArr m c) (rowOf t r) (colOf t k) := by
    rw [prod_apply]
    unfold inAt
    simp only [kept_apply, w_block]
  have s (g : Fin 128 → EReal) (φ : EReal → EReal) := headAt_stretch (B := 1024) (C := 6144) (by decide) (by decide)
    (inAt (xArr m c) (gArr m c) (wArr m c) (rowOf t r)) g φ (1024 * (t.val % 6)) (by omega) (by omega) k
  rw [e]
  unfold piece sbAt
  have d : (colOf t k).val = 1024 * (t.val % 6) + k.val := rfl
  by_cases h1 : t.val % 6 ≤ 1
  · have a : (colOf t k).val < 2048 := by omega
    rw [if_pos h1, if_pos a, q_apply]
    simp only [p, q_block]
    exact s _ _
  have a : ¬(colOf t k).val < 2048 := by omega
  rw [if_neg h1, if_neg a]
  by_cases h2 : t.val % 6 ≤ 3
  · have b : (colOf t k).val < 4096 := by omega
    rw [if_pos h2, if_pos b, k_apply]
    simp only [p, k_block]
    exact s _ _
  · have b : ¬(colOf t k).val < 4096 := by omega
    rw [if_neg h2, if_neg b, v_apply, p]

/-- The result array. -/
theorem out_array (c : Dev nD) : (dats m 0 c).arrAt 5 cfg0.N
    = fun y => sbAt (xArr m c) (gArr m c) (wArr m c) (qArr m c) (kArr m c) (y 0) (y 1) := by
  refine (dats m 0 c).arrAt_eq_of_covers 5 _ (by decide +kernel) fun t hf y => ?_
  blk_simp
  rw [after0_5]
  obtain ⟨r, k, rfl⟩ : ∃ (r : Fin 1024) (k : Fin 1024), y = ix2 r k := ⟨y 0, y 1, eq_ix2 y⟩
  have e : (win0_5.blk t).view.emb (ix2 r k) = ix2 (rowOf t r) (colOf t k) := by
    unfold rowOf colOf
    blk_ext! [index_at t]
  rw [e, out_apply]
  rfl

end Cert.SbInKernelIdeal.Proj

namespace Cert.ProjSbIn

open Cert.ProjMath Cert.FfnMath Idealize.ShloMosaic Idealize.ShloMosaic.TcCoe Idealize.SL.Sem
open Cert.SbInReferenceIdeal.Read

variable (x : (⟨SbInReferenceIdeal.S8x4096x2048, .f32⟩ : BufTy).Contents (Elt Ideal))
  (g : (⟨SbInReferenceIdeal.S2048, .f32⟩ : BufTy).Contents (Elt Ideal))
  (W : (⟨SbInReferenceIdeal.S2048x6144, .f32⟩ : BufTy).Contents (Elt Ideal))
  (q : (⟨SbInReferenceIdeal.S128, .f32⟩ : BufTy).Contents (Elt Ideal))
  (k : (⟨SbInReferenceIdeal.S128, .f32⟩ : BufTy).Contents (Elt Ideal))

theorem reference_norm (b : Fin 8) (t : Fin 4096) (k : Fin 2048) :
    val_main_v12 x g (ix3 b t k) = normRow (fun k => x (ix3 b t k)) (fun k => g (ix1 k)) k := by
  unfold normRow
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

theorem reference_product (n : Fin 32768) (c : Fin 6144) :
    val_main_v13 x g W (ix3 (⟨n.val / 4096, by omega⟩ : Fin 8) (⟨n.val % 4096, by omega⟩ : Fin 4096) c) = inAt x g W n c := by
  unfold inAt rowAt
  pointwise [val_main_v13]
  simp only [reference_norm]

open SbInKernelIdeal.Proj in
theorem reference_q (b : Fin 8) (t : Fin 4096) (c : Fin 2048) : val_main_v47 x g W q (ix3 b t c)
    = headAt (by decide) (fun c => val_main_v13 x g W (ix3 b t c)) (fun l => q (ix1 l)) qScale (⟨c.val, by omega⟩ : Fin 6144) := by
  pointwise [val_main_v47, val_main_v32, val_main_v31, val_main_cst_5, val_main_v30, val_main_v29, val_main_v28, val_main_v27, val_main_v26,
    val_main_v25, val_main_v24, val_main_v23, val_main_cst_4, val_main_v22, val_main_v21, val_main_cst_3, val_main_v20, val_main_v19,
    val_main_cst_2, val_main_v18, val_main_v17, val_main_v14]
  unfold headAt headOf qScale
  have e : c.val / 128 * 128 + c.val % 128 = c.val := by omega
  simp only [Nat.mul_comm 128, e]
  rw [mul_right_comm, mul_assoc (val_main_v13 x g W _)]

open SbInKernelIdeal.Proj in
theorem reference_k (b : Fin 8) (t : Fin 4096) (c : Fin 2048) : val_main_v48 x g W k (ix3 b t c)
    = headAt (by decide) (fun c => val_main_v13 x g W (ix3 b t c)) (fun l => k (ix1 l)) id (⟨2048 + c.val, by omega⟩ : Fin 6144) := by
  pointwise [val_main_v48, val_main_v46, val_main_v45, val_main_v44, val_main_v43, val_main_v42, val_main_v41, val_main_v40, val_main_v39,
    val_main_cst_8, val_main_v38, val_main_v37, val_main_cst_7, val_main_v36, val_main_v35, val_main_cst_6, val_main_v34, val_main_v33, val_main_v15]
  unfold headAt headOf
  have e : 128 * ((2048 + c.val) / 128) = 2048 + c.val / 128 * 128 := by omega
  have e' : (2048 + c.val) % 128 = c.val % 128 := by omega
  have e'' : c.val / 128 * 128 + c.val % 128 = c.val := by omega
  simp only [e, e', e'', Nat.add_assoc, id]

theorem reference_apply (n : Fin 32768) (c : Fin 6144) :
    val_main_v51 x g W q k (ix2 n c) = SbInKernelIdeal.Proj.sbAt x g W q k n c := by
  unfold SbInKernelIdeal.Proj.sbAt
  pointwise [val_main_v51, val_main_v50, val_main_v49]
  by_cases h1 : c.val < 2048
  · rw [dif_pos h1, if_pos h1, reference_q]
    simp only [reference_product]
  rw [dif_neg h1, if_neg h1]
  by_cases h2 : c.val < 4096
  · rw [dif_pos (by omega), if_pos h2, reference_k]
    simp only [reference_product, Nat.add_sub_of_le (Nat.le_of_not_lt h1)]
  · rw [dif_neg (by omega), if_neg h2]
    pointwise [val_main_v16]
    have e : 4096 + (c.val - 2048 - 2048) = c.val := by omega
    simp only [e, reference_product]

theorem algebraic : @Cert.algebraic_SbInKernelIdeal_SbInReferenceIdeal Cert.SbInKernelIdeal.Gen.facts Cert.SbInReferenceIdeal.Gen.facts := by
  intro m g m' g' _ hagree
  refine ⟨fun c => _, SbInKernelIdeal.Value.run_blocks m g, ?_⟩
  refine (θ_run _ _ _).mono (fun r h c => ?_) (SbInReferenceIdeal.Value.run (F := Ideal) m' g')
  obtain ⟨h0, hr⟩ := h c
  obtain ⟨e0, e1, e2, e3, e4⟩ := hagree c
  refine ⟨?_, hr⟩
  refine (h0.trans (val_main_v51_eq m' c)).trans ?_
  rw [e0, e1, e2, e3, e4]
  refine Eq.trans ?_ (SbInKernelIdeal.Proj.out_array m c).symm
  funext i
  obtain ⟨n, k, rfl⟩ : ∃ (n : Fin 32768) (k : Fin 6144), i = ix2 n k := ⟨i 0, i 1, eq_ix2 i⟩
  exact reference_apply _ _ _ _ _ n k

theorem frame_reference : @Cert.quiescent_SbInReferenceIdeal Cert.SbInReferenceIdeal.Gen.facts := fun m ρ _ =>
  (θ_run Cert.SbInReferenceIdeal.defs _ _).mono (fun r h => ⟨fun c => (h c).2,
      Idealize.ShloMosaic.sem_eq_zero_of_no_sems (by decide) r.2⟩)
    (SbInReferenceIdeal.Value.run (F := Ideal) m ρ)

end Cert.ProjSbIn

end
-- ==== Proof.Proj.GdnIn.lean ====
/- Gated DeltaNet's input projection (the columns of q, k, v and z): the kernel's blocks and the reference. -/
module

public import proofs.«01_k».proof.Defs
public import proofs.«01_k».proof.Proof.Proj.Math
public import proofs.«01_k».proof.Proof.Gen.GdnInKernel.Frame
public import proofs.«01_k».proof.Proof.Gen.GdnInKernelIdeal.Value
public import proofs.«01_k».proof.Proof.Gen.GdnInReferenceIdeal.Read
public import proofs.«01_k».proof.Proof.Gen.GdnInReferenceIdeal.Run

@[expose] public section

set_option maxRecDepth 16384

noncomputable section

namespace Cert.GdnInKernelIdeal.Proj

open Cert.GdnInKernelIdeal Cert.GdnInKernelIdeal.Gen Cert.ProjMath Cert.FfnMath
open Idealize.ShloMosaic Idealize.ShloMosaic.TcCoe Idealize.ShloMosaic.Tactic

theorem off_zero : (![0, 0] : Fin 2 → Nat) = fun _ => 0 := funext fun a => by fin_cases a <;> rfl

/-- The rows a first point normalises. -/
theorem norm_apply (x : Vec Ideal S1024x2048 .f32) (g : Vec Ideal S1x2048 .f32) (r : Fin 1024) (k : Fin 2048) :
    k0_pay1 x g (ix2 r k) = normRow (fun k => x (ix2 r k)) (fun k => g (ix2 0 k)) k := by
  unfold normRow
  pointwise [k0_pay1]

theorem prod_apply (n : Vec Ideal S1024x2048 .bf16) (w : Vec Ideal S2048x1024 .bf16) (r k : Fin 1024) :
    k0_pay2 n w (ix2 r k) = ∑ l : Fin 2048, n (ix2 r l) * w (ix2 l k) := by
  pointwise [k0_pay2]

theorem index_at : ∀ t : Fin grid0.N, win0_0.index t = ![t.val / 12, 0] ∧ win0_1.index t = ![0, 0]
    ∧ win0_2.index t = ![0, t.val % 12] ∧ win0_3.index t = ![t.val / 12, t.val % 12] := by
  decide +kernel

variable (m : (ℓ : Loc nD τ sig) → Buf (Elt Ideal) ℓ)

/-- The first point of a row block normalises its rows, keeps them, and multiplies them. -/
theorem outs_first (c : Dev nD) (t : Fin cfg0.N) (h0 : t.val % 12 = 0) :
    outsAt0 m c t.val t.isLt = (k0_pay2 (k0_pay1 (iblk m c 0 t) (iblk m c 1 t)) (X0_2 m c t), k0_pay1 (iblk m c 0 t) (iblk m c 1 t)) := by
  rw [outsAt0_A m c t h0]
  refine Prod.ext ?_ ?_ <;> dsimp only
  · unfold out0_A_3
    rw [View.read_writes_junk_eq_canon]
    unfold kernelRun0_A
    dsimp only
    sl_unfold_words
    rw [View.canon_unit_zero off_zero]
    simp only [View.readCov_unit_zero (S := S1024x2048) _ off_zero]
    simp only [View.readAt_eq_ld, (hs0_0 t).read_unread, (hs0_1 t).read_unread, (hs0_2 t).read_unread,
      View.ld_unit_zero (S := S1024x2048) off_zero, View.ld_unit_zero (S := S1x2048) off_zero, View.ld_unit_zero (S := S2048x1024) off_zero]
  · unfold sout0_A_0
    rw [View.read_writes_junk_eq_canon]
    unfold kernelRun0_A
    dsimp only
    sl_unfold_words
    rw [View.canon_unit_zero (S := S1024x2048) off_zero]
    simp only [View.readAt_eq_ld, (hs0_0 t).read_unread, (hs0_1 t).read_unread,
      View.ld_unit_zero (S := S1024x2048) off_zero, View.ld_unit_zero (S := S1x2048) off_zero]

/-- A later point multiplies the rows the point before kept. -/
theorem outs_later (c : Dev nD) (t : Fin cfg0.N) (h0 : ¬t.val % 12 = 0) :
    outsAt0 m c t.val t.isLt = (k0_pay2 (outsAt0 m c (t.val - 1) (Nat.lt_of_le_of_lt (Nat.sub_le _ _) t.isLt)).2 (X0_2 m c t),
      (outsAt0 m c (t.val - 1) (Nat.lt_of_le_of_lt (Nat.sub_le _ _) t.isLt)).2) := by
  rw [outsAt0_B m c t h0]
  refine Prod.ext ?_ rfl
  dsimp only
  unfold out0_B_3
  rw [View.read_writes_junk_eq_canon]
  unfold kernelRun0_B
  dsimp only
  sl_unfold_words
  rw [View.canon_unit_zero off_zero]
  simp only [View.readAt_eq_ld, (hs0_2 t).read_unread, (Memref.isWhole_whole _).read_unread,
    View.ld_unit_zero (S := S1024x2048) off_zero, View.ld_unit_zero (S := S2048x1024) off_zero]

/-- The arrays the program is given: the residual rows, the norm's weights, the projection's weights. -/
def xArr (c : Dev nD) : (⟨3, ![8, 4096, 2048]⟩ : Shape).Idx → EReal := m ((c : Thread nD τ).loc main_arg0)
def gArr (c : Dev nD) : (⟨1, ![2048]⟩ : Shape).Idx → EReal := m ((c : Thread nD τ).loc main_arg1)
def wArr (c : Dev nD) : (⟨2, ![2048, 12352]⟩ : Shape).Idx → EReal := m ((c : Thread nD τ).loc main_arg2)

/-- The array row and column that row `r` and column `k` of point `t`'s block are. -/
def rowOf (t : Fin cfg0.N) (r : Fin 1024) : Fin 32768 := ⟨1024 * (t.val / 12) + r.val, by have : t.val < 384 := t.isLt; omega⟩
def colOf (t : Fin cfg0.N) (k : Fin 1024) : Fin 12288 := ⟨1024 * (t.val % 12) + k.val, by omega⟩

/-- A result column as a column of the weights, which have 64 more. -/
def wide (k : Fin 12288) : Fin 12352 := ⟨k.val, by omega⟩

theorem x_block (c : Dev nD) (t : Fin cfg0.N) (r : Fin 1024) (k : Fin 2048) :
    iblk m c 0 t (ix2 r k) = rowAt (xArr m c) (rowOf t r) k := by
  have ht : t.val < 384 := t.isLt
  unfold rowAt xArr rowOf
  blk_ext! [iblk, V, index_at t]

theorem g_block (c : Dev nD) (t : Fin cfg0.N) (k : Fin 2048) : iblk m c 1 t (ix2 0 k) = gArr m c (ix1 k) := by
  unfold gArr
  blk_ext! [iblk, V, index_at t]

theorem w_block (c : Dev nD) (t : Fin cfg0.N) (l : Fin 2048) (k : Fin 1024) :
    X0_2 m c t (ix2 l k) = wArr m c (ix2 l (wide (colOf t k))) := by
  unfold X0_2 Pipeline.Window.fill
  rw [dif_pos (moved0_2 t _)]
  unfold wArr wide colOf
  blk_ext! [iblk, V, index_at t]

/-- The rows kept after a point are the normalised rows of its row block. -/
theorem kept_apply (c : Dev nD) : ∀ (n : ℕ) (h : n < cfg0.N) (r : Fin 1024) (k : Fin 2048),
    (outsAt0 m c n h).2 (ix2 r k) = normRow (rowAt (xArr m c) (rowOf ⟨n, h⟩ r)) (fun k => gArr m c (ix1 k)) k := by
  intro n
  induction n with
  | zero =>
    intro h r k
    rw [outs_first m c ⟨0, h⟩ rfl]
    dsimp only
    rw [norm_apply]
    simp only [x_block, g_block]
  | succ n ih =>
    intro h r k
    by_cases h0 : (n + 1) % 12 = 0
    · rw [outs_first m c ⟨n + 1, h⟩ h0]
      dsimp only
      rw [norm_apply]
      simp only [x_block, g_block]
    · rw [outs_later m c ⟨n + 1, h⟩ h0]
      refine (ih (Nat.lt_of_succ_lt h) r k).trans ?_
      have e : rowOf ⟨n, Nat.lt_of_succ_lt h⟩ r = rowOf ⟨n + 1, h⟩ r := Fin.ext (by unfold rowOf; dsimp only; omega)
      rw [e]

/-- A point's block of the result. -/
theorem out_apply (c : Dev nD) (t : Fin cfg0.N) (r k : Fin 1024) :
    (outsAt0 m c t.val t.isLt).1 (ix2 r k) = inAt (xArr m c) (gArr m c) (wArr m c) (rowOf t r) (wide (colOf t k)) := by
  have e : (outsAt0 m c t.val t.isLt).1 = k0_pay2 (outsAt0 m c t.val t.isLt).2 (X0_2 m c t) := by
    by_cases h0 : t.val % 12 = 0
    · rw [outs_first m c t h0]
    · rw [outs_later m c t h0]
  rw [e, prod_apply]
  unfold inAt
  simp only [kept_apply, w_block]

/-- The result array. -/
theorem out_array (c : Dev nD) :
    (dats m 0 c).arrAt 3 cfg0.N = fun y => inAt (xArr m c) (gArr m c) (wArr m c) (y 0) (wide (y 1)) := by
  refine (dats m 0 c).arrAt_eq_of_covers 3 _ (by decide +kernel) fun t hf y => ?_
  blk_simp
  rw [after0_3]
  obtain ⟨r, k, rfl⟩ : ∃ (r : Fin 1024) (k : Fin 1024), y = ix2 r k := ⟨y 0, y 1, eq_ix2 y⟩
  have e : (win0_3.blk t).view.emb (ix2 r k) = ix2 (rowOf t r) (colOf t k) := by
    unfold rowOf colOf
    blk_ext! [index_at t]
  rw [e, out_apply]
  rfl

end Cert.GdnInKernelIdeal.Proj

namespace Cert.ProjGdnIn

open Cert.ProjMath Cert.FfnMath Idealize.ShloMosaic Idealize.ShloMosaic.TcCoe Idealize.SL.Sem
open Cert.GdnInReferenceIdeal.Read

variable (x : (⟨GdnInReferenceIdeal.S8x4096x2048, .f32⟩ : BufTy).Contents (Elt Ideal))
  (g : (⟨GdnInReferenceIdeal.S2048, .f32⟩ : BufTy).Contents (Elt Ideal))
  (W : (⟨GdnInReferenceIdeal.S2048x12352, .f32⟩ : BufTy).Contents (Elt Ideal))

theorem reference_norm (b : Fin 8) (t : Fin 4096) (k : Fin 2048) :
    val_main_v12 x g (ix3 b t k) = normRow (fun k => x (ix3 b t k)) (fun k => g (ix1 k)) k := by
  unfold normRow
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

theorem reference_apply (n : Fin 32768) (k : Fin 12288) :
    val_main_v15 x g W (ix2 n k) = inAt x g W n (GdnInKernelIdeal.Proj.wide k) := by
  unfold inAt rowAt GdnInKernelIdeal.Proj.wide
  pointwise [val_main_v15, val_main_v14, val_main_v13]
  simp only [reference_norm]

theorem algebraic : @Cert.algebraic_GdnInKernelIdeal_GdnInReferenceIdeal Cert.GdnInKernelIdeal.Gen.facts Cert.GdnInReferenceIdeal.Gen.facts := by
  intro m g m' g' _ hagree
  refine ⟨fun c => _, GdnInKernelIdeal.Value.run_blocks m g, ?_⟩
  refine (θ_run _ _ _).mono (fun r h c => ?_) (GdnInReferenceIdeal.Value.run (F := Ideal) m' g')
  obtain ⟨h0, h1, h2, h3⟩ := h c
  obtain ⟨e0, e1, e2⟩ := hagree c
  refine ⟨?_, h1, h2, h3⟩
  rw [h0, val_main_v15_eq, e0, e1, e2]
  refine Eq.trans ?_ (GdnInKernelIdeal.Proj.out_array m c).symm
  funext i
  obtain ⟨n, k, rfl⟩ : ∃ (n : Fin 32768) (k : Fin 12288), i = ix2 n k := ⟨i 0, i 1, eq_ix2 i⟩
  exact reference_apply _ _ _ n k

theorem frame_reference : @Cert.quiescent_GdnInReferenceIdeal Cert.GdnInReferenceIdeal.Gen.facts := fun m ρ _ =>
  (θ_run Cert.GdnInReferenceIdeal.defs _ _).mono (fun r h => ⟨fun c => (h c).2,
      Idealize.ShloMosaic.sem_eq_zero_of_no_sems (by decide) r.2⟩)
    (GdnInReferenceIdeal.Value.run (F := Ideal) m ρ)

end Cert.ProjGdnIn

end
-- ==== Proof.Proj.DswV.lean ====
/- The value columns of dilated sliding-window attention's input projection: the kernel's blocks and the reference. -/
module

public import proofs.«01_k».proof.Defs
public import proofs.«01_k».proof.Proof.Proj.Math
public import proofs.«01_k».proof.Proof.Gen.DswVKernel.Frame
public import proofs.«01_k».proof.Proof.Gen.DswVKernelIdeal.Value
public import proofs.«01_k».proof.Proof.Gen.DswVReferenceIdeal.Read
public import proofs.«01_k».proof.Proof.Gen.DswVReferenceIdeal.Run

@[expose] public section

set_option maxRecDepth 1696

noncomputable section

namespace Cert.DswVKernelIdeal.Proj

open Cert.DswVKernelIdeal Cert.DswVKernelIdeal.Gen Cert.ProjMath Cert.FfnMath
open Idealize.ShloMosaic Idealize.ShloMosaic.TcCoe Idealize.ShloMosaic.Tactic

theorem off_zero : (![0, 0] : Fin 2 → Nat) = fun _ => 0 := funext fun a => by fin_cases a <;> rfl

/-- The rows a first point normalises. -/
theorem norm_apply (x : Vec Ideal S1024x2048 .f32) (g : Vec Ideal S1x2048 .f32) (r : Fin 1024) (k : Fin 2048) :
    k0_pay1 x g (ix2 r k) = normRow (fun k => x (ix2 r k)) (fun k => g (ix2 0 k)) k := by
  unfold normRow
  pointwise [k0_pay1]

theorem prod_apply (n : Vec Ideal S1024x2048 .bf16) (w : Vec Ideal S2048x768 .bf16) (r : Fin 1024) (k : Fin 768) :
    k0_pay2 n w (ix2 r k) = ∑ l : Fin 2048, n (ix2 r l) * w (ix2 l k) := by
  pointwise [k0_pay2]

theorem index_at : ∀ t : Fin grid0.N, win0_0.index t = ![t.val / 3, 0] ∧ win0_1.index t = ![0, 0]
    ∧ win0_2.index t = ![0, t.val % 3 + 6] ∧ win0_3.index t = ![t.val / 3, t.val % 3] := by
  decide +kernel

variable (m : (ℓ : Loc nD τ sig) → Buf (Elt Ideal) ℓ)

/-- The first point of a row block normalises its rows, keeps them, and multiplies them. -/
theorem outs_first (c : Dev nD) (t : Fin cfg0.N) (h0 : t.val % 3 = 0) :
    outsAt0 m c t.val t.isLt = (k0_pay2 (k0_pay1 (iblk m c 0 t) (iblk m c 1 t)) (iblk m c 2 t), k0_pay1 (iblk m c 0 t) (iblk m c 1 t)) := by
  rw [outsAt0_A m c t h0]
  refine Prod.ext ?_ ?_ <;> dsimp only
  · unfold out0_A_3
    rw [View.read_writes_junk_eq_canon]
    unfold kernelRun0_A
    dsimp only
    sl_unfold_words
    rw [View.canon_unit_zero off_zero]
    simp only [View.readCov_unit_zero (S := S1024x2048) _ off_zero]
    simp only [View.readAt_eq_ld, (hs0_0 t).read_unread, (hs0_1 t).read_unread, (hs0_2 t).read_unread,
      View.ld_unit_zero (S := S1024x2048) off_zero, View.ld_unit_zero (S := S1x2048) off_zero, View.ld_unit_zero (S := S2048x768) off_zero]
  · unfold sout0_A_0
    rw [View.read_writes_junk_eq_canon]
    unfold kernelRun0_A
    dsimp only
    sl_unfold_words
    rw [View.canon_unit_zero (S := S1024x2048) off_zero]
    simp only [View.readAt_eq_ld, (hs0_0 t).read_unread, (hs0_1 t).read_unread,
      View.ld_unit_zero (S := S1024x2048) off_zero, View.ld_unit_zero (S := S1x2048) off_zero]

/-- A later point multiplies the rows the point before kept. -/
theorem outs_later (c : Dev nD) (t : Fin cfg0.N) (h0 : ¬t.val % 3 = 0) :
    outsAt0 m c t.val t.isLt = (k0_pay2 (outsAt0 m c (t.val - 1) (Nat.lt_of_le_of_lt (Nat.sub_le _ _) t.isLt)).2 (iblk m c 2 t),
      (outsAt0 m c (t.val - 1) (Nat.lt_of_le_of_lt (Nat.sub_le _ _) t.isLt)).2) := by
  rw [outsAt0_B m c t h0]
  refine Prod.ext ?_ rfl
  dsimp only
  unfold out0_B_3
  rw [View.read_writes_junk_eq_canon]
  unfold kernelRun0_B
  dsimp only
  sl_unfold_words
  rw [View.canon_unit_zero off_zero]
  simp only [View.readAt_eq_ld, (hs0_2 t).read_unread, (Memref.isWhole_whole _).read_unread,
    View.ld_unit_zero (S := S1024x2048) off_zero, View.ld_unit_zero (S := S2048x768) off_zero]

/-- The arrays the program is given: the residual rows, the norm's weights, the projection's weights. -/
def xArr (c : Dev nD) : (⟨3, ![8, 4096, 2048]⟩ : Shape).Idx → EReal := m ((c : Thread nD τ).loc main_arg0)
def gArr (c : Dev nD) : (⟨1, ![2048]⟩ : Shape).Idx → EReal := m ((c : Thread nD τ).loc main_arg1)
def wArr (c : Dev nD) : (⟨2, ![2048, 6912]⟩ : Shape).Idx → EReal := m ((c : Thread nD τ).loc main_arg2)

/-- The array row and column that row `r` and column `k` of point `t`'s block are. -/
def rowOf (t : Fin cfg0.N) (r : Fin 1024) : Fin 32768 := ⟨1024 * (t.val / 3) + r.val, by have : t.val < 96 := t.isLt; omega⟩
def colOf (t : Fin cfg0.N) (k : Fin 768) : Fin 2304 := ⟨768 * (t.val % 3) + k.val, by omega⟩

/-- A result column as a column of the weights, whose first 4608 are those of q and k. -/
def wide (k : Fin 2304) : Fin 6912 := ⟨4608 + k.val, by omega⟩

theorem x_block (c : Dev nD) (t : Fin cfg0.N) (r : Fin 1024) (k : Fin 2048) :
    iblk m c 0 t (ix2 r k) = rowAt (xArr m c) (rowOf t r) k := by
  have ht : t.val < 96 := t.isLt
  unfold rowAt xArr rowOf
  blk_ext! [iblk, V, index_at t]

theorem g_block (c : Dev nD) (t : Fin cfg0.N) (k : Fin 2048) : iblk m c 1 t (ix2 0 k) = gArr m c (ix1 k) := by
  unfold gArr
  blk_ext! [iblk, V, index_at t]

theorem w_block (c : Dev nD) (t : Fin cfg0.N) (l : Fin 2048) (k : Fin 768) :
    iblk m c 2 t (ix2 l k) = wArr m c (ix2 l (wide (colOf t k))) := by
  unfold wArr wide colOf
  blk_ext! [iblk, V, index_at t]

/-- The rows kept after a point are the normalised rows of its row block. -/
theorem kept_apply (c : Dev nD) : ∀ (n : ℕ) (h : n < cfg0.N) (r : Fin 1024) (k : Fin 2048),
    (outsAt0 m c n h).2 (ix2 r k) = normRow (rowAt (xArr m c) (rowOf ⟨n, h⟩ r)) (fun k => gArr m c (ix1 k)) k := by
  intro n
  induction n with
  | zero =>
    intro h r k
    rw [outs_first m c ⟨0, h⟩ rfl]
    dsimp only
    rw [norm_apply]
    simp only [x_block, g_block]
  | succ n ih =>
    intro h r k
    by_cases h0 : (n + 1) % 3 = 0
    · rw [outs_first m c ⟨n + 1, h⟩ h0]
      dsimp only
      rw [norm_apply]
      simp only [x_block, g_block]
    · rw [outs_later m c ⟨n + 1, h⟩ h0]
      refine (ih (Nat.lt_of_succ_lt h) r k).trans ?_
      have e : rowOf ⟨n, Nat.lt_of_succ_lt h⟩ r = rowOf ⟨n + 1, h⟩ r := Fin.ext (by unfold rowOf; dsimp only; omega)
      rw [e]

/-- A point's block of the result. -/
theorem out_apply (c : Dev nD) (t : Fin cfg0.N) (r : Fin 1024) (k : Fin 768) :
    (outsAt0 m c t.val t.isLt).1 (ix2 r k) = inAt (xArr m c) (gArr m c) (wArr m c) (rowOf t r) (wide (colOf t k)) := by
  have e : (outsAt0 m c t.val t.isLt).1 = k0_pay2 (outsAt0 m c t.val t.isLt).2 (iblk m c 2 t) := by
    by_cases h0 : t.val % 3 = 0
    · rw [outs_first m c t h0]
    · rw [outs_later m c t h0]
  rw [e, prod_apply]
  unfold inAt
  simp only [kept_apply, w_block]

/-- The result array. -/
theorem out_array (c : Dev nD) :
    (dats m 0 c).arrAt 3 cfg0.N = fun y => inAt (xArr m c) (gArr m c) (wArr m c) (y 0) (wide (y 1)) := by
  refine (dats m 0 c).arrAt_eq_of_covers 3 _ (by decide +kernel) fun t hf y => ?_
  blk_simp
  rw [after0_3]
  obtain ⟨r, k, rfl⟩ : ∃ (r : Fin 1024) (k : Fin 768), y = ix2 r k := ⟨y 0, y 1, eq_ix2 y⟩
  have e : (win0_3.blk t).view.emb (ix2 r k) = ix2 (rowOf t r) (colOf t k) := by
    unfold rowOf colOf
    blk_ext! [index_at t]
  rw [e, out_apply]
  rfl

end Cert.DswVKernelIdeal.Proj

namespace Cert.ProjDswV

open Cert.ProjMath Cert.FfnMath Idealize.ShloMosaic Idealize.ShloMosaic.TcCoe Idealize.SL.Sem
open Cert.DswVReferenceIdeal.Read

variable (x : (⟨DswVReferenceIdeal.S8x4096x2048, .f32⟩ : BufTy).Contents (Elt Ideal))
  (g : (⟨DswVReferenceIdeal.S2048, .f32⟩ : BufTy).Contents (Elt Ideal))
  (W : (⟨DswVReferenceIdeal.S2048x6912, .f32⟩ : BufTy).Contents (Elt Ideal))

theorem reference_norm (b : Fin 8) (t : Fin 4096) (k : Fin 2048) :
    val_main_v12 x g (ix3 b t k) = normRow (fun k => x (ix3 b t k)) (fun k => g (ix1 k)) k := by
  unfold normRow
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

theorem reference_apply (n : Fin 32768) (k : Fin 2304) :
    val_main_v17 x g W (ix2 n k) = inAt x g W n (DswVKernelIdeal.Proj.wide k) := by
  unfold inAt rowAt DswVKernelIdeal.Proj.wide
  pointwise [val_main_v17, val_main_v16, val_main_v13]
  simp only [reference_norm]

theorem algebraic : @Cert.algebraic_DswVKernelIdeal_DswVReferenceIdeal Cert.DswVKernelIdeal.Gen.facts Cert.DswVReferenceIdeal.Gen.facts := by
  intro m g m' g' _ hagree
  refine ⟨fun c => _, DswVKernelIdeal.Value.run_blocks m g, ?_⟩
  refine (θ_run _ _ _).mono (fun r h c => ?_) (DswVReferenceIdeal.Value.run (F := Ideal) m' g')
  obtain ⟨h0, h1, h2, h3⟩ := h c
  obtain ⟨e0, e1, e2⟩ := hagree c
  refine ⟨?_, h1, h2, h3⟩
  rw [h0, val_main_v17_eq, e0, e1, e2]
  refine Eq.trans ?_ (DswVKernelIdeal.Proj.out_array m c).symm
  funext i
  obtain ⟨n, k, rfl⟩ : ∃ (n : Fin 32768) (k : Fin 2304), i = ix2 n k := ⟨i 0, i 1, eq_ix2 i⟩
  exact reference_apply _ _ _ n k

theorem frame_reference : @Cert.quiescent_DswVReferenceIdeal Cert.DswVReferenceIdeal.Gen.facts := fun m ρ _ =>
  (θ_run Cert.DswVReferenceIdeal.defs _ _).mono (fun r h => ⟨fun c => (h c).2,
      Idealize.ShloMosaic.sem_eq_zero_of_no_sems (by decide) r.2⟩)
    (DswVReferenceIdeal.Value.run (F := Ideal) m ρ)

end Cert.ProjDswV

end
-- ==== Proof.Proj.Rotary.lean ====
/- Heads normalised and then turned by the rotary tables: the plain form, and the folded form a kernel computes it in. -/
module

public import proofs.«01_k».proof.Proof.Proj.Math

@[expose] public section

noncomputable section

namespace Cert.Rotary

open Idealize.ShloMosaic Cert.FfnMath Cert.ProjMath

/-- The inverse root of the mean square of the 128 columns from `o` on, the small constant inside the root. -/
def headInv {C : ℕ} (y : Fin C → EReal) (o : ℕ) (ho : o + 128 ≤ C) : EReal :=
  Ideal.rsqrt (Ideal.div (∑ i : Fin 128, y ⟨o + i.val, by omega⟩ * y ⟨o + i.val, by omega⟩) (Ideal.ofBits .f32 1124073472#32)
    + Ideal.ofBits .f32 897988541#32)

theorem mul_self_nonneg' (x : EReal) : 0 ≤ x * x := by
  rcases le_total 0 x with h | h
  · exact mul_nonneg h h
  · have e : x * x = -x * -x := by rw [EReal.neg_mul, mul_comm x (-x), EReal.neg_mul, neg_neg]
    rw [e]
    have h' : 0 ≤ -x := by rw [EReal.le_neg]; simpa using h
    exact mul_nonneg h' h'

theorem eps_pos : (0 : EReal) < Ideal.ofBits .f32 897988541#32 := by
  simp [Ideal.ofBits, Ideal.ieee, -EReal.coe_mul]

theorem len_f32 : Ideal.ofBits .f32 1124073472#32 = ((128 : ℝ) : EReal) := by
  simp [Ideal.ofBits, Ideal.ieee, -EReal.coe_mul]
  norm_num

/-- An inverse root of a positive number is no infinity and not negative. -/
theorem rsqrt_bounds {z : EReal} (h : 0 < z) : 0 ≤ Ideal.rsqrt z ∧ Ideal.rsqrt z ≠ ⊤ := by
  induction z using EReal.rec with
  | bot => exact absurd h (by simp)
  | top => exact ⟨le_refl _, EReal.zero_ne_top⟩
  | coe r =>
    have hr : 0 < r := EReal.coe_pos.mp h
    have e : Ideal.rsqrt (r : EReal) = (((Real.sqrt r)⁻¹ : ℝ) : EReal) := by
      show (if r < 0 then ⊥ else if r = 0 then ⊤ else (((Real.sqrt r)⁻¹ : ℝ) : EReal)) = _
      rw [if_neg (not_lt.mpr hr.le), if_neg hr.ne']
    rw [e]
    exact ⟨EReal.coe_nonneg.mpr (by positivity), EReal.coe_ne_top _⟩

theorem headInv_bounds {C : ℕ} (y : Fin C → EReal) (o : ℕ) (ho : o + 128 ≤ C) : 0 ≤ headInv y o ho ∧ headInv y o ho ≠ ⊤ := by
  refine rsqrt_bounds (lt_of_lt_of_le eps_pos (le_add_of_nonneg_left ?_))
  rw [len_f32, Ideal.div_coe (by norm_num)]
  exact mul_nonneg (Finset.sum_nonneg fun i _ => mul_self_nonneg' _) (EReal.coe_nonneg.mpr (by norm_num))

/-- The place of a head that place `l` turns with: 16 further on for the first 16, 16 back for the others. -/
def partner (l : Fin 128) : Fin 128 := if l.val < 16 then ⟨(l.val + 16) % 128, by omega⟩ else ⟨l.val - 16, by omega⟩

theorem partner_split (f : Fin 128 → EReal) (l : Fin 128) :
    (if h : l.val < 16 then f ⟨16 + l.val, by omega⟩ else f ⟨l.val - 16, by omega⟩) = f (partner l) := by
  unfold partner
  by_cases h : l.val < 16
  · rw [dif_pos h, if_pos h]
    exact congrArg f (Fin.ext (by dsimp only; omega))
  · rw [dif_neg h, if_neg h]

/-- Place `l` of the head whose first column is `o`: normalised and weighted, times the cosine, plus its partner times the sine. -/
def turned {C : ℕ} (y : Fin C → EReal) (g cos sin : Fin 128 → EReal) (o : ℕ) (ho : o + 128 ≤ C) (l : Fin 128) : EReal :=
  y ⟨o + l.val, by omega⟩ * headInv y o ho * g l * cos l
    + y ⟨o + (partner l).val, by omega⟩ * headInv y o ho * g (partner l) * sin l

/-- The weights folded into the tables, the partner picked by two masks, and the inverse root left to the end. -/
def folded {C : ℕ} (y : Fin C → EReal) (g cos sin : Fin 128 → EReal) (o : ℕ) (ho : o + 128 ≤ C) (l : Fin 128) : EReal :=
  y ⟨o + l.val, by omega⟩ * (cos l * g l)
    + Scalar.select (IntOp.cmpi CmpIPredicate.slt (BitVec.ofNat 32 l.val) 16#32)
        (y ⟨o + (l.val + 128 - 112) % 128, by omega⟩ * (g ⟨(l.val + 128 - 112) % 128, by omega⟩ * sin l)) 0
    + Scalar.select (IntOp.cmpi CmpIPredicate.sge (BitVec.ofNat 32 l.val) 16#32)
        (y ⟨o + (l.val + 128 - 16) % 128, by omega⟩ * (g ⟨(l.val + 128 - 16) % 128, by omega⟩ * sin l)) 0

theorem lane_lt : ∀ l : Fin 128, IntOp.cmpi CmpIPredicate.slt (BitVec.ofNat 32 l.val) 16#32 = if l.val < 16 then 1#1 else 0#1 := by
  decide

theorem lane_ge : ∀ l : Fin 128, IntOp.cmpi CmpIPredicate.sge (BitVec.ofNat 32 l.val) 16#32 = if l.val < 16 then 0#1 else 1#1 := by
  decide

theorem folded_eq {C : ℕ} (y : Fin C → EReal) (g cos sin : Fin 128 → EReal) (o : ℕ) (ho : o + 128 ≤ C) (l : Fin 128) :
    folded y g cos sin o ho l = y ⟨o + l.val, by omega⟩ * (cos l * g l)
      + y ⟨o + (partner l).val, by omega⟩ * (g (partner l) * sin l) := by
  unfold folded
  rw [lane_lt, lane_ge]
  by_cases h : l.val < 16
  · have e : partner l = ⟨(l.val + 128 - 112) % 128, by omega⟩ := by unfold partner; rw [if_pos h]; exact Fin.ext (by dsimp only; omega)
    rw [if_pos h, if_pos h]
    simp [Scalar.select, e]
  · have e : partner l = ⟨(l.val + 128 - 16) % 128, by omega⟩ := by unfold partner; rw [if_neg h]; exact Fin.ext (by dsimp only; omega)
    rw [if_neg h, if_neg h]
    simp [Scalar.select, e]

/-- The folded form times the inverse root is the plain one: the root is not negative and no infinity, so it distributes. -/
theorem folded_mul {C : ℕ} (y : Fin C → EReal) (g cos sin : Fin 128 → EReal) (o : ℕ) (ho : o + 128 ≤ C) (l : Fin 128) :
    folded y g cos sin o ho l * headInv y o ho = turned y g cos sin o ho l := by
  obtain ⟨h0, h1⟩ := headInv_bounds y o ho
  rw [folded_eq, EReal.right_distrib_of_nonneg_of_ne_top h0 h1]
  unfold turned
  congr 1 <;> ac_rfl

/-- A head cut out of the row is the head in the row. -/
theorem turned_slice {C : ℕ} (y : Fin C → EReal) (g cos sin : Fin 128 → EReal) (o : ℕ) (ho : o + 128 ≤ C) (l : Fin 128) :
    turned (fun k : Fin 128 => y ⟨o + k.val, by omega⟩) g cos sin 0 (by omega) l = turned y g cos sin o ho l := by
  unfold turned headInv
  simp only [Nat.zero_add]

/-- Column `k` of a row of heads of 128 columns. -/
def turnedAt {C : ℕ} (hC : 128 ∣ C) (y : Fin C → EReal) (g cos sin : Fin 128 → EReal) (k : Fin C) : EReal :=
  turned y g cos sin (128 * (k.val / 128)) (by omega) ⟨k.val % 128, Nat.mod_lt _ (by omega)⟩

theorem turnedAt_eq {C : ℕ} (hC : 128 ∣ C) (y : Fin C → EReal) (g cos sin : Fin 128 → EReal) (k : Fin C) (o : ℕ)
    (ho : 128 ∣ o) (h1 : o ≤ k.val) (h2 : k.val - o < 128) :
    turned y g cos sin o (by omega) ⟨k.val - o, h2⟩ = turnedAt hC y g cos sin k := by
  have e : 128 * (k.val / 128) = o := by omega
  have e' : k.val % 128 = k.val - o := by omega
  unfold turnedAt
  simp only [e, e']

/-- Six heads one after the other, each through a function `φ`. -/
theorem turnedAt_chain (hC : 128 ∣ 768) (y : Fin 768 → EReal) (g cos sin : Fin 128 → EReal) (φ : EReal → EReal) (k : Fin 768) :
    (if h : k.val < 128 then φ (turned y g cos sin 0 (by omega) ⟨k.val, h⟩)
      else if h : k.val - 128 < 128 then φ (turned y g cos sin 128 (by omega) ⟨k.val - 128, h⟩)
      else if h : k.val - 256 < 128 then φ (turned y g cos sin 256 (by omega) ⟨k.val - 256, h⟩)
      else if h : k.val - 384 < 128 then φ (turned y g cos sin 384 (by omega) ⟨k.val - 384, h⟩)
      else if h : k.val - 512 < 128 then φ (turned y g cos sin 512 (by omega) ⟨k.val - 512, h⟩)
      else φ (turned y g cos sin 640 (by omega) ⟨k.val - 640, by omega⟩)) = φ (turnedAt hC y g cos sin k) := by
  split_ifs <;> exact congrArg φ (turnedAt_eq hC y g cos sin k _ (by decide) (by omega) _)

/-- Heads of a stretch of columns are heads of the row. -/
theorem turnedAt_stretch {B C : ℕ} (hB : 128 ∣ B) (hC : 128 ∣ C) (p : Fin C → EReal) (g cos sin : Fin 128 → EReal) (o : ℕ)
    (ho : 128 ∣ o) (hj : o + B ≤ C) (k : Fin B) :
    turnedAt hB (fun k : Fin B => p ⟨o + k.val, by omega⟩) g cos sin k = turnedAt hC p g cos sin ⟨o + k.val, by omega⟩ := by
  have e : 128 * ((o + k.val) / 128) = o + 128 * (k.val / 128) := by omega
  have e' : (o + k.val) % 128 = k.val % 128 := by omega
  unfold turnedAt turned headInv
  simp only [e, e', Nat.add_assoc]

end Cert.Rotary

end
-- ==== Proof.Proj.DswQ.lean ====
/- Dilated sliding-window attention's q: the projection, its heads normalised and turned by the rotary tables; the kernel's
   blocks, written one point after their products, and the reference. -/
module

public import proofs.«01_k».proof.Defs
public import proofs.«01_k».proof.Proof.Proj.Rotary
public import proofs.«01_k».proof.Proof.Gen.DswQKernel.Frame
public import Idealize.ShloMosaic.Lib.WritesUnit
public import proofs.«01_k».proof.Proof.Gen.DswQKernelIdeal.Value
public import proofs.«01_k».proof.Proof.Gen.DswQReferenceIdeal.Read
public import proofs.«01_k».proof.Proof.Gen.DswQReferenceIdeal.Run

@[expose] public section

set_option maxRecDepth 16384

noncomputable section

namespace Cert.DswQKernelIdeal.Proj

open Cert.DswQKernelIdeal Cert.DswQKernelIdeal.Gen Cert.ProjMath Cert.FfnMath Cert.Rotary
open Idealize.ShloMosaic Idealize.ShloMosaic.TcCoe Idealize.ShloMosaic.Tactic

theorem off_zero : (![0, 0] : Fin 2 → Nat) = fun _ => 0 := funext fun a => by fin_cases a <;> rfl

/-- q's factor, the root of 128's inverse as a number of 32 bits. -/
def scale (z : EReal) : EReal := z * Ideal.ofBits .f32 1035273459#32

/-- The result at an index: its head, turned by the row's tables and scaled. -/
def qAt (x : (⟨3, ![8, 4096, 2048]⟩ : Shape).Idx → EReal) (g : (⟨1, ![2048]⟩ : Shape).Idx → EReal)
    (cos sin : (⟨2, ![32768, 128]⟩ : Shape).Idx → EReal) (W : (⟨2, ![2048, 6912]⟩ : Shape).Idx → EReal)
    (q : (⟨1, ![128]⟩ : Shape).Idx → EReal) (n : Fin 32768) (c : Fin 2304) : EReal :=
  scale (turnedAt (by decide) (fun c : Fin 2304 => inAt x g W n ⟨c.val, by omega⟩) (fun l => q (ix1 l)) (fun l => cos (ix2 n l))
    (fun l => sin (ix2 n l)) c)

/-- The block written from a kept product: six heads, the first two in pieces of their own. -/
def turnBlock (cos sin : Vec Ideal S1024x128 .f32) (g : Vec Ideal S1x128 .f32) (v : Vec Ideal S1x1024x768 .f32) :
    Vec Ideal S1024x768 .f32 :=
  k0_pay4 (k0_pay15 v) (k0_pay18 (k0_pay17 v) (Scalar.ofBits .f32 897988541#32)) (k0_pay23 (k0_pay22 (k0_pay15 v)) (Scalar.ofBits .f32 1035273459#32))
    (k0_pay25 cos (k0_pay9 g)) (k0_pay26 sin (k0_pay9 g)) (k0_pay27 sin (k0_pay9 g)) (k0_pay31 (k0_pay15 v)) (k0_pay35 (k0_pay15 v))
    (k0_pay36 cos sin (k0_pay9 g) (k0_pay10 v) (k0_pay16 v)) (k0_pay37 cos sin (k0_pay9 g) (k0_pay11 v)) (k0_pay38 sin (k0_pay9 g) (k0_pay11 v))
    (k0_pay1 (k0_pay12 v) (k0_pay19 (k0_pay12 v)) (k0_pay25 cos (k0_pay9 g)) (k0_pay26 sin (k0_pay9 g)) (k0_pay27 sin (k0_pay9 g))
      (k0_pay28 (k0_pay12 v)) (k0_pay32 (k0_pay12 v)))
    (k0_pay2 (k0_pay13 v) (k0_pay20 (k0_pay13 v)) (k0_pay25 cos (k0_pay9 g)) (k0_pay26 sin (k0_pay9 g)) (k0_pay27 sin (k0_pay9 g))
      (k0_pay29 (k0_pay13 v)) (k0_pay33 (k0_pay13 v)))
    (k0_pay3 (k0_pay14 v) (k0_pay21 (k0_pay14 v)) (k0_pay25 cos (k0_pay9 g)) (k0_pay26 sin (k0_pay9 g)) (k0_pay27 sin (k0_pay9 g))
      (k0_pay30 (k0_pay14 v)) (k0_pay34 (k0_pay14 v)))

/-- One head of 128 columns: folded tables, two rotations, the inverse root last. -/
def head (cos sin : Vec Ideal S1024x128 .f32) (g : Vec Ideal S1x128 .f32) (y : FVec Ideal S1024x128 .f32) : FVec Ideal S1024x128 .f32 :=
  k0_pay1 y (k0_pay19 y) (k0_pay25 cos (k0_pay9 g)) (k0_pay26 sin (k0_pay9 g)) (k0_pay27 sin (k0_pay9 g)) (k0_pay28 y) (k0_pay32 y)

theorem head_apply (cos sin : Vec Ideal S1024x128 .f32) (g : Vec Ideal S1x128 .f32) (y : FVec Ideal S1024x128 .f32) (r : Fin 1024)
    (l : Fin 128) : head cos sin g y (ix2 r l) = scale (turned (fun k : Fin 128 => y (ix2 r k)) (fun l => g (ix2 0 l))
      (fun l => cos (ix2 r l)) (fun l => sin (ix2 r l)) 0 (by omega) l) := by
  rw [← folded_mul]
  unfold head
  pointwise [k0_pay1, k0_pay9, k0_pay19, k0_pay24, k0_pay25, k0_pay26, k0_pay27, k0_pay28, k0_pay32]
  unfold scale folded headInv
  simp only [Nat.zero_add, Fin.eta]
  rw [mul_assoc]

theorem turn_eq (cos sin : Vec Ideal S1024x128 .f32) (g : Vec Ideal S1x128 .f32) (v : Vec Ideal S1x1024x768 .f32) :
    turnBlock cos sin g v = concatenate S1024x768 1 [⟨S1024x128, head cos sin g (k0_pay10 v)⟩, ⟨S1024x128, head cos sin g (k0_pay11 v)⟩,
      ⟨S1024x128, head cos sin g (k0_pay12 v)⟩, ⟨S1024x128, head cos sin g (k0_pay13 v)⟩, ⟨S1024x128, head cos sin g (k0_pay14 v)⟩,
      ⟨S1024x128, head cos sin g (k0_pay15 v)⟩]
      concatenates_S1024x128_S1024x128_S1024x128_S1024x128_S1024x128_S1024x128_S1024x768_d1 := rfl

/-- The six heads are the product's columns from 0, 128, 256, 384, 512 and 640 on. -/
theorem cut_apply (v : Vec Ideal S1x1024x768 .f32) (r : Fin 1024) (l : Fin 128) :
    k0_pay10 v (ix2 r l) = v (ix3 0 r ⟨0 + l.val, by omega⟩) ∧ k0_pay11 v (ix2 r l) = v (ix3 0 r ⟨128 + l.val, by omega⟩)
    ∧ k0_pay12 v (ix2 r l) = v (ix3 0 r ⟨256 + l.val, by omega⟩) ∧ k0_pay13 v (ix2 r l) = v (ix3 0 r ⟨384 + l.val, by omega⟩)
    ∧ k0_pay14 v (ix2 r l) = v (ix3 0 r ⟨512 + l.val, by omega⟩) ∧ k0_pay15 v (ix2 r l) = v (ix3 0 r ⟨640 + l.val, by omega⟩) := by
  refine ⟨?_, ?_, ?_, ?_, ?_, ?_⟩ <;>
    pointwise [k0_pay8, k0_pay10, k0_pay11, k0_pay12, k0_pay13, k0_pay14, k0_pay15]

theorem turn_apply (cos sin : Vec Ideal S1024x128 .f32) (g : Vec Ideal S1x128 .f32) (v : Vec Ideal S1x1024x768 .f32) (r : Fin 1024)
    (k : Fin 768) : turnBlock cos sin g v (ix2 r k) = scale (turnedAt (by decide) (fun k => v (ix3 0 r k)) (fun l => g (ix2 0 l))
      (fun l => cos (ix2 r l)) (fun l => sin (ix2 r l)) k) := by
  rw [← turnedAt_chain (by decide) (fun k => v (ix3 0 r k)) (fun l => g (ix2 0 l)) (fun l => cos (ix2 r l))
    (fun l => sin (ix2 r l)) scale k, turn_eq]
  pointwise []
  have T := turned_slice (fun k => v (ix3 0 r k)) (fun l => g (ix2 0 l)) (fun l => cos (ix2 r l)) (fun l => sin (ix2 r l))
  simp only [Nat.sub_sub, Nat.reduceAdd, head_apply, cut_apply, ← T]

/-- The rows a first point normalises. -/
theorem norm_apply (x : Vec Ideal S1024x2048 .f32) (g : Vec Ideal S1x2048 .f32) (r : Fin 1024) (k : Fin 2048) :
    k0_pay7 x g (ix2 r k) = normRow (fun k => x (ix2 r k)) (fun k => g (ix2 0 k)) k := by
  unfold normRow
  pointwise [k0_pay7]

theorem prod_apply (n : Vec Ideal S1024x2048 .bf16) (w : Vec Ideal S2048x768 .bf16) (r : Fin 1024) (k : Fin 768) :
    k0_pay5 n w (ix3 0 r k) = ∑ l : Fin 2048, n (ix2 r l) * w (ix2 l k) := by
  pointwise [k0_pay5]

theorem index_at : ∀ t : Fin grid0.N, win0_0.index t = ![min t.val 95 / 3, 0] ∧ win0_1.index t = ![0, 0]
    ∧ win0_2.index t = ![0, min t.val 95 % 3] ∧ win0_3.index t = ![(t.val - 1) / 3, 0] ∧ win0_4.index t = ![(t.val - 1) / 3, 0]
    ∧ win0_5.index t = ![0, 0] ∧ win0_6.index t = ![(t.val - 1) / 3, (t.val - 1) % 3] := by
  decide +kernel

theorem flush_pos : ∀ t : Fin grid0.N, win0_6.flush t = true → 1 ≤ t.val := by
  decide +kernel

theorem coords_val : ∀ t : Fin grid0.N, (grid0.coords t 0).val = t.val := by
  decide +kernel

/-- Both slots of products: a loaded slot at an index. -/
theorem slot_apply (X : S2x1024x768.Idx → EReal) (off : Fin 3 → ℕ) (inb : ∀ a, off a + (![1, 1024, 768] : Fin 3 → ℕ) a ≤ S2x1024x768.size a)
    (j : Fin 2) (h : off = ![j.val, 0, 0]) (r : Fin 1024) (k : Fin 768) :
    View.ld (Val := Elt Ideal) (e' := .f32) X (Rect.unit (s := S2x1024x768) off ![1, 1024, 768] inb) (ix3 (0 : Fin 1) r k) = X (ix3 j r k) := by
  refine View.ld_unit_apply_of _ _ _ _ _ _ fun a => ?_
  subst h
  fin_cases a <;> simp [ix3]

variable (m : (ℓ : Loc nD τ sig) → Buf (Elt Ideal) ℓ)

/-- The slot a point fills, and the one it reads, which the point before filled. -/
def fills (n : ℕ) : Fin 2 := ⟨n % 2, Nat.mod_lt _ (by omega)⟩

theorem reads_off (t : Fin cfg0.N) (h : 1 ≤ t.val) : k0_off1 (grid0.coords t) = ![(fills (t.val - 1)).val, 0, 0] := by
  have e : 1 - t.val % 2 = (t.val - 1) % 2 := by omega
  rw [k0_off1_eq, coords_val, e]
  rfl

theorem fills_off (t : Fin cfg0.N) : k0_off2 (grid0.coords t) = ![(fills t.val).val, 0, 0] := by
  rw [k0_off2_eq, coords_val]
  rfl

/-- What the point before left. -/
def prev (c : Dev nD) (t : Fin cfg0.N) := outsAt0 m c (t.val - 1) (Nat.lt_of_le_of_lt (Nat.sub_le _ _) t.isLt)

/-- The block a point writes, from the second on: the product the point before kept, its heads normalised and turned. -/
theorem out_later (c : Dev nD) (t : Fin cfg0.N) (h : 1 ≤ t.val) (r : Fin 1024) (k : Fin 768) :
    (outsAt0 m c t.val t.isLt).1 (ix2 r k) = scale (turnedAt (by decide) (fun k => (prev m c t).2.2 (ix3 (fills (t.val - 1)) r k))
      (fun l => iblk m c 5 t (ix2 0 l)) (fun l => iblk m c 3 t (ix2 r l)) (fun l => iblk m c 4 t (ix2 r l)) k) := by
  have ht : t.val < 97 := t.isLt
  have h0 : ¬t.val % 97 = 0 := by omega
  have S inb (k : Fin 768) := slot_apply (prev m c t).2.2 (k0_off1 (grid0.coords t)) inb _ (reads_off t h) r k
  by_cases h1 : t.val < 96
  · by_cases h2 : t.val % 3 = 0
    · rw [outsAt0_C m c t h0 h1 h2]
      dsimp only
      unfold out0_C_6
      rw [View.read_writes_junk_eq_canon]
      unfold kernelRun0_C
      dsimp only
      sl_unfold_words
      rw [View.canon_unit_zero off_zero]
      simp only [View.readAt_eq_ld, (hs0_3 t).read_unread, (hs0_4 t).read_unread, (hs0_5 t).read_unread, (Memref.isWhole_whole _).read_unread,
        View.ld_unit_zero (S := S1024x128) off_zero, View.ld_unit_zero (S := S1x128) off_zero]
      refine (turn_apply _ _ _ _ r k).trans ?_
      exact congrArg (fun f => scale (turnedAt _ f _ _ _ k)) (funext (S _))
    · rw [outsAt0_B m c t h0 h1 h2]
      dsimp only
      unfold out0_B_6
      rw [View.read_writes_junk_eq_canon]
      unfold kernelRun0_B
      dsimp only
      sl_unfold_words
      rw [View.canon_unit_zero off_zero]
      simp only [View.readAt_eq_ld, (hs0_3 t).read_unread, (hs0_4 t).read_unread, (hs0_5 t).read_unread, (Memref.isWhole_whole _).read_unread,
        View.ld_unit_zero (S := S1024x128) off_zero, View.ld_unit_zero (S := S1x128) off_zero]
      refine (turn_apply _ _ _ _ r k).trans ?_
      exact congrArg (fun f => scale (turnedAt _ f _ _ _ k)) (funext (S _))
  · rw [outsAt0_D m c t h0 h1]
    dsimp only
    unfold out0_D_6
    rw [View.read_writes_junk_eq_canon]
    unfold kernelRun0_D
    dsimp only
    sl_unfold_words
    rw [View.canon_unit_zero off_zero]
    simp only [View.readAt_eq_ld, (hs0_3 t).read_unread, (hs0_4 t).read_unread, (hs0_5 t).read_unread, (Memref.isWhole_whole _).read_unread,
      View.ld_unit_zero (S := S1024x128) off_zero, View.ld_unit_zero (S := S1x128) off_zero]
    refine (turn_apply _ _ _ _ r k).trans ?_
    exact congrArg (fun f => scale (turnedAt _ f _ _ _ k)) (funext (S _))

/-- The rows kept: a row block's first point normalises its rows, the others keep them. -/
theorem kept_first (c : Dev nD) (t : Fin cfg0.N) (h1 : t.val < 96) (h2 : t.val % 3 = 0) :
    (outsAt0 m c t.val t.isLt).2.1 = k0_pay7 (iblk m c 0 t) (iblk m c 1 t) := by
  by_cases h0 : t.val % 97 = 0
  · rw [outsAt0_A m c t h0 h1 h2]
    dsimp only
    unfold sout0_A_0
    rw [View.read_writes_junk_eq_canon]
    unfold kernelRun0_A
    dsimp only
    sl_unfold_words
    rw [View.canon_unit_zero (S := S1024x2048) off_zero]
    simp only [View.readAt_eq_ld, (hs0_0 t).read_unread, (hs0_1 t).read_unread,
      View.ld_unit_zero (S := S1024x2048) off_zero, View.ld_unit_zero (S := S1x2048) off_zero]
  · rw [outsAt0_C m c t h0 h1 h2]
    dsimp only
    unfold sout0_C_0
    rw [View.read_writes_junk_eq_canon]
    unfold kernelRun0_C
    dsimp only
    sl_unfold_words
    rw [View.canon_unit_zero (S := S1024x2048) off_zero]
    simp only [View.readAt_eq_ld, (hs0_0 t).read_unread, (hs0_1 t).read_unread,
      View.ld_unit_zero (S := S1024x2048) off_zero, View.ld_unit_zero (S := S1x2048) off_zero]

theorem kept_later (c : Dev nD) (t : Fin cfg0.N) (h1 : t.val < 96) (h2 : ¬t.val % 3 = 0) :
    (outsAt0 m c t.val t.isLt).2.1 = (prev m c t).2.1 := by
  have h0 : ¬t.val % 97 = 0 := by omega
  rw [outsAt0_B m c t h0 h1 h2]
  rfl

/-- The product kept: the rows kept after the point times its columns of the weights. -/
theorem filled (c : Dev nD) (t : Fin cfg0.N) (h1 : t.val < 96) (r : Fin 1024) (k : Fin 768) :
    (outsAt0 m c t.val t.isLt).2.2 (ix3 (fills t.val) r k) = k0_pay5 (outsAt0 m c t.val t.isLt).2.1 (iblk m c 2 t) (ix3 0 r k) := by
  have hx : ∀ a : Fin 3, (ix3 (fills t.val) r k a).val = (![(fills t.val).val, 0, 0] : Fin 3 → ℕ) a + (ix3 (0 : Fin 1) r k a).val := by
    intro a
    fin_cases a <;> simp [ix3]
  by_cases h2 : t.val % 3 = 0
  · rw [kept_first m c t h1 h2]
    by_cases h0 : t.val % 97 = 0
    · rw [outsAt0_A m c t h0 h1 h2]
      dsimp only
      unfold sout0_A_1 kernelRun0_A
      dsimp only
      refine (View.read_writes_cons_unit_of_mem _ _ _ _ _ _ (ix3 0 r k) (fills_off t) hx).trans ?_
      sl_unfold_words
      simp only [View.readCov_unit_zero (S := S1024x2048) _ off_zero]
      simp only [View.readAt_eq_ld, (hs0_0 t).read_unread, (hs0_1 t).read_unread, (hs0_2 t).read_unread,
        View.ld_unit_zero (S := S1024x2048) off_zero, View.ld_unit_zero (S := S1x2048) off_zero, View.ld_unit_zero (S := S2048x768) off_zero]
    · rw [outsAt0_C m c t h0 h1 h2]
      dsimp only
      unfold sout0_C_1 kernelRun0_C
      dsimp only
      refine (View.read_writes_cons_unit_of_mem _ _ _ _ _ _ (ix3 0 r k) (fills_off t) hx).trans ?_
      sl_unfold_words
      simp only [View.readCov_unit_zero (S := S1024x2048) _ off_zero]
      simp only [View.readAt_eq_ld, (hs0_0 t).read_unread, (hs0_1 t).read_unread, (hs0_2 t).read_unread,
        View.ld_unit_zero (S := S1024x2048) off_zero, View.ld_unit_zero (S := S1x2048) off_zero, View.ld_unit_zero (S := S2048x768) off_zero]
  · have h0 : ¬t.val % 97 = 0 := by omega
    rw [kept_later m c t h1 h2, outsAt0_B m c t h0 h1 h2]
    dsimp only
    unfold sout0_B_1 kernelRun0_B
    dsimp only
    refine (View.read_writes_cons_unit_of_mem _ _ _ _ _ _ (ix3 0 r k) (fills_off t) hx).trans ?_
    sl_unfold_words
    simp only [View.readAt_eq_ld, (hs0_2 t).read_unread, (Memref.isWhole_whole _).read_unread,
      View.ld_unit_zero (S := S1024x2048) off_zero, View.ld_unit_zero (S := S2048x768) off_zero]
    rfl

/-- The arrays the program is given: the residual rows, the norm's weights, the tables of cosines and sines, the projection's
    weights, the weights of the heads. -/
def xArr (c : Dev nD) : (⟨3, ![8, 4096, 2048]⟩ : Shape).Idx → EReal := m ((c : Thread nD τ).loc main_arg0)
def gArr (c : Dev nD) : (⟨1, ![2048]⟩ : Shape).Idx → EReal := m ((c : Thread nD τ).loc main_arg1)
def cosArr (c : Dev nD) : (⟨2, ![32768, 128]⟩ : Shape).Idx → EReal := m ((c : Thread nD τ).loc main_arg2)
def sinArr (c : Dev nD) : (⟨2, ![32768, 128]⟩ : Shape).Idx → EReal := m ((c : Thread nD τ).loc main_arg3)
def wArr (c : Dev nD) : (⟨2, ![2048, 6912]⟩ : Shape).Idx → EReal := m ((c : Thread nD τ).loc main_arg4)
def qArr (c : Dev nD) : (⟨1, ![128]⟩ : Shape).Idx → EReal := m ((c : Thread nD τ).loc main_arg5)

/-- The array row and column that row `r` and column `k` of the `n`-th product are: three products a row block. -/
def rowOf (n : ℕ) (h : n < 96) (r : Fin 1024) : Fin 32768 := ⟨1024 * (n / 3) + r.val, by omega⟩
def colOf (n : ℕ) (k : Fin 768) : Fin 2304 := ⟨768 * (n % 3) + k.val, by omega⟩

/-- A result column as a column of the weights. -/
def wide (k : Fin 2304) : Fin 6912 := ⟨k.val, by omega⟩

theorem x_block (c : Dev nD) (t : Fin cfg0.N) (h : t.val < 96) (r : Fin 1024) (k : Fin 2048) :
    iblk m c 0 t (ix2 r k) = rowAt (xArr m c) (rowOf t.val h r) k := by
  have e : min t.val 95 = t.val := by omega
  unfold rowAt xArr rowOf
  blk_ext! [iblk, V, index_at t, e]

theorem g_block (c : Dev nD) (t : Fin cfg0.N) (k : Fin 2048) : iblk m c 1 t (ix2 0 k) = gArr m c (ix1 k) := by
  unfold gArr
  blk_ext! [iblk, V, index_at t]

theorem w_block (c : Dev nD) (t : Fin cfg0.N) (h : t.val < 96) (l : Fin 2048) (k : Fin 768) :
    iblk m c 2 t (ix2 l k) = wArr m c (ix2 l (wide (colOf t.val k))) := by
  have e : min t.val 95 = t.val := by omega
  unfold wArr wide colOf
  blk_ext! [iblk, V, index_at t, e]

theorem cos_block (c : Dev nD) (t : Fin cfg0.N) (h : t.val - 1 < 96) (r : Fin 1024) (l : Fin 128) :
    iblk m c 3 t (ix2 r l) = cosArr m c (ix2 (rowOf (t.val - 1) h r) l) := by
  unfold cosArr rowOf
  blk_ext! [iblk, V, index_at t]

theorem sin_block (c : Dev nD) (t : Fin cfg0.N) (h : t.val - 1 < 96) (r : Fin 1024) (l : Fin 128) :
    iblk m c 4 t (ix2 r l) = sinArr m c (ix2 (rowOf (t.val - 1) h r) l) := by
  unfold sinArr rowOf
  blk_ext! [iblk, V, index_at t]

theorem q_block (c : Dev nD) (t : Fin cfg0.N) (l : Fin 128) : iblk m c 5 t (ix2 0 l) = qArr m c (ix1 l) := by
  unfold qArr
  blk_ext! [iblk, V, index_at t]

/-- The rows kept after a point are the normalised rows of its row block. -/
theorem kept_apply (c : Dev nD) : ∀ (n : ℕ) (h : n < cfg0.N) (h' : n < 96) (r : Fin 1024) (k : Fin 2048),
    (outsAt0 m c n h).2.1 (ix2 r k) = normRow (rowAt (xArr m c) (rowOf n h' r)) (fun k => gArr m c (ix1 k)) k := by
  intro n
  induction n with
  | zero =>
    intro h h' r k
    rw [kept_first m c ⟨0, h⟩ h' rfl, norm_apply]
    simp only [x_block m c ⟨0, h⟩ h', g_block]
  | succ n ih =>
    intro h h' r k
    by_cases h2 : (n + 1) % 3 = 0
    · rw [kept_first m c ⟨n + 1, h⟩ h' h2, norm_apply]
      simp only [x_block m c ⟨n + 1, h⟩ h', g_block]
    · rw [kept_later m c ⟨n + 1, h⟩ h' h2]
      refine (ih (Nat.lt_of_succ_lt h) (Nat.lt_of_succ_lt h') r k).trans ?_
      have e : rowOf n (Nat.lt_of_succ_lt h') r = rowOf (n + 1) h' r := Fin.ext (by unfold rowOf; dsimp only; omega)
      rw [e]

/-- The product kept after a point, in its slot. -/
theorem filled_apply (c : Dev nD) (t : Fin cfg0.N) (h : t.val < 96) (r : Fin 1024) (k : Fin 768) :
    (outsAt0 m c t.val t.isLt).2.2 (ix3 (fills t.val) r k)
      = inAt (xArr m c) (gArr m c) (wArr m c) (rowOf t.val h r) (wide (colOf t.val k)) := by
  rw [filled m c t h, prod_apply]
  unfold inAt
  simp only [kept_apply m c _ _ h, w_block m c t h]

/-- A point's block of the result is that of the product before. -/
theorem out_apply (c : Dev nD) (t : Fin cfg0.N) (h : 1 ≤ t.val) (h' : t.val - 1 < 96) (r : Fin 1024) (k : Fin 768) :
    (outsAt0 m c t.val t.isLt).1 (ix2 r k) = qAt (xArr m c) (gArr m c) (cosArr m c) (sinArr m c) (wArr m c) (qArr m c)
      (rowOf (t.val - 1) h' r) (colOf (t.val - 1) k) := by
  rw [out_later m c t h]
  have p (k : Fin 768) : (prev m c t).2.2 (ix3 (fills (t.val - 1)) r k)
      = inAt (xArr m c) (gArr m c) (wArr m c) (rowOf (t.val - 1) h' r) (wide (colOf (t.val - 1) k)) :=
    filled_apply m c ⟨t.val - 1, Nat.lt_of_le_of_lt (Nat.sub_le _ _) t.isLt⟩ h' r k
  simp only [p, q_block, cos_block m c t h', sin_block m c t h']
  exact congrArg scale (turnedAt_stretch (B := 768) (C := 2304) (by decide) (by decide)
    (fun c' : Fin 2304 => inAt (xArr m c) (gArr m c) (wArr m c) (rowOf (t.val - 1) h' r) (wide c')) _ _ _ (768 * ((t.val - 1) % 3))
    (by omega) (by omega) k)

/-- The result array. -/
theorem out_array (c : Dev nD) : (dats m 0 c).arrAt 6 cfg0.N
    = fun y => qAt (xArr m c) (gArr m c) (cosArr m c) (sinArr m c) (wArr m c) (qArr m c) (y 0) (y 1) := by
  refine (dats m 0 c).arrAt_eq_of_covers 6 _ (by decide +kernel) fun t hf y => ?_
  have h : 1 ≤ t.val := flush_pos t hf
  have h' : t.val - 1 < 96 := by have : t.val < 97 := t.isLt; omega
  blk_simp
  rw [after0_6]
  obtain ⟨r, k, rfl⟩ : ∃ (r : Fin 1024) (k : Fin 768), y = ix2 r k := ⟨y 0, y 1, eq_ix2 y⟩
  have e : (win0_6.blk t).view.emb (ix2 r k) = ix2 (rowOf (t.val - 1) h' r) (colOf (t.val - 1) k) := by
    unfold rowOf colOf
    blk_ext! [index_at t]
  rw [e, out_apply m c t h h']
  rfl

end Cert.DswQKernelIdeal.Proj

namespace Cert.ProjDswQ

open Cert.ProjMath Cert.FfnMath Cert.Rotary Idealize.ShloMosaic Idealize.ShloMosaic.TcCoe Idealize.SL.Sem
open Cert.DswQReferenceIdeal.Read

variable (x : (⟨DswQReferenceIdeal.S8x4096x2048, .f32⟩ : BufTy).Contents (Elt Ideal))
  (g : (⟨DswQReferenceIdeal.S2048, .f32⟩ : BufTy).Contents (Elt Ideal))
  (cos sin : (⟨DswQReferenceIdeal.S32768x128, .f32⟩ : BufTy).Contents (Elt Ideal))
  (W : (⟨DswQReferenceIdeal.S2048x6912, .f32⟩ : BufTy).Contents (Elt Ideal))
  (q : (⟨DswQReferenceIdeal.S128, .f32⟩ : BufTy).Contents (Elt Ideal))

theorem reference_norm (b : Fin 8) (t : Fin 4096) (k : Fin 2048) :
    val_main_v12 x g (ix3 b t k) = normRow (fun k => x (ix3 b t k)) (fun k => g (ix1 k)) k := by
  unfold normRow
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

theorem reference_product (n : Fin 32768) (c : Fin 6912) :
    val_main_v13 x g W (ix3 (⟨n.val / 4096, by omega⟩ : Fin 8) (⟨n.val % 4096, by omega⟩ : Fin 4096) c) = inAt x g W n c := by
  unfold inAt rowAt
  pointwise [val_main_v13]
  simp only [reference_norm]

/-- A head's place, normalised and weighted. -/
theorem reference_head (n : Fin 32768) (h : Fin 18) (l : Fin 128) :
    val_main_v30 x g W q (ix4 (⟨n.val / 4096, by omega⟩ : Fin 8) (⟨n.val % 4096, by omega⟩ : Fin 4096) h l)
      = inAt x g W n ⟨128 * h.val + l.val, by omega⟩
        * headInv (fun c : Fin 2304 => inAt x g W n ⟨c.val, by omega⟩) (128 * h.val) (by omega) * q (ix1 l) := by
  pointwise [val_main_v30, val_main_v29, val_main_v28, val_main_v27, val_main_v26, val_main_v25, val_main_v24, val_main_v23, val_main_cst_4,
    val_main_v22, val_main_v21, val_main_cst_3, val_main_v20, val_main_v19, val_main_cst_2, val_main_v18, val_main_v17, val_main_v14]
  unfold headInv
  simp only [reference_product, Nat.mul_comm 128]

theorem reference_apply (n : Fin 32768) (c : Fin 2304) :
    val_main_v43 x g cos sin W q (ix2 n c) = DswQKernelIdeal.Proj.qAt x g cos sin W q n c := by
  unfold DswQKernelIdeal.Proj.qAt DswQKernelIdeal.Proj.scale turnedAt turned
  pointwise [val_main_v43, val_main_v42, val_main_v41, val_main_cst_5, val_main_v40, val_main_v39, val_main_v38, val_main_v37,
    val_main_v36, val_main_v35, val_main_v34, val_main_v33, val_main_v32, val_main_v31]
  have P := partner_split (fun l => val_main_v30 x g W q (ix4 (⟨n.val / 4096, by omega⟩ : Fin 8) (⟨n.val % 4096, by omega⟩ : Fin 4096)
    (⟨c.val / 128, by omega⟩ : Fin 18) l)) ⟨c.val % 128, Nat.mod_lt _ (by omega)⟩
  refine (congrArg (fun z => (_ * _ + z * _) * _) P).trans ?_
  simp only [reference_head]

theorem algebraic : @Cert.algebraic_DswQKernelIdeal_DswQReferenceIdeal Cert.DswQKernelIdeal.Gen.facts Cert.DswQReferenceIdeal.Gen.facts := by
  intro m g m' g' _ hagree
  refine ⟨fun c => _, DswQKernelIdeal.Value.run_blocks m g, ?_⟩
  refine (θ_run _ _ _).mono (fun r h c => ?_) (DswQReferenceIdeal.Value.run (F := Ideal) m' g')
  obtain ⟨h0, hr⟩ := h c
  obtain ⟨e0, e1, e2, e3, e4, e5⟩ := hagree c
  refine ⟨?_, hr⟩
  refine (h0.trans (val_main_v43_eq m' c)).trans ?_
  rw [e0, e1, e2, e3, e4, e5]
  refine Eq.trans ?_ (DswQKernelIdeal.Proj.out_array m c).symm
  funext i
  obtain ⟨n, k, rfl⟩ : ∃ (n : Fin 32768) (k : Fin 2304), i = ix2 n k := ⟨i 0, i 1, eq_ix2 i⟩
  exact reference_apply _ _ _ _ _ _ n k

theorem frame_reference : @Cert.quiescent_DswQReferenceIdeal Cert.DswQReferenceIdeal.Gen.facts := fun m ρ _ =>
  (θ_run Cert.DswQReferenceIdeal.defs _ _).mono (fun r h => ⟨fun c => (h c).2,
      Idealize.ShloMosaic.sem_eq_zero_of_no_sems (by decide) r.2⟩)
    (DswQReferenceIdeal.Value.run (F := Ideal) m ρ)

end Cert.ProjDswQ

end
-- ==== Proof.Proj.DswK.lean ====
/- Dilated sliding-window attention's k: the projection, its heads normalised and turned by the rotary tables; the kernel's
   blocks, written one point after their products, and the reference. -/
module

public import proofs.«01_k».proof.Defs
public import proofs.«01_k».proof.Proof.Proj.Rotary
public import proofs.«01_k».proof.Proof.Gen.DswKKernel.Frame
public import Idealize.ShloMosaic.Lib.WritesUnit
public import proofs.«01_k».proof.Proof.Gen.DswKKernelIdeal.Value
public import proofs.«01_k».proof.Proof.Gen.DswKReferenceIdeal.Read
public import proofs.«01_k».proof.Proof.Gen.DswKReferenceIdeal.Run

@[expose] public section

set_option maxRecDepth 16384

noncomputable section

namespace Cert.DswKKernelIdeal.Proj

open Cert.DswKKernelIdeal Cert.DswKKernelIdeal.Gen Cert.ProjMath Cert.FfnMath Cert.Rotary
open Idealize.ShloMosaic Idealize.ShloMosaic.TcCoe Idealize.ShloMosaic.Tactic

theorem off_zero : (![0, 0] : Fin 2 → Nat) = fun _ => 0 := funext fun a => by fin_cases a <;> rfl

/-- The result at an index: its head, turned by the row's tables. -/
def kAt (x : (⟨3, ![8, 4096, 2048]⟩ : Shape).Idx → EReal) (g : (⟨1, ![2048]⟩ : Shape).Idx → EReal)
    (cos sin : (⟨2, ![32768, 128]⟩ : Shape).Idx → EReal) (W : (⟨2, ![2048, 6912]⟩ : Shape).Idx → EReal)
    (w : (⟨1, ![128]⟩ : Shape).Idx → EReal) (n : Fin 32768) (c : Fin 2304) : EReal :=
  turnedAt (by decide) (fun c : Fin 2304 => inAt x g W n ⟨2304 + c.val, by omega⟩) (fun l => w (ix1 l)) (fun l => cos (ix2 n l))
    (fun l => sin (ix2 n l)) c

/-- The block written from a kept product: six heads, the first two in pieces of their own. -/
def turnBlock (cos sin : Vec Ideal S1024x128 .f32) (g : Vec Ideal S1x128 .f32) (v : Vec Ideal S1x1024x768 .f32) :
    Vec Ideal S1024x768 .f32 :=
  k0_pay4 (k0_pay15 v) (k0_pay18 (k0_pay17 v) (Scalar.ofBits .f32 897988541#32)) (k0_pay23 (k0_pay22 (k0_pay15 v)) (Scalar.ofBits .f32 0x3F800000#32))
    (k0_pay25 cos (k0_pay9 g)) (k0_pay26 sin (k0_pay9 g)) (k0_pay27 sin (k0_pay9 g)) (k0_pay31 (k0_pay15 v)) (k0_pay35 (k0_pay15 v))
    (k0_pay36 cos sin (k0_pay9 g) (k0_pay10 v) (k0_pay16 v)) (k0_pay37 cos sin (k0_pay9 g) (k0_pay11 v)) (k0_pay38 sin (k0_pay9 g) (k0_pay11 v))
    (k0_pay1 (k0_pay12 v) (k0_pay19 (k0_pay12 v)) (k0_pay25 cos (k0_pay9 g)) (k0_pay26 sin (k0_pay9 g)) (k0_pay27 sin (k0_pay9 g))
      (k0_pay28 (k0_pay12 v)) (k0_pay32 (k0_pay12 v)))
    (k0_pay2 (k0_pay13 v) (k0_pay20 (k0_pay13 v)) (k0_pay25 cos (k0_pay9 g)) (k0_pay26 sin (k0_pay9 g)) (k0_pay27 sin (k0_pay9 g))
      (k0_pay29 (k0_pay13 v)) (k0_pay33 (k0_pay13 v)))
    (k0_pay3 (k0_pay14 v) (k0_pay21 (k0_pay14 v)) (k0_pay25 cos (k0_pay9 g)) (k0_pay26 sin (k0_pay9 g)) (k0_pay27 sin (k0_pay9 g))
      (k0_pay30 (k0_pay14 v)) (k0_pay34 (k0_pay14 v)))

/-- One head of 128 columns: folded tables, two rotations, the inverse root last. -/
def head (cos sin : Vec Ideal S1024x128 .f32) (g : Vec Ideal S1x128 .f32) (y : FVec Ideal S1024x128 .f32) : FVec Ideal S1024x128 .f32 :=
  k0_pay1 y (k0_pay19 y) (k0_pay25 cos (k0_pay9 g)) (k0_pay26 sin (k0_pay9 g)) (k0_pay27 sin (k0_pay9 g)) (k0_pay28 y) (k0_pay32 y)

theorem head_apply (cos sin : Vec Ideal S1024x128 .f32) (g : Vec Ideal S1x128 .f32) (y : FVec Ideal S1024x128 .f32) (r : Fin 1024)
    (l : Fin 128) : head cos sin g y (ix2 r l) = turned (fun k : Fin 128 => y (ix2 r k)) (fun l => g (ix2 0 l))
      (fun l => cos (ix2 r l)) (fun l => sin (ix2 r l)) 0 (by omega) l := by
  rw [← folded_mul]
  unfold head
  pointwise [k0_pay1, k0_pay9, k0_pay19, k0_pay24, k0_pay25, k0_pay26, k0_pay27, k0_pay28, k0_pay32]
  unfold folded headInv
  simp only [Nat.zero_add, Fin.eta]

theorem turn_eq (cos sin : Vec Ideal S1024x128 .f32) (g : Vec Ideal S1x128 .f32) (v : Vec Ideal S1x1024x768 .f32) :
    turnBlock cos sin g v = concatenate S1024x768 1 [⟨S1024x128, head cos sin g (k0_pay10 v)⟩, ⟨S1024x128, head cos sin g (k0_pay11 v)⟩,
      ⟨S1024x128, head cos sin g (k0_pay12 v)⟩, ⟨S1024x128, head cos sin g (k0_pay13 v)⟩, ⟨S1024x128, head cos sin g (k0_pay14 v)⟩,
      ⟨S1024x128, head cos sin g (k0_pay15 v)⟩]
      concatenates_S1024x128_S1024x128_S1024x128_S1024x128_S1024x128_S1024x128_S1024x768_d1 := rfl

/-- The six heads are the product's columns from 0, 128, 256, 384, 512 and 640 on. -/
theorem cut_apply (v : Vec Ideal S1x1024x768 .f32) (r : Fin 1024) (l : Fin 128) :
    k0_pay10 v (ix2 r l) = v (ix3 0 r ⟨0 + l.val, by omega⟩) ∧ k0_pay11 v (ix2 r l) = v (ix3 0 r ⟨128 + l.val, by omega⟩)
    ∧ k0_pay12 v (ix2 r l) = v (ix3 0 r ⟨256 + l.val, by omega⟩) ∧ k0_pay13 v (ix2 r l) = v (ix3 0 r ⟨384 + l.val, by omega⟩)
    ∧ k0_pay14 v (ix2 r l) = v (ix3 0 r ⟨512 + l.val, by omega⟩) ∧ k0_pay15 v (ix2 r l) = v (ix3 0 r ⟨640 + l.val, by omega⟩) := by
  refine ⟨?_, ?_, ?_, ?_, ?_, ?_⟩ <;>
    pointwise [k0_pay8, k0_pay10, k0_pay11, k0_pay12, k0_pay13, k0_pay14, k0_pay15]

theorem turn_apply (cos sin : Vec Ideal S1024x128 .f32) (g : Vec Ideal S1x128 .f32) (v : Vec Ideal S1x1024x768 .f32) (r : Fin 1024)
    (k : Fin 768) : turnBlock cos sin g v (ix2 r k) = turnedAt (by decide) (fun k => v (ix3 0 r k)) (fun l => g (ix2 0 l))
      (fun l => cos (ix2 r l)) (fun l => sin (ix2 r l)) k := by
  refine Eq.trans ?_ (turnedAt_chain (by decide) (fun k => v (ix3 0 r k)) (fun l => g (ix2 0 l)) (fun l => cos (ix2 r l))
    (fun l => sin (ix2 r l)) id k)
  rw [turn_eq]
  pointwise []
  have T := turned_slice (fun k => v (ix3 0 r k)) (fun l => g (ix2 0 l)) (fun l => cos (ix2 r l)) (fun l => sin (ix2 r l))
  simp only [Nat.sub_sub, Nat.reduceAdd, head_apply, cut_apply, ← T, id]

/-- The rows a first point normalises. -/
theorem norm_apply (x : Vec Ideal S1024x2048 .f32) (g : Vec Ideal S1x2048 .f32) (r : Fin 1024) (k : Fin 2048) :
    k0_pay7 x g (ix2 r k) = normRow (fun k => x (ix2 r k)) (fun k => g (ix2 0 k)) k := by
  unfold normRow
  pointwise [k0_pay7]

theorem prod_apply (n : Vec Ideal S1024x2048 .bf16) (w : Vec Ideal S2048x768 .bf16) (r : Fin 1024) (k : Fin 768) :
    k0_pay5 n w (ix3 0 r k) = ∑ l : Fin 2048, n (ix2 r l) * w (ix2 l k) := by
  pointwise [k0_pay5]

theorem index_at : ∀ t : Fin grid0.N, win0_0.index t = ![min t.val 95 / 3, 0] ∧ win0_1.index t = ![0, 0]
    ∧ win0_2.index t = ![0, 3 + min t.val 95 % 3] ∧ win0_3.index t = ![(t.val - 1) / 3, 0] ∧ win0_4.index t = ![(t.val - 1) / 3, 0]
    ∧ win0_5.index t = ![0, 0] ∧ win0_6.index t = ![(t.val - 1) / 3, (t.val - 1) % 3] := by
  decide +kernel

theorem flush_pos : ∀ t : Fin grid0.N, win0_6.flush t = true → 1 ≤ t.val := by
  decide +kernel

theorem coords_val : ∀ t : Fin grid0.N, (grid0.coords t 0).val = t.val := by
  decide +kernel

/-- Both slots of products: a loaded slot at an index. -/
theorem slot_apply (X : S2x1024x768.Idx → EReal) (off : Fin 3 → ℕ) (inb : ∀ a, off a + (![1, 1024, 768] : Fin 3 → ℕ) a ≤ S2x1024x768.size a)
    (j : Fin 2) (h : off = ![j.val, 0, 0]) (r : Fin 1024) (k : Fin 768) :
    View.ld (Val := Elt Ideal) (e' := .f32) X (Rect.unit (s := S2x1024x768) off ![1, 1024, 768] inb) (ix3 (0 : Fin 1) r k) = X (ix3 j r k) := by
  refine View.ld_unit_apply_of _ _ _ _ _ _ fun a => ?_
  subst h
  fin_cases a <;> simp [ix3]

variable (m : (ℓ : Loc nD τ sig) → Buf (Elt Ideal) ℓ)

/-- The slot a point fills, and the one it reads, which the point before filled. -/
def fills (n : ℕ) : Fin 2 := ⟨n % 2, Nat.mod_lt _ (by omega)⟩

theorem reads_off (t : Fin cfg0.N) (h : 1 ≤ t.val) : k0_off1 (grid0.coords t) = ![(fills (t.val - 1)).val, 0, 0] := by
  have e : 1 - t.val % 2 = (t.val - 1) % 2 := by omega
  rw [k0_off1_eq, coords_val, e]
  rfl

theorem fills_off (t : Fin cfg0.N) : k0_off2 (grid0.coords t) = ![(fills t.val).val, 0, 0] := by
  rw [k0_off2_eq, coords_val]
  rfl

/-- What the point before left. -/
def prev (c : Dev nD) (t : Fin cfg0.N) := outsAt0 m c (t.val - 1) (Nat.lt_of_le_of_lt (Nat.sub_le _ _) t.isLt)

/-- The block a point writes, from the second on: the product the point before kept, its heads normalised and turned. -/
theorem out_later (c : Dev nD) (t : Fin cfg0.N) (h : 1 ≤ t.val) (r : Fin 1024) (k : Fin 768) :
    (outsAt0 m c t.val t.isLt).1 (ix2 r k) = turnedAt (by decide) (fun k => (prev m c t).2.2 (ix3 (fills (t.val - 1)) r k))
      (fun l => iblk m c 5 t (ix2 0 l)) (fun l => iblk m c 3 t (ix2 r l)) (fun l => iblk m c 4 t (ix2 r l)) k := by
  have ht : t.val < 97 := t.isLt
  have h0 : ¬t.val % 97 = 0 := by omega
  have S inb (k : Fin 768) := slot_apply (prev m c t).2.2 (k0_off1 (grid0.coords t)) inb _ (reads_off t h) r k
  by_cases h1 : t.val < 96
  · by_cases h2 : t.val % 3 = 0
    · rw [outsAt0_C m c t h0 h1 h2]
      dsimp only
      unfold out0_C_6
      rw [View.read_writes_junk_eq_canon]
      unfold kernelRun0_C
      dsimp only
      sl_unfold_words
      rw [View.canon_unit_zero off_zero]
      simp only [View.readAt_eq_ld, (hs0_3 t).read_unread, (hs0_4 t).read_unread, (hs0_5 t).read_unread, (Memref.isWhole_whole _).read_unread,
        View.ld_unit_zero (S := S1024x128) off_zero, View.ld_unit_zero (S := S1x128) off_zero]
      refine (turn_apply _ _ _ _ r k).trans ?_
      exact congrArg (fun f => turnedAt _ f _ _ _ k) (funext (S _))
    · rw [outsAt0_B m c t h0 h1 h2]
      dsimp only
      unfold out0_B_6
      rw [View.read_writes_junk_eq_canon]
      unfold kernelRun0_B
      dsimp only
      sl_unfold_words
      rw [View.canon_unit_zero off_zero]
      simp only [View.readAt_eq_ld, (hs0_3 t).read_unread, (hs0_4 t).read_unread, (hs0_5 t).read_unread, (Memref.isWhole_whole _).read_unread,
        View.ld_unit_zero (S := S1024x128) off_zero, View.ld_unit_zero (S := S1x128) off_zero]
      refine (turn_apply _ _ _ _ r k).trans ?_
      exact congrArg (fun f => turnedAt _ f _ _ _ k) (funext (S _))
  · rw [outsAt0_D m c t h0 h1]
    dsimp only
    unfold out0_D_6
    rw [View.read_writes_junk_eq_canon]
    unfold kernelRun0_D
    dsimp only
    sl_unfold_words
    rw [View.canon_unit_zero off_zero]
    simp only [View.readAt_eq_ld, (hs0_3 t).read_unread, (hs0_4 t).read_unread, (hs0_5 t).read_unread, (Memref.isWhole_whole _).read_unread,
      View.ld_unit_zero (S := S1024x128) off_zero, View.ld_unit_zero (S := S1x128) off_zero]
    refine (turn_apply _ _ _ _ r k).trans ?_
    exact congrArg (fun f => turnedAt _ f _ _ _ k) (funext (S _))

/-- The rows kept: a row block's first point normalises its rows, the others keep them. -/
theorem kept_first (c : Dev nD) (t : Fin cfg0.N) (h1 : t.val < 96) (h2 : t.val % 3 = 0) :
    (outsAt0 m c t.val t.isLt).2.1 = k0_pay7 (iblk m c 0 t) (iblk m c 1 t) := by
  by_cases h0 : t.val % 97 = 0
  · rw [outsAt0_A m c t h0 h1 h2]
    dsimp only
    unfold sout0_A_0
    rw [View.read_writes_junk_eq_canon]
    unfold kernelRun0_A
    dsimp only
    sl_unfold_words
    rw [View.canon_unit_zero (S := S1024x2048) off_zero]
    simp only [View.readAt_eq_ld, (hs0_0 t).read_unread, (hs0_1 t).read_unread,
      View.ld_unit_zero (S := S1024x2048) off_zero, View.ld_unit_zero (S := S1x2048) off_zero]
  · rw [outsAt0_C m c t h0 h1 h2]
    dsimp only
    unfold sout0_C_0
    rw [View.read_writes_junk_eq_canon]
    unfold kernelRun0_C
    dsimp only
    sl_unfold_words
    rw [View.canon_unit_zero (S := S1024x2048) off_zero]
    simp only [View.readAt_eq_ld, (hs0_0 t).read_unread, (hs0_1 t).read_unread,
      View.ld_unit_zero (S := S1024x2048) off_zero, View.ld_unit_zero (S := S1x2048) off_zero]

theorem kept_later (c : Dev nD) (t : Fin cfg0.N) (h1 : t.val < 96) (h2 : ¬t.val % 3 = 0) :
    (outsAt0 m c t.val t.isLt).2.1 = (prev m c t).2.1 := by
  have h0 : ¬t.val % 97 = 0 := by omega
  rw [outsAt0_B m c t h0 h1 h2]
  rfl

/-- The product kept: the rows kept after the point times its columns of the weights. -/
theorem filled (c : Dev nD) (t : Fin cfg0.N) (h1 : t.val < 96) (r : Fin 1024) (k : Fin 768) :
    (outsAt0 m c t.val t.isLt).2.2 (ix3 (fills t.val) r k) = k0_pay5 (outsAt0 m c t.val t.isLt).2.1 (iblk m c 2 t) (ix3 0 r k) := by
  have hx : ∀ a : Fin 3, (ix3 (fills t.val) r k a).val = (![(fills t.val).val, 0, 0] : Fin 3 → ℕ) a + (ix3 (0 : Fin 1) r k a).val := by
    intro a
    fin_cases a <;> simp [ix3]
  by_cases h2 : t.val % 3 = 0
  · rw [kept_first m c t h1 h2]
    by_cases h0 : t.val % 97 = 0
    · rw [outsAt0_A m c t h0 h1 h2]
      dsimp only
      unfold sout0_A_1 kernelRun0_A
      dsimp only
      refine (View.read_writes_cons_unit_of_mem _ _ _ _ _ _ (ix3 0 r k) (fills_off t) hx).trans ?_
      sl_unfold_words
      simp only [View.readCov_unit_zero (S := S1024x2048) _ off_zero]
      simp only [View.readAt_eq_ld, (hs0_0 t).read_unread, (hs0_1 t).read_unread, (hs0_2 t).read_unread,
        View.ld_unit_zero (S := S1024x2048) off_zero, View.ld_unit_zero (S := S1x2048) off_zero, View.ld_unit_zero (S := S2048x768) off_zero]
    · rw [outsAt0_C m c t h0 h1 h2]
      dsimp only
      unfold sout0_C_1 kernelRun0_C
      dsimp only
      refine (View.read_writes_cons_unit_of_mem _ _ _ _ _ _ (ix3 0 r k) (fills_off t) hx).trans ?_
      sl_unfold_words
      simp only [View.readCov_unit_zero (S := S1024x2048) _ off_zero]
      simp only [View.readAt_eq_ld, (hs0_0 t).read_unread, (hs0_1 t).read_unread, (hs0_2 t).read_unread,
        View.ld_unit_zero (S := S1024x2048) off_zero, View.ld_unit_zero (S := S1x2048) off_zero, View.ld_unit_zero (S := S2048x768) off_zero]
  · have h0 : ¬t.val % 97 = 0 := by omega
    rw [kept_later m c t h1 h2, outsAt0_B m c t h0 h1 h2]
    dsimp only
    unfold sout0_B_1 kernelRun0_B
    dsimp only
    refine (View.read_writes_cons_unit_of_mem _ _ _ _ _ _ (ix3 0 r k) (fills_off t) hx).trans ?_
    sl_unfold_words
    simp only [View.readAt_eq_ld, (hs0_2 t).read_unread, (Memref.isWhole_whole _).read_unread,
      View.ld_unit_zero (S := S1024x2048) off_zero, View.ld_unit_zero (S := S2048x768) off_zero]
    rfl

/-- The arrays the program is given: the residual rows, the norm's weights, the tables of cosines and sines, the projection's
    weights, the weights of the heads. -/
def xArr (c : Dev nD) : (⟨3, ![8, 4096, 2048]⟩ : Shape).Idx → EReal := m ((c : Thread nD τ).loc main_arg0)
def gArr (c : Dev nD) : (⟨1, ![2048]⟩ : Shape).Idx → EReal := m ((c : Thread nD τ).loc main_arg1)
def cosArr (c : Dev nD) : (⟨2, ![32768, 128]⟩ : Shape).Idx → EReal := m ((c : Thread nD τ).loc main_arg2)
def sinArr (c : Dev nD) : (⟨2, ![32768, 128]⟩ : Shape).Idx → EReal := m ((c : Thread nD τ).loc main_arg3)
def wArr (c : Dev nD) : (⟨2, ![2048, 6912]⟩ : Shape).Idx → EReal := m ((c : Thread nD τ).loc main_arg4)
def kArr (c : Dev nD) : (⟨1, ![128]⟩ : Shape).Idx → EReal := m ((c : Thread nD τ).loc main_arg5)

/-- The array row and column that row `r` and column `k` of the `n`-th product are: three products a row block. -/
def rowOf (n : ℕ) (h : n < 96) (r : Fin 1024) : Fin 32768 := ⟨1024 * (n / 3) + r.val, by omega⟩
def colOf (n : ℕ) (k : Fin 768) : Fin 2304 := ⟨768 * (n % 3) + k.val, by omega⟩

/-- A result column as a column of the weights. -/
def wide (k : Fin 2304) : Fin 6912 := ⟨2304 + k.val, by omega⟩

theorem x_block (c : Dev nD) (t : Fin cfg0.N) (h : t.val < 96) (r : Fin 1024) (k : Fin 2048) :
    iblk m c 0 t (ix2 r k) = rowAt (xArr m c) (rowOf t.val h r) k := by
  have e : min t.val 95 = t.val := by omega
  unfold rowAt xArr rowOf
  blk_ext! [iblk, V, index_at t, e]

theorem g_block (c : Dev nD) (t : Fin cfg0.N) (k : Fin 2048) : iblk m c 1 t (ix2 0 k) = gArr m c (ix1 k) := by
  unfold gArr
  blk_ext! [iblk, V, index_at t]

theorem w_block (c : Dev nD) (t : Fin cfg0.N) (h : t.val < 96) (l : Fin 2048) (k : Fin 768) :
    iblk m c 2 t (ix2 l k) = wArr m c (ix2 l (wide (colOf t.val k))) := by
  have e : min t.val 95 = t.val := by omega
  unfold wArr wide colOf
  blk_ext! [iblk, V, index_at t, e]

theorem cos_block (c : Dev nD) (t : Fin cfg0.N) (h : t.val - 1 < 96) (r : Fin 1024) (l : Fin 128) :
    iblk m c 3 t (ix2 r l) = cosArr m c (ix2 (rowOf (t.val - 1) h r) l) := by
  unfold cosArr rowOf
  blk_ext! [iblk, V, index_at t]

theorem sin_block (c : Dev nD) (t : Fin cfg0.N) (h : t.val - 1 < 96) (r : Fin 1024) (l : Fin 128) :
    iblk m c 4 t (ix2 r l) = sinArr m c (ix2 (rowOf (t.val - 1) h r) l) := by
  unfold sinArr rowOf
  blk_ext! [iblk, V, index_at t]

theorem k_block (c : Dev nD) (t : Fin cfg0.N) (l : Fin 128) : iblk m c 5 t (ix2 0 l) = kArr m c (ix1 l) := by
  unfold kArr
  blk_ext! [iblk, V, index_at t]

/-- The rows kept after a point are the normalised rows of its row block. -/
theorem kept_apply (c : Dev nD) : ∀ (n : ℕ) (h : n < cfg0.N) (h' : n < 96) (r : Fin 1024) (k : Fin 2048),
    (outsAt0 m c n h).2.1 (ix2 r k) = normRow (rowAt (xArr m c) (rowOf n h' r)) (fun k => gArr m c (ix1 k)) k := by
  intro n
  induction n with
  | zero =>
    intro h h' r k
    rw [kept_first m c ⟨0, h⟩ h' rfl, norm_apply]
    simp only [x_block m c ⟨0, h⟩ h', g_block]
  | succ n ih =>
    intro h h' r k
    by_cases h2 : (n + 1) % 3 = 0
    · rw [kept_first m c ⟨n + 1, h⟩ h' h2, norm_apply]
      simp only [x_block m c ⟨n + 1, h⟩ h', g_block]
    · rw [kept_later m c ⟨n + 1, h⟩ h' h2]
      refine (ih (Nat.lt_of_succ_lt h) (Nat.lt_of_succ_lt h') r k).trans ?_
      have e : rowOf n (Nat.lt_of_succ_lt h') r = rowOf (n + 1) h' r := Fin.ext (by unfold rowOf; dsimp only; omega)
      rw [e]

/-- The product kept after a point, in its slot. -/
theorem filled_apply (c : Dev nD) (t : Fin cfg0.N) (h : t.val < 96) (r : Fin 1024) (k : Fin 768) :
    (outsAt0 m c t.val t.isLt).2.2 (ix3 (fills t.val) r k)
      = inAt (xArr m c) (gArr m c) (wArr m c) (rowOf t.val h r) (wide (colOf t.val k)) := by
  rw [filled m c t h, prod_apply]
  unfold inAt
  simp only [kept_apply m c _ _ h, w_block m c t h]

/-- A point's block of the result is that of the product before. -/
theorem out_apply (c : Dev nD) (t : Fin cfg0.N) (h : 1 ≤ t.val) (h' : t.val - 1 < 96) (r : Fin 1024) (k : Fin 768) :
    (outsAt0 m c t.val t.isLt).1 (ix2 r k) = kAt (xArr m c) (gArr m c) (cosArr m c) (sinArr m c) (wArr m c) (kArr m c)
      (rowOf (t.val - 1) h' r) (colOf (t.val - 1) k) := by
  rw [out_later m c t h]
  have p (k : Fin 768) : (prev m c t).2.2 (ix3 (fills (t.val - 1)) r k)
      = inAt (xArr m c) (gArr m c) (wArr m c) (rowOf (t.val - 1) h' r) (wide (colOf (t.val - 1) k)) :=
    filled_apply m c ⟨t.val - 1, Nat.lt_of_le_of_lt (Nat.sub_le _ _) t.isLt⟩ h' r k
  simp only [p, k_block, cos_block m c t h', sin_block m c t h']
  exact turnedAt_stretch (B := 768) (C := 2304) (by decide) (by decide)
    (fun c' : Fin 2304 => inAt (xArr m c) (gArr m c) (wArr m c) (rowOf (t.val - 1) h' r) (wide c')) _ _ _ (768 * ((t.val - 1) % 3))
    (by omega) (by omega) k

/-- The result array. -/
theorem out_array (c : Dev nD) : (dats m 0 c).arrAt 6 cfg0.N
    = fun y => kAt (xArr m c) (gArr m c) (cosArr m c) (sinArr m c) (wArr m c) (kArr m c) (y 0) (y 1) := by
  refine (dats m 0 c).arrAt_eq_of_covers 6 _ (by decide +kernel) fun t hf y => ?_
  have h : 1 ≤ t.val := flush_pos t hf
  have h' : t.val - 1 < 96 := by have : t.val < 97 := t.isLt; omega
  blk_simp
  rw [after0_6]
  obtain ⟨r, k, rfl⟩ : ∃ (r : Fin 1024) (k : Fin 768), y = ix2 r k := ⟨y 0, y 1, eq_ix2 y⟩
  have e : (win0_6.blk t).view.emb (ix2 r k) = ix2 (rowOf (t.val - 1) h' r) (colOf (t.val - 1) k) := by
    unfold rowOf colOf
    blk_ext! [index_at t]
  rw [e, out_apply m c t h h']
  rfl

end Cert.DswKKernelIdeal.Proj

namespace Cert.ProjDswK

open Cert.ProjMath Cert.FfnMath Cert.Rotary Idealize.ShloMosaic Idealize.ShloMosaic.TcCoe Idealize.SL.Sem
open Cert.DswKReferenceIdeal.Read

variable (x : (⟨DswKReferenceIdeal.S8x4096x2048, .f32⟩ : BufTy).Contents (Elt Ideal))
  (g : (⟨DswKReferenceIdeal.S2048, .f32⟩ : BufTy).Contents (Elt Ideal))
  (cos sin : (⟨DswKReferenceIdeal.S32768x128, .f32⟩ : BufTy).Contents (Elt Ideal))
  (W : (⟨DswKReferenceIdeal.S2048x6912, .f32⟩ : BufTy).Contents (Elt Ideal))
  (w : (⟨DswKReferenceIdeal.S128, .f32⟩ : BufTy).Contents (Elt Ideal))

theorem reference_norm (b : Fin 8) (t : Fin 4096) (k : Fin 2048) :
    val_main_v12 x g (ix3 b t k) = normRow (fun k => x (ix3 b t k)) (fun k => g (ix1 k)) k := by
  unfold normRow
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

theorem reference_product (n : Fin 32768) (c : Fin 6912) :
    val_main_v13 x g W (ix3 (⟨n.val / 4096, by omega⟩ : Fin 8) (⟨n.val % 4096, by omega⟩ : Fin 4096) c) = inAt x g W n c := by
  unfold inAt rowAt
  pointwise [val_main_v13]
  simp only [reference_norm]

/-- A head's place, normalised and weighted. -/
theorem reference_head (n : Fin 32768) (h : Fin 18) (l : Fin 128) :
    val_main_v30 x g W w (ix4 (⟨n.val / 4096, by omega⟩ : Fin 8) (⟨n.val % 4096, by omega⟩ : Fin 4096) h l)
      = inAt x g W n ⟨2304 + (128 * h.val + l.val), by omega⟩
        * headInv (fun c : Fin 2304 => inAt x g W n ⟨2304 + c.val, by omega⟩) (128 * h.val) (by omega) * w (ix1 l) := by
  pointwise [val_main_v30, val_main_v29, val_main_v28, val_main_v27, val_main_v26, val_main_v25, val_main_v24, val_main_v23, val_main_cst_4,
    val_main_v22, val_main_v21, val_main_cst_3, val_main_v20, val_main_v19, val_main_cst_2, val_main_v18, val_main_v17, val_main_v15]
  unfold headInv
  simp only [reference_product, Nat.mul_comm 128]

theorem reference_apply (n : Fin 32768) (c : Fin 2304) :
    val_main_v41 x g cos sin W w (ix2 n c) = DswKKernelIdeal.Proj.kAt x g cos sin W w n c := by
  unfold DswKKernelIdeal.Proj.kAt turnedAt turned
  pointwise [val_main_v41, val_main_v40, val_main_v39, val_main_v38, val_main_v37,
    val_main_v36, val_main_v35, val_main_v34, val_main_v33, val_main_v32, val_main_v31]
  have P := partner_split (fun l => val_main_v30 x g W w (ix4 (⟨n.val / 4096, by omega⟩ : Fin 8) (⟨n.val % 4096, by omega⟩ : Fin 4096)
    (⟨c.val / 128, by omega⟩ : Fin 18) l)) ⟨c.val % 128, Nat.mod_lt _ (by omega)⟩
  refine (congrArg (fun z => _ * _ + z * _) P).trans ?_
  simp only [reference_head]

theorem algebraic : @Cert.algebraic_DswKKernelIdeal_DswKReferenceIdeal Cert.DswKKernelIdeal.Gen.facts Cert.DswKReferenceIdeal.Gen.facts := by
  intro m g m' g' _ hagree
  refine ⟨fun c => _, DswKKernelIdeal.Value.run_blocks m g, ?_⟩
  refine (θ_run _ _ _).mono (fun r h c => ?_) (DswKReferenceIdeal.Value.run (F := Ideal) m' g')
  obtain ⟨h0, hr⟩ := h c
  obtain ⟨e0, e1, e2, e3, e4, e5⟩ := hagree c
  refine ⟨?_, hr⟩
  refine (h0.trans (val_main_v41_eq m' c)).trans ?_
  rw [e0, e1, e2, e3, e4, e5]
  refine Eq.trans ?_ (DswKKernelIdeal.Proj.out_array m c).symm
  funext i
  obtain ⟨n, k, rfl⟩ : ∃ (n : Fin 32768) (k : Fin 2304), i = ix2 n k := ⟨i 0, i 1, eq_ix2 i⟩
  exact reference_apply _ _ _ _ _ _ n k

theorem frame_reference : @Cert.quiescent_DswKReferenceIdeal Cert.DswKReferenceIdeal.Gen.facts := fun m ρ _ =>
  (θ_run Cert.DswKReferenceIdeal.defs _ _).mono (fun r h => ⟨fun c => (h c).2,
      Idealize.ShloMosaic.sem_eq_zero_of_no_sems (by decide) r.2⟩)
    (DswKReferenceIdeal.Value.run (F := Ideal) m ρ)

end Cert.ProjDswK

end
-- ==== Proof.Proj.GdnGates.lean ====
/- The gates of gated DeltaNet: the kernel's blocks, the columns taken of them, and the reference. -/
module

public import proofs.«01_k».proof.Defs
public import proofs.«01_k».proof.Proof.Proj.Math
public import proofs.«01_k».proof.Proof.Lru.Math
public import proofs.«01_k».proof.Proof.Gen.GdnGatesKernel.Frame
public import proofs.«01_k».proof.Proof.Gen.GdnGatesKernelIdeal.Frame
public import proofs.«01_k».proof.Proof.Gen.GdnGatesReferenceIdeal.Read
public import proofs.«01_k».proof.Proof.Gen.GdnGatesReferenceIdeal.Run

@[expose] public section

set_option maxRecDepth 1696

noncomputable section

namespace Cert.GdnGatesKernelIdeal.Proj

open Cert.GdnGatesKernelIdeal Cert.GdnGatesKernelIdeal.Gen Cert.ProjMath Cert.FfnMath Cert.LruMath
open Idealize.ShloMosaic Idealize.ShloMosaic.TcCoe Idealize.ShloMosaic.Tactic Idealize.SL.Sem

theorem off_zero : (![0, 0] : Fin 2 → Nat) = fun _ => 0 := funext fun a => by fin_cases a <;> rfl

/-- The logarithm of a head's decay, from its product, the logarithm of its rate and its bias. -/
def decayLog (p a d : EReal) : EReal := -(Ideal.exp a) * sp (p + d)

/-- The rows a point normalises. -/
theorem norm_apply (x : Vec Ideal S1024x2048 .f32) (g : Vec Ideal S1x2048 .f32) (r : Fin 1024) (k : Fin 2048) :
    k0_pay2 x g (ix2 r k) = normRow (fun k => x (ix2 r k)) (fun k => g (ix2 0 k)) k := by
  unfold normRow
  pointwise [k0_pay2]

theorem prod_apply (n : Vec Ideal S1024x2048 .bf16) (w : Vec Ideal S2048x128 .bf16) (r : Fin 1024) (k : Fin 128) :
    k0_pay3 n w (ix2 r k) = ∑ l : Fin 2048, n (ix2 r l) * w (ix2 l k) := by
  pointwise [k0_pay3]

theorem beta_apply (n : Vec Ideal S1024x2048 .bf16) (w : Vec Ideal S2048x128 .bf16) (r : Fin 1024) (k : Fin 128) :
    k0_pay4 n w (ix2 r k) = sg (∑ l : Fin 2048, n (ix2 r l) * w (ix2 l k)) := by
  rw [← prod_apply, sg, ← zero_sub]
  pointwise [k0_pay4]

theorem decay_apply (n : Vec Ideal S1024x2048 .bf16) (w : Vec Ideal S2048x128 .bf16) (a d : Vec Ideal S1x128 .f32) (r : Fin 1024) (k : Fin 128) :
    k0_pay5 n w a d (ix2 r k) = decayLog (∑ l : Fin 2048, n (ix2 r l) * w (ix2 l k)) (a (ix2 0 k)) (d (ix2 0 k)) := by
  rw [← prod_apply]
  simp only [decayLog, sp, ← zero_sub]
  pointwise [k0_pay5]
  simp only [Ideal.absf_def, ← zero_sub]

/-- The first 32 columns are the write gates, the others the decays' logarithms. -/
theorem mix_apply (b g : FVec Ideal S1024x128 .f32) (r : Fin 1024) (k : Fin 128) :
    k0_pay1 b g k0_pay6 (ix2 r k) = if k.val < 32 then b (ix2 r k) else g (ix2 r k) := by
  pointwise [k0_pay1, k0_pay6]
  rw [show (32#32 : BitVec 32) = BitVec.ofNat 32 32 from rfl, WordCmp.cmpi_slt_ofNat (by have := k.isLt; omega) (by omega)]
  by_cases h : k.val < 32
  · rw [if_pos h, decide_eq_true h]
    rfl
  · rw [if_neg h, decide_eq_false h]
    rfl

theorem index_at : ∀ t : Fin grid0.N, win0_0.index t = ![t.val, 0] ∧ win0_1.index t = ![0, 0]
    ∧ win0_2.index t = ![0, 0] ∧ win0_3.index t = ![0, 0] ∧ win0_4.index t = ![0, 0] ∧ win0_5.index t = ![t.val, 0] := by
  decide +kernel

variable (m : (ℓ : Loc nD τ sig) → Buf (Elt Ideal) ℓ)

/-- A point normalises its rows, multiplies them and gates the products. -/
theorem outs_eq (c : Dev nD) (t : Fin cfg0.N) :
    outsAt0 m c t = k0_pay1 (k0_pay4 (k0_pay2 (iblk m c 0 t) (iblk m c 1 t)) (iblk m c 2 t))
      (k0_pay5 (k0_pay2 (iblk m c 0 t) (iblk m c 1 t)) (iblk m c 2 t) (iblk m c 3 t) (iblk m c 4 t)) k0_pay6 := by
  unfold outsAt0 out0_A_5
  rw [View.read_writes_junk_eq_canon]
  unfold kernelRun0_A
  dsimp only
  sl_unfold_words
  rw [View.canon_unit_zero off_zero]
  simp only [View.readCov_unit_zero (S := S1024x2048) _ off_zero]
  simp only [View.readAt_eq_ld, (hs0_0 t).read_unread, (hs0_1 t).read_unread, (hs0_2 t).read_unread, (hs0_3 t).read_unread, (hs0_4 t).read_unread,
    View.ld_unit_zero (S := S1024x2048) off_zero, View.ld_unit_zero (S := S1x2048) off_zero, View.ld_unit_zero (S := S2048x128) off_zero,
    View.ld_unit_zero (S := S1x128) off_zero]

/-- The arrays the program is given: the residual rows, the norm's weights, the projection's weights, the rates' logarithms and the biases. -/
def xArr (c : Dev nD) : (⟨3, ![8, 4096, 2048]⟩ : Shape).Idx → EReal := m ((c : Thread nD τ).loc main_arg0)
def gArr (c : Dev nD) : (⟨1, ![2048]⟩ : Shape).Idx → EReal := m ((c : Thread nD τ).loc main_arg1)
def wArr (c : Dev nD) : (⟨2, ![2048, 12352]⟩ : Shape).Idx → EReal := m ((c : Thread nD τ).loc main_arg2)
def aArr (c : Dev nD) : (⟨1, ![32]⟩ : Shape).Idx → EReal := m ((c : Thread nD τ).loc main_arg3)
def dArr (c : Dev nD) : (⟨1, ![32]⟩ : Shape).Idx → EReal := m ((c : Thread nD τ).loc main_arg4)

/-- The weights' columns of a head's two gates. -/
def bCol (h : Fin 32) : Fin 12352 := ⟨12288 + h.val, by omega⟩
def aCol (h : Fin 32) : Fin 12352 := ⟨12320 + h.val, by omega⟩

/-- The block's columns of a head's two gates. -/
def bLane (h : Fin 32) : Fin 128 := ⟨h.val, by omega⟩
def aLane (h : Fin 32) : Fin 128 := ⟨32 + h.val, by omega⟩

/-- The array row that row `r` of point `t`'s block is. -/
def rowOf (t : Fin cfg0.N) (r : Fin 1024) : Fin 32768 := ⟨1024 * t.val + r.val, by have : t.val < 32 := t.isLt; omega⟩

/-- The arrays the host hands the kernel, as terms in the arguments. -/
theorem handed (c : Dev nD) :
    V m c main_v0 = shapeCast S32768x2048 (m ((c : Thread nD τ).loc main_arg0)) shapeCasts_S8x4096x2048_S32768x2048
    ∧ V m c main_v8 = shapeCast S1x2048 (m ((c : Thread nD τ).loc main_arg1)) shapeCasts_S2048_S1x2048
    ∧ V m c main_v3 = truncf .bf16 (pad S2048x128 ![0, 0] ![0, 64] ![0, 0] (extractStridedSlice S2048x64 ![0, 12288] (m ((c : Thread nD τ).loc main_arg2))
        slices_S2048x12352_S2048x64_0_12288) (sitofp (F := Ideal) .f32 (constantI S_ 32 0#32)) pads_S2048x64_S2048x128_000_0640 h_S_) bitsLt_bf16_f32
    ∧ V m c main_v5 = shapeCast S1x128 (pad S128 ![32] ![64] ![0] (m ((c : Thread nD τ).loc main_arg3)) (sitofp (F := Ideal) .f32 (constantI S_ 32 0#32))
        pads_S32_S128_32640 h_S_) shapeCasts_S128_S1x128
    ∧ V m c main_v7 = shapeCast S1x128 (pad S128 ![32] ![64] ![0] (m ((c : Thread nD τ).loc main_arg4)) (sitofp (F := Ideal) .f32 (constantI S_ 32 0#32))
        pads_S32_S128_32640 h_S_) shapeCasts_S128_S1x128 := by
  dsimp only [V, V0]
  simp only [hostOps0, hostOps0_1, hostOps0_2, hostOps0_3, hostOps0_4, hostOps0_5, hostOps0_6, List.flatten_cons, List.flatten_nil, List.append_nil,
    List.cons_append, List.nil_append, StableHlo.TRef.unary, StableHlo.TRef.binary, StableHlo.TRef.nullary, StableHlo.TRef.toBuf, StableHlo.TRef.ofBuf, cast_eq]
  refine ⟨?_, ?_, ?_, ?_, ?_⟩ <;> (after_results_simp <;> rfl)

/-- The arrays handed at an index. -/
theorem flat_apply (x : Vec Ideal S8x4096x2048 .f32) (n : Fin 32768) (k : Fin 2048) :
    shapeCast S32768x2048 x shapeCasts_S8x4096x2048_S32768x2048 (ix2 n k) = rowAt x n k := by
  unfold rowAt
  pointwise

theorem unit_apply (g : Vec Ideal S2048 .f32) (k : Fin 2048) : shapeCast S1x2048 g shapeCasts_S2048_S1x2048 (ix2 0 k) = g (ix1 k) := by
  pointwise

/-- The blocks at a point, in the arrays handed. -/
theorem x_read (c : Dev nD) (t : Fin cfg0.N) (r : Fin 1024) (k : Fin 2048) : iblk m c 0 t (ix2 r k) = V m c main_v0 (ix2 (rowOf t r) k) := by
  unfold rowOf
  blk_ext! [iblk, index_at t]

theorem g_read (c : Dev nD) (t : Fin cfg0.N) (k : Fin 2048) : iblk m c 1 t (ix2 0 k) = V m c main_v8 (ix2 0 k) := by
  blk_ext! [iblk, index_at t]

theorem x_block (c : Dev nD) (t : Fin cfg0.N) (r : Fin 1024) (k : Fin 2048) : iblk m c 0 t (ix2 r k) = rowAt (xArr m c) (rowOf t r) k := by
  rw [x_read, (handed m c).1]
  exact flat_apply _ _ k

theorem g_block (c : Dev nD) (t : Fin cfg0.N) (k : Fin 2048) : iblk m c 1 t (ix2 0 k) = gArr m c (ix1 k) := by
  rw [g_read, (handed m c).2.1]
  exact unit_apply _ k

/-- The padded arrays the kernel is handed. -/
def wPad (c : Dev nD) : (⟨2, ![2048, 128]⟩ : Shape).Idx → EReal := V m c main_v3
def aPad (c : Dev nD) : (⟨2, ![1, 128]⟩ : Shape).Idx → EReal := V m c main_v5
def dPad (c : Dev nD) : (⟨2, ![1, 128]⟩ : Shape).Idx → EReal := V m c main_v7

theorem w_block (c : Dev nD) (t : Fin cfg0.N) (l : Fin 2048) (k : Fin 128) : iblk m c 2 t (ix2 l k) = wPad m c (ix2 l k) := by
  unfold wPad
  blk_ext! [iblk, index_at t]

theorem a_block (c : Dev nD) (t : Fin cfg0.N) (k : Fin 128) : iblk m c 3 t (ix2 0 k) = aPad m c (ix2 0 k) := by
  unfold aPad
  blk_ext! [iblk, index_at t]

theorem d_block (c : Dev nD) (t : Fin cfg0.N) (k : Fin 128) : iblk m c 4 t (ix2 0 k) = dPad m c (ix2 0 k) := by
  unfold dPad
  blk_ext! [iblk, index_at t]

/-- The padded arrays at a head's columns. -/
theorem w_beta (c : Dev nD) (l : Fin 2048) (h : Fin 32) : wPad m c (ix2 l (bLane h)) = wArr m c (ix2 l (bCol h)) := by
  unfold wPad wArr bLane bCol
  rw [(handed m c).2.2.1]
  generalize m ((c : Thread nD τ).loc main_arg2) = w
  pointwise
  exact dif_pos (by omega)

theorem w_decay (c : Dev nD) (l : Fin 2048) (h : Fin 32) : wPad m c (ix2 l (aLane h)) = wArr m c (ix2 l (aCol h)) := by
  unfold wPad wArr aLane aCol
  rw [(handed m c).2.2.1]
  generalize m ((c : Thread nD τ).loc main_arg2) = w
  pointwise
  refine (dif_pos (by omega)).trans (congrArg (fun z => w (ix2 l z)) (Fin.ext ?_))
  dsimp only
  omega

/-- A vector of the heads padded on both sides, at a head's lane. -/
theorem pad_apply (a : Vec Ideal S32 .f32) (v : Vec Ideal S_ .f32) (h : Fin 32) :
    shapeCast S1x128 (pad S128 ![32] ![64] ![0] a v pads_S32_S128_32640 h_S_) shapeCasts_S128_S1x128 (ix2 0 (aLane h)) = a (ix1 h) := by
  unfold aLane
  pointwise

theorem a_pad (c : Dev nD) (h : Fin 32) : aPad m c (ix2 0 (aLane h)) = aArr m c (ix1 h) := by
  unfold aPad
  rw [(handed m c).2.2.2.1]
  exact pad_apply _ _ h

theorem d_pad (c : Dev nD) (h : Fin 32) : dPad m c (ix2 0 (aLane h)) = dArr m c (ix1 h) := by
  unfold dPad
  rw [(handed m c).2.2.2.2]
  exact pad_apply _ _ h

/-- What the kernel's array holds at an index: a gate of the product with the padded weights. -/
def gateAt (c : Dev nD) (n : Fin 32768) (k : Fin 128) : EReal :=
  if k.val < 32 then sg (inAt (xArr m c) (gArr m c) (wPad m c) n k)
  else decayLog (inAt (xArr m c) (gArr m c) (wPad m c) n k) (aPad m c (ix2 0 k)) (dPad m c (ix2 0 k))

theorem out_apply (c : Dev nD) (t : Fin cfg0.N) (r : Fin 1024) (k : Fin 128) : outsAt0 m c t (ix2 r k) = gateAt m c (rowOf t r) k := by
  rw [outs_eq, mix_apply, beta_apply, decay_apply]
  unfold gateAt inAt
  simp only [norm_apply, x_block, g_block, w_block, a_block, d_block]

theorem out_array (c : Dev nD) : (dats m 0 c).arrAt 5 cfg0.N = fun y => gateAt m c (y 0) (y 1) := by
  refine (dats m 0 c).arrAt_eq_of_covers 5 _ (by decide +kernel) fun t hf y => ?_
  blk_simp
  rw [after0_5]
  obtain ⟨r, k, rfl⟩ : ∃ (r : Fin 1024) (k : Fin 128), y = ix2 r k := ⟨y 0, y 1, eq_ix2 y⟩
  have e : (win0_5.blk t).view.emb (ix2 r k) = ix2 (rowOf t r) k := by
    unfold rowOf
    blk_ext! [index_at t]
  rw [e, out_apply]
  rfl

/-- The two results: the first 32 columns of the array, and the next 32. -/
def betas (c : Dev nD) : (⟨2, ![32768, 32]⟩ : Shape).Idx → EReal :=
  fun y => sg (inAt (xArr m c) (gArr m c) (wArr m c) (y 0) (bCol (y 1)))
def decays (c : Dev nD) : (⟨2, ![32768, 32]⟩ : Shape).Idx → EReal :=
  fun y => decayLog (inAt (xArr m c) (gArr m c) (wArr m c) (y 0) (aCol (y 1))) (aArr m c (ix1 (y 1))) (dArr m c (ix1 (y 1)))

theorem gate_beta (c : Dev nD) (n : Fin 32768) (h : Fin 32) : gateAt m c n (bLane h) = betas m c (ix2 n h) := by
  unfold gateAt betas inAt
  rw [if_pos (show (bLane h).val < 32 from h.isLt)]
  simp only [w_beta]
  rfl

theorem gate_decay (c : Dev nD) (n : Fin 32768) (h : Fin 32) : gateAt m c n (aLane h) = decays m c (ix2 n h) := by
  unfold gateAt decays inAt
  rw [if_neg (show ¬(aLane h).val < 32 by unfold aLane; dsimp only; omega)]
  simp only [w_decay, a_pad, d_pad]
  rfl

/-- The array and the columns taken of it, after the lines that follow the kernel. -/
theorem taken (c : Dev nD) :
    Pipeline.afterTail₀ cfgs (dats m) 0 (V0 m) [hostOps1] c main_v10 = extractStridedSlice S32768x32 ![0, 0] ((dats m 0 c).arrAt 5 cfg0.N) slices_S32768x128_S32768x32_0_0
    ∧ Pipeline.afterTail₀ cfgs (dats m) 0 (V0 m) [hostOps1] c main_v11 = extractStridedSlice S32768x32 ![0, 32] ((dats m 0 c).arrAt 5 cfg0.N) slices_S32768x128_S32768x32_0_32 := by
  have e := Pipeline.withArrays_arr spec0 (by decide) c (V0 m c) (fun w => (dats m 0 c).arrAt w cfg0.N) 5
  unfold Pipeline.afterTail₀
  rw [← e]
  simp only [hostOps1, List.flatten_cons, List.flatten_nil, List.append_nil, List.cons_append, List.nil_append]
  refine ⟨?_, ?_⟩ <;> (after_results_simp <;> rfl)

theorem betas_eq (c : Dev nD) : Pipeline.afterTail₀ cfgs (dats m) 0 (V0 m) [hostOps1] c main_v10 = betas m c := by
  rw [(taken m c).1, out_array]
  funext y
  obtain ⟨n, h, rfl⟩ : ∃ (n : Fin 32768) (h : Fin 32), y = ix2 n h := ⟨y 0, y 1, eq_ix2 y⟩
  rw [← gate_beta]
  unfold bLane
  pointwise

theorem decays_eq (c : Dev nD) : Pipeline.afterTail₀ cfgs (dats m) 0 (V0 m) [hostOps1] c main_v11 = decays m c := by
  rw [(taken m c).2, out_array]
  funext y
  obtain ⟨n, h, rfl⟩ : ∃ (n : Fin 32768) (h : Fin 32), y = ix2 n h := ⟨y 0, y 1, eq_ix2 y⟩
  rw [← gate_decay]
  unfold aLane
  pointwise

/-- The run: the two results, the arguments unchanged. -/
theorem run (ρ : Dev nD → PrngReg) : θ_run defs (onTc (τ := τ) (main (F := Ideal))) ⟨m, fun _ => 0, ρ⟩ fun r => ∀ c : Dev nD,
    r.2.mem ((c : Thread nD τ).loc main_v10) = betas m c ∧ r.2.mem ((c : Thread nD τ).loc main_v11) = decays m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) := by
  refine (θ_run defs _ _).mono (fun r h c => ?_) (run_main m ρ)
  have rest := fun b hb => (h c).2 b hb
  exact ⟨(rest main_v10 (Pipeline.mem_restRefs_of main_v10 (by decide) (by decide))).trans (betas_eq m c),
    (rest main_v11 (Pipeline.mem_restRefs_of main_v11 (by decide) (by decide))).trans (decays_eq m c),
    (rest main_arg0 (Pipeline.mem_restRefs_of main_arg0 (by decide) (by decide))).trans (W_main_arg0 m (dats m) c),
    (rest main_arg1 (Pipeline.mem_restRefs_of main_arg1 (by decide) (by decide))).trans (W_main_arg1 m (dats m) c),
    (rest main_arg2 (Pipeline.mem_restRefs_of main_arg2 (by decide) (by decide))).trans (W_main_arg2 m (dats m) c),
    (rest main_arg3 (Pipeline.mem_restRefs_of main_arg3 (by decide) (by decide))).trans (W_main_arg3 m (dats m) c),
    (rest main_arg4 (Pipeline.mem_restRefs_of main_arg4 (by decide) (by decide))).trans (W_main_arg4 m (dats m) c)⟩

end Cert.GdnGatesKernelIdeal.Proj

namespace Cert.ProjGdnGates

open Cert.ProjMath Cert.FfnMath Cert.LruMath Idealize.ShloMosaic Idealize.ShloMosaic.TcCoe Idealize.SL.Sem
open Cert.GdnGatesReferenceIdeal.Read
open Cert.GdnGatesKernelIdeal.Proj (bCol aCol decayLog)

variable (x : (⟨GdnGatesReferenceIdeal.S8x4096x2048, .f32⟩ : BufTy).Contents (Elt Ideal))
  (g : (⟨GdnGatesReferenceIdeal.S2048, .f32⟩ : BufTy).Contents (Elt Ideal))
  (W : (⟨GdnGatesReferenceIdeal.S2048x12352, .f32⟩ : BufTy).Contents (Elt Ideal))
  (A D : (⟨GdnGatesReferenceIdeal.S32, .f32⟩ : BufTy).Contents (Elt Ideal))

theorem reference_norm (b : Fin 8) (t : Fin 4096) (k : Fin 2048) :
    val_main_v12 x g (ix3 b t k) = normRow (fun k => x (ix3 b t k)) (fun k => g (ix1 k)) k := by
  unfold normRow
  pointwise [val_main_v12, val_main_v11, val_main_v10, val_main_v9, val_main_v8, val_main_v7, val_main_v6, val_main_v5,
    val_main_v4, val_main_v3, val_main_v2, val_main_v1, val_main_v0, val_main_cst, val_main_cst_0, val_main_cst_1]

/-- The projection at a row and column. -/
theorem reference_prod (b : Fin 8) (t : Fin 4096) (k : Fin 12352) :
    val_main_v13 x g W (ix3 b t k) = ∑ l : Fin 2048, normRow (fun k => x (ix3 b t k)) (fun k => g (ix1 k)) l * W (ix2 l k) := by
  pointwise [val_main_v13]
  simp only [reference_norm]

/-- The write gate before the rows run together. -/
theorem reference_gate (b : Fin 8) (t : Fin 4096) (h : Fin 32) :
    val_main_v22 x g W (ix3 b t h) = sg (val_main_v13 x g W (ix3 b t (bCol h))) := by
  unfold sg bCol
  generalize hp : val_main_v13 x g W = p
  pointwise [val_main_v22, val_main_v21, val_main_v20, val_main_v19, val_main_v18, val_main_v17, val_main_v15, val_main_cst_2, val_main_cst_3, hp]

theorem reference_log (b : Fin 8) (t : Fin 4096) (h : Fin 32) :
    val_main_v31 x g W A D (ix3 b t h) = decayLog (val_main_v13 x g W (ix3 b t (aCol h))) (A (ix1 h)) (D (ix1 h)) := by
  unfold decayLog sp aCol
  generalize hp : val_main_v13 x g W = p
  pointwise [val_main_v31, val_main_v30, val_main_v29, val_main_v28, val_main_v27, val_main_v26, val_main_v25, val_main_v24, val_main_v23, val_main_v16,
    val_main_call0_v11, val_main_call0_v10, val_main_call0_v9, val_main_call0_v8, val_main_call0_v7, val_main_call0_v6, val_main_call0_v5,
    val_main_call0_v4, val_main_call0_v3, val_main_call0_v2, val_main_call0_v1, val_main_call0_v0, val_main_call0_cst, hp]
  rw [if_neg (fun h => h rfl)]
  rfl

theorem reference_betas (n : Fin 32768) (h : Fin 32) : val_main_v32 x g W (ix2 n h) = sg (inAt x g W n (bCol h)) := by
  unfold inAt rowAt
  rw [← reference_prod, ← reference_gate]
  pointwise [val_main_v32]

theorem reference_decays (n : Fin 32768) (h : Fin 32) :
    val_main_v33 x g W A D (ix2 n h) = decayLog (inAt x g W n (aCol h)) (A (ix1 h)) (D (ix1 h)) := by
  unfold inAt rowAt
  rw [← reference_prod, ← reference_log]
  pointwise [val_main_v33]

theorem algebraic : @Cert.algebraic_GdnGatesKernelIdeal_GdnGatesReferenceIdeal Cert.GdnGatesKernelIdeal.Gen.facts Cert.GdnGatesReferenceIdeal.Gen.facts := by
  intro m g m' g' _ hagree
  refine ⟨fun c => _, fun c => _, GdnGatesKernelIdeal.Proj.run m g, ?_⟩
  refine (θ_run _ _ _).mono (fun r h c => ?_) (GdnGatesReferenceIdeal.Value.run (F := Ideal) m' g')
  obtain ⟨h0, h1, h2⟩ := h c
  obtain ⟨e0, e1, e2, e3, e4⟩ := hagree c
  refine ⟨?_, ?_, h2⟩
  · rw [h0, val_main_v32_eq, e0, e1, e2]
    funext i
    obtain ⟨n, k, rfl⟩ : ∃ (n : Fin 32768) (k : Fin 32), i = ix2 n k := ⟨i 0, i 1, eq_ix2 i⟩
    exact reference_betas _ _ _ n k
  · rw [h1, val_main_v33_eq, e0, e1, e2, e3, e4]
    funext i
    obtain ⟨n, k, rfl⟩ : ∃ (n : Fin 32768) (k : Fin 32), i = ix2 n k := ⟨i 0, i 1, eq_ix2 i⟩
    exact reference_decays _ _ _ _ _ n k

theorem frame_reference : @Cert.quiescent_GdnGatesReferenceIdeal Cert.GdnGatesReferenceIdeal.Gen.facts := fun m ρ _ =>
  (θ_run Cert.GdnGatesReferenceIdeal.defs _ _).mono (fun r h => ⟨fun c => (h c).2.2,
      Idealize.ShloMosaic.sem_eq_zero_of_no_sems (by decide) r.2⟩)
    (GdnGatesReferenceIdeal.Value.run (F := Ideal) m ρ)

end Cert.ProjGdnGates

end
-- ==== Proof.Proj.BandMath.lean ====
/- Weights from scores of which some do not count, and how little they depend on what stands at the others. -/
module

public import proofs.«01_k».proof.Proof.Ffn.Math

@[expose] public section

noncomputable section

namespace Cert.BandMath

open Idealize.ShloMosaic

/-- The greatest of 256 scores. -/
def best (x : Fin 256 → EReal) : EReal := Finset.univ.fold max ⊥ x

/-- The greatest score that counts, where a score that does not count stands as `c`. -/
def pick (ok : Fin 256 → Prop) [DecidablePred ok] (s : Fin 256 → EReal) (c : EReal) : EReal := best fun k => if ok k then s k else c

/-- A key's weight before the weights are scaled to their sum. -/
def weight (ok : Fin 256 → Prop) [DecidablePred ok] (s : Fin 256 → EReal) (m : EReal) (k : Fin 256) : EReal :=
  if ok k then Ideal.exp (s k - m) else 0

def mass (ok : Fin 256 → Prop) [DecidablePred ok] (s : Fin 256 → EReal) (m : EReal) : EReal := ∑ k, weight ok s m k

/-- A key's weight. -/
def share (ok : Fin 256 → Prop) [DecidablePred ok] (s : Fin 256 → EReal) (m : EReal) (k : Fin 256) : EReal :=
  Ideal.div (weight ok s m k) (mass ok s m)

/-- The logarithm of the exponentials' sum. -/
def logMass (ok : Fin 256 → Prop) [DecidablePred ok] (s : Fin 256 → EReal) (m : EReal) : EReal := m + Ideal.log (mass ok s m)

/-- The weighted sum of the keys' values. -/
def mixed (ok : Fin 256 → Prop) [DecidablePred ok] (s v : Fin 256 → EReal) (m : EReal) : EReal := ∑ k, share ok s m k * v k

variable (ok : Fin 256 → Prop) [DecidablePred ok] (s : Fin 256 → EReal)

theorem le_best (x : Fin 256 → EReal) (k : Fin 256) : x k ≤ best x :=
  (Finset.le_fold_max _).2 (Or.inr ⟨k, Finset.mem_univ k, le_rfl⟩)

theorem best_le (x : Fin 256 → EReal) (c : EReal) (h : ∀ k, x k ≤ c) : best x ≤ c :=
  (Finset.fold_max_le _).2 ⟨bot_le, fun k _ => h k⟩

/-- A greatest score above `⊥` is some key's. -/
theorem best_hit (x : Fin 256 → EReal) (h : ⊥ < best x) : ∃ k, x k = best x := by
  by_contra hn
  have hlt : best x < best x :=
    (Finset.fold_max_lt _).2 ⟨h, fun k _ => lt_of_le_of_ne (le_best x k) fun e => hn ⟨k, e⟩⟩
  exact lt_irrefl _ hlt

/-- Standing at `c` what does not count either leaves the greatest score or makes it `c`, above the greatest that counts. -/
theorem pick_cases (c : EReal) : pick ok s c = pick ok s ⊥ ∨ (pick ok s c = c ∧ pick ok s ⊥ < c) := by
  by_cases hall : ∀ k, ok k
  · left
    unfold pick
    congr 1
    funext k
    rw [if_pos (hall k), if_pos (hall k)]
  have up : pick ok s c ≤ max (pick ok s ⊥) c := by
    refine best_le _ _ fun k => ?_
    by_cases h : ok k
    · rw [if_pos h]
      refine le_max_of_le_left ?_
      have := le_best (fun k => if ok k then s k else ⊥) k
      rwa [if_pos h] at this
    · rw [if_neg h]
      exact le_max_right _ _
  have low : pick ok s ⊥ ≤ pick ok s c := by
    refine best_le _ _ fun k => ?_
    by_cases h : ok k
    · have := le_best (fun k => if ok k then s k else c) k
      rw [if_pos h] at this ⊢
      exact this
    · rw [if_neg h]
      exact bot_le
  obtain ⟨k, hk⟩ := not_forall.1 hall
  have hc : c ≤ pick ok s c := by
    have := le_best (fun k => if ok k then s k else c) k
    rwa [if_neg hk] at this
  rcases lt_or_ge (pick ok s ⊥) c with h | h
  · exact Or.inr ⟨le_antisymm (up.trans (max_le h.le le_rfl)) hc, h⟩
  · exact Or.inl (le_antisymm (up.trans (max_le le_rfl h)) low)

theorem le_pick {k : Fin 256} (h : ok k) : s k ≤ pick ok s ⊥ := by
  have := le_best (fun k => if ok k then s k else ⊥) k
  rwa [if_pos h] at this

/-- Where no score that counts is above `⊥`, no key has weight. -/
theorem weight_none (h : pick ok s ⊥ = ⊥) (m : EReal) (k : Fin 256) : weight ok s m k = 0 := by
  unfold weight
  split_ifs with hk
  · rw [le_bot_iff.1 ((le_pick ok s hk).trans h.le), EReal.bot_sub, Ideal.exp_bot]
  · rfl

/-- The weight of a key, a real, where the greatest score that counts is real. -/
def realWeight (μ : ℝ) (k : Fin 256) : ℝ := (weight ok s (μ : EReal) k).toReal

theorem weight_real (μ r : ℝ) (h : pick ok s ⊥ = μ) (k : Fin 256) :
    0 ≤ realWeight ok s μ k ∧ weight ok s (r : EReal) k = ((Real.exp (μ - r) * realWeight ok s μ k : ℝ) : EReal) := by
  unfold realWeight weight
  split_ifs with hk
  · have hle := (le_pick ok s hk).trans h.le
    generalize s k = x at hle ⊢
    induction x with
    | bot => simp [EReal.bot_sub]
    | top => exact absurd hle (by simp)
    | coe x =>
      rw [← EReal.coe_sub, ← EReal.coe_sub, Ideal.exp_coe, Ideal.exp_coe, EReal.toReal_coe, ← Real.exp_add]
      refine ⟨(Real.exp_pos _).le, ?_⟩
      congr 2
      ring
  · simp

theorem weight_self (μ : ℝ) (h : pick ok s ⊥ = μ) (k : Fin 256) : weight ok s (μ : EReal) k = (realWeight ok s μ k : EReal) := by
  rw [(weight_real ok s μ μ h k).2, sub_self, Real.exp_zero, one_mul]

theorem coe_sum (w : Fin 256 → ℝ) : (∑ k, (w k : EReal)) = ((∑ k, w k : ℝ) : EReal) :=
  (map_sum (⟨⟨Real.toEReal, EReal.coe_zero⟩, EReal.coe_add⟩ : ℝ →+ EReal) w Finset.univ).symm

theorem mass_real (μ r : ℝ) (h : pick ok s ⊥ = μ) :
    mass ok s (r : EReal) = ((Real.exp (μ - r) * ∑ k, realWeight ok s μ k : ℝ) : EReal) := by
  unfold mass
  rw [Finset.mul_sum, ← coe_sum]
  exact Finset.sum_congr rfl fun k _ => (weight_real ok s μ r h k).2

theorem mass_self (μ : ℝ) (h : pick ok s ⊥ = μ) : mass ok s (μ : EReal) = ((∑ k, realWeight ok s μ k : ℝ) : EReal) := by
  rw [mass_real ok s μ μ h, sub_self, Real.exp_zero, one_mul]

/-- The key of the greatest score has weight one. -/
theorem mass_pos (μ : ℝ) (h : pick ok s ⊥ = μ) : 0 < ∑ k, realWeight ok s μ k := by
  obtain ⟨k, hk⟩ := best_hit (fun k => if ok k then s k else ⊥) (by
    show ⊥ < pick ok s ⊥
    rw [h]
    exact EReal.bot_lt_coe μ)
  have hk' : (if ok k then s k else ⊥) = (μ : EReal) := hk.trans h
  have hok : ok k := by
    by_contra hn
    rw [if_neg hn] at hk'
    exact EReal.bot_ne_coe μ hk'
  rw [if_pos hok] at hk'
  refine Finset.sum_pos' (fun k _ => (weight_real ok s μ μ h k).1) ⟨k, Finset.mem_univ k, ?_⟩
  unfold realWeight weight
  rw [if_pos hok, hk', ← EReal.coe_sub, Ideal.exp_coe, EReal.toReal_coe]
  exact Real.exp_pos _

/-- The weights are the same where the greatest score is taken with `c` standing for what does not count. -/
theorem share_pick (r : ℝ) (k : Fin 256) : share ok s (pick ok s r) k = share ok s (pick ok s ⊥) k := by
  rcases pick_cases ok s r with h | ⟨h, hlt⟩
  · rw [h]
  rw [h]
  generalize hM : pick ok s ⊥ = M at hlt
  induction M with
  | bot =>
    unfold share mass
    simp only [weight_none ok s hM]
  | top => exact absurd hlt (not_lt.2 le_top)
  | coe μ =>
    have hp := mass_pos ok s μ hM
    have he := Real.exp_pos (μ - r)
    unfold share
    rw [mass_real ok s μ r hM, mass_self ok s μ hM, (weight_real ok s μ r hM k).2, weight_self ok s μ hM k,
      Ideal.div_coe (mul_pos he hp).ne', Ideal.div_coe hp.ne', ← EReal.coe_mul, ← EReal.coe_mul]
    congr 1
    have := hp.ne'
    have := he.ne'
    field_simp

/-- So is the logarithm of the sum. -/
theorem logMass_pick (r : ℝ) : logMass ok s (pick ok s r) = logMass ok s (pick ok s ⊥) := by
  rcases pick_cases ok s r with h | ⟨h, hlt⟩
  · rw [h]
  rw [h]
  generalize hM : pick ok s ⊥ = M at hlt
  induction M with
  | bot =>
    have e : Ideal.log 0 = ⊥ := by
      rw [← EReal.coe_zero, Ideal.log_coe, if_pos le_rfl]
    unfold logMass mass
    simp only [weight_none ok s hM, Finset.sum_const_zero, e, EReal.add_bot]
  | top => exact absurd hlt (not_lt.2 le_top)
  | coe μ =>
    have hp := mass_pos ok s μ hM
    have he := Real.exp_pos (μ - r)
    unfold logMass
    rw [mass_real ok s μ r hM, mass_self ok s μ hM, Ideal.log_coe, Ideal.log_coe, if_neg (not_le.2 (mul_pos he hp)), if_neg (not_le.2 hp),
      Real.log_mul he.ne' hp.ne', Real.log_exp, ← EReal.coe_add, ← EReal.coe_add]
    congr 1
    ring

/-- Only the scores that count matter. -/
theorem pick_congr (s' : Fin 256 → EReal) (h : ∀ k, ok k → s k = s' k) : pick ok s ⊥ = pick ok s' ⊥ := by
  unfold pick
  congr 1
  funext k
  split_ifs with hk
  · exact h k hk
  · rfl

theorem weight_congr (s' : Fin 256 → EReal) (h : ∀ k, ok k → s k = s' k) (m : EReal) (k : Fin 256) : weight ok s m k = weight ok s' m k := by
  unfold weight
  split_ifs with hk
  · rw [h k hk]
  · rfl

theorem mass_congr (s' : Fin 256 → EReal) (h : ∀ k, ok k → s k = s' k) (m : EReal) : mass ok s m = mass ok s' m :=
  Finset.sum_congr rfl fun k _ => weight_congr ok s s' h m k

theorem mixed_congr (s' : Fin 256 → EReal) (h : ∀ k, ok k → s k = s' k) (v : Fin 256 → EReal) (m : EReal) :
    mixed ok s v m = mixed ok s' v m := by
  unfold mixed share
  simp only [weight_congr ok s s' h, mass_congr ok s s' h]

theorem exp_nonneg (x : EReal) : 0 ≤ Ideal.exp x := by
  induction x with
  | bot => simp
  | top => simp
  | coe x => exact EReal.coe_nonneg.2 (Real.exp_pos x).le

theorem weight_nonneg (m : EReal) (k : Fin 256) : 0 ≤ weight ok s m k := by
  unfold weight
  split_ifs
  · exact exp_nonneg _
  · exact le_rfl

/-- A sum of products with `⊥` is `⊥`, zero or `⊤`, so that it is its own double. -/
theorem bot_sum_double {n : ℕ} (u : Fin n → EReal) : (∑ k, ⊥ * u k) + ∑ k, ⊥ * u k = ∑ k, ⊥ * u k := by
  have h : ∀ t : Finset (Fin n), (∑ k ∈ t, ⊥ * u k) = ⊥ ∨ (∑ k ∈ t, ⊥ * u k) = 0 ∨ (∑ k ∈ t, ⊥ * u k) = ⊤ := by
    intro t
    induction t using Finset.induction_on with
    | empty => simp
    | insert a t ha ih =>
      rw [Finset.sum_insert ha]
      have hx : ⊥ * u a = ⊥ ∨ ⊥ * u a = 0 ∨ ⊥ * u a = ⊤ := by
        rcases lt_trichotomy (u a) 0 with h | h | h
        · exact Or.inr (Or.inr (EReal.bot_mul_of_neg h))
        · exact Or.inr (Or.inl (by rw [h, mul_zero]))
        · exact Or.inl (EReal.bot_mul_of_pos h)
      rcases hx with hx | hx | hx <;> rcases ih with ih | ih | ih <;> rw [hx, ih] <;> simp
  rcases h Finset.univ with h | h | h <;> rw [h] <;> simp

/-- Values at the first 128 keys, none of which counts, may be the values of the other keys again instead of zeros. -/
theorem mixed_first (m : EReal) (v v' : Fin 256 → EReal) (u : Fin 128 → EReal) (hok : ∀ k : Fin 128, ¬ok (Fin.castAdd 128 k))
    (h0 : ∀ k : Fin 128, v (Fin.castAdd 128 k) = u k) (h1 : ∀ k : Fin 128, v (Fin.natAdd 128 k) = u k)
    (h0' : ∀ k : Fin 128, v' (Fin.castAdd 128 k) = 0) (h1' : ∀ k : Fin 128, v' (Fin.natAdd 128 k) = u k) :
    mixed ok s v m = mixed ok s v' m := by
  unfold mixed share
  rw [Fin.sum_univ_add (a := 128) (b := 128), Fin.sum_univ_add (a := 128) (b := 128)]
  simp only [h0, h1, h0', h1', mul_zero, Finset.sum_const_zero, zero_add]
  have hw : ∀ k : Fin 128, weight ok s m (Fin.castAdd 128 k) = 0 := fun k => if_neg (hok k)
  simp only [hw]
  by_cases hd : mass ok s m = 0
  · have hz : ∀ k, weight ok s m k = 0 := fun k =>
      (Finset.sum_eq_zero_iff_of_nonneg fun k _ => weight_nonneg ok s m k).1 hd k (Finset.mem_univ k)
    have hb : Ideal.div 0 0 = ⊥ := by simp [Ideal.div]
    simp only [hz, hd, hb]
    exact bot_sum_double u
  · have hb : Ideal.div 0 (mass ok s m) = 0 := by rw [Ideal.div, if_neg hd, zero_mul]
    simp only [hb, zero_mul, Finset.sum_const_zero, zero_add]

end Cert.BandMath

end
-- ==== Proof.Proj.Band.lean ====
/- Dilated attention's first group: what the kernel leaves in its two results. -/
module

public import proofs.«01_k».proof.Defs
public import proofs.«01_k».proof.Proof.Proj.BandMath
public import proofs.«01_k».proof.Proof.Gen.BandKernel.Frame
public import proofs.«01_k».proof.Proof.Gen.BandKernelIdeal.Value

@[expose] public section

set_option maxRecDepth 1696

noncomputable section

namespace Cert.BandKernelIdeal.Proj

open Cert.BandKernelIdeal Cert.BandKernelIdeal.Gen Cert.BandMath
open Idealize.ShloMosaic Idealize.ShloMosaic.TcCoe Idealize.ShloMosaic.Tactic

/-- Key `k` of the 256 before query `q` of block `n`: the last 128 of them are the block's own, the others the block's before it. -/
def counts (n q : ℕ) (k : Fin 256) : Prop := (q ≤ k.val ∧ k.val ≤ 128 + q) ∧ (0 < n ∨ 128 ≤ k.val)

instance (n q : ℕ) : DecidablePred (counts n q) := fun k => inferInstanceAs (Decidable ((q ≤ k.val ∧ k.val ≤ 128 + q) ∧ (0 < n ∨ 128 ≤ k.val)))

/-- What the kernel writes for a score that does not count. -/
def floor : EReal := Ideal.ofBits .f32 0xF149F2CA#32

/-- It is a real number. -/
theorem floor_real : ∃ r : ℝ, floor = r := by
  unfold floor Ideal.ofBits Ideal.ieee
  simp only [show ((0xF149F2CA#32 : BitVec 32).extractLsb' 23 8).toNat = 226 from by decide]
  exact ⟨_, rfl⟩

/-- A query's place after a key, as the programs compute it. -/
theorem steps_toInt {q k : ℕ} (hq : q < 128) (hk : k < 256) :
    (IntOp.subi (IntOp.addi 128#32 (BitVec.ofNat 32 q)) (BitVec.ofNat 32 k)).toInt = 128 + (q : ℤ) - k := by
  have hq' : (BitVec.ofNat 32 q).toInt = (q : ℤ) := WordCmp.toInt_ofNat_of_lt (by omega)
  have hk' : (BitVec.ofNat 32 k).toInt = (k : ℤ) := WordCmp.toInt_ofNat_of_lt (by omega)
  have hc : (128#32 : BitVec 32).toInt = 128 := rfl
  have hi : (128 + (q : ℤ)).bmod (2 ^ 32) = 128 + (q : ℤ) := Int.bmod_eq_of_le (by omega) (by omega)
  unfold IntOp.subi IntOp.addi
  rw [BitVec.toInt_sub, BitVec.toInt_add, hq', hk', hc, hi, Int.bmod_eq_of_le (by omega) (by omega)]

theorem select_bool {α : Type} (p : Prop) [Decidable p] (a b : α) : Scalar.select (BitVec.ofBool (decide p)) a b = if p then a else b := by
  by_cases h : p <;> simp only [h, decide_true, decide_false, if_true, if_false] <;> rfl

theorem mask_apply (i : grid0.Coords) (q : Fin 128) (k : Fin 256) : k0_pay3 i (ix2 q k) = BitVec.ofBool (decide (counts (i 2).val q.val k)) := by
  have hn : (i 2).val < 32 := (i 2).isLt
  unfold counts
  pointwise [k0_pay3]
  have hs : Scalar.cmpi CmpIPredicate.sgt (BitVec.ofNat 32 (i 2).val) 0#32 = BitVec.ofBool (decide (0 < (i 2).val)) :=
    WordCmp.cmpi_sgt_ofNat (w := 32) (b := 0) (by omega) (by omega)
  have hk : (BitVec.ofNat 32 k.val).toInt = (k.val : ℤ) := WordCmp.toInt_ofNat_of_lt (by omega)
  have h0 : (0#32 : BitVec 32).toInt = 0 := rfl
  have hc : (128#32 : BitVec 32).toInt = 128 := rfl
  have hf : (if 0 < (i 2).val then 0#32 else 128#32 : BitVec 32).toInt = if 0 < (i 2).val then 0 else 128 := by
    split_ifs <;> rfl
  rw [hs, select_bool, WordCmp.cmpi_sge_eq, WordCmp.cmpi_sle_eq, WordCmp.cmpi_sge_eq, steps_toInt q.isLt k.isLt, hk, h0, hc, hf,
    WordCmp.andi_ofBool, WordCmp.andi_ofBool, ← Bool.decide_and, ← Bool.decide_and]
  congr 1
  refine decide_eq_decide.2 ?_
  split_ifs <;> omega

/-- One head at a grid point, from its queries and the keys and values of the block before and of its own. -/
def scores (mk : IVec S128x256 1) (q kp kc : Vec Ideal S1x128x128 .f32) : FVec Ideal S128x256 .f32 := k0_pay8 mk q kp kc

def headOut (mk : IVec S128x256 1) (q kp kc vp vc : Vec Ideal S1x128x128 .f32) : FVec Ideal S1x128x128 .f32 :=
  k0_pay1 (k0_pay18 mk (scores mk q kp kc) (k0_pay12 (scores mk q kp kc))) (k0_pay24 mk (scores mk q kp kc) (k0_pay12 (scores mk q kp kc))) (k0_pay44 vp vc)

def headLog (mk : IVec S128x256 1) (q kp kc : Vec Ideal S1x128x128 .f32) : FVec Ideal S1x128x128 .f32 :=
  k0_pay2 (k0_pay12 (scores mk q kp kc)) (k0_pay24 mk (scores mk q kp kc) (k0_pay12 (scores mk q kp kc)))

/-- Row `k` of two blocks of 128 rows, one after the other. -/
def two (a b : Vec Ideal S1x128x128 .f32) (k : Fin 256) (d : Fin 128) : EReal :=
  if h : k.val < 128 then a (ix3 0 ⟨k.val, h⟩ d) else b (ix3 0 ⟨k.val - 128, by omega⟩ d)

/-- The products of a query with the keys. -/
def dots (q kp kc : Vec Ideal S1x128x128 .f32) (r : Fin 128) (k : Fin 256) : EReal := ∑ d : Fin 128, q (ix3 0 r d) * two kp kc k d

theorem dot_apply (mk : IVec S128x256 1) (q kp kc : Vec Ideal S1x128x128 .f32) (r : Fin 128) (k : Fin 256) :
    scores mk q kp kc (ix2 r k) = Scalar.select (mk (ix2 r k)) (dots q kp kc r k) floor := by
  unfold dots two floor
  pointwise [scores, k0_pay8]

theorem bot_word : Ideal.ofBits .f32 0xFF800000#32 = ⊥ := by
  simp [Ideal.ofBits, Ideal.ieee]

theorem best_apply (S : FVec Ideal S128x256 .f32) (r : Fin 128) : k0_pay12 S (ix2 r 0) = best fun k => S (ix2 r k) := by
  unfold best
  rw [← bot_word]
  pointwise [k0_pay12]

theorem weight_apply (mk : IVec S128x256 1) (S : FVec Ideal S128x256 .f32) (M : FVec Ideal S128x1 .f32) (r : Fin 128) (k : Fin 256) :
    k0_pay18 mk S M (ix2 r k) = Scalar.select (mk (ix2 r k)) (Ideal.exp (S (ix2 r k) - M (ix2 r 0))) 0 := by
  pointwise [k0_pay18]

theorem mass_apply (mk : IVec S128x256 1) (S : FVec Ideal S128x256 .f32) (M : FVec Ideal S128x1 .f32) (r : Fin 128) :
    k0_pay24 mk S M (ix2 r 0) = ∑ k : Fin 256, k0_pay18 mk S M (ix2 r k) := by
  pointwise [k0_pay24]

theorem values_apply (vp vc : Vec Ideal S1x128x128 .f32) (k : Fin 256) (d : Fin 128) : k0_pay44 vp vc (ix2 k d) = two vp vc k d := by
  unfold two
  pointwise [k0_pay44]

theorem mixed_apply (w : FVec Ideal S128x256 .f32) (z : FVec Ideal S128x1 .f32) (v : FVec Ideal S256x128 .f32) (r d : Fin 128) :
    k0_pay1 w z v (ix3 0 r d) = ∑ k : Fin 256, Ideal.div (w (ix2 r k)) (z (ix2 r 0)) * v (ix2 k d) := by
  pointwise [k0_pay1]

theorem log_apply (M z : FVec Ideal S128x1 .f32) (r d : Fin 128) : k0_pay2 M z (ix3 0 r d) = M (ix2 r 0) + Ideal.log (z (ix2 r 0)) := by
  pointwise [k0_pay2]

section Head

variable (mk : IVec S128x256 1) (ok : Fin 128 → Fin 256 → Prop) [∀ r, DecidablePred (ok r)]
  (hmk : ∀ r k, mk (ix2 r k) = BitVec.ofBool (decide (ok r k))) (q kp kc vp vc : Vec Ideal S1x128x128 .f32)

include hmk

theorem head_pick (r : Fin 128) : k0_pay12 (scores mk q kp kc) (ix2 r 0) = pick (ok r) (dots q kp kc r) floor := by
  rw [best_apply]
  unfold pick
  congr 1
  funext k
  rw [dot_apply, hmk, select_bool]

theorem head_weight (r : Fin 128) (k : Fin 256) :
    k0_pay18 mk (scores mk q kp kc) (k0_pay12 (scores mk q kp kc)) (ix2 r k)
      = weight (ok r) (dots q kp kc r) (pick (ok r) (dots q kp kc r) floor) k := by
  rw [weight_apply, head_pick mk ok hmk, hmk, select_bool, dot_apply, hmk, select_bool]
  unfold weight
  split_ifs <;> rfl

theorem head_mass (r : Fin 128) :
    k0_pay24 mk (scores mk q kp kc) (k0_pay12 (scores mk q kp kc)) (ix2 r 0)
      = mass (ok r) (dots q kp kc r) (pick (ok r) (dots q kp kc r) floor) := by
  rw [mass_apply]
  exact Finset.sum_congr rfl fun k _ => head_weight mk ok hmk q kp kc r k

theorem head_out (r d : Fin 128) :
    headOut mk q kp kc vp vc (ix3 0 r d) = mixed (ok r) (dots q kp kc r) (fun k => two vp vc k d) (pick (ok r) (dots q kp kc r) ⊥) := by
  unfold headOut
  rw [mixed_apply, head_mass mk ok hmk]
  simp only [head_weight mk ok hmk, values_apply]
  obtain ⟨c, hc⟩ := floor_real
  unfold mixed
  refine Finset.sum_congr rfl fun k _ => ?_
  rw [← share_pick (ok r) (dots q kp kc r) c k, ← hc]
  rfl

theorem head_log (r d : Fin 128) :
    headLog mk q kp kc (ix3 0 r d) = logMass (ok r) (dots q kp kc r) (pick (ok r) (dots q kp kc r) ⊥) := by
  unfold headLog
  rw [log_apply, head_mass mk ok hmk, head_pick mk ok hmk]
  obtain ⟨c, hc⟩ := floor_real
  rw [← logMass_pick (ok r) (dots q kp kc r) c, ← hc]
  rfl

end Head

/-- The lanes of one head. -/
def slab (x : Vec Ideal S1x128x768 .f32) (h : Fin 6) : Vec Ideal S1x128x128 .f32 := fun y => x (ix3 0 (y 1) ⟨128 * h.val + (y 2).val, by have : (y 2).val < 128 := (y 2).isLt; omega⟩)

def headOf (y : Fin 768) : Fin 6 := ⟨y.val / 128, by omega⟩
def laneOf (y : Fin 768) : Fin 128 := ⟨y.val % 128, by omega⟩

theorem ld_slab (x : Vec Ideal S1x128x768 .f32) (o : ℕ) (inb) (h : Fin 6) (e : o = 128 * h.val) :
    View.ld x (Rect.unit (s := S1x128x768) ![0, 0, o] S1x128x128.size inb) = slab x h := by
  subst e
  funext y
  refine View.ld_unit_apply_of _ _ _ _ _ _ (fun a => ?_)
  fin_cases a
  · show (0 : ℕ) = 0 + (y 0).val
    have : (y 0).val < 1 := (y 0).isLt
    omega
  · show (y 1).val = 0 + (y 1).val
    omega
  · rfl

theorem out5_canon (i : grid0.Coords) (x0 x1 x2 x3 x4 : Vec Ideal S1x128x768 .f32) :
    out0_5 i x0 x1 x2 x3 x4 = View.canon [⟨r0_5, headOut (k0_pay3 i) (View.ld x0 r0_5) (View.ld x2 r0_5) (View.ld x1 r0_5) (View.ld x4 r0_5) (View.ld x3 r0_5)⟩,
      ⟨r0_4, headOut (k0_pay3 i) (View.ld x0 r0_4) (View.ld x2 r0_4) (View.ld x1 r0_4) (View.ld x4 r0_4) (View.ld x3 r0_4)⟩,
      ⟨r0_3, headOut (k0_pay3 i) (View.ld x0 r0_3) (View.ld x2 r0_3) (View.ld x1 r0_3) (View.ld x4 r0_3) (View.ld x3 r0_3)⟩,
      ⟨r0_2, headOut (k0_pay3 i) (View.ld x0 r0_2) (View.ld x2 r0_2) (View.ld x1 r0_2) (View.ld x4 r0_2) (View.ld x3 r0_2)⟩,
      ⟨r0_1, headOut (k0_pay3 i) (View.ld x0 r0_1) (View.ld x2 r0_1) (View.ld x1 r0_1) (View.ld x4 r0_1) (View.ld x3 r0_1)⟩,
      ⟨r0_0, headOut (k0_pay3 i) (View.ld x0 r0_0) (View.ld x2 r0_0) (View.ld x1 r0_0) (View.ld x4 r0_0) (View.ld x3 r0_0)⟩] := by
  rfl

theorem out6_canon (i : grid0.Coords) (x0 x1 x2 x3 x4 : Vec Ideal S1x128x768 .f32) :
    out0_6 i x0 x1 x2 x3 x4 = View.canon [⟨r0_5, headLog (k0_pay3 i) (View.ld x0 r0_5) (View.ld x2 r0_5) (View.ld x1 r0_5)⟩,
      ⟨r0_4, headLog (k0_pay3 i) (View.ld x0 r0_4) (View.ld x2 r0_4) (View.ld x1 r0_4)⟩,
      ⟨r0_3, headLog (k0_pay3 i) (View.ld x0 r0_3) (View.ld x2 r0_3) (View.ld x1 r0_3)⟩,
      ⟨r0_2, headLog (k0_pay3 i) (View.ld x0 r0_2) (View.ld x2 r0_2) (View.ld x1 r0_2)⟩,
      ⟨r0_1, headLog (k0_pay3 i) (View.ld x0 r0_1) (View.ld x2 r0_1) (View.ld x1 r0_1)⟩,
      ⟨r0_0, headLog (k0_pay3 i) (View.ld x0 r0_0) (View.ld x2 r0_0) (View.ld x1 r0_0)⟩] := by
  rfl

/-- One head's results, where its block is loaded and stored at lane `o`. -/
theorem out_piece (mk : IVec S128x256 1) (x0 x1 x2 x3 x4 : Vec Ideal S1x128x768 .f32) (r : Fin 128) (y : Fin 768) (o : ℕ) (inb) (h : Fin 6)
    (e : o = 128 * h.val) (x : S1x128x128.Idx) (e1 : r.val = (x 1).val) (e2 : y.val = o + (x 2).val) :
    headOut mk (View.ld x0 (Rect.unit (s := S1x128x768) ![0, 0, o] S1x128x128.size inb)) (View.ld x2 (Rect.unit (s := S1x128x768) ![0, 0, o] S1x128x128.size inb))
        (View.ld x1 (Rect.unit (s := S1x128x768) ![0, 0, o] S1x128x128.size inb)) (View.ld x4 (Rect.unit (s := S1x128x768) ![0, 0, o] S1x128x128.size inb))
        (View.ld x3 (Rect.unit (s := S1x128x768) ![0, 0, o] S1x128x128.size inb)) x
      = headOut mk (slab x0 (headOf y)) (slab x2 (headOf y)) (slab x1 (headOf y)) (slab x4 (headOf y)) (slab x3 (headOf y)) (ix3 0 r (laneOf y)) := by
  have h2 : (x 2).val < 128 := (x 2).isLt
  have eh : headOf y = h := Fin.ext (by unfold headOf; dsimp only; omega)
  have ex : x = ix3 0 r (laneOf y) := by
    rw [eq_ix3 x]
    congr 1
    · exact Subsingleton.elim (α := Fin 1) _ _
    · exact Fin.ext e1.symm
    · exact Fin.ext (by unfold laneOf; dsimp only; omega)
  rw [eh, ex]
  simp only [ld_slab _ o inb h e]

theorem log_piece (mk : IVec S128x256 1) (x0 x1 x2 : Vec Ideal S1x128x768 .f32) (r : Fin 128) (y : Fin 768) (o : ℕ) (inb) (h : Fin 6)
    (e : o = 128 * h.val) (x : S1x128x128.Idx) (e1 : r.val = (x 1).val) (e2 : y.val = o + (x 2).val) :
    headLog mk (View.ld x0 (Rect.unit (s := S1x128x768) ![0, 0, o] S1x128x128.size inb)) (View.ld x2 (Rect.unit (s := S1x128x768) ![0, 0, o] S1x128x128.size inb))
        (View.ld x1 (Rect.unit (s := S1x128x768) ![0, 0, o] S1x128x128.size inb)) x
      = headLog mk (slab x0 (headOf y)) (slab x2 (headOf y)) (slab x1 (headOf y)) (ix3 0 r (laneOf y)) := by
  have h2 : (x 2).val < 128 := (x 2).isLt
  have eh : headOf y = h := Fin.ext (by unfold headOf; dsimp only; omega)
  have ex : x = ix3 0 r (laneOf y) := by
    rw [eq_ix3 x]
    congr 1
    · exact Subsingleton.elim (α := Fin 1) _ _
    · exact Fin.ext e1.symm
    · exact Fin.ext (by unfold laneOf; dsimp only; omega)
  rw [eh, ex]
  simp only [ld_slab _ o inb h e]

theorem out5_apply (i : grid0.Coords) (x0 x1 x2 x3 x4 : Vec Ideal S1x128x768 .f32) (r : Fin 128) (y : Fin 768) :
    out0_5 i x0 x1 x2 x3 x4 (ix3 0 r y) = headOut (k0_pay3 i) (slab x0 (headOf y)) (slab x2 (headOf y)) (slab x1 (headOf y)) (slab x4 (headOf y))
      (slab x3 (headOf y)) (ix3 0 r (laneOf y)) := by
  rw [out5_canon]
  canon_tiles x h
  · exact out_piece _ _ _ _ _ _ r y 640 _ 5 rfl x h1 h2
  · exact out_piece _ _ _ _ _ _ r y 512 _ 4 rfl x h1 h2
  · exact out_piece _ _ _ _ _ _ r y 384 _ 3 rfl x h1 h2
  · exact out_piece _ _ _ _ _ _ r y 256 _ 2 rfl x h1 h2
  · exact out_piece _ _ _ _ _ _ r y 128 _ 1 rfl x h1 h2
  · exact out_piece _ _ _ _ _ _ r y 0 _ 0 rfl x h1 (h2.trans (Nat.zero_add _).symm)

theorem out6_apply (i : grid0.Coords) (x0 x1 x2 x3 x4 : Vec Ideal S1x128x768 .f32) (r : Fin 128) (y : Fin 768) :
    out0_6 i x0 x1 x2 x3 x4 (ix3 0 r y) = headLog (k0_pay3 i) (slab x0 (headOf y)) (slab x2 (headOf y)) (slab x1 (headOf y)) (ix3 0 r (laneOf y)) := by
  rw [out6_canon]
  canon_tiles x h
  · exact log_piece _ _ _ _ r y 640 _ 5 rfl x h1 h2
  · exact log_piece _ _ _ _ r y 512 _ 4 rfl x h1 h2
  · exact log_piece _ _ _ _ r y 384 _ 3 rfl x h1 h2
  · exact log_piece _ _ _ _ r y 256 _ 2 rfl x h1 h2
  · exact log_piece _ _ _ _ r y 128 _ 1 rfl x h1 h2
  · exact log_piece _ _ _ _ r y 0 _ 0 rfl x h1 (h2.trans (Nat.zero_add _).symm)

theorem index_at : ∀ t : Fin grid0.N, (grid0.coords t 2).val = t.val % 32 ∧ win0_0.index t = ![t.val / 32, t.val % 32, 0]
    ∧ win0_1.index t = ![t.val / 32, t.val % 32, 0] ∧ win0_2.index t = ![t.val / 32, t.val % 32 - 1, 0]
    ∧ win0_3.index t = ![t.val / 32, t.val % 32, 0] ∧ win0_4.index t = ![t.val / 32, t.val % 32 - 1, 0]
    ∧ win0_5.index t = ![t.val / 32, t.val % 32, 0] ∧ win0_6.index t = ![t.val / 32, t.val % 32, 0] := by
  decide +kernel

variable (m : (ℓ : Loc nD τ sig) → Buf (Elt Ideal) ℓ)

/-- The arrays the program is given: queries, keys and values. -/
def qArr (c : Dev nD) : (⟨3, ![8, 4096, 2304]⟩ : Shape).Idx → EReal := m ((c : Thread nD τ).loc main_arg0)
def kArr (c : Dev nD) : (⟨3, ![8, 4096, 2304]⟩ : Shape).Idx → EReal := m ((c : Thread nD τ).loc main_arg1)
def vArr (c : Dev nD) : (⟨3, ![8, 4096, 2304]⟩ : Shape).Idx → EReal := m ((c : Thread nD τ).loc main_arg2)

/-- A point's batch and block of rows, the block before, and the row of the arrays that row `r` of block `n` is. -/
def batchOf (t : Fin cfg0.N) : Fin 8 := ⟨t.val / 32, by have : t.val < 256 := t.isLt; omega⟩
def blockOf (t : Fin cfg0.N) : Fin 32 := ⟨t.val % 32, by omega⟩
def before (n : Fin 32) : Fin 32 := ⟨n.val - 1, by omega⟩
def rowIn (n : Fin 32) (r : Fin 128) : Fin 4096 := ⟨128 * n.val + r.val, by omega⟩
def wide (k : Fin 768) : Fin 2304 := ⟨k.val, by omega⟩

theorem q_block (c : Dev nD) (t : Fin cfg0.N) (r : Fin 128) (k : Fin 768) :
    iblk m c 0 t (ix3 0 r k) = qArr m c (ix3 (batchOf t) (rowIn (blockOf t) r) (wide k)) := by
  have ht : t.val < 256 := t.isLt
  unfold qArr batchOf rowIn blockOf wide
  blk_ext! [iblk, V, index_at t]

theorem k_block (c : Dev nD) (t : Fin cfg0.N) (r : Fin 128) (k : Fin 768) :
    iblk m c 1 t (ix3 0 r k) = kArr m c (ix3 (batchOf t) (rowIn (blockOf t) r) (wide k)) := by
  have ht : t.val < 256 := t.isLt
  unfold kArr batchOf rowIn blockOf wide
  blk_ext! [iblk, V, index_at t]

theorem kp_block (c : Dev nD) (t : Fin cfg0.N) (r : Fin 128) (k : Fin 768) :
    iblk m c 2 t (ix3 0 r k) = kArr m c (ix3 (batchOf t) (rowIn (before (blockOf t)) r) (wide k)) := by
  have ht : t.val < 256 := t.isLt
  unfold kArr batchOf rowIn before blockOf wide
  blk_ext! [iblk, V, index_at t]

theorem v_block (c : Dev nD) (t : Fin cfg0.N) (r : Fin 128) (k : Fin 768) :
    iblk m c 3 t (ix3 0 r k) = vArr m c (ix3 (batchOf t) (rowIn (blockOf t) r) (wide k)) := by
  have ht : t.val < 256 := t.isLt
  unfold vArr batchOf rowIn blockOf wide
  blk_ext! [iblk, V, index_at t]

theorem vp_block (c : Dev nD) (t : Fin cfg0.N) (r : Fin 128) (k : Fin 768) :
    iblk m c 4 t (ix3 0 r k) = vArr m c (ix3 (batchOf t) (rowIn (before (blockOf t)) r) (wide k)) := by
  have ht : t.val < 256 := t.isLt
  unfold vArr batchOf rowIn before blockOf wide
  blk_ext! [iblk, V, index_at t]

/-- A head's lane as a lane of the six heads. -/
def lane (h : Fin 6) (d : Fin 128) : Fin 768 := ⟨128 * h.val + d.val, by omega⟩

theorem lane_of (y : Fin 768) : lane (headOf y) (laneOf y) = y := Fin.ext (by unfold lane headOf laneOf; dsimp only; omega)

/-- Key or value `k` of the 256 before block `n`'s queries, at a head's lane. -/
def keyAt (K : (⟨3, ![8, 4096, 2304]⟩ : Shape).Idx → EReal) (b : Fin 8) (n : Fin 32) (h : Fin 6) (k : Fin 256) (d : Fin 128) : EReal :=
  if e : k.val < 128 then K (ix3 b (rowIn (before n) ⟨k.val, e⟩) (wide (lane h d))) else K (ix3 b (rowIn n ⟨k.val - 128, by omega⟩) (wide (lane h d)))

/-- A query's products with the keys. -/
def scoreAt (Q K : (⟨3, ![8, 4096, 2304]⟩ : Shape).Idx → EReal) (b : Fin 8) (n : Fin 32) (h : Fin 6) (r : Fin 128) (k : Fin 256) : EReal :=
  ∑ d : Fin 128, Q (ix3 b (rowIn n r) (wide (lane h d))) * keyAt K b n h k d

/-- The two results at a batch, block, row, head and lane. -/
def outAt (Q K V : (⟨3, ![8, 4096, 2304]⟩ : Shape).Idx → EReal) (b : Fin 8) (n : Fin 32) (r : Fin 128) (h : Fin 6) (d : Fin 128) : EReal :=
  mixed (counts n r) (scoreAt Q K b n h r) (fun k => keyAt V b n h k d) (pick (counts n r) (scoreAt Q K b n h r) ⊥)

def logAt (Q K : (⟨3, ![8, 4096, 2304]⟩ : Shape).Idx → EReal) (b : Fin 8) (n : Fin 32) (r : Fin 128) (h : Fin 6) : EReal :=
  logMass (counts n r) (scoreAt Q K b n h r) (pick (counts n r) (scoreAt Q K b n h r) ⊥)

/-- A row's block, and its place there. -/
def blockRow (t : Fin 4096) : Fin 32 := ⟨t.val / 128, by omega⟩
def inRow (t : Fin 4096) : Fin 128 := ⟨t.val % 128, by omega⟩

theorem blockRow_rowIn (n : Fin 32) (r : Fin 128) : blockRow (rowIn n r) = n := Fin.ext (by unfold blockRow rowIn; dsimp only; omega)
theorem inRow_rowIn (n : Fin 32) (r : Fin 128) : inRow (rowIn n r) = r := Fin.ext (by unfold inRow rowIn; dsimp only; omega)

theorem keys_eq (c : Dev nD) (t : Fin cfg0.N) (h : Fin 6) (k : Fin 256) (d : Fin 128) :
    two (slab (iblk m c 2 t) h) (slab (iblk m c 1 t) h) k d = keyAt (kArr m c) (batchOf t) (blockOf t) h k d := by
  unfold two keyAt
  split_ifs with e
  · exact kp_block m c t _ (lane h d)
  · exact k_block m c t _ (lane h d)

theorem values_eq (c : Dev nD) (t : Fin cfg0.N) (h : Fin 6) (k : Fin 256) (d : Fin 128) :
    two (slab (iblk m c 4 t) h) (slab (iblk m c 3 t) h) k d = keyAt (vArr m c) (batchOf t) (blockOf t) h k d := by
  unfold two keyAt
  split_ifs with e
  · exact vp_block m c t _ (lane h d)
  · exact v_block m c t _ (lane h d)

theorem dots_eq (c : Dev nD) (t : Fin cfg0.N) (h : Fin 6) (r : Fin 128) :
    dots (slab (iblk m c 0 t) h) (slab (iblk m c 2 t) h) (slab (iblk m c 1 t) h) r = scoreAt (qArr m c) (kArr m c) (batchOf t) (blockOf t) h r := by
  funext k
  unfold dots scoreAt
  refine Finset.sum_congr rfl fun d _ => ?_
  rw [keys_eq]
  exact congrArg (· * _) (q_block m c t r (lane h d))

theorem mask_at (t : Fin cfg0.N) (r : Fin 128) (k : Fin 256) :
    k0_pay3 (grid0.coords t) (ix2 r k) = BitVec.ofBool (decide (counts (blockOf t) r k)) := by
  have e : (grid0.coords t 2).val = (blockOf t).val := (index_at t).1
  rw [mask_apply, e]

theorem out_block (c : Dev nD) (t : Fin cfg0.N) (r : Fin 128) (y : Fin 768) :
    out0_5 (grid0.coords t) (iblk m c 0 t) (iblk m c 1 t) (iblk m c 2 t) (iblk m c 3 t) (iblk m c 4 t) (ix3 0 r y)
      = outAt (qArr m c) (kArr m c) (vArr m c) (batchOf t) (blockOf t) r (headOf y) (laneOf y) := by
  refine (out5_apply _ (iblk m c 0 t) (iblk m c 1 t) (iblk m c 2 t) (iblk m c 3 t) (iblk m c 4 t) r y).trans ?_
  rw [head_out (k0_pay3 (grid0.coords t)) (fun r => counts (blockOf t) r) (mask_at t)]
  unfold outAt
  rw [dots_eq]
  congr 1
  funext k
  exact values_eq m c t _ k _

theorem log_block (c : Dev nD) (t : Fin cfg0.N) (r : Fin 128) (y : Fin 768) :
    out0_6 (grid0.coords t) (iblk m c 0 t) (iblk m c 1 t) (iblk m c 2 t) (iblk m c 3 t) (iblk m c 4 t) (ix3 0 r y)
      = logAt (qArr m c) (kArr m c) (batchOf t) (blockOf t) r (headOf y) := by
  refine (out6_apply _ (iblk m c 0 t) (iblk m c 1 t) (iblk m c 2 t) (iblk m c 3 t) (iblk m c 4 t) r y).trans ?_
  rw [head_log (k0_pay3 (grid0.coords t)) (fun r => counts (blockOf t) r) (mask_at t)]
  unfold logAt
  rw [dots_eq]

/-- The result arrays. -/
theorem out_array (c : Dev nD) : (dats m 0 c).arrAt 5 cfg0.N
    = fun y => outAt (qArr m c) (kArr m c) (vArr m c) (y 0) (blockRow (y 1)) (inRow (y 1)) (headOf (y 2)) (laneOf (y 2)) := by
  refine (dats m 0 c).arrAt_eq_of_covers 5 _ (by decide +kernel) fun t hf y => ?_
  blk_simp
  rw [after0_5]
  obtain ⟨r, k, rfl⟩ : ∃ (r : Fin 128) (k : Fin 768), y = ix3 0 r k :=
    ⟨y 1, y 2, (eq_ix3 y).trans (by congr 1; exact Subsingleton.elim (α := Fin 1) _ _)⟩
  have e : (win0_5.blk t).view.emb (ix3 0 r k) = ix3 (batchOf t) (rowIn (blockOf t) r) k := by
    have ht : t.val < 256 := t.isLt
    unfold rowIn blockOf batchOf
    blk_ext! [index_at t]
  rw [out_block]
  refine Eq.trans ?_ (congrArg (fun y : S8x4096x768.Idx => outAt (qArr m c) (kArr m c) (vArr m c) (y 0) (blockRow (y 1)) (inRow (y 1)) (headOf (y 2)) (laneOf (y 2))) e.symm)
  show _ = outAt _ _ _ (batchOf t) (blockRow (rowIn (blockOf t) r)) (inRow (rowIn (blockOf t) r)) (headOf k) (laneOf k)
  rw [blockRow_rowIn, inRow_rowIn]

theorem log_array (c : Dev nD) : (dats m 0 c).arrAt 6 cfg0.N
    = fun y => logAt (qArr m c) (kArr m c) (y 0) (blockRow (y 1)) (inRow (y 1)) (headOf (y 2)) := by
  refine (dats m 0 c).arrAt_eq_of_covers 6 _ (by decide +kernel) fun t hf y => ?_
  blk_simp
  rw [after0_6]
  obtain ⟨r, k, rfl⟩ : ∃ (r : Fin 128) (k : Fin 768), y = ix3 0 r k :=
    ⟨y 1, y 2, (eq_ix3 y).trans (by congr 1; exact Subsingleton.elim (α := Fin 1) _ _)⟩
  have e : (win0_6.blk t).view.emb (ix3 0 r k) = ix3 (batchOf t) (rowIn (blockOf t) r) k := by
    have ht : t.val < 256 := t.isLt
    unfold rowIn blockOf batchOf
    blk_ext! [index_at t]
  rw [log_block]
  refine Eq.trans ?_ (congrArg (fun y : S8x4096x768.Idx => logAt (qArr m c) (kArr m c) (y 0) (blockRow (y 1)) (inRow (y 1)) (headOf (y 2))) e.symm)
  show _ = logAt _ _ (batchOf t) (blockRow (rowIn (blockOf t) r)) (inRow (rowIn (blockOf t) r)) (headOf k)
  rw [blockRow_rowIn, inRow_rowIn]

end Cert.BandKernelIdeal.Proj

end
-- ==== Proof.Proj.BandReference.lean ====
/- Dilated attention's first group: what the reference returns, and that it is what the kernel leaves. -/
module

public import proofs.«01_k».proof.Defs
public import proofs.«01_k».proof.Proof.Proj.Band
public import proofs.«01_k».proof.Proof.Gen.BandReferenceIdeal.Read
public import proofs.«01_k».proof.Proof.Gen.BandReferenceIdeal.Run

@[expose] public section

set_option maxRecDepth 1696

noncomputable section

namespace Cert.ProjBand

open Cert.BandMath Idealize.ShloMosaic Idealize.ShloMosaic.TcCoe Idealize.SL.Sem
open Cert.BandReferenceIdeal.Read
open Cert.BandKernelIdeal.Proj

variable (Q K V : (⟨BandReferenceIdeal.S8x4096x2304, .f32⟩ : BufTy).Contents (Elt Ideal))

/-- A key or value as the reference has it, with zeros before the first block. -/
def padAt (K : (⟨3, ![8, 4096, 2304]⟩ : Shape).Idx → EReal) (b : Fin 8) (n : Fin 32) (h : Fin 6) (k : Fin 256) (d : Fin 128) : EReal :=
  if k.val < 128 ∧ n.val = 0 then 0 else keyAt K b n h k d

theorem reference_queries (b : Fin 8) (n : Fin 32) (r : Fin 128) (h : Fin 6) (d : Fin 128) :
    val_main_v1 (F := Ideal) Q (ix5 b n r h d) = Q (ix3 b (rowIn n r) (wide (lane h d))) := by
  unfold rowIn wide lane
  pointwise [val_main_v1, val_main_v0]
  simp only [Nat.mul_comm 128]

theorem reference_keys (b : Fin 8) (n : Fin 32) (r : Fin 128) (h : Fin 6) (d : Fin 128) :
    val_main_v3 (F := Ideal) K (ix5 b n r h d) = K (ix3 b (rowIn n r) (wide (lane h d))) := reference_queries K b n r h d

theorem reference_padded (b : Fin 8) (n : Fin 32) (r : Fin 128) (h : Fin 6) (d : Fin 128) :
    val_main_v5 (F := Ideal) K (ix5 b n r h d) = if n.val = 0 then 0 else val_main_v3 (F := Ideal) K (ix5 b (before n) r h d) := by
  unfold before
  generalize hp : val_main_v3 (F := Ideal) K = p
  pointwise [val_main_v5, val_main_v4, val_main_call0_v0, val_main_c, hp]
  by_cases hn : n.val = 0
  · rw [dif_neg (by omega), if_pos hn]
    show ((((0#32 : BitVec 32).toInt : ℤ) : ℝ) : EReal) = 0
    simp
  · rw [dif_pos (by omega), if_neg hn]

theorem reference_window (b : Fin 8) (n : Fin 32) (h : Fin 6) (k : Fin 256) (d : Fin 128) :
    val_main_v6 (F := Ideal) K (ix5 b n k h d) = padAt K b n h k d := by
  have e : val_main_v6 (F := Ideal) K (ix5 b n k h d) = if hk : k.val < 128 then val_main_v5 (F := Ideal) K (ix5 b n ⟨k.val, hk⟩ h d)
      else val_main_v3 (F := Ideal) K (ix5 b n ⟨k.val - 128, by omega⟩ h d) := by
    generalize hp : val_main_v3 (F := Ideal) K = p
    generalize hq : val_main_v5 (F := Ideal) K = q
    pointwise [val_main_v6, hp, hq]
  rw [e]
  unfold padAt keyAt
  by_cases hk : k.val < 128
  · rw [dif_pos hk, dif_pos hk, reference_padded]
    by_cases hn : n.val = 0
    · rw [if_pos hn, if_pos ⟨hk, hn⟩]
    · rw [if_neg hn, if_neg (fun h => hn h.2), reference_keys]
  · rw [dif_neg hk, dif_neg hk, if_neg (fun h => hk h.1), reference_keys]

theorem reference_values (b : Fin 8) (n : Fin 32) (h : Fin 6) (k : Fin 256) (d : Fin 128) :
    val_main_v11 (F := Ideal) V (ix5 b n k h d) = padAt V b n h k d := reference_window V b n h k d

/-- A query's products with the reference's keys. -/
def padScore (b : Fin 8) (n : Fin 32) (h : Fin 6) (r : Fin 128) (k : Fin 256) : EReal :=
  ∑ d : Fin 128, Q (ix3 b (rowIn n r) (wide (lane h d))) * padAt K b n h k d

theorem reference_scores (b : Fin 8) (n : Fin 32) (h : Fin 6) (r : Fin 128) (k : Fin 256) :
    val_main_v12 (F := Ideal) Q K (ix5 b n h r k) = padScore Q K b n h r k := by
  unfold padScore
  rw [val_main_v12_apply]
  refine Finset.sum_congr rfl fun d _ => ?_
  rw [← reference_queries Q b n r h d, ← reference_window K b n h k d]
  congr 2 <;> (funext a; fin_cases a <;> rfl)

theorem reference_mask (n : Fin 32) (r : Fin 128) (k : Fin 256) :
    val_main_v43 (F := Ideal) (ix4 n 0 r k) = BitVec.ofBool (decide (counts n r k)) := by
  unfold counts
  have hn := n.isLt
  have hr := r.isLt
  have hk := k.isLt
  have h0 : (0#32 : BitVec 32).toInt = 0 := rfl
  have hc : (128#32 : BitVec 32).toInt = 128 := rfl
  have hn' : (BitVec.ofNat 32 n.val).toInt = (n.val : ℤ) := WordCmp.toInt_ofNat_of_lt (by omega)
  have hk' : (BitVec.ofNat 32 k.val).toInt = (k.val : ℤ) := WordCmp.toInt_ofNat_of_lt (by omega)
  have hp : (IntOp.addi (IntOp.muli (BitVec.ofNat 32 n.val) 128#32) (IntOp.subi (BitVec.ofNat 32 k.val) 128#32)).toInt
      = (n.val : ℤ) * 128 + ((k.val : ℤ) - 128) := by
    have h1 : ((n.val : ℤ) * 128).bmod (2 ^ 32) = (n.val : ℤ) * 128 := Int.bmod_eq_of_le (by omega) (by omega)
    have h2 : ((k.val : ℤ) - 128).bmod (2 ^ 32) = (k.val : ℤ) - 128 := Int.bmod_eq_of_le (by omega) (by omega)
    unfold IntOp.addi IntOp.muli IntOp.subi
    rw [BitVec.toInt_add, BitVec.toInt_mul, BitVec.toInt_sub, hn', hk', hc, h1, h2, Int.bmod_eq_of_le (by omega) (by omega)]
  pointwise [val_main_v43, val_main_v42, val_main_v41, val_main_v40, val_main_v39, val_main_v38, val_main_v37, val_main_v36, val_main_v35, val_main_v34,
    val_main_v33, val_main_v32, val_main_v31, val_main_v30, val_main_v29, val_main_v28, val_main_v27, val_main_v26, val_main_v25, val_main_v24, val_main_v23,
    val_main_v22, val_main_v21, val_main_v20, val_main_v19, val_main_v18, val_main_v17, val_main_v16, val_main_v15, val_main_v14, val_main_v13]
  rw [show val_main_c_1 (F := Ideal) ix0 = 128#32 from rfl, show val_main_c_2 (F := Ideal) ix0 = 0#32 from rfl,
    show val_main_c_3 (F := Ideal) ix0 = 128#32 from rfl, show val_main_c_4 (F := Ideal) ix0 = 128#32 from rfl,
    show val_main_c_5 (F := Ideal) ix0 = 128#32 from rfl, show val_main_c_6 (F := Ideal) ix0 = 0#32 from rfl,
    WordCmp.cmpi_sge_eq, WordCmp.cmpi_sle_eq, WordCmp.cmpi_sge_eq, steps_toInt r.isLt k.isLt, hp, h0, hc,
    WordCmp.andi_ofBool, WordCmp.andi_ofBool, ← Bool.decide_and, ← Bool.decide_and]
  congr 1
  refine decide_eq_decide.2 ?_
  omega

theorem reference_masked (b : Fin 8) (n : Fin 32) (h : Fin 6) (r : Fin 128) (k : Fin 256) :
    val_main_v44 (F := Ideal) Q K (ix5 b n h r k) = if counts n r k then padScore Q K b n h r k else ⊥ := by
  rw [val_main_v44_apply, reference_scores, ← select_bool, ← reference_mask, ← bot_word]
  rfl

theorem reference_best (b : Fin 8) (n : Fin 32) (h : Fin 6) (r : Fin 128) :
    val_main_v45 (F := Ideal) Q K (ix4 b n h r) = pick (counts n r) (padScore Q K b n h r) ⊥ := by
  have e : val_main_v45 (F := Ideal) Q K (ix4 b n h r) = best fun k => val_main_v44 (F := Ideal) Q K (ix5 b n h r k) := by
    unfold best
    rw [← bot_word]
    generalize hp : val_main_v44 (F := Ideal) Q K = p
    pointwise [val_main_v45, val_main_cst_7, hp]
  rw [e]
  exact congrArg best (funext fun k => reference_masked Q K b n h r k)

theorem reference_weight (b : Fin 8) (n : Fin 32) (h : Fin 6) (r : Fin 128) (k : Fin 256) :
    val_main_v49 (F := Ideal) Q K (ix5 b n h r k)
      = weight (counts n r) (padScore Q K b n h r) (pick (counts n r) (padScore Q K b n h r) ⊥) k := by
  have e : val_main_v49 (F := Ideal) Q K (ix5 b n h r k)
      = Ideal.exp (val_main_v44 (F := Ideal) Q K (ix5 b n h r k) - val_main_v45 (F := Ideal) Q K (ix4 b n h r)) := by
    generalize hp : val_main_v44 (F := Ideal) Q K = p
    generalize hq : val_main_v45 (F := Ideal) Q K = q
    pointwise [val_main_v49, val_main_v48, val_main_v47, val_main_v46, hp, hq]
  rw [e, reference_masked, reference_best]
  unfold weight
  split_ifs
  · rfl
  · rw [EReal.bot_sub, Ideal.exp_bot]

theorem reference_mass (b : Fin 8) (n : Fin 32) (h : Fin 6) (r : Fin 128) :
    val_main_v50 (F := Ideal) Q K (ix4 b n h r)
      = mass (counts n r) (padScore Q K b n h r) (pick (counts n r) (padScore Q K b n h r) ⊥) := by
  have e : val_main_v50 (F := Ideal) Q K (ix4 b n h r) = ∑ k : Fin 256, val_main_v49 (F := Ideal) Q K (ix5 b n h r k) := by
    generalize hp : val_main_v49 (F := Ideal) Q K = p
    pointwise [val_main_v50, val_main_cst_8, hp]
  rw [e]
  exact Finset.sum_congr rfl fun k _ => reference_weight Q K b n h r k

theorem reference_share (b : Fin 8) (n : Fin 32) (h : Fin 6) (r : Fin 128) (k : Fin 256) :
    val_main_v53 (F := Ideal) Q K (ix5 b n h r k)
      = share (counts n r) (padScore Q K b n h r) (pick (counts n r) (padScore Q K b n h r) ⊥) k := by
  have e : val_main_v53 (F := Ideal) Q K (ix5 b n h r k)
      = Ideal.div (val_main_v49 (F := Ideal) Q K (ix5 b n h r k)) (val_main_v50 (F := Ideal) Q K (ix4 b n h r)) := by
    generalize hp : val_main_v49 (F := Ideal) Q K = p
    generalize hq : val_main_v50 (F := Ideal) Q K = q
    pointwise [val_main_v53, val_main_v52, val_main_v51, hp, hq]
  rw [e, reference_weight, reference_mass]
  rfl

/-- The zeros before the first block are at keys that do not count. -/
theorem pad_counts (b : Fin 8) (n : Fin 32) (h : Fin 6) (r : Fin 128) (k : Fin 256) (hk : counts n r k) (d : Fin 128) :
    padAt K b n h k d = keyAt K b n h k d := by
  unfold padAt
  refine if_neg fun e => ?_
  unfold counts at hk
  omega

theorem pad_scores (b : Fin 8) (n : Fin 32) (h : Fin 6) (r : Fin 128) (k : Fin 256) (hk : counts n r k) :
    padScore Q K b n h r k = scoreAt Q K b n h r k := by
  unfold padScore scoreAt
  exact Finset.sum_congr rfl fun d _ => by rw [pad_counts K b n h r k hk]

/-- The reference's product of the weights and the values. -/
theorem reference_mixed (b : Fin 8) (n : Fin 32) (h : Fin 6) (r d : Fin 128) :
    val_main_v54 (F := Ideal) Q K V (ix5 b n h d r) = outAt Q K V b n r h d := by
  have e : val_main_v54 (F := Ideal) Q K V (ix5 b n h d r)
      = mixed (counts n r) (padScore Q K b n h r) (fun k => padAt V b n h k d) (pick (counts n r) (padScore Q K b n h r) ⊥) := by
    rw [val_main_v54_apply]
    unfold mixed
    refine Finset.sum_congr rfl fun k _ => ?_
    beta_reduce
    rw [mul_comm, ← reference_share Q K b n h r k, ← reference_values V b n h k d]
    congr 2 <;> (funext a; fin_cases a <;> rfl)
  rw [e]
  unfold outAt
  rw [pick_congr _ _ _ (pad_scores Q K b n h r), mixed_congr _ _ _ (pad_scores Q K b n h r)]
  by_cases hn : n.val = 0
  · refine (mixed_first _ _ _ _ _ (fun k => keyAt V b n h (Fin.natAdd 128 k) d) (fun k hk => ?_) (fun k => ?_) (fun k => rfl) (fun k => ?_) (fun k => ?_)).symm
    · have := k.isLt
      unfold counts at hk
      simp only [Fin.val_castAdd] at hk
      omega
    · have hk := k.isLt
      have hb : before n = n := Fin.ext (by unfold before; dsimp only; omega)
      unfold keyAt
      rw [dif_pos (show (Fin.castAdd 128 k).val < 128 from hk), dif_neg (show ¬(Fin.natAdd 128 k).val < 128 by simp), hb]
      congr 3
      exact Fin.ext (by simp)
    · exact if_pos ⟨k.isLt, hn⟩
    · exact if_neg fun e => by simp at e
  · congr 1
    funext k
    exact if_neg fun e => hn e.2

theorem reference_out (b : Fin 8) (t : Fin 4096) (y : Fin 768) :
    val_main_v62 (F := Ideal) Q K V (ix3 b t y) = outAt Q K V b (blockRow t) (inRow t) (headOf y) (laneOf y) := by
  rw [← reference_mixed]
  unfold blockRow inRow headOf laneOf
  generalize hp : val_main_v54 (F := Ideal) Q K V = p
  pointwise [val_main_v62, val_main_v55, hp]

theorem reference_spread (b : Fin 8) (t : Fin 4096) (y : Fin 768) :
    val_main_v63 (F := Ideal) Q K (ix3 b t y) = val_main_v57 (F := Ideal) Q K (ix5 b (blockRow t) (headOf y) (inRow t) 0) := by
  unfold blockRow inRow headOf
  generalize hp : val_main_v57 (F := Ideal) Q K = p
  pointwise [val_main_v63, val_main_v61, val_main_v60, val_main_v59, val_main_v58, hp]

theorem reference_sum (b : Fin 8) (n : Fin 32) (h : Fin 6) (r : Fin 128) :
    val_main_v57 (F := Ideal) Q K (ix5 b n h r 0)
      = val_main_v45 (F := Ideal) Q K (ix4 b n h r) + Ideal.log (val_main_v50 (F := Ideal) Q K (ix4 b n h r)) := by
  have e1 : idx_main_v46 (ix5 b n h r 0) = ix4 b n h r := by funext a; fin_cases a <;> rfl
  have e2 : idx_main_v51 (ix5 b n h r 0) = ix4 b n h r := by funext a; fin_cases a <;> rfl
  rw [val_main_v57_apply, val_main_v56_apply, val_main_v46_apply, val_main_v51_apply, e1, e2]
  generalize val_main_v45 (F := Ideal) Q K (ix4 b n h r) = p
  generalize val_main_v50 (F := Ideal) Q K (ix4 b n h r) = q
  rfl

theorem reference_log (b : Fin 8) (t : Fin 4096) (y : Fin 768) :
    val_main_v63 (F := Ideal) Q K (ix3 b t y) = logAt Q K b (blockRow t) (inRow t) (headOf y) := by
  rw [reference_spread, reference_sum, reference_best, reference_mass]
  unfold logAt
  rw [pick_congr _ _ _ (pad_scores Q K b _ _ _)]
  exact congrArg (fun z => pick (counts (blockRow t) (inRow t)) (scoreAt Q K b (blockRow t) (headOf y) (inRow t)) ⊥ + Ideal.log z)
    (mass_congr _ _ _ (pad_scores Q K b _ _ _) _)

theorem algebraic : @Cert.algebraic_BandKernelIdeal_BandReferenceIdeal Cert.BandKernelIdeal.Gen.facts Cert.BandReferenceIdeal.Gen.facts := by
  intro m g m' g' _ hagree
  refine ⟨fun c => _, fun c => _, BandKernelIdeal.Value.run_blocks m g, ?_⟩
  refine (θ_run _ _ _).mono (fun r h c => ?_) (BandReferenceIdeal.Value.run (F := Ideal) m' g')
  obtain ⟨h0, h1, h2⟩ := h c
  obtain ⟨e0, e1, e2⟩ := hagree c
  refine ⟨?_, ?_, h2⟩
  · rw [h0, val_main_v62_eq, e0, e1, e2]
    refine Eq.trans ?_ (BandKernelIdeal.Proj.out_array m c).symm
    funext i
    obtain ⟨b, t, k, rfl⟩ : ∃ (b : Fin 8) (t : Fin 4096) (k : Fin 768), i = ix3 b t k := ⟨i 0, i 1, i 2, eq_ix3 i⟩
    exact reference_out _ _ _ b t k
  · rw [h1, val_main_v63_eq, e0, e1]
    refine Eq.trans ?_ (BandKernelIdeal.Proj.log_array m c).symm
    funext i
    obtain ⟨b, t, k, rfl⟩ : ∃ (b : Fin 8) (t : Fin 4096) (k : Fin 768), i = ix3 b t k := ⟨i 0, i 1, i 2, eq_ix3 i⟩
    exact reference_log _ _ b t k

theorem frame_reference : @Cert.quiescent_BandReferenceIdeal Cert.BandReferenceIdeal.Gen.facts := fun m ρ _ =>
  (θ_run Cert.BandReferenceIdeal.defs _ _).mono (fun r h => ⟨fun c => (h c).2.2,
      Idealize.ShloMosaic.sem_eq_zero_of_no_sems (by decide) r.2⟩)
    (BandReferenceIdeal.Value.run (F := Ideal) m ρ)

end Cert.ProjBand

end
-- ==== Proof.lean ====
/- The certificate: the frames, idealizations and equal results of the recurrence, the feed-forward part and the projections. -/
module

public import proofs.«01_k».proof.Defs
public import proofs.«01_k».proof.Proof.Gen.FfnKernel.Frame
public import proofs.«01_k».proof.Proof.Lru.Claims
public import proofs.«01_k».proof.Proof.Ffn.Claims
public import proofs.«01_k».proof.Proof.Proj.Out
public import proofs.«01_k».proof.Proof.Proj.GdnOut
public import proofs.«01_k».proof.Proof.Proj.DswOut
public import proofs.«01_k».proof.Proof.Proj.LruIn
public import proofs.«01_k».proof.Proof.Proj.SbIn
public import proofs.«01_k».proof.Proof.Proj.GdnIn
public import proofs.«01_k».proof.Proof.Proj.DswV
public import proofs.«01_k».proof.Proof.Proj.DswQ
public import proofs.«01_k».proof.Proof.Proj.DswK
public import proofs.«01_k».proof.Proof.Proj.GdnGates
public import proofs.«01_k».proof.Proof.Proj.BandReference
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.FfnKernel.Gen.facts, Cert.FfnKernelIdeal.Gen.facts, Cert.FfnReferenceIdeal.Gen.facts,
  Cert.OutKernel.Gen.facts, Cert.OutKernelIdeal.Gen.facts, Cert.OutReferenceIdeal.Gen.facts,
  Cert.GdnOutKernel.Gen.facts, Cert.GdnOutKernelIdeal.Gen.facts, Cert.GdnOutReferenceIdeal.Gen.facts,
  Cert.DswOutKernel.Gen.facts, Cert.DswOutKernelIdeal.Gen.facts, Cert.DswOutReferenceIdeal.Gen.facts,
  Cert.LruInKernel.Gen.facts, Cert.LruInKernelIdeal.Gen.facts, Cert.LruInReferenceIdeal.Gen.facts,
  Cert.SbInKernel.Gen.facts, Cert.SbInKernelIdeal.Gen.facts, Cert.SbInReferenceIdeal.Gen.facts,
  Cert.GdnInKernel.Gen.facts, Cert.GdnInKernelIdeal.Gen.facts, Cert.GdnInReferenceIdeal.Gen.facts,
  Cert.DswVKernel.Gen.facts, Cert.DswVKernelIdeal.Gen.facts, Cert.DswVReferenceIdeal.Gen.facts,
  Cert.DswQKernel.Gen.facts, Cert.DswQKernelIdeal.Gen.facts, Cert.DswQReferenceIdeal.Gen.facts,
  Cert.DswKKernel.Gen.facts, Cert.DswKKernelIdeal.Gen.facts, Cert.DswKReferenceIdeal.Gen.facts,
  Cert.GdnGatesKernel.Gen.facts, Cert.GdnGatesKernelIdeal.Gen.facts, Cert.GdnGatesReferenceIdeal.Gen.facts,
  Cert.BandKernel.Gen.facts, Cert.BandKernelIdeal.Gen.facts, Cert.BandReferenceIdeal.Gen.facts,
  Cert.Lru.frame_kernel, Cert.Lru.frame_ideal, Cert.Lru.frame_reference,
  fun m ρ _ => Cert.FfnKernel.Gen.frame m ρ, fun m ρ _ => Cert.FfnKernelIdeal.Gen.frame m ρ, Cert.Ffn.frame_reference,
  fun m ρ _ => Cert.OutKernel.Gen.frame m ρ, fun m ρ _ => Cert.OutKernelIdeal.Gen.frame m ρ, Cert.ProjOut.frame_reference,
  fun m ρ _ => Cert.GdnOutKernel.Gen.frame m ρ, fun m ρ _ => Cert.GdnOutKernelIdeal.Gen.frame m ρ, Cert.ProjGdnOut.frame_reference,
  fun m ρ _ => Cert.DswOutKernel.Gen.frame m ρ, fun m ρ _ => Cert.DswOutKernelIdeal.Gen.frame m ρ, Cert.ProjDswOut.frame_reference,
  fun m ρ _ => Cert.LruInKernel.Gen.frame m ρ, fun m ρ _ => Cert.LruInKernelIdeal.Gen.frame m ρ, Cert.ProjLruIn.frame_reference,
  fun m ρ _ => Cert.SbInKernel.Gen.frame m ρ, fun m ρ _ => Cert.SbInKernelIdeal.Gen.frame m ρ, Cert.ProjSbIn.frame_reference,
  fun m ρ _ => Cert.GdnInKernel.Gen.frame m ρ, fun m ρ _ => Cert.GdnInKernelIdeal.Gen.frame m ρ, Cert.ProjGdnIn.frame_reference,
  fun m ρ _ => Cert.DswVKernel.Gen.frame m ρ, fun m ρ _ => Cert.DswVKernelIdeal.Gen.frame m ρ, Cert.ProjDswV.frame_reference,
  fun m ρ _ => Cert.DswQKernel.Gen.frame m ρ, fun m ρ _ => Cert.DswQKernelIdeal.Gen.frame m ρ, Cert.ProjDswQ.frame_reference,
  fun m ρ _ => Cert.DswKKernel.Gen.frame m ρ, fun m ρ _ => Cert.DswKKernelIdeal.Gen.frame m ρ, Cert.ProjDswK.frame_reference,
  fun m ρ _ => Cert.GdnGatesKernel.Gen.frame m ρ, fun m ρ _ => Cert.GdnGatesKernelIdeal.Gen.frame m ρ, Cert.ProjGdnGates.frame_reference,
  fun m ρ _ => Cert.BandKernel.Gen.frame m ρ, fun m ρ _ => Cert.BandKernelIdeal.Gen.frame m ρ, Cert.ProjBand.frame_reference,
  trivial, Cert.Lru.algebraic, trivial, Cert.Ffn.algebraic,
  trivial, Cert.ProjOut.algebraic, trivial, Cert.ProjGdnOut.algebraic, trivial, Cert.ProjDswOut.algebraic, trivial, Cert.ProjLruIn.algebraic, trivial, Cert.ProjSbIn.algebraic, trivial, Cert.ProjGdnIn.algebraic, trivial, Cert.ProjDswV.algebraic, trivial, Cert.ProjDswQ.algebraic, trivial, Cert.ProjDswK.algebraic, trivial, Cert.ProjGdnGates.algebraic, trivial, Cert.ProjBand.algebraic⟩

end Cert.Proof

end
